-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_v181) = v1 c
          ∧ r.2.mem ((c.tc : Thread Cert.ReferenceIdeal.nD Cert.ReferenceIdeal.τ).loc Cert.ReferenceIdeal.main_v131) = v2 c
          ∧ r.2.mem ((c.tc : Thread Cert.ReferenceIdeal.nD Cert.ReferenceIdeal.τ).loc Cert.ReferenceIdeal.main_v182) = v3 c
          ∧ r.2.mem ((c.tc : Thread Cert.ReferenceIdeal.nD Cert.ReferenceIdeal.τ).loc Cert.ReferenceIdeal.main_v183) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v23_0)) (v1 : (c : Dev Cert.Kernel2Ideal.nD) → Buf (Elt Ideal) ((c.tc : Thread Cert.Kernel2Ideal.nD Cert.Kernel2Ideal.τ).loc Cert.Kernel2Ideal.main_v23_1)) (v2 : (c : Dev Cert.Kernel2Ideal.nD) → Buf (Elt Ideal) ((c.tc : Thread Cert.Kernel2Ideal.nD Cert.Kernel2Ideal.τ).loc Cert.Kernel2Ideal.main_v23_2)) (v3 : (c : Dev Cert.Kernel2Ideal.nD) → Buf (Elt Ideal) ((c.tc : Thread Cert.Kernel2Ideal.nD Cert.Kernel2Ideal.τ).loc Cert.Kernel2Ideal.main_v23_3)) (v4 : (c : Dev Cert.Kernel2Ideal.nD) → Buf (Elt Ideal) ((c.tc : Thread Cert.Kernel2Ideal.nD Cert.Kernel2Ideal.τ).loc Cert.Kernel2Ideal.main_v23_4)) (v5 : (c : Dev Cert.Kernel2Ideal.nD) → Buf (Elt Ideal) ((c.tc : Thread Cert.Kernel2Ideal.nD Cert.Kernel2Ideal.τ).loc Cert.Kernel2Ideal.main_v23_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23_0) = v0 c
          ∧ r.2.mem ((c.tc : Thread Cert.Kernel2Ideal.nD Cert.Kernel2Ideal.τ).loc Cert.Kernel2Ideal.main_v23_1) = v1 c
          ∧ r.2.mem ((c.tc : Thread Cert.Kernel2Ideal.nD Cert.Kernel2Ideal.τ).loc Cert.Kernel2Ideal.main_v23_2) = v2 c
          ∧ r.2.mem ((c.tc : Thread Cert.Kernel2Ideal.nD Cert.Kernel2Ideal.τ).loc Cert.Kernel2Ideal.main_v23_3) = v3 c
          ∧ r.2.mem ((c.tc : Thread Cert.Kernel2Ideal.nD Cert.Kernel2Ideal.τ).loc Cert.Kernel2Ideal.main_v23_4) = v4 c
          ∧ r.2.mem ((c.tc : Thread Cert.Kernel2Ideal.nD Cert.Kernel2Ideal.τ).loc Cert.Kernel2Ideal.main_v23_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v115) = v0 c
          ∧ r.2.mem ((c.tc : Thread Cert.Reference2Ideal.nD Cert.Reference2Ideal.τ).loc Cert.Reference2Ideal.main_v119) = v1 c
          ∧ r.2.mem ((c.tc : Thread Cert.Reference2Ideal.nD Cert.Reference2Ideal.τ).loc Cert.Reference2Ideal.main_v117) = v2 c
          ∧ r.2.mem ((c.tc : Thread Cert.Reference2Ideal.nD Cert.Reference2Ideal.τ).loc Cert.Reference2Ideal.main_v118) = v3 c
          ∧ r.2.mem ((c.tc : Thread Cert.Reference2Ideal.nD Cert.Reference2Ideal.τ).loc Cert.Reference2Ideal.main_v120) = v4 c
          ∧ r.2.mem ((c.tc : Thread Cert.Reference2Ideal.nD Cert.Reference2Ideal.τ).loc Cert.Reference2Ideal.main_v121) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v18) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)) (v2 : (c : Dev Cert.Kernel4Ideal.nD) → Buf (Elt Ideal) ((c.tc : Thread Cert.Kernel4Ideal.nD Cert.Kernel4Ideal.τ).loc Cert.Kernel4Ideal.main_v10_2)) (v3 : (c : Dev Cert.Kernel4Ideal.nD) → Buf (Elt Ideal) ((c.tc : Thread Cert.Kernel4Ideal.nD Cert.Kernel4Ideal.τ).loc Cert.Kernel4Ideal.main_v10_3)) (v4 : (c : Dev Cert.Kernel4Ideal.nD) → Buf (Elt Ideal) ((c.tc : Thread Cert.Kernel4Ideal.nD Cert.Kernel4Ideal.τ).loc Cert.Kernel4Ideal.main_v10_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_v10_2) = v2 c
          ∧ r.2.mem ((c.tc : Thread Cert.Kernel4Ideal.nD Cert.Kernel4Ideal.τ).loc Cert.Kernel4Ideal.main_v10_3) = v3 c
          ∧ r.2.mem ((c.tc : Thread Cert.Kernel4Ideal.nD Cert.Kernel4Ideal.τ).loc Cert.Kernel4Ideal.main_v10_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_v41) = v1 c
          ∧ r.2.mem ((c.tc : Thread Cert.Reference4Ideal.nD Cert.Reference4Ideal.τ).loc Cert.Reference4Ideal.main_v42) = v2 c
          ∧ r.2.mem ((c.tc : Thread Cert.Reference4Ideal.nD Cert.Reference4Ideal.τ).loc Cert.Reference4Ideal.main_v43) = v3 c
          ∧ r.2.mem ((c.tc : Thread Cert.Reference4Ideal.nD Cert.Reference4Ideal.τ).loc Cert.Reference4Ideal.main_v45) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)) (v2 : (c : Dev Cert.Kernel5Ideal.nD) → Buf (Elt Ideal) ((c.tc : Thread Cert.Kernel5Ideal.nD Cert.Kernel5Ideal.τ).loc Cert.Kernel5Ideal.main_v6_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_v6_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_v15) = v1 c
          ∧ r.2.mem ((c.tc : Thread Cert.Reference5Ideal.nD Cert.Reference5Ideal.τ).loc Cert.Reference5Ideal.main_v17) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  IdealRules.named_const.Statement Cert.Kernel6Ideal.κ "inv_bias1" .f32 0x3FC48605#32 ((8388608 / 5463681 : ℝ) : EReal)
  ∧ IdealRules.named_const.Statement Cert.Kernel6Ideal.κ "inv_bias2" .f32 0x42C8E6D3#32 ((268435456 / 2672307 : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_v25) = v1 c
          ∧ r.2.mem ((c.tc : Thread Cert.Reference6Ideal.nD Cert.Reference6Ideal.τ).loc Cert.Reference6Ideal.main_v26) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  IdealRules.named_const.Statement Cert.Kernel7Ideal.κ "inv_bias1" .f32 0x3FC48605#32 ((8388608 / 5463681 : ℝ) : EReal)
  ∧ IdealRules.named_const.Statement Cert.Kernel7Ideal.κ "inv_bias2" .f32 0x42C8E6D3#32 ((268435456 / 2672307 : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v24) = v0 c
          ∧ r.2.mem ((c.tc : Thread Cert.Reference7Ideal.nD Cert.Reference7Ideal.τ).loc Cert.Reference7Ideal.main_v25) = v1 c
          ∧ r.2.mem ((c.tc : Thread Cert.Reference7Ideal.nD Cert.Reference7Ideal.τ).loc Cert.Reference7Ideal.main_v26) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  IdealRules.named_const.Statement Cert.Kernel8Ideal.κ "inv_bias1" .f32 0x3FC48605#32 ((8388608 / 5463681 : ℝ) : EReal)
  ∧ IdealRules.named_const.Statement Cert.Kernel8Ideal.κ "inv_bias2" .f32 0x42C8E6D3#32 ((268435456 / 2672307 : ℝ) : EReal)

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v4_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v26) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  IdealRules.named_const.Statement Cert.Kernel9Ideal.κ "inv_bias1" .f32 0x3FC48605#32 ((8388608 / 5463681 : ℝ) : EReal)
  ∧ IdealRules.named_const.Statement Cert.Kernel9Ideal.κ "inv_bias2" .f32 0x42C8E6D3#32 ((268435456 / 2672307 : ℝ) : EReal)

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)) (v2 : (c : Dev Cert.Kernel9Ideal.nD) → Buf (Elt Ideal) ((c.tc : Thread Cert.Kernel9Ideal.nD Cert.Kernel9Ideal.τ).loc Cert.Kernel9Ideal.main_v4_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_v4_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v24) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v26) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  IdealRules.named_const.Statement Cert.Kernel10Ideal.κ "inv_bias1" .f32 0x3FC48605#32 ((8388608 / 5463681 : ℝ) : EReal)
  ∧ IdealRules.named_const.Statement Cert.Kernel10Ideal.κ "inv_bias2" .f32 0x42C8E6D3#32 ((268435456 / 2672307 : ℝ) : EReal)

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)) (v2 : (c : Dev Cert.Kernel10Ideal.nD) → Buf (Elt Ideal) ((c.tc : Thread Cert.Kernel10Ideal.nD Cert.Kernel10Ideal.τ).loc Cert.Kernel10Ideal.main_v4_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_v4_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v24) = v0 c
          ∧ r.2.mem ((c.tc : Thread Cert.Reference10Ideal.nD Cert.Reference10Ideal.τ).loc Cert.Reference10Ideal.main_v25) = v1 c
          ∧ r.2.mem ((c.tc : Thread Cert.Reference10Ideal.nD Cert.Reference10Ideal.τ).loc Cert.Reference10Ideal.main_v26) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  IdealRules.named_const.Statement Cert.Kernel11Ideal.κ "inv_bias1" .f32 0x3FC48605#32 ((8388608 / 5463681 : ℝ) : EReal)
  ∧ IdealRules.named_const.Statement Cert.Kernel11Ideal.κ "inv_bias2" .f32 0x42C8E6D3#32 ((268435456 / 2672307 : ℝ) : EReal)

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)) (v2 : (c : Dev Cert.Kernel11Ideal.nD) → Buf (Elt Ideal) ((c.tc : Thread Cert.Kernel11Ideal.nD Cert.Kernel11Ideal.τ).loc Cert.Kernel11Ideal.main_v4_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_v4_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v24) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_v26) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  IdealRules.named_const.Statement Cert.Kernel12Ideal.κ "inv_bias1" .f32 0x3FC48605#32 ((8388608 / 5463681 : ℝ) : EReal)
  ∧ IdealRules.named_const.Statement Cert.Kernel12Ideal.κ "inv_bias2" .f32 0x42C8E6D3#32 ((268435456 / 2672307 : ℝ) : EReal)

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)) (v2 : (c : Dev Cert.Kernel12Ideal.nD) → Buf (Elt Ideal) ((c.tc : Thread Cert.Kernel12Ideal.nD Cert.Kernel12Ideal.τ).loc Cert.Kernel12Ideal.main_v4_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_v4_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v24) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v26) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  IdealRules.named_const.Statement Cert.Kernel13Ideal.κ "inv_bias1" .f32 0x3FC48605#32 ((8388608 / 5463681 : ℝ) : EReal)
  ∧ IdealRules.named_const.Statement Cert.Kernel13Ideal.κ "inv_bias2" .f32 0x42C8E6D3#32 ((268435456 / 2672307 : ℝ) : EReal)

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  IdealRules.named_const.Statement Cert.Kernel14Ideal.κ "inv_bias1" .f32 0x3FC48605#32 ((8388608 / 5463681 : ℝ) : EReal)
  ∧ IdealRules.named_const.Statement Cert.Kernel14Ideal.κ "inv_bias2" .f32 0x42C8E6D3#32 ((268435456 / 2672307 : ℝ) : EReal)

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  IdealRules.named_const.Statement Cert.Kernel15Ideal.κ "inv_bias1" .f32 0x3FC48605#32 ((8388608 / 5463681 : ℝ) : EReal)
  ∧ IdealRules.named_const.Statement Cert.Kernel15Ideal.κ "inv_bias2" .f32 0x42C8E6D3#32 ((268435456 / 2672307 : ℝ) : EReal)

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  IdealRules.named_const.Statement Cert.Kernel16Ideal.κ "inv_bias1" .f32 0x3FC48605#32 ((8388608 / 5463681 : ℝ) : EReal)
  ∧ IdealRules.named_const.Statement Cert.Kernel16Ideal.κ "inv_bias2" .f32 0x42C8E6D3#32 ((268435456 / 2672307 : ℝ) : EReal)

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  IdealRules.named_const.Statement Cert.Kernel17Ideal.κ "inv_bias1" .f32 0x3FC48605#32 ((8388608 / 5463681 : ℝ) : EReal)
  ∧ IdealRules.named_const.Statement Cert.Kernel17Ideal.κ "inv_bias2" .f32 0x42C8E6D3#32 ((268435456 / 2672307 : ℝ) : EReal)

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v14) = v0 c
          ∧ r.2.mem ((c.tc : Thread Cert.Reference18Ideal.nD Cert.Reference18Ideal.τ).loc Cert.Reference18Ideal.main_v15) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_finite.lean ====
abbrev S2048x512 : Shape := ⟨2, ![2048, 512]⟩
abbrev S256 : Shape := ⟨1, ![256]⟩
abbrev S4x128x128 : Shape := ⟨3, ![4, 128, 128]⟩
abbrev S4x128 : Shape := ⟨2, ![4, 128]⟩
abbrev S2048x256 : Shape := ⟨2, ![2048, 256]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S256 : S_.BroadcastsInDim S256 (![] : Fin 0 → Fin S256.rank)
  reducesTo_S256_S_d0 : S256.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S2048x256 : S_.BroadcastsInDim S2048x256 (![] : Fin 0 → Fin S2048x256.rank)
  reducesTo_S2048x256_S_d0_1 : S2048x256.ReducesTo [0, 1] S_

variable [Facts]

def fn_part1 {F : FTy → Type} [FloatOps F] (main_arg4 : FVec F S256 .f32) (main_arg5 : FVec F S2048x256 .f32) (main_v3 : IVec S_ 1) (main_v7 : IVec S_ 1) (main_v11 : IVec S_ 1) (main_v15 : IVec S_ 1) : IVec S_ 1 :=
  let main_v16 : FVec F S256 .f32 := Host.absf main_arg4
  let main_cst_6 : FVec F S_ .f32 := constant S_ .f32 0x7F800000#32
  let main_v17 : FVec F S256 .f32 := broadcastInDim S256 ![] bcast_S_S256 main_cst_6
  let main_v18 : IVec S256 1 := cmpf .olt main_v16 main_v17
  let main_c_7 : IVec S_ 1 := constantI S_ 1 1#1
  let main_v19 : IVec S_ 1 := (fun x v => Host.reduce IntOp.andi x v reducesTo_S256_S_d0 h_S_) main_v18 main_c_7
  let main_v20 : FVec F S2048x256 .f32 := Host.absf main_arg5
  let main_cst_8 : FVec F S_ .f32 := constant S_ .f32 0x7F800000#32
  let main_v21 : FVec F S2048x256 .f32 := broadcastInDim S2048x256 ![] bcast_S_S2048x256 main_cst_8
  let main_v22 : IVec S2048x256 1 := cmpf .olt main_v20 main_v21
  let main_c_9 : IVec S_ 1 := constantI S_ 1 1#1
  let main_v23 : IVec S_ 1 := (fun x v => Host.reduce IntOp.andi x v reducesTo_S2048x256_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S2048x512 .f32) (main_arg1 : FVec F S256 .f32) (main_arg2 : FVec F S4x128x128 .f32) (main_arg3 : FVec F S4x128 .f32) (main_arg4 : FVec F S256 .f32) (main_arg5 : FVec F S2048x256 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : FVec F S4x128x128 .f32 := Host.absf main_arg2
  let main_cst_2 : FVec F S_ .f32 := constant S_ .f32 0x7F800000#32
  let main_v9 : FVec F S4x128x128 .f32 := broadcastInDim S4x128x128 ![] bcast_S_S4x128x128 main_cst_2
  let main_v10 : IVec S4x128x128 1 := cmpf .olt main_v8 main_v9
  let main_c_3 : IVec S_ 1 := constantI S_ 1 1#1
  let main_v11 : IVec S_ 1 := (fun x v => Host.reduce IntOp.andi x v reducesTo_S4x128x128_S_d0_1_2 h_S_) main_v10 main_c_3
  let main_v12 : FVec F S4x128 .f32 := Host.absf main_arg3
  let main_cst_4 : FVec F S_ .f32 := constant S_ .f32 0x7F800000#32
  let main_v13 : FVec F S4x128 .f32 := broadcastInDim S4x128 ![] bcast_S_S4x128 main_cst_4
  let main_v14 : IVec S4x128 1 := cmpf .olt main_v12 main_v13
  let main_c_5 : IVec S_ 1 := constantI S_ 1 1#1
  let main_v15 : IVec S_ 1 := (fun x v => Host.reduce IntOp.andi x v reducesTo_S4x128_S_d0_1 h_S_) main_v14 main_c_5
  fn_part1 (F := F) main_arg4 main_arg5 main_v3 main_v7 main_v11 main_v15
-- ==== Pre_finite2.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S2048x1024 .f32) (main_v3 : IVec S_ 1) (main_v7 : IVec S_ 1) (main_v11 : IVec S_ 1) (main_v15 : IVec S_ 1) : IVec S_ 1 :=
  let main_v16 : FVec F S2048x1024 .f32 := Host.absf main_arg4
  let main_cst_6 : FVec F S_ .f32 := constant S_ .f32 0x7F800000#32
  let main_v17 : FVec F S2048x1024 .f32 := broadcastInDim S2048x1024 ![] bcast_S_S2048x1024 main_cst_6
  let main_v18 : IVec S2048x1024 1 := cmpf .olt main_v16 main_v17
  let main_c_7 : IVec S_ 1 := constantI S_ 1 1#1
  let main_v19 : IVec S_ 1 := (fun x v => Host.reduce IntOp.andi x v reducesTo_S2048x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S2048x1024 .f32) (main_arg1 : FVec F S1024 .f32) (main_arg2 : FVec F S1024x4096 .f32) (main_arg3 : FVec F S4096x1024 .f32) (main_arg4 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x4096 .f32 := Host.absf main_arg2
  let main_cst_2 : FVec F S_ .f32 := constant S_ .f32 0x7F800000#32
  let main_v9 : FVec F S1024x4096 .f32 := broadcastInDim S1024x4096 ![] bcast_S_S1024x4096 main_cst_2
  let main_v10 : IVec S1024x4096 1 := cmpf .olt main_v8 main_v9
  let main_c_3 : IVec S_ 1 := constantI S_ 1 1#1
  let main_v11 : IVec S_ 1 := (fun x v => Host.reduce IntOp.andi x v reducesTo_S1024x4096_S_d0_1 h_S_) main_v10 main_c_3
  let main_v12 : FVec F S4096x1024 .f32 := Host.absf main_arg3
  let main_cst_4 : FVec F S_ .f32 := constant S_ .f32 0x7F800000#32
  let main_v13 : FVec F S4096x1024 .f32 := broadcastInDim S4096x1024 ![] bcast_S_S4096x1024 main_cst_4
  let main_v14 : IVec S4096x1024 1 := cmpf .olt main_v12 main_v13
  let main_c_5 : IVec S_ 1 := constantI S_ 1 1#1
  let main_v15 : IVec S_ 1 := (fun x v => Host.reduce IntOp.andi x v reducesTo_S4096x1024_S_d0_1 h_S_) main_v14 main_c_5
  fn_part1 (F := F) main_arg4 main_v3 main_v7 main_v11 main_v15
-- ==== Kernel.lean ====
abbrev S2048x512 : Shape := ⟨2, ![2048, 512]⟩
abbrev S256 : Shape := ⟨1, ![256]⟩
abbrev S4x128x128 : Shape := ⟨3, ![4, 128, 128]⟩
abbrev S4x128 : Shape := ⟨2, ![4, 128]⟩
abbrev S2048x256 : Shape := ⟨2, ![2048, 256]⟩
abbrev S1x256 : Shape := ⟨2, ![1, 256]⟩
abbrev S4x128x1 : Shape := ⟨3, ![4, 128, 1]⟩
abbrev S512x512 : Shape := ⟨2, ![512, 512]⟩
abbrev S512x256 : Shape := ⟨2, ![512, 256]⟩
abbrev S1x128x1 : Shape := ⟨3, ![1, 128, 1]⟩
abbrev S128x1 : Shape := ⟨2, ![128, 1]⟩
abbrev S128x256 : Shape := ⟨2, ![128, 256]⟩
abbrev S1x1x256 : Shape := ⟨3, ![1, 1, 256]⟩
abbrev S4x1x256 : Shape := ⟨3, ![4, 1, 256]⟩
abbrev S128 : Shape := ⟨1, ![128]⟩
abbrev S128x128 : Shape := ⟨2, ![128, 128]⟩
abbrev S1x128x128 : Shape := ⟨3, ![1, 128, 128]⟩
abbrev S1x128x256 : Shape := ⟨3, ![1, 128, 256]⟩
abbrev S4x128x256 : Shape := ⟨3, ![4, 128, 256]⟩

abbrev nBuf : Space → Nat
  | .hbm => 14
  | .vmem => 14
  | .smem => 0
  | _ => 0

abbrev bufTy : (tb : Table) → Fin (tcTables nBuf tb) → BufTy
  | .hbm, ⟨0, _⟩ => ⟨S2048x512, .f32⟩
  | .hbm, ⟨1, _⟩ => ⟨S256, .f32⟩
  | .hbm, ⟨2, _⟩ => ⟨S4x128x128, .f32⟩
  | .hbm, ⟨3, _⟩ => ⟨S4x128, .f32⟩
  | .hbm, ⟨4, _⟩ => ⟨S256, .f32⟩
  | .hbm, ⟨5, _⟩ => ⟨S2048x256, .f32⟩
  | .hbm, ⟨6, _⟩ => ⟨S1x256, .f32⟩
  | .hbm, ⟨7, _⟩ => ⟨S4x128x1, .f32⟩
  | .hbm, ⟨8, _⟩ => ⟨S1x256, .f32⟩
  | .hbm, ⟨9, _⟩ => ⟨S2048x512, .f32⟩
  | .hbm, ⟨10, _⟩ => ⟨S1x256, .f32⟩
  | .hbm, ⟨11, _⟩ => ⟨S4x128x128, .f32⟩
  | .hbm, ⟨12, _⟩ => ⟨S4x128x1, .f32⟩
  | .hbm, ⟨13, _⟩ => ⟨S1x256, .f32⟩
  | .local _ .vmem, ⟨0, _⟩ => ⟨S512x512, .f32⟩
  | .local _ .vmem, ⟨1, _⟩ => ⟨S512x512, .f32⟩
  | .local _ .vmem, ⟨2, _⟩ => ⟨S1x256, .f32⟩
  | .local _ .vmem, ⟨3, _⟩ => ⟨S4x128x128, .f32⟩
  | .local _ .vmem, ⟨4, _⟩ => ⟨S4x128x1, .f32⟩
  | .local _ .vmem, ⟨5, _⟩ => ⟨S1x256, .f32⟩
  | .local _ .vmem, ⟨6, _⟩ => ⟨S512x256, .f32⟩
  | .local _ .vmem, ⟨7, _⟩ => ⟨S512x256, .f32⟩
  | .local _ .vmem, ⟨8, _⟩ => ⟨S512x512, .f32⟩
  | .local _ .vmem, ⟨9, _⟩ => ⟨S512x512, .f32⟩
  | .local _ .vmem, ⟨10, _⟩ => ⟨S1x256, .f32⟩
  | .local _ .vmem, ⟨11, _⟩ => ⟨S4x128x128, .f32⟩
  | .local _ .vmem, ⟨12, _⟩ => ⟨S4x128x1, .f32⟩
  | .local _ .vmem, ⟨13, _⟩ => ⟨S1x256, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1806 : BitVec 32 := Scalar.extui v0
  let c0_i32_476 : BitVec 32 := 0#32
  let v1807 : BitVec 1 := Scalar.cmpi .ne v1806 c0_i32_476
  v1807

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v1808 : BitVec 1 := Scalar.xori v0 v_true
  let v1809 : BitVec 32 := Scalar.extui v1808
  let c0_i32_477 : BitVec 32 := 0#32
  let v1810 : BitVec 1 := Scalar.cmpi .ne v1809 c0_i32_477
  v1810

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v1811 : BitVec 32 := Scalar.extui v0
  let c0_i32_478 : BitVec 32 := 0#32
  let v1812 : BitVec 1 := Scalar.cmpi .ne v1811 c0_i32_478
  v1812

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_479 : BitVec 1 := 1#1
  let v1813 : BitVec 1 := Scalar.xori v0 true_479
  let v1814 : BitVec 32 := Scalar.extui v1813
  let c0_i32_480 : BitVec 32 := 0#32
  let v1815 : BitVec 1 := Scalar.cmpi .ne v1814 c0_i32_480
  v1815

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v1821 : BitVec 32 := Scalar.extui v0
  let c0_i32_485 : BitVec 32 := 0#32
  let v1822 : BitVec 1 := Scalar.cmpi .ne v1821 c0_i32_485
  v1822

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_486 : BitVec 1 := 1#1
  let v1823 : BitVec 1 := Scalar.xori v0 true_486
  let v1824 : BitVec 32 := Scalar.extui v1823
  let c0_i32_488 : BitVec 32 := 0#32
  let v1825 : BitVec 1 := Scalar.cmpi .ne v1824 c0_i32_488
  v1825

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let v1826 : BitVec 32 := Scalar.extui v0
  let c0_i32_490 : BitVec 32 := 0#32
  let v1827 : BitVec 1 := Scalar.cmpi .ne v1826 c0_i32_490
  v1827

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let true_491 : BitVec 1 := 1#1
  let v1828 : BitVec 1 := Scalar.xori v0 true_491
  let v1829 : BitVec 32 := Scalar.extui v1828
  let c0_i32_493 : BitVec 32 := 0#32
  let v1830 : BitVec 1 := Scalar.cmpi .ne v1829 c0_i32_493
  v1830

def k0_cond11 (i : grid0.Coords) : BitVec 1 :=
  let arg0 : BitVec 32 := BitVec.ofNat 32 (i 0).val
  let c0_i32 : BitVec 32 := 0#32
  let v0 : BitVec 1 := Scalar.cmpi .eq arg0 c0_i32
  let v1831 : BitVec 32 := Scalar.extui v0
  let c0_i32_495 : BitVec 32 := 0#32
  let v1832 : BitVec 1 := Scalar.cmpi .ne v1831 c0_i32_495
  v1832

def k0_cond12 (i : grid0.Coords) : BitVec 1 :=
  let arg0 : BitVec 32 := BitVec.ofNat 32 (i 0).val
  let c0_i32 : BitVec 32 := 0#32
  let v0 : BitVec 1 := Scalar.cmpi .eq arg0 c0_i32
  let true_496 : BitVec 1 := 1#1
  let v1833 : BitVec 1 := Scalar.xori v0 true_496
  let v1834 : BitVec 32 := Scalar.extui v1833
  let c0_i32_498 : BitVec 32 := 0#32
  let v1835 : BitVec 1 := Scalar.cmpi .ne v1834 c0_i32_498
  v1835

def k0_cond13 (i : grid0.Coords) : BitVec 1 :=
  let arg0 : BitVec 32 := BitVec.ofNat 32 (i 0).val
  let c0_i32 : BitVec 32 := 0#32
  let v0 : BitVec 1 := Scalar.cmpi .eq arg0 c0_i32
  let v1836 : BitVec 32 := Scalar.extui v0
  let c0_i32_500 : BitVec 32 := 0#32
  let v1837 : BitVec 1 := Scalar.cmpi .ne v1836 c0_i32_500
  v1837

def k0_cond14 (i : grid0.Coords) : BitVec 1 :=
  let arg0 : BitVec 32 := BitVec.ofNat 32 (i 0).val
  let c0_i32 : BitVec 32 := 0#32
  let v0 : BitVec 1 := Scalar.cmpi .eq arg0 c0_i32
  let true_501 : BitVec 1 := 1#1
  let v1838 : BitVec 1 := Scalar.xori v0 true_501
  let v1839 : BitVec 32 := Scalar.extui v1838
  let c0_i32_503 : BitVec 32 := 0#32
  let v1840 : BitVec 1 := Scalar.cmpi .ne v1839 c0_i32_503
  v1840

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v1816 : BitVec 32 := Scalar.extui v0
  let c0_i32_481 : BitVec 32 := 0#32
  let v1817 : BitVec 1 := Scalar.cmpi .ne v1816 c0_i32_481
  v1817

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_482 : BitVec 1 := 1#1
  let v1818 : BitVec 1 := Scalar.xori v0 true_482
  let v1819 : BitVec 32 := Scalar.extui v1818
  let c0_i32_483 : BitVec 32 := 0#32
  let v1820 : BitVec 1 := Scalar.cmpi .ne v1819 c0_i32_483
  v1820

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S2048x512 : Shape := ⟨2, ![2048, 512]⟩
abbrev S256 : Shape := ⟨1, ![256]⟩
abbrev S4x128x128 : Shape := ⟨3, ![4, 128, 128]⟩
abbrev S4x128 : Shape := ⟨2, ![4, 128]⟩
abbrev S2048x256 : Shape := ⟨2, ![2048, 256]⟩
abbrev S_ : Shape := ⟨0, ![]⟩
abbrev S2048x4x64 : Shape := ⟨3, ![2048, 4, 64]⟩
abbrev S4x64 : Shape := ⟨2, ![4, 64]⟩
abbrev S2048x4 : Shape := ⟨2, ![2048, 4]⟩
abbrev S2048x4x1 : Shape := ⟨3, ![2048, 4, 1]⟩
abbrev S1x4x64 : Shape := ⟨3, ![1, 4, 64]⟩
abbrev S16x128x4x64 : Shape := ⟨4, ![16, 128, 4, 64]⟩
abbrev S128x128 : Shape := ⟨2, ![128, 128]⟩
abbrev S4x16x64x128 : Shape := ⟨4, ![4, 16, 64, 128]⟩
abbrev S128x4 : Shape := ⟨2, ![128, 4]⟩
abbrev S128x4x1 : Shape := ⟨3, ![128, 4, 1]⟩
abbrev S1x128x4x1 : Shape := ⟨4, ![1, 128, 4, 1]⟩
abbrev S1x256 : Shape := ⟨2, ![1, 256]⟩
abbrev S4x128x1 : Shape := ⟨3, ![4, 128, 1]⟩

abbrev nBuf : Space → Nat
  | .hbm => 248
  | .vmem => 0
  | .smem => 0
  | _ => 0

abbrev hbmTy0_0 (i : Nat) : BufTy := match i % 128 with
  | 0 => ⟨S2048x512, .f32⟩
  | 1 => ⟨S256, .f32⟩
  | 2 => ⟨S4x128x128, .f32⟩
  | 3 => ⟨S4x128, .f32⟩
  | 4 => ⟨S256, .f32⟩
  | 5 => ⟨S2048x256, .f32⟩
  | 6 => ⟨S2048x256, .f32⟩
  | 7 => ⟨S2048x256, .f32⟩
  | 8 => ⟨S2048x256, .f32⟩
  | 9 => ⟨S2048x256, .f32⟩
  | 10 => ⟨S2048x256, .f32⟩
  | 11 => ⟨S_, .f32⟩
  | 12 => ⟨S2048x256, .f32⟩
  | 13 => ⟨S2048x256, .f32⟩
  | 14 => ⟨S_, .f32⟩
  | 15 => ⟨S2048x256, .f32⟩
  | 16 => ⟨S2048x256, .f32⟩
  | 17 => ⟨S2048x256, .f32⟩
  | 18 => ⟨S_, .f32⟩
  | 19 => ⟨S2048x256, .f32⟩
  | 20 => ⟨S2048x256, .f32⟩
  | 21 => ⟨S2048x256, .f32⟩
  | 22 => ⟨S_, .f32⟩
  | 23 => ⟨S2048x256, .f32⟩
  | 24 => ⟨S2048x256, .f32⟩
  | 25 => ⟨S_, .f32⟩
  | 26 => ⟨S2048x256, .f32⟩
  | 27 => ⟨S2048x256, .f32⟩
  | 28 => ⟨S2048x256, .f32⟩
  | 29 => ⟨S_, .f32⟩
  | 30 => ⟨S2048x256, .f32⟩
  | 31 => ⟨S2048x256, .f32⟩
  | 32 => ⟨S_, .f32⟩
  | 33 => ⟨S2048x256, .f32⟩
  | 34 => ⟨S2048x256, .f32⟩
  | 35 => ⟨S2048x256, .f32⟩
  | 36 => ⟨S2048x256, .f32⟩
  | 37 => ⟨S2048x256, .f32⟩
  | 38 => ⟨S2048x256, .f32⟩
  | 39 => ⟨S_, .f32⟩
  | 40 => ⟨S2048x256, .f32⟩
  | 41 => ⟨S2048x256, .f32⟩
  | 42 => ⟨S_, .f32⟩
  | 43 => ⟨S2048x256, .f32⟩
  | 44 => ⟨S2048x256, .f32⟩
  | 45 => ⟨S2048x256, .f32⟩
  | 46 => ⟨S_, .f32⟩
  | 47 => ⟨S2048x256, .f32⟩
  | 48 => ⟨S2048x256, .f32⟩
  | 49 => ⟨S2048x256, .f32⟩
  | 50 => ⟨S_, .f32⟩
  | 51 => ⟨S2048x256, .f32⟩
  | 52 => ⟨S2048x256, .f32⟩
  | 53 => ⟨S_, .f32⟩
  | 54 => ⟨S2048x256, .f32⟩
  | 55 => ⟨S2048x256, .f32⟩
  | 56 => ⟨S2048x256, .f32⟩
  | 57 => ⟨S_, .f32⟩
  | 58 => ⟨S2048x256, .f32⟩
  | 59 => ⟨S2048x256, .f32⟩
  | 60 => ⟨S_, .f32⟩
  | 61 => ⟨S2048x256, .f32⟩
  | 62 => ⟨S2048x256, .f32⟩
  | 63 => ⟨S2048x256, .f32⟩
  | 64 => ⟨S2048x4x64, .f32⟩
  | 65 => ⟨S4x64, .f32⟩
  | 66 => ⟨S2048x4x64, .f32⟩
  | 67 => ⟨S_, .f32⟩
  | 68 => ⟨S2048x4, .f32⟩
  | 69 => ⟨S2048x4x1, .f32⟩
  | 70 => ⟨S_, .f32⟩
  | 71 => ⟨S2048x4x1, .f32⟩
  | 72 => ⟨S2048x4x1, .f32⟩
  | 73 => ⟨S_, .f32⟩
  | 74 => ⟨S2048x4x1, .f32⟩
  | 75 => ⟨S2048x4x1, .f32⟩
  | 76 => ⟨S2048x4x1, .f32⟩
  | 77 => ⟨S2048x4x1, .f32⟩
  | 78 => ⟨S_, .f32⟩
  | 79 => ⟨S2048x4x1, .f32⟩
  | 80 => ⟨S2048x4x1, .f32⟩
  | 81 => ⟨S2048x4x64, .f32⟩
  | 82 => ⟨S2048x4x64, .f32⟩
  | 83 => ⟨S1x4x64, .f32⟩
  | 84 => ⟨S2048x4x64, .f32⟩
  | 85 => ⟨S2048x4x64, .f32⟩
  | 86 => ⟨S2048x256, .f32⟩
  | 87 => ⟨S16x128x4x64, .f32⟩
  | 88 => ⟨S_, .i1⟩
  | 89 => ⟨S128x128, .i1⟩
  | 90 => ⟨S128x128, .i32⟩
  | 91 => ⟨S_, .i32⟩
  | 92 => ⟨S128x128, .i32⟩
  | 93 => ⟨S128x128, .i32⟩
  | 94 => ⟨S128x128, .i32⟩
  | 95 => ⟨S128x128, .i1⟩
  | 96 => ⟨S_, .i1⟩
  | 97 => ⟨S128x128, .i1⟩
  | 98 => ⟨S128x128, .i1⟩
  | 99 => ⟨S_, .i32⟩
  | 100 => ⟨S_, .f32⟩
  | 101 => ⟨S4x128x128, .i1⟩
  | 102 => ⟨S4x128x128, .f32⟩
  | 103 => ⟨S4x128x128, .f32⟩
  | 104 => ⟨S_, .f32⟩
  | 105 => ⟨S4x128x128, .f32⟩
  | 106 => ⟨S4x16x64x128, .f32⟩
  | 107 => ⟨S16x128x4x64, .f32⟩
  | 108 => ⟨S128x4, .f32⟩
  | 109 => ⟨S128x4x1, .f32⟩
  | 110 => ⟨S1x128x4x1, .f32⟩
  | 111 => ⟨S16x128x4x64, .f32⟩
  | 112 => ⟨S16x128x4x64, .f32⟩
  | 113 => ⟨S2048x256, .f32⟩
  | 114 => ⟨S2048x256, .f32⟩
  | 115 => ⟨S2048x4x64, .f32⟩
  | 116 => ⟨S4x64, .f32⟩
  | 117 => ⟨S2048x4x64, .f32⟩
  | 118 => ⟨S_, .f32⟩
  | 119 => ⟨S2048x4, .f32⟩
  | 120 => ⟨S2048x4x1, .f32⟩
  | 121 => ⟨S_, .f32⟩
  | 122 => ⟨S2048x4x1, .f32⟩
  | 123 => ⟨S2048x4x1, .f32⟩
  | 124 => ⟨S_, .f32⟩
  | 125 => ⟨S2048x4x1, .f32⟩
  | 126 => ⟨S2048x4x1, .f32⟩
  | 127 => ⟨S2048x4x1, .f32⟩
  | _ => ⟨S2048x512, .f32⟩

abbrev hbmTy0_1 (i : Nat) : BufTy := match i % 128 with
  | 0 => ⟨S2048x4x1, .f32⟩
  | 1 => ⟨S_, .f32⟩
  | 2 => ⟨S2048x4x1, .f32⟩
  | 3 => ⟨S2048x4x1, .f32⟩
  | 4 => ⟨S2048x4x64, .f32⟩
  | 5 => ⟨S2048x4x64, .f32⟩
  | 6 => ⟨S1x4x64, .f32⟩
  | 7 => ⟨S2048x4x64, .f32⟩
  | 8 => ⟨S2048x4x64, .f32⟩
  | 9 => ⟨S2048x256, .f32⟩
  | 10 => ⟨S2048x4x64, .f32⟩
  | 11 => ⟨S2048x4x64, .f32⟩
  | 12 => ⟨S_, .f32⟩
  | 13 => ⟨S4x64, .f32⟩
  | 14 => ⟨S1x4x64, .f32⟩
  | 15 => ⟨S2048x4x64, .f32⟩
  | 16 => ⟨S2048x4x64, .f32⟩
  | 17 => ⟨S_, .f32⟩
  | 18 => ⟨S4x64, .f32⟩
  | 19 => ⟨S2048x4x64, .f32⟩
  | 20 => ⟨S_, .f32⟩
  | 21 => ⟨S2048x4, .f32⟩
  | 22 => ⟨S2048x4x1, .f32⟩
  | 23 => ⟨S2048x4x64, .f32⟩
  | 24 => ⟨S2048x4x64, .f32⟩
  | 25 => ⟨S2048x4x1, .f32⟩
  | 26 => ⟨S_, .f32⟩
  | 27 => ⟨S2048x4x1, .f32⟩
  | 28 => ⟨S2048x4x1, .f32⟩
  | 29 => ⟨S_, .f32⟩
  | 30 => ⟨S2048x4, .f32⟩
  | 31 => ⟨S2048x4x64, .f32⟩
  | 32 => ⟨S2048x4x64, .f32⟩
  | 33 => ⟨S2048x4x64, .f32⟩
  | 34 => ⟨S2048x4x64, .f32⟩
  | 35 => ⟨S2048x4x64, .f32⟩
  | 36 => ⟨S256, .f32⟩
  | 37 => ⟨S2048x256, .f32⟩
  | 38 => ⟨S2048x256, .f32⟩
  | 39 => ⟨S2048x256, .f32⟩
  | 40 => ⟨S16x128x4x64, .f32⟩
  | 41 => ⟨S_, .f32⟩
  | 42 => ⟨S128x4, .f32⟩
  | 43 => ⟨S1x128x4x1, .f32⟩
  | 44 => ⟨S_, .f32⟩
  | 45 => ⟨S128x4, .f32⟩
  | 46 => ⟨S128x4x1, .f32⟩
  | 47 => ⟨S_, .f32⟩
  | 48 => ⟨S128x4, .f32⟩
  | 49 => ⟨S4x128, .f32⟩
  | 50 => ⟨S4x16x64x128, .f32⟩
  | 51 => ⟨S4x128x128, .f32⟩
  | 52 => ⟨S4x16x64x128, .f32⟩
  | 53 => ⟨S16x128x4x64, .f32⟩
  | 54 => ⟨S_, .f32⟩
  | 55 => ⟨S4x128x128, .f32⟩
  | 56 => ⟨S4x128x128, .f32⟩
  | 57 => ⟨S2048x256, .f32⟩
  | 58 => ⟨S2048x4x64, .f32⟩
  | 59 => ⟨S2048x4x64, .f32⟩
  | 60 => ⟨S_, .f32⟩
  | 61 => ⟨S4x64, .f32⟩
  | 62 => ⟨S1x4x64, .f32⟩
  | 63 => ⟨S2048x4x64, .f32⟩
  | 64 => ⟨S2048x4x64, .f32⟩
  | 65 => ⟨S_, .f32⟩
  | 66 => ⟨S4x64, .f32⟩
  | 67 => ⟨S2048x4x64, .f32⟩
  | 68 => ⟨S_, .f32⟩
  | 69 => ⟨S2048x4, .f32⟩
  | 70 => ⟨S2048x4x1, .f32⟩
  | 71 => ⟨S2048x4x64, .f32⟩
  | 72 => ⟨S2048x4x64, .f32⟩
  | 73 => ⟨S2048x4x1, .f32⟩
  | 74 => ⟨S_, .f32⟩
  | 75 => ⟨S2048x4x1, .f32⟩
  | 76 => ⟨S2048x4x1, .f32⟩
  | 77 => ⟨S_, .f32⟩
  | 78 => ⟨S2048x4, .f32⟩
  | 79 => ⟨S2048x4x64, .f32⟩
  | 80 => ⟨S2048x4x64, .f32⟩
  | 81 => ⟨S2048x4x64, .f32⟩
  | 82 => ⟨S2048x4x64, .f32⟩
  | 83 => ⟨S2048x4x64, .f32⟩
  | 84 => ⟨S256, .f32⟩
  | 85 => ⟨S2048x256, .f32⟩
  | 86 => ⟨S2048x256, .f32⟩
  | 87 => ⟨S2048x256, .f32⟩
  | 88 => ⟨S_, .f32⟩
  | 89 => ⟨S2048x256, .f32⟩
  | 90 => ⟨S2048x256, .f32⟩
  | 91 => ⟨S2048x256, .f32⟩
  | 92 => ⟨S_, .f32⟩
  | 93 => ⟨S2048x256, .f32⟩
  | 94 => ⟨S2048x256, .f32⟩
  | 95 => ⟨S2048x256, .f32⟩
  | 96 => ⟨S_, .f32⟩
  | 97 => ⟨S2048x256, .f32⟩
  | 98 => ⟨S2048x256, .f32⟩
  | 99 => ⟨S2048x256, .f32⟩
  | 100 => ⟨S2048x256, .f32⟩
  | 101 => ⟨S2048x256, .f32⟩
  | 102 => ⟨S2048x256, .f32⟩
  | 103 => ⟨S_, .f32⟩
  | 104 => ⟨S2048x256, .f32⟩
  | 105 => ⟨S2048x256, .f32⟩
  | 106 => ⟨S2048x256, .f32⟩
  | 107 => ⟨S_, .f32⟩
  | 108 => ⟨S2048x256, .f32⟩
  | 109 => ⟨S2048x256, .f32⟩
  | 110 => ⟨S2048x256, .f32⟩
  | 111 => ⟨S_, .f32⟩
  | 112 => ⟨S2048x256, .f32⟩
  | 113 => ⟨S2048x256, .f32⟩
  | 114 => ⟨S2048x256, .f32⟩
  | 115 => ⟨S2048x256, .f32⟩
  | 116 => ⟨S2048x512, .f32⟩
  | 117 => ⟨S1x256, .f32⟩
  | 118 => ⟨S4x128x1, .f32⟩
  | 119 => ⟨S1x256, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_v40 : Ref sig .tc := ⟨.hbm, 59, rfl⟩
abbrev main_cst_12 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev main_cst_15 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_16 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c : Ref sig .tc := ⟨.hbm, 88, rfl⟩
abbrev main_v64 : Ref sig .tc := ⟨.hbm, 89, rfl⟩
abbrev main_call0_v0 : Ref sig .tc := ⟨.hbm, 90, rfl⟩
abbrev main_call0_c : Ref sig .tc := ⟨.hbm, 91, rfl⟩
abbrev main_call0_v1 : Ref sig .tc := ⟨.hbm, 92, rfl⟩
abbrev main_call0_v2 : Ref sig .tc := ⟨.hbm, 93, rfl⟩
abbrev main_call0_v3 : Ref sig .tc := ⟨.hbm, 94, rfl⟩
abbrev main_call0_v4 : Ref sig .tc := ⟨.hbm, 95, rfl⟩
abbrev main_call0_c_0 : Ref sig .tc := ⟨.hbm, 96, rfl⟩
abbrev main_call0_v5 : Ref sig .tc := ⟨.hbm, 97, rfl⟩
abbrev main_v65 : Ref sig .tc := ⟨.hbm, 98, rfl⟩
abbrev main_c_17 : Ref sig .tc := ⟨.hbm, 99, rfl⟩
abbrev main_call1_v0 : Ref sig .tc := ⟨.hbm, 100, rfl⟩
abbrev main_v66_1 : Ref sig .tc := ⟨.hbm, 101, rfl⟩
abbrev main_call1_v2 : Ref sig .tc := ⟨.hbm, 102, rfl⟩
abbrev main_v66_0 : Ref sig .tc := ⟨.hbm, 103, rfl⟩
abbrev main_call1_cst : Ref sig .tc := ⟨.hbm, 104, rfl⟩
abbrev main_v66_2 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_18 : Ref sig .tc := ⟨.hbm, 118, rfl⟩
abbrev main_v79 : Ref sig .tc := ⟨.hbm, 119, rfl⟩
abbrev main_v80 : Ref sig .tc := ⟨.hbm, 120, rfl⟩
abbrev main_cst_19 : Ref sig .tc := ⟨.hbm, 121, rfl⟩
abbrev main_v81 : Ref sig .tc := ⟨.hbm, 122, rfl⟩
abbrev main_v82 : Ref sig .tc := ⟨.hbm, 123, rfl⟩
abbrev main_cst_20 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_21 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_22 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_cst_23 : Ref sig .tc := ⟨.hbm, 145, rfl⟩
abbrev main_v101 : Ref sig .tc := ⟨.hbm, 146, rfl⟩
abbrev main_v102 : Ref sig .tc := ⟨.hbm, 147, rfl⟩
abbrev main_cst_24 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_25 : Ref sig .tc := ⟨.hbm, 154, rfl⟩
abbrev main_v108 : Ref sig .tc := ⟨.hbm, 155, rfl⟩
abbrev main_v109 : Ref sig .tc := ⟨.hbm, 156, rfl⟩
abbrev main_cst_26 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_cst_27 : Ref sig .tc := ⟨.hbm, 169, rfl⟩
abbrev main_v121 : Ref sig .tc := ⟨.hbm, 170, rfl⟩
abbrev main_v122 : Ref sig .tc := ⟨.hbm, 171, rfl⟩
abbrev main_cst_28 : Ref sig .tc := ⟨.hbm, 172, rfl⟩
abbrev main_v123 : Ref sig .tc := ⟨.hbm, 173, rfl⟩
abbrev main_v124 : Ref sig .tc := ⟨.hbm, 174, rfl⟩
abbrev main_cst_29 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_call2_cst : Ref sig .tc := ⟨.hbm, 182, rfl⟩
abbrev main_call2_v0 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_cst_30 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_cst_31 : Ref sig .tc := ⟨.hbm, 193, rfl⟩
abbrev main_v139 : Ref sig .tc := ⟨.hbm, 194, rfl⟩
abbrev main_v140 : Ref sig .tc := ⟨.hbm, 195, rfl⟩
abbrev main_cst_32 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_cst_33 : Ref sig .tc := ⟨.hbm, 202, rfl⟩
abbrev main_v146 : Ref sig .tc := ⟨.hbm, 203, rfl⟩
abbrev main_v147 : Ref sig .tc := ⟨.hbm, 204, rfl⟩
abbrev main_cst_34 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_cst_35 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_cst_36 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_cst_37 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_cst_38 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_cst_39 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_cst_40 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩

abbrev nD : Nat := 1
abbrev τ : Topo := Topo.v7x

variable {F : FTy → Type} [FloatOps F]
-- ==== Kernel2.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩
abbrev S1024x4x1024 : Shape := ⟨3, ![1024, 4, 1024]⟩
abbrev S4x1024x1024 : Shape := ⟨3, ![4, 1024, 1024]⟩
abbrev S4x2048x1024 : Shape := ⟨3, ![4, 2048, 1024]⟩
abbrev S512x1024 : Shape := ⟨2, ![512, 1024]⟩
abbrev S1x1024x1024 : Shape := ⟨3, ![1, 1024, 1024]⟩
abbrev S1x512x1024 : Shape := ⟨3, ![1, 512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 38
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x4096, .f32⟩
  | .hbm, ⟨22, _⟩ => ⟨S_, .f32⟩
  | .hbm, ⟨23, _⟩ => ⟨S2048x4096, .f32⟩
  | .hbm, ⟨24, _⟩ => ⟨S2048x4096, .f32⟩
  | .hbm, ⟨25, _⟩ => ⟨S2048x4096, .bf16⟩
  | .hbm, ⟨26, _⟩ => ⟨S1024x4096, .bf16⟩
  | .hbm, ⟨27, _⟩ => ⟨S1024x4x1024, .bf16⟩
  | .hbm, ⟨28, _⟩ => ⟨S4x1024x1024, .bf16⟩
  | .hbm, ⟨29, _⟩ => ⟨S4096x1024, .bf16⟩
  | .hbm, ⟨30, _⟩ => ⟨S4x1024x1024, .bf16⟩
  | .hbm, ⟨31, _⟩ => ⟨S1x1024, .f32⟩
  | .hbm, ⟨32, _⟩ => ⟨S4x2048x1024, .f32⟩
  | .hbm, ⟨33, _⟩ => ⟨S1x1024, .f32⟩
  | .hbm, ⟨34, _⟩ => ⟨S4x1024x1024, .f32⟩
  | .hbm, ⟨35, _⟩ => ⟨S4x1024x1024, .f32⟩
  | .hbm, ⟨36, _⟩ => ⟨S4x1024x1024, .bf16⟩
  | .hbm, ⟨37, _⟩ => ⟨S4x1024x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x1024, .f32⟩
  | .local _ .vmem, ⟨14, _⟩ => ⟨S1x1024x1024, .f32⟩
  | .local _ .vmem, ⟨15, _⟩ => ⟨S1x1024x1024, .f32⟩
  | .local _ .vmem, ⟨16, _⟩ => ⟨S1x1024x1024, .f32⟩
  | .local _ .vmem, ⟨17, _⟩ => ⟨S1x1024x1024, .f32⟩
  | .local _ .vmem, ⟨18, _⟩ => ⟨S1x1024x1024, .bf16⟩
  | .local _ .vmem, ⟨19, _⟩ => ⟨S1x1024x1024, .bf16⟩
  | .local _ .vmem, ⟨20, _⟩ => ⟨S1x1024x1024, .bf16⟩
  | .local _ .vmem, ⟨21, _⟩ => ⟨S1x1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev main_v23_4 : Ref sig .tc := ⟨.hbm, 36, rfl⟩
abbrev main_v23_5 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v56 : BitVec 1 := Scalar.cmpi .eq arg0 c0_i32
  let arg1 : BitVec 32 := BitVec.ofNat 32 (i 1).val
  let c0_i32_26 : BitVec 32 := 0#32
  let v57 : BitVec 1 := Scalar.cmpi .eq arg1 c0_i32_26
  let v58 : BitVec 1 := Scalar.andi v56 v57
  let v59 : BitVec 32 := Scalar.extui v58
  let c0_i32_27 : BitVec 32 := 0#32
  let v60 : BitVec 1 := Scalar.cmpi .ne v59 c0_i32_27
  v60

def k0_cond2 (i : grid0.Coords) : BitVec 1 :=
  let arg0 : BitVec 32 := BitVec.ofNat 32 (i 0).val
  let c0_i32 : BitVec 32 := 0#32
  let v56 : BitVec 1 := Scalar.cmpi .eq arg0 c0_i32
  let arg1 : BitVec 32 := BitVec.ofNat 32 (i 1).val
  let c0_i32_26 : BitVec 32 := 0#32
  let v57 : BitVec 1 := Scalar.cmpi .eq arg1 c0_i32_26
  let v58 : BitVec 1 := Scalar.andi v56 v57
  let v_true : BitVec 1 := 1#1
  let v61 : BitVec 1 := Scalar.xori v58 v_true
  let v62 : BitVec 32 := Scalar.extui v61
  let c0_i32_28 : BitVec 32 := 0#32
  let v63 : BitVec 1 := Scalar.cmpi .ne v62 c0_i32_28
  v63

def k0_cond3 (i : grid0.Coords) : BitVec 1 :=
  let arg1 : BitVec 32 := BitVec.ofNat 32 (i 1).val
  let c0_i32_30 : BitVec 32 := 0#32
  let v67 : BitVec 1 := Scalar.cmpi .eq arg1 c0_i32_30
  let v68 : BitVec 32 := Scalar.extui v67
  let c0_i32_31 : BitVec 32 := 0#32
  let v69 : BitVec 1 := Scalar.cmpi .ne v68 c0_i32_31
  v69

def k0_cond4 (i : grid0.Coords) : BitVec 1 :=
  let arg1 : BitVec 32 := BitVec.ofNat 32 (i 1).val
  let c0_i32_30 : BitVec 32 := 0#32
  let v67 : BitVec 1 := Scalar.cmpi .eq arg1 c0_i32_30
  let true_32 : BitVec 1 := 1#1
  let v70 : BitVec 1 := Scalar.xori v67 true_32
  let v71 : BitVec 32 := Scalar.extui v70
  let c0_i32_33 : BitVec 32 := 0#32
  let v72 : BitVec 1 := Scalar.cmpi .ne v71 c0_i32_33
  v72

def k0_cond5 (i : grid0.Coords) : BitVec 1 :=
  let arg1 : BitVec 32 := BitVec.ofNat 32 (i 1).val
  let c0_i32_35 : BitVec 32 := 0#32
  let v77 : BitVec 1 := Scalar.cmpi .eq arg1 c0_i32_35
  let v78 : BitVec 32 := Scalar.extui v77
  let c0_i32_36 : BitVec 32 := 0#32
  let v79 : BitVec 1 := Scalar.cmpi .ne v78 c0_i32_36
  v79

def k0_cond6 (i : grid0.Coords) : BitVec 1 :=
  let arg1 : BitVec 32 := BitVec.ofNat 32 (i 1).val
  let c0_i32_35 : BitVec 32 := 0#32
  let v77 : BitVec 1 := Scalar.cmpi .eq arg1 c0_i32_35
  let true_37 : BitVec 1 := 1#1
  let v80 : BitVec 1 := Scalar.xori v77 true_37
  let v81 : BitVec 32 := Scalar.extui v80
  let c0_i32_38 : BitVec 32 := 0#32
  let v82 : BitVec 1 := Scalar.cmpi .ne v81 c0_i32_38
  v82

def k0_cond7 (i : grid0.Coords) : BitVec 1 :=
  let arg1 : BitVec 32 := BitVec.ofNat 32 (i 1).val
  let c3_i32 : BitVec 32 := 3#32
  let v83 : BitVec 1 := Scalar.cmpi .eq arg1 c3_i32
  let v84 : BitVec 32 := Scalar.extui v83
  let c0_i32_39 : BitVec 32 := 0#32
  let v85 : BitVec 1 := Scalar.cmpi .ne v84 c0_i32_39
  v85

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference2Ideal.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩
abbrev S1024x4x1024 : Shape := ⟨3, ![1024, 4, 1024]⟩
abbrev S4x1024x1024 : Shape := ⟨3, ![4, 1024, 1024]⟩
abbrev S2048x4x1024 : Shape := ⟨3, ![2048, 4, 1024]⟩
abbrev S4x2048x1024 : Shape := ⟨3, ![4, 2048, 1024]⟩
abbrev S1x1x1024 : Shape := ⟨3, ![1, 1, 1024]⟩
abbrev S1x2048x1024 : Shape := ⟨3, ![1, 2048, 1024]⟩
abbrev S4x2048 : Shape := ⟨2, ![4, 2048]⟩
abbrev S4x2048x1 : Shape := ⟨3, ![4, 2048, 1]⟩
abbrev S1x2048x1 : Shape := ⟨3, ![1, 2048, 1]⟩

abbrev nBuf : Space → Nat
  | .hbm => 155
  | .vmem => 0
  | .smem => 0
  | _ => 0

abbrev hbmTy0_0 (i : Nat) : BufTy := match i % 128 with
  | 0 => ⟨S2048x1024, .f32⟩
  | 1 => ⟨S1024, .f32⟩
  | 2 => ⟨S1024x4096, .f32⟩
  | 3 => ⟨S4096x1024, .f32⟩
  | 4 => ⟨S2048x1024, .f32⟩
  | 5 => ⟨S2048x1024, .f32⟩
  | 6 => ⟨S_, .f32⟩
  | 7 => ⟨S2048, .f32⟩
  | 8 => ⟨S2048x1, .f32⟩
  | 9 => ⟨S_, .f32⟩
  | 10 => ⟨S2048x1, .f32⟩
  | 11 => ⟨S2048x1, .f32⟩
  | 12 => ⟨S_, .f32⟩
  | 13 => ⟨S2048x1, .f32⟩
  | 14 => ⟨S2048x1, .f32⟩
  | 15 => ⟨S2048x1, .f32⟩
  | 16 => ⟨S2048x1, .f32⟩
  | 17 => ⟨S_, .f32⟩
  | 18 => ⟨S2048x1, .f32⟩
  | 19 => ⟨S2048x1, .f32⟩
  | 20 => ⟨S2048x1024, .f32⟩
  | 21 => ⟨S2048x1024, .f32⟩
  | 22 => ⟨S1x1024, .f32⟩
  | 23 => ⟨S2048x1024, .f32⟩
  | 24 => ⟨S2048x1024, .f32⟩
  | 25 => ⟨S2048x4096, .f32⟩
  | 26 => ⟨S_, .f32⟩
  | 27 => ⟨S2048x4096, .f32⟩
  | 28 => ⟨S2048x4096, .f32⟩
  | 29 => ⟨S_, .f32⟩
  | 30 => ⟨S2048x4096, .f32⟩
  | 31 => ⟨S2048x4096, .i1⟩
  | 32 => ⟨S_, .f32⟩
  | 33 => ⟨S2048x4096, .f32⟩
  | 34 => ⟨S2048x4096, .f32⟩
  | 35 => ⟨S_, .f32⟩
  | 36 => ⟨S2048x4096, .f32⟩
  | 37 => ⟨S2048x4096, .f32⟩
  | 38 => ⟨S2048x1024, .f32⟩
  | 39 => ⟨S1024x4096, .f32⟩
  | 40 => ⟨S4096x1024, .f32⟩
  | 41 => ⟨S2048x4096, .f32⟩
  | 42 => ⟨S2048x4096, .f32⟩
  | 43 => ⟨S_, .f32⟩
  | 44 => ⟨S2048x4096, .f32⟩
  | 45 => ⟨S2048x4096, .f32⟩
  | 46 => ⟨S4096x1024, .f32⟩
  | 47 => ⟨S1024x4096, .f32⟩
  | 48 => ⟨S2048x1024, .f32⟩
  | 49 => ⟨S2048x1024, .f32⟩
  | 50 => ⟨S_, .f32⟩
  | 51 => ⟨S1024, .f32⟩
  | 52 => ⟨S1x1024, .f32⟩
  | 53 => ⟨S2048x1024, .f32⟩
  | 54 => ⟨S2048x1024, .f32⟩
  | 55 => ⟨S_, .f32⟩
  | 56 => ⟨S1024, .f32⟩
  | 57 => ⟨S2048x1024, .f32⟩
  | 58 => ⟨S_, .f32⟩
  | 59 => ⟨S2048, .f32⟩
  | 60 => ⟨S2048x1, .f32⟩
  | 61 => ⟨S2048x1024, .f32⟩
  | 62 => ⟨S2048x1024, .f32⟩
  | 63 => ⟨S2048x1, .f32⟩
  | 64 => ⟨S_, .f32⟩
  | 65 => ⟨S2048x1, .f32⟩
  | 66 => ⟨S2048x1, .f32⟩
  | 67 => ⟨S_, .f32⟩
  | 68 => ⟨S2048, .f32⟩
  | 69 => ⟨S2048x1024, .f32⟩
  | 70 => ⟨S2048x1024, .f32⟩
  | 71 => ⟨S2048x1024, .f32⟩
  | 72 => ⟨S2048x1024, .f32⟩
  | 73 => ⟨S2048x1024, .f32⟩
  | 74 => ⟨S1024x4x1024, .f32⟩
  | 75 => ⟨S4x1024x1024, .f32⟩
  | 76 => ⟨S4x1024x1024, .f32⟩
  | 77 => ⟨S2048x1024, .f32⟩
  | 78 => ⟨S_, .f32⟩
  | 79 => ⟨S2048, .f32⟩
  | 80 => ⟨S2048x1, .f32⟩
  | 81 => ⟨S_, .f32⟩
  | 82 => ⟨S2048x1, .f32⟩
  | 83 => ⟨S2048x1, .f32⟩
  | 84 => ⟨S_, .f32⟩
  | 85 => ⟨S2048x1, .f32⟩
  | 86 => ⟨S2048x1, .f32⟩
  | 87 => ⟨S2048x1, .f32⟩
  | 88 => ⟨S2048x1, .f32⟩
  | 89 => ⟨S_, .f32⟩
  | 90 => ⟨S2048x1, .f32⟩
  | 91 => ⟨S2048x1, .f32⟩
  | 92 => ⟨S2048x1024, .f32⟩
  | 93 => ⟨S2048x1024, .f32⟩
  | 94 => ⟨S1x1024, .f32⟩
  | 95 => ⟨S2048x1024, .f32⟩
  | 96 => ⟨S2048x1024, .f32⟩
  | 97 => ⟨S2048x4x1024, .f32⟩
  | 98 => ⟨S_, .f32⟩
  | 99 => ⟨S2048x4x1024, .f32⟩
  | 100 => ⟨S2048x4x1024, .f32⟩
  | 101 => ⟨S_, .f32⟩
  | 102 => ⟨S2048x4x1024, .f32⟩
  | 103 => ⟨S2048x4x1024, .i1⟩
  | 104 => ⟨S_, .f32⟩
  | 105 => ⟨S2048x1024, .f32⟩
  | 106 => ⟨S2048x4x1024, .f32⟩
  | 107 => ⟨S_, .f32⟩
  | 108 => ⟨S2048x4x1024, .f32⟩
  | 109 => ⟨S2048x4x1024, .f32⟩
  | 110 => ⟨S4x2048x1024, .f32⟩
  | 111 => ⟨S2048x4x1024, .f32⟩
  | 112 => ⟨S2048x4x1024, .f32⟩
  | 113 => ⟨S_, .f32⟩
  | 114 => ⟨S2048x1024, .f32⟩
  | 115 => ⟨S4x2048x1024, .i1⟩
  | 116 => ⟨S4x2048x1024, .f32⟩
  | 117 => ⟨S4x2048x1024, .f32⟩
  | 118 => ⟨S4x2048x1024, .f32⟩
  | 119 => ⟨S4x2048x1024, .f32⟩
  | 120 => ⟨S1x1x1024, .f32⟩
  | 121 => ⟨S4x2048x1024, .f32⟩
  | 122 => ⟨S4x2048x1024, .f32⟩
  | 123 => ⟨S1x2048x1024, .f32⟩
  | 124 => ⟨S4x2048x1024, .f32⟩
  | 125 => ⟨S4x2048x1024, .f32⟩
  | 126 => ⟨S_, .f32⟩
  | 127 => ⟨S4x2048, .f32⟩
  | _ => ⟨S2048x1024, .f32⟩

abbrev hbmTy0_1 (i : Nat) : BufTy := match i % 128 with
  | 0 => ⟨S4x2048x1, .f32⟩
  | 1 => ⟨S1x2048x1, .f32⟩
  | 2 => ⟨S4x2048x1024, .f32⟩
  | 3 => ⟨S4x2048x1024, .f32⟩
  | 4 => ⟨S1x2048x1, .f32⟩
  | 5 => ⟨S4x2048x1, .f32⟩
  | 6 => ⟨S4x2048x1, .f32⟩
  | 7 => ⟨S_, .f32⟩
  | 8 => ⟨S4x2048x1, .f32⟩
  | 9 => ⟨S4x2048x1, .f32⟩
  | 10 => ⟨S_, .f32⟩
  | 11 => ⟨S4x2048, .f32⟩
  | 12 => ⟨S4x2048x1024, .f32⟩
  | 13 => ⟨S1x2048x1024, .f32⟩
  | 14 => ⟨S4x2048x1024, .f32⟩
  | 15 => ⟨S4x2048x1024, .f32⟩
  | 16 => ⟨S4x2048x1024, .f32⟩
  | 17 => ⟨S1x2048x1024, .f32⟩
  | 18 => ⟨S4x2048x1024, .f32⟩
  | 19 => ⟨S4x2048x1024, .f32⟩
  | 20 => ⟨S4x2048x1024, .f32⟩
  | 21 => ⟨S1024x4x1024, .f32⟩
  | 22 => ⟨S4x1024x1024, .f32⟩
  | 23 => ⟨S4x1024x1024, .f32⟩
  | 24 => ⟨S1x1024, .f32⟩
  | 25 => ⟨S4x1024x1024, .bf16⟩
  | 26 => ⟨S4x1024x1024, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_cst_13 : Ref sig .tc := ⟨.hbm, 81, rfl⟩
abbrev main_v60 : Ref sig .tc := ⟨.hbm, 82, rfl⟩
abbrev main_v61 : Ref sig .tc := ⟨.hbm, 83, rfl⟩
abbrev main_cst_14 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_15 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_call1_cst : Ref sig .tc := ⟨.hbm, 98, rfl⟩
abbrev main_call1_v0 : Ref sig .tc := ⟨.hbm, 99, rfl⟩
abbrev main_v74 : Ref sig .tc := ⟨.hbm, 100, rfl⟩
abbrev main_cst_16 : Ref sig .tc := ⟨.hbm, 101, rfl⟩
abbrev main_v75 : Ref sig .tc := ⟨.hbm, 102, rfl⟩
abbrev main_v76 : Ref sig .tc := ⟨.hbm, 103, rfl⟩
abbrev main_cst_17 : Ref sig .tc := ⟨.hbm, 104, rfl⟩
abbrev main_v77 : Ref sig .tc := ⟨.hbm, 105, rfl⟩
abbrev main_v78 : Ref sig .tc := ⟨.hbm, 106, rfl⟩
abbrev main_cst_18 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_19 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_20 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_21 : Ref sig .tc := ⟨.hbm, 135, rfl⟩
abbrev main_v104 : Ref sig .tc := ⟨.hbm, 136, rfl⟩
abbrev main_v105 : Ref sig .tc := ⟨.hbm, 137, rfl⟩
abbrev main_cst_22 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩

abbrev nD : Nat := 1
abbrev τ : Topo := Topo.v7x

variable {F : FTy → Type} [FloatOps F]
-- ==== Kernel3.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S1x1024 : Shape := ⟨2, ![1, 1024]⟩
abbrev S2048x4096 : Shape := ⟨2, ![2048, 4096]⟩
abbrev S1024x1024 : Shape := ⟨2, ![1024, 1024]⟩
abbrev S1x1024x1024 : Shape := ⟨3, ![1, 1024, 1024]⟩
abbrev S1024x1 : Shape := ⟨2, ![1024, 1]⟩

abbrev nBuf : Space → Nat
  | .hbm => 12
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024x4096, .bf16⟩
  | .hbm, ⟨5, _⟩ => ⟨S1024x4x1024, .bf16⟩
  | .hbm, ⟨6, _⟩ => ⟨S4x1024x1024, .bf16⟩
  | .hbm, ⟨7, _⟩ => ⟨S4096x1024, .bf16⟩
  | .hbm, ⟨8, _⟩ => ⟨S4x1024x1024, .bf16⟩
  | .hbm, ⟨9, _⟩ => ⟨S1x1024, .f32⟩
  | .hbm, ⟨10, _⟩ => ⟨S2048x1024, .f32⟩
  | .hbm, ⟨11, _⟩ => ⟨S2048x4096, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v28 : BitVec 1 := Scalar.cmpi .eq arg1 c0_i32
  let v29 : BitVec 32 := Scalar.extui v28
  let c0_i32_16 : BitVec 32 := 0#32
  let v30 : BitVec 1 := Scalar.cmpi .ne v29 c0_i32_16
  v30

def k0_cond2 (i : grid0.Coords) : BitVec 1 :=
  let arg1 : BitVec 32 := BitVec.ofNat 32 (i 1).val
  let c0_i32_17 : BitVec 32 := 0#32
  let v31 : BitVec 1 := Scalar.cmpi .ne arg1 c0_i32_17
  let v32 : BitVec 32 := Scalar.extui v31
  let c0_i32_18 : BitVec 32 := 0#32
  let v33 : BitVec 1 := Scalar.cmpi .ne v32 c0_i32_18
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩

abbrev nBuf : Space → Nat
  | .hbm => 28
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x4096, .f32⟩
  | .hbm, ⟨21, _⟩ => ⟨S_, .f32⟩
  | .hbm, ⟨22, _⟩ => ⟨S2048x4096, .f32⟩
  | .hbm, ⟨23, _⟩ => ⟨S2048x4096, .f32⟩
  | .hbm, ⟨24, _⟩ => ⟨S2048x4096, .f32⟩
  | .hbm, ⟨25, _⟩ => ⟨S2048x1024, .f32⟩
  | .hbm, ⟨26, _⟩ => ⟨S2048x1024, .f32⟩
  | .hbm, ⟨27, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Kernel4.lean ====
abbrev S2048x1024 : Shape := ⟨2, ![2048, 1024]⟩
abbrev S1024 : Shape := ⟨1, ![1024]⟩
abbrev S1024x1952 : Shape := ⟨2, ![1024, 1952]⟩
abbrev S2048x1952 : Shape := ⟨2, ![2048, 1952]⟩
abbrev S2048x416 : Shape := ⟨2, ![2048, 416]⟩
abbrev S_ : Shape := ⟨0, ![]⟩
abbrev S2048x512 : Shape := ⟨2, ![2048, 512]⟩
abbrev S1x1024 : Shape := ⟨2, ![1, 1024]⟩
abbrev S1024x416 : Shape := ⟨2, ![1024, 416]⟩
abbrev S1024x512 : Shape := ⟨2, ![1024, 512]⟩
abbrev S1024x1024 : Shape := ⟨2, ![1024, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 24
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1952, .f32⟩
  | .hbm, ⟨3, _⟩ => ⟨S2048x1952, .f32⟩
  | .hbm, ⟨4, _⟩ => ⟨S2048x1024, .f32⟩
  | .hbm, ⟨5, _⟩ => ⟨S2048x416, .f32⟩
  | .hbm, ⟨6, _⟩ => ⟨S_, .i32⟩
  | .hbm, ⟨7, _⟩ => ⟨S_, .f32⟩
  | .hbm, ⟨8, _⟩ => ⟨S2048x512, .f32⟩
  | .hbm, ⟨9, _⟩ => ⟨S1x1024, .f32⟩
  | .hbm, ⟨10, _⟩ => ⟨S1024x1952, .bf16⟩
  | .hbm, ⟨11, _⟩ => ⟨S1024x416, .bf16⟩
  | .hbm, ⟨12, _⟩ => ⟨S_, .i32⟩
  | .hbm, ⟨13, _⟩ => ⟨S_, .bf16⟩
  | .hbm, ⟨14, _⟩ => ⟨S1024x512, .bf16⟩
  | .hbm, ⟨15, _⟩ => ⟨S1024x512, .bf16⟩
  | .hbm, ⟨16, _⟩ => ⟨S1024x1024, .bf16⟩
  | .hbm, ⟨17, _⟩ => ⟨S2048x512, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S1024x512, .f32⟩
  | .hbm, ⟨22, _⟩ => ⟨S1024x1024, .f32⟩
  | .hbm, ⟨23, _⟩ => ⟨S1024x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x1024, .bf16⟩
  | .local _ .vmem, ⟨5, _⟩ => ⟨S1024x512, .bf16⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S512x512, .f32⟩
  | .local _ .vmem, ⟨11, _⟩ => ⟨S512x512, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S1024x512, .f32⟩
  | .local _ .vmem, ⟨18, _⟩ => ⟨S1024x1024, .f32⟩
  | .local _ .vmem, ⟨19, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v77 : BitVec 32 := Scalar.extui v0
  let c0_i32_32 : BitVec 32 := 0#32
  let v78 : BitVec 1 := Scalar.cmpi .ne v77 c0_i32_32
  v78

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v79 : BitVec 1 := Scalar.xori v0 v_true
  let v80 : BitVec 32 := Scalar.extui v79
  let c0_i32_33 : BitVec 32 := 0#32
  let v81 : BitVec 1 := Scalar.cmpi .ne v80 c0_i32_33
  v81

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v82 : BitVec 32 := Scalar.extui v0
  let c0_i32_34 : BitVec 32 := 0#32
  let v83 : BitVec 1 := Scalar.cmpi .ne v82 c0_i32_34
  v83

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_35 : BitVec 1 := 1#1
  let v84 : BitVec 1 := Scalar.xori v0 true_35
  let v85 : BitVec 32 := Scalar.extui v84
  let c0_i32_36 : BitVec 32 := 0#32
  let v86 : BitVec 1 := Scalar.cmpi .ne v85 c0_i32_36
  v86

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v87 : BitVec 32 := Scalar.extui v0
  let c0_i32_37 : BitVec 32 := 0#32
  let v88 : BitVec 1 := Scalar.cmpi .ne v87 c0_i32_37
  v88

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_38 : BitVec 1 := 1#1
  let v89 : BitVec 1 := Scalar.xori v0 true_38
  let v90 : BitVec 32 := Scalar.extui v89
  let c0_i32_39 : BitVec 32 := 0#32
  let v91 : BitVec 1 := Scalar.cmpi .ne v90 c0_i32_39
  v91

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v92 : BitVec 32 := Scalar.extui v0
  let c0_i32_40 : BitVec 32 := 0#32
  let v93 : BitVec 1 := Scalar.cmpi .ne v92 c0_i32_40
  v93

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_41 : BitVec 1 := 1#1
  let v94 : BitVec 1 := Scalar.xori v0 true_41
  let v95 : BitVec 32 := Scalar.extui v94
  let c0_i32_42 : BitVec 32 := 0#32
  let v96 : BitVec 1 := Scalar.cmpi .ne v95 c0_i32_42
  v96

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference4Ideal.lean ====
abbrev S2048x1024 : Shape := ⟨2, ![2048, 1024]⟩
abbrev S1024 : Shape := ⟨1, ![1024]⟩
abbrev S1024x1952 : Shape := ⟨2, ![1024, 1952]⟩
abbrev S2048x1952 : Shape := ⟨2, ![2048, 1952]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1952x1024 : Shape := ⟨2, ![1952, 1024]⟩
abbrev S1024x512 : Shape := ⟨2, ![1024, 512]⟩
abbrev S1024x1024 : Shape := ⟨2, ![1024, 1024]⟩
abbrev S1024x416 : Shape := ⟨2, ![1024, 416]⟩

abbrev nBuf : Space → Nat
  | .hbm => 62
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1952, .f32⟩
  | .hbm, ⟨3, _⟩ => ⟨S2048x1952, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1952, .f32⟩
  | .hbm, ⟨26, _⟩ => ⟨S1952x1024, .f32⟩
  | .hbm, ⟨27, _⟩ => ⟨S1024x1952, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S2048x1024, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S1x1024, .f32⟩
  | .hbm, ⟨56, _⟩ => ⟨S1024x512, .f32⟩
  | .hbm, ⟨57, _⟩ => ⟨S1024x1024, .f32⟩
  | .hbm, ⟨58, _⟩ => ⟨S1024x416, .f32⟩
  | .hbm, ⟨59, _⟩ => ⟨S_, .i32⟩
  | .hbm, ⟨60, _⟩ => ⟨S_, .f32⟩
  | .hbm, ⟨61, _⟩ => ⟨S1024x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c : Ref sig .tc := ⟨.hbm, 59, rfl⟩
abbrev main_call0_v0 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Kernel5.lean ====
abbrev S2048x1024 : Shape := ⟨2, ![2048, 1024]⟩
abbrev S1024 : Shape := ⟨1, ![1024]⟩
abbrev S1024x1952 : Shape := ⟨2, ![1024, 1952]⟩
abbrev S1x1024 : Shape := ⟨2, ![1, 1024]⟩
abbrev S1024x416 : Shape := ⟨2, ![1024, 416]⟩
abbrev S_ : Shape := ⟨0, ![]⟩
abbrev S1024x512 : Shape := ⟨2, ![1024, 512]⟩
abbrev S1024x1024 : Shape := ⟨2, ![1024, 1024]⟩
abbrev S2048x512 : Shape := ⟨2, ![2048, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 14
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1952, .f32⟩
  | .hbm, ⟨3, _⟩ => ⟨S1x1024, .f32⟩
  | .hbm, ⟨4, _⟩ => ⟨S1024x1952, .bf16⟩
  | .hbm, ⟨5, _⟩ => ⟨S1024x416, .bf16⟩
  | .hbm, ⟨6, _⟩ => ⟨S_, .i32⟩
  | .hbm, ⟨7, _⟩ => ⟨S_, .bf16⟩
  | .hbm, ⟨8, _⟩ => ⟨S1024x512, .bf16⟩
  | .hbm, ⟨9, _⟩ => ⟨S1024x512, .bf16⟩
  | .hbm, ⟨10, _⟩ => ⟨S1024x1024, .bf16⟩
  | .hbm, ⟨11, _⟩ => ⟨S2048x512, .f32⟩
  | .hbm, ⟨12, _⟩ => ⟨S2048x1024, .f32⟩
  | .hbm, ⟨13, _⟩ => ⟨S2048x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x1024, .bf16⟩
  | .local _ .vmem, ⟨5, _⟩ => ⟨S1024x512, .bf16⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S512x512, .f32⟩
  | .local _ .vmem, ⟨11, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S2048x1024 : Shape := ⟨2, ![2048, 1024]⟩
abbrev S1024 : Shape := ⟨1, ![1024]⟩
abbrev S1024x1952 : Shape := ⟨2, ![1024, 1952]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x1952 : Shape := ⟨2, ![2048, 1952]⟩
abbrev S2048x512 : Shape := ⟨2, ![2048, 512]⟩
abbrev S2048x416 : Shape := ⟨2, ![2048, 416]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1952, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1952, .f32⟩
  | .hbm, ⟨20, _⟩ => ⟨S2048x512, .f32⟩
  | .hbm, ⟨21, _⟩ => ⟨S2048x1024, .f32⟩
  | .hbm, ⟨22, _⟩ => ⟨S2048x416, .f32⟩
  | .hbm, ⟨23, _⟩ => ⟨S_, .i32⟩
  | .hbm, ⟨24, _⟩ => ⟨S_, .f32⟩
  | .hbm, ⟨25, _⟩ => ⟨S2048x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel6.lean ====
abbrev S4x1024x1024 : Shape := ⟨3, ![4, 1024, 1024]⟩
abbrev S4096x1024 : Shape := ⟨2, ![4096, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel6Ideal.lean ====
abbrev S4x1024x1024 : Shape := ⟨3, ![4, 1024, 1024]⟩
abbrev S4096x1024 : Shape := ⟨2, ![4096, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S4x1024x1024 : Shape := ⟨3, ![4, 1024, 1024]⟩
abbrev S_ : Shape := ⟨0, ![]⟩
abbrev S4096x1024 : Shape := ⟨2, ![4096, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S_, .f32⟩
  | .hbm, ⟨5, _⟩ => ⟨S4x1024x1024, .f32⟩
  | .hbm, ⟨6, _⟩ => ⟨S4x1024x1024, .f32⟩
  | .hbm, ⟨7, _⟩ => ⟨S_, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S_, .f32⟩
  | .hbm, ⟨12, _⟩ => ⟨S4x1024x1024, .f32⟩
  | .hbm, ⟨13, _⟩ => ⟨S4x1024x1024, .f32⟩
  | .hbm, ⟨14, _⟩ => ⟨S4x1024x1024, .f32⟩
  | .hbm, ⟨15, _⟩ => ⟨S_, .f32⟩
  | .hbm, ⟨16, _⟩ => ⟨S4x1024x1024, .f32⟩
  | .hbm, ⟨17, _⟩ => ⟨S4x1024x1024, .f32⟩
  | .hbm, ⟨18, _⟩ => ⟨S4x1024x1024, .f32⟩
  | .hbm, ⟨19, _⟩ => ⟨S_, .f32⟩
  | .hbm, ⟨20, _⟩ => ⟨S4x1024x1024, .f32⟩
  | .hbm, ⟨21, _⟩ => ⟨S4x1024x1024, .f32⟩
  | .hbm, ⟨22, _⟩ => ⟨S_, .f32⟩
  | .hbm, ⟨23, _⟩ => ⟨S4x1024x1024, .f32⟩
  | .hbm, ⟨24, _⟩ => ⟨S4x1024x1024, .f32⟩
  | .hbm, ⟨25, _⟩ => ⟨S4x1024x1024, .f32⟩
  | .hbm, ⟨26, _⟩ => ⟨S_, .f32⟩
  | .hbm, ⟨27, _⟩ => ⟨S4x1024x1024, .f32⟩
  | .hbm, ⟨28, _⟩ => ⟨S4x1024x1024, .f32⟩
  | .hbm, ⟨29, _⟩ => ⟨S4x1024x1024, .f32⟩
  | .hbm, ⟨30, _⟩ => ⟨S_, .f32⟩
  | .hbm, ⟨31, _⟩ => ⟨S4x1024x1024, .f32⟩
  | .hbm, ⟨32, _⟩ => ⟨S4x1024x1024, .f32⟩
  | .hbm, ⟨33, _⟩ => ⟨S4x1024x1024, .f32⟩
  | .hbm, ⟨34, _⟩ => ⟨S_, .f32⟩
  | .hbm, ⟨35, _⟩ => ⟨S4x1024x1024, .f32⟩
  | .hbm, ⟨36, _⟩ => ⟨S4x1024x1024, .f32⟩
  | .hbm, ⟨37, _⟩ => ⟨S4096x1024, .f32⟩
  | .hbm, ⟨38, _⟩ => ⟨S4096x1024, .f32⟩
  | .hbm, ⟨39, _⟩ => ⟨S4096x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel7.lean ====
abbrev S4x1024x488 : Shape := ⟨3, ![4, 1024, 488]⟩
abbrev S4096x488 : Shape := ⟨2, ![4096, 488]⟩
abbrev S512x488 : Shape := ⟨2, ![512, 488]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x488, .f32⟩
  | .hbm, ⟨1, _⟩ => ⟨S4x1024x488, .f32⟩
  | .hbm, ⟨2, _⟩ => ⟨S4x1024x488, .f32⟩
  | .hbm, ⟨3, _⟩ => ⟨S4x1024x488, .f32⟩
  | .hbm, ⟨4, _⟩ => ⟨S4096x488, .f32⟩
  | .hbm, ⟨5, _⟩ => ⟨S4096x488, .f32⟩
  | .hbm, ⟨6, _⟩ => ⟨S4096x488, .f32⟩
  | .hbm, ⟨7, _⟩ => ⟨S4096x488, .f32⟩
  | .hbm, ⟨8, _⟩ => ⟨S4096x488, .f32⟩
  | .hbm, ⟨9, _⟩ => ⟨S4096x488, .f32⟩
  | .hbm, ⟨10, _⟩ => ⟨S4096x488, .f32⟩
  | .local _ .vmem, ⟨0, _⟩ => ⟨S512x488, .f32⟩
  | .local _ .vmem, ⟨1, _⟩ => ⟨S512x488, .f32⟩
  | .local _ .vmem, ⟨2, _⟩ => ⟨S512x488, .f32⟩
  | .local _ .vmem, ⟨3, _⟩ => ⟨S512x488, .f32⟩
  | .local _ .vmem, ⟨4, _⟩ => ⟨S512x488, .f32⟩
  | .local _ .vmem, ⟨5, _⟩ => ⟨S512x488, .f32⟩
  | .local _ .vmem, ⟨6, _⟩ => ⟨S512x488, .f32⟩
  | .local _ .vmem, ⟨7, _⟩ => ⟨S512x488, .f32⟩
  | .local _ .vmem, ⟨8, _⟩ => ⟨S512x488, .f32⟩
  | .local _ .vmem, ⟨9, _⟩ => ⟨S512x488, .f32⟩
  | .local _ .vmem, ⟨10, _⟩ => ⟨S512x488, .f32⟩
  | .local _ .vmem, ⟨11, _⟩ => ⟨S512x488, .f32⟩
  | .local _ .vmem, ⟨12, _⟩ => ⟨S512x488, .f32⟩
  | .local _ .vmem, ⟨13, _⟩ => ⟨S512x488, .f32⟩
  | _, _ => ⟨S4x1024x488, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x488 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x488 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x488 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x488 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x488 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x488 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x488 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel7Ideal.lean ====
abbrev S4x1024x488 : Shape := ⟨3, ![4, 1024, 488]⟩
abbrev S4096x488 : Shape := ⟨2, ![4096, 488]⟩
abbrev S512x488 : Shape := ⟨2, ![512, 488]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x488, .f32⟩
  | .hbm, ⟨1, _⟩ => ⟨S4x1024x488, .f32⟩
  | .hbm, ⟨2, _⟩ => ⟨S4x1024x488, .f32⟩
  | .hbm, ⟨3, _⟩ => ⟨S4x1024x488, .f32⟩
  | .hbm, ⟨4, _⟩ => ⟨S4096x488, .f32⟩
  | .hbm, ⟨5, _⟩ => ⟨S4096x488, .f32⟩
  | .hbm, ⟨6, _⟩ => ⟨S4096x488, .f32⟩
  | .hbm, ⟨7, _⟩ => ⟨S4096x488, .f32⟩
  | .hbm, ⟨8, _⟩ => ⟨S4096x488, .f32⟩
  | .hbm, ⟨9, _⟩ => ⟨S4096x488, .f32⟩
  | .hbm, ⟨10, _⟩ => ⟨S4096x488, .f32⟩
  | .local _ .vmem, ⟨0, _⟩ => ⟨S512x488, .f32⟩
  | .local _ .vmem, ⟨1, _⟩ => ⟨S512x488, .f32⟩
  | .local _ .vmem, ⟨2, _⟩ => ⟨S512x488, .f32⟩
  | .local _ .vmem, ⟨3, _⟩ => ⟨S512x488, .f32⟩
  | .local _ .vmem, ⟨4, _⟩ => ⟨S512x488, .f32⟩
  | .local _ .vmem, ⟨5, _⟩ => ⟨S512x488, .f32⟩
  | .local _ .vmem, ⟨6, _⟩ => ⟨S512x488, .f32⟩
  | .local _ .vmem, ⟨7, _⟩ => ⟨S512x488, .f32⟩
  | .local _ .vmem, ⟨8, _⟩ => ⟨S512x488, .f32⟩
  | .local _ .vmem, ⟨9, _⟩ => ⟨S512x488, .f32⟩
  | .local _ .vmem, ⟨10, _⟩ => ⟨S512x488, .f32⟩
  | .local _ .vmem, ⟨11, _⟩ => ⟨S512x488, .f32⟩
  | .local _ .vmem, ⟨12, _⟩ => ⟨S512x488, .f32⟩
  | .local _ .vmem, ⟨13, _⟩ => ⟨S512x488, .f32⟩
  | _, _ => ⟨S4x1024x488, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x488 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x488 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x488 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x488 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x488 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x488 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x488 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S4x1024x488 : Shape := ⟨3, ![4, 1024, 488]⟩
abbrev S_ : Shape := ⟨0, ![]⟩
abbrev S4096x488 : Shape := ⟨2, ![4096, 488]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x488, .f32⟩
  | .hbm, ⟨1, _⟩ => ⟨S4x1024x488, .f32⟩
  | .hbm, ⟨2, _⟩ => ⟨S4x1024x488, .f32⟩
  | .hbm, ⟨3, _⟩ => ⟨S4x1024x488, .f32⟩
  | .hbm, ⟨4, _⟩ => ⟨S_, .f32⟩
  | .hbm, ⟨5, _⟩ => ⟨S4x1024x488, .f32⟩
  | .hbm, ⟨6, _⟩ => ⟨S4x1024x488, .f32⟩
  | .hbm, ⟨7, _⟩ => ⟨S_, .f32⟩
  | .hbm, ⟨8, _⟩ => ⟨S4x1024x488, .f32⟩
  | .hbm, ⟨9, _⟩ => ⟨S4x1024x488, .f32⟩
  | .hbm, ⟨10, _⟩ => ⟨S4x1024x488, .f32⟩
  | .hbm, ⟨11, _⟩ => ⟨S_, .f32⟩
  | .hbm, ⟨12, _⟩ => ⟨S4x1024x488, .f32⟩
  | .hbm, ⟨13, _⟩ => ⟨S4x1024x488, .f32⟩
  | .hbm, ⟨14, _⟩ => ⟨S4x1024x488, .f32⟩
  | .hbm, ⟨15, _⟩ => ⟨S_, .f32⟩
  | .hbm, ⟨16, _⟩ => ⟨S4x1024x488, .f32⟩
  | .hbm, ⟨17, _⟩ => ⟨S4x1024x488, .f32⟩
  | .hbm, ⟨18, _⟩ => ⟨S4x1024x488, .f32⟩
  | .hbm, ⟨19, _⟩ => ⟨S_, .f32⟩
  | .hbm, ⟨20, _⟩ => ⟨S4x1024x488, .f32⟩
  | .hbm, ⟨21, _⟩ => ⟨S4x1024x488, .f32⟩
  | .hbm, ⟨22, _⟩ => ⟨S_, .f32⟩
  | .hbm, ⟨23, _⟩ => ⟨S4x1024x488, .f32⟩
  | .hbm, ⟨24, _⟩ => ⟨S4x1024x488, .f32⟩
  | .hbm, ⟨25, _⟩ => ⟨S4x1024x488, .f32⟩
  | .hbm, ⟨26, _⟩ => ⟨S_, .f32⟩
  | .hbm, ⟨27, _⟩ => ⟨S4x1024x488, .f32⟩
  | .hbm, ⟨28, _⟩ => ⟨S4x1024x488, .f32⟩
  | .hbm, ⟨29, _⟩ => ⟨S4x1024x488, .f32⟩
  | .hbm, ⟨30, _⟩ => ⟨S_, .f32⟩
  | .hbm, ⟨31, _⟩ => ⟨S4x1024x488, .f32⟩
  | .hbm, ⟨32, _⟩ => ⟨S4x1024x488, .f32⟩
  | .hbm, ⟨33, _⟩ => ⟨S4x1024x488, .f32⟩
  | .hbm, ⟨34, _⟩ => ⟨S_, .f32⟩
  | .hbm, ⟨35, _⟩ => ⟨S4x1024x488, .f32⟩
  | .hbm, ⟨36, _⟩ => ⟨S4x1024x488, .f32⟩
  | .hbm, ⟨37, _⟩ => ⟨S4096x488, .f32⟩
  | .hbm, ⟨38, _⟩ => ⟨S4096x488, .f32⟩
  | .hbm, ⟨39, _⟩ => ⟨S4096x488, .f32⟩
  | _, _ => ⟨S4x1024x488, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel8.lean ====
abbrev S4x256x192 : Shape := ⟨3, ![4, 256, 192]⟩
abbrev S1024x192 : Shape := ⟨2, ![1024, 192]⟩
abbrev S512x192 : Shape := ⟨2, ![512, 192]⟩

abbrev nBuf : Space → Nat
  | .hbm => 11
  | .vmem => 14
  | .smem => 0
  | _ => 0

abbrev bufTy : (tb : Table) → Fin (tcTables nBuf tb) → BufTy
  | .hbm, ⟨0, _⟩ => ⟨S4x256x192, .f32⟩
  | .hbm, ⟨1, _⟩ => ⟨S4x256x192, .f32⟩
  | .hbm, ⟨2, _⟩ => ⟨S4x256x192, .f32⟩
  | .hbm, ⟨3, _⟩ => ⟨S4x256x192, .f32⟩
  | .hbm, ⟨4, _⟩ => ⟨S1024x192, .f32⟩
  | .hbm, ⟨5, _⟩ => ⟨S1024x192, .f32⟩
  | .hbm, ⟨6, _⟩ => ⟨S1024x192, .f32⟩
  | .hbm, ⟨7, _⟩ => ⟨S1024x192, .f32⟩
  | .hbm, ⟨8, _⟩ => ⟨S1024x192, .f32⟩
  | .hbm, ⟨9, _⟩ => ⟨S1024x192, .f32⟩
  | .hbm, ⟨10, _⟩ => ⟨S1024x192, .f32⟩
  | .local _ .vmem, ⟨0, _⟩ => ⟨S512x192, .f32⟩
  | .local _ .vmem, ⟨1, _⟩ => ⟨S512x192, .f32⟩
  | .local _ .vmem, ⟨2, _⟩ => ⟨S512x192, .f32⟩
  | .local _ .vmem, ⟨3, _⟩ => ⟨S512x192, .f32⟩
  | .local _ .vmem, ⟨4, _⟩ => ⟨S512x192, .f32⟩
  | .local _ .vmem, ⟨5, _⟩ => ⟨S512x192, .f32⟩
  | .local _ .vmem, ⟨6, _⟩ => ⟨S512x192, .f32⟩
  | .local _ .vmem, ⟨7, _⟩ => ⟨S512x192, .f32⟩
  | .local _ .vmem, ⟨8, _⟩ => ⟨S512x192, .f32⟩
  | .local _ .vmem, ⟨9, _⟩ => ⟨S512x192, .f32⟩
  | .local _ .vmem, ⟨10, _⟩ => ⟨S512x192, .f32⟩
  | .local _ .vmem, ⟨11, _⟩ => ⟨S512x192, .f32⟩
  | .local _ .vmem, ⟨12, _⟩ => ⟨S512x192, .f32⟩
  | .local _ .vmem, ⟨13, _⟩ => ⟨S512x192, .f32⟩
  | _, _ => ⟨S4x256x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel8Ideal.lean ====
abbrev S4x256x192 : Shape := ⟨3, ![4, 256, 192]⟩
abbrev S1024x192 : Shape := ⟨2, ![1024, 192]⟩
abbrev S512x192 : Shape := ⟨2, ![512, 192]⟩

abbrev nBuf : Space → Nat
  | .hbm => 11
  | .vmem => 14
  | .smem => 0
  | _ => 0

abbrev bufTy : (tb : Table) → Fin (tcTables nBuf tb) → BufTy
  | .hbm, ⟨0, _⟩ => ⟨S4x256x192, .f32⟩
  | .hbm, ⟨1, _⟩ => ⟨S4x256x192, .f32⟩
  | .hbm, ⟨2, _⟩ => ⟨S4x256x192, .f32⟩
  | .hbm, ⟨3, _⟩ => ⟨S4x256x192, .f32⟩
  | .hbm, ⟨4, _⟩ => ⟨S1024x192, .f32⟩
  | .hbm, ⟨5, _⟩ => ⟨S1024x192, .f32⟩
  | .hbm, ⟨6, _⟩ => ⟨S1024x192, .f32⟩
  | .hbm, ⟨7, _⟩ => ⟨S1024x192, .f32⟩
  | .hbm, ⟨8, _⟩ => ⟨S1024x192, .f32⟩
  | .hbm, ⟨9, _⟩ => ⟨S1024x192, .f32⟩
  | .hbm, ⟨10, _⟩ => ⟨S1024x192, .f32⟩
  | .local _ .vmem, ⟨0, _⟩ => ⟨S512x192, .f32⟩
  | .local _ .vmem, ⟨1, _⟩ => ⟨S512x192, .f32⟩
  | .local _ .vmem, ⟨2, _⟩ => ⟨S512x192, .f32⟩
  | .local _ .vmem, ⟨3, _⟩ => ⟨S512x192, .f32⟩
  | .local _ .vmem, ⟨4, _⟩ => ⟨S512x192, .f32⟩
  | .local _ .vmem, ⟨5, _⟩ => ⟨S512x192, .f32⟩
  | .local _ .vmem, ⟨6, _⟩ => ⟨S512x192, .f32⟩
  | .local _ .vmem, ⟨7, _⟩ => ⟨S512x192, .f32⟩
  | .local _ .vmem, ⟨8, _⟩ => ⟨S512x192, .f32⟩
  | .local _ .vmem, ⟨9, _⟩ => ⟨S512x192, .f32⟩
  | .local _ .vmem, ⟨10, _⟩ => ⟨S512x192, .f32⟩
  | .local _ .vmem, ⟨11, _⟩ => ⟨S512x192, .f32⟩
  | .local _ .vmem, ⟨12, _⟩ => ⟨S512x192, .f32⟩
  | .local _ .vmem, ⟨13, _⟩ => ⟨S512x192, .f32⟩
  | _, _ => ⟨S4x256x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S4x256x192 : Shape := ⟨3, ![4, 256, 192]⟩
abbrev S_ : Shape := ⟨0, ![]⟩
abbrev S1024x192 : Shape := ⟨2, ![1024, 192]⟩

abbrev nBuf : Space → Nat
  | .hbm => 40
  | .vmem => 0
  | .smem => 0
  | _ => 0

abbrev bufTy : (tb : Table) → Fin (tcTables nBuf tb) → BufTy
  | .hbm, ⟨0, _⟩ => ⟨S4x256x192, .f32⟩
  | .hbm, ⟨1, _⟩ => ⟨S4x256x192, .f32⟩
  | .hbm, ⟨2, _⟩ => ⟨S4x256x192, .f32⟩
  | .hbm, ⟨3, _⟩ => ⟨S4x256x192, .f32⟩
  | .hbm, ⟨4, _⟩ => ⟨S_, .f32⟩
  | .hbm, ⟨5, _⟩ => ⟨S4x256x192, .f32⟩
  | .hbm, ⟨6, _⟩ => ⟨S4x256x192, .f32⟩
  | .hbm, ⟨7, _⟩ => ⟨S_, .f32⟩
  | .hbm, ⟨8, _⟩ => ⟨S4x256x192, .f32⟩
  | .hbm, ⟨9, _⟩ => ⟨S4x256x192, .f32⟩
  | .hbm, ⟨10, _⟩ => ⟨S4x256x192, .f32⟩
  | .hbm, ⟨11, _⟩ => ⟨S_, .f32⟩
  | .hbm, ⟨12, _⟩ => ⟨S4x256x192, .f32⟩
  | .hbm, ⟨13, _⟩ => ⟨S4x256x192, .f32⟩
  | .hbm, ⟨14, _⟩ => ⟨S4x256x192, .f32⟩
  | .hbm, ⟨15, _⟩ => ⟨S_, .f32⟩
  | .hbm, ⟨16, _⟩ => ⟨S4x256x192, .f32⟩
  | .hbm, ⟨17, _⟩ => ⟨S4x256x192, .f32⟩
  | .hbm, ⟨18, _⟩ => ⟨S4x256x192, .f32⟩
  | .hbm, ⟨19, _⟩ => ⟨S_, .f32⟩
  | .hbm, ⟨20, _⟩ => ⟨S4x256x192, .f32⟩
  | .hbm, ⟨21, _⟩ => ⟨S4x256x192, .f32⟩
  | .hbm, ⟨22, _⟩ => ⟨S_, .f32⟩
  | .hbm, ⟨23, _⟩ => ⟨S4x256x192, .f32⟩
  | .hbm, ⟨24, _⟩ => ⟨S4x256x192, .f32⟩
  | .hbm, ⟨25, _⟩ => ⟨S4x256x192, .f32⟩
  | .hbm, ⟨26, _⟩ => ⟨S_, .f32⟩
  | .hbm, ⟨27, _⟩ => ⟨S4x256x192, .f32⟩
  | .hbm, ⟨28, _⟩ => ⟨S4x256x192, .f32⟩
  | .hbm, ⟨29, _⟩ => ⟨S4x256x192, .f32⟩
  | .hbm, ⟨30, _⟩ => ⟨S_, .f32⟩
  | .hbm, ⟨31, _⟩ => ⟨S4x256x192, .f32⟩
  | .hbm, ⟨32, _⟩ => ⟨S4x256x192, .f32⟩
  | .hbm, ⟨33, _⟩ => ⟨S4x256x192, .f32⟩
  | .hbm, ⟨34, _⟩ => ⟨S_, .f32⟩
  | .hbm, ⟨35, _⟩ => ⟨S4x256x192, .f32⟩
  | .hbm, ⟨36, _⟩ => ⟨S4x256x192, .f32⟩
  | .hbm, ⟨37, _⟩ => ⟨S1024x192, .f32⟩
  | .hbm, ⟨38, _⟩ => ⟨S1024x192, .f32⟩
  | .hbm, ⟨39, _⟩ => ⟨S1024x192, .f32⟩
  | _, _ => ⟨S4x256x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel9.lean ====
abbrev S4x128x256 : Shape := ⟨3, ![4, 128, 256]⟩
abbrev S512x256 : Shape := ⟨2, ![512, 256]⟩

abbrev nBuf : Space → Nat
  | .hbm => 11
  | .vmem => 7
  | .smem => 0
  | _ => 0

abbrev bufTy : (tb : Table) → Fin (tcTables nBuf tb) → BufTy
  | .hbm, ⟨0, _⟩ => ⟨S4x128x256, .f32⟩
  | .hbm, ⟨1, _⟩ => ⟨S4x128x256, .f32⟩
  | .hbm, ⟨2, _⟩ => ⟨S4x128x256, .f32⟩
  | .hbm, ⟨3, _⟩ => ⟨S4x128x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S4x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel9Ideal.lean ====
abbrev S4x128x256 : Shape := ⟨3, ![4, 128, 256]⟩
abbrev S512x256 : Shape := ⟨2, ![512, 256]⟩

abbrev nBuf : Space → Nat
  | .hbm => 11
  | .vmem => 7
  | .smem => 0
  | _ => 0

abbrev bufTy : (tb : Table) → Fin (tcTables nBuf tb) → BufTy
  | .hbm, ⟨0, _⟩ => ⟨S4x128x256, .f32⟩
  | .hbm, ⟨1, _⟩ => ⟨S4x128x256, .f32⟩
  | .hbm, ⟨2, _⟩ => ⟨S4x128x256, .f32⟩
  | .hbm, ⟨3, _⟩ => ⟨S4x128x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S4x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference9Ideal.lean ====
abbrev S4x128x256 : Shape := ⟨3, ![4, 128, 256]⟩
abbrev S_ : Shape := ⟨0, ![]⟩
abbrev S512x256 : Shape := ⟨2, ![512, 256]⟩

abbrev nBuf : Space → Nat
  | .hbm => 40
  | .vmem => 0
  | .smem => 0
  | _ => 0

abbrev bufTy : (tb : Table) → Fin (tcTables nBuf tb) → BufTy
  | .hbm, ⟨0, _⟩ => ⟨S4x128x256, .f32⟩
  | .hbm, ⟨1, _⟩ => ⟨S4x128x256, .f32⟩
  | .hbm, ⟨2, _⟩ => ⟨S4x128x256, .f32⟩
  | .hbm, ⟨3, _⟩ => ⟨S4x128x256, .f32⟩
  | .hbm, ⟨4, _⟩ => ⟨S_, .f32⟩
  | .hbm, ⟨5, _⟩ => ⟨S4x128x256, .f32⟩
  | .hbm, ⟨6, _⟩ => ⟨S4x128x256, .f32⟩
  | .hbm, ⟨7, _⟩ => ⟨S_, .f32⟩
  | .hbm, ⟨8, _⟩ => ⟨S4x128x256, .f32⟩
  | .hbm, ⟨9, _⟩ => ⟨S4x128x256, .f32⟩
  | .hbm, ⟨10, _⟩ => ⟨S4x128x256, .f32⟩
  | .hbm, ⟨11, _⟩ => ⟨S_, .f32⟩
  | .hbm, ⟨12, _⟩ => ⟨S4x128x256, .f32⟩
  | .hbm, ⟨13, _⟩ => ⟨S4x128x256, .f32⟩
  | .hbm, ⟨14, _⟩ => ⟨S4x128x256, .f32⟩
  | .hbm, ⟨15, _⟩ => ⟨S_, .f32⟩
  | .hbm, ⟨16, _⟩ => ⟨S4x128x256, .f32⟩
  | .hbm, ⟨17, _⟩ => ⟨S4x128x256, .f32⟩
  | .hbm, ⟨18, _⟩ => ⟨S4x128x256, .f32⟩
  | .hbm, ⟨19, _⟩ => ⟨S_, .f32⟩
  | .hbm, ⟨20, _⟩ => ⟨S4x128x256, .f32⟩
  | .hbm, ⟨21, _⟩ => ⟨S4x128x256, .f32⟩
  | .hbm, ⟨22, _⟩ => ⟨S_, .f32⟩
  | .hbm, ⟨23, _⟩ => ⟨S4x128x256, .f32⟩
  | .hbm, ⟨24, _⟩ => ⟨S4x128x256, .f32⟩
  | .hbm, ⟨25, _⟩ => ⟨S4x128x256, .f32⟩
  | .hbm, ⟨26, _⟩ => ⟨S_, .f32⟩
  | .hbm, ⟨27, _⟩ => ⟨S4x128x256, .f32⟩
  | .hbm, ⟨28, _⟩ => ⟨S4x128x256, .f32⟩
  | .hbm, ⟨29, _⟩ => ⟨S4x128x256, .f32⟩
  | .hbm, ⟨30, _⟩ => ⟨S_, .f32⟩
  | .hbm, ⟨31, _⟩ => ⟨S4x128x256, .f32⟩
  | .hbm, ⟨32, _⟩ => ⟨S4x128x256, .f32⟩
  | .hbm, ⟨33, _⟩ => ⟨S4x128x256, .f32⟩
  | .hbm, ⟨34, _⟩ => ⟨S_, .f32⟩
  | .hbm, ⟨35, _⟩ => ⟨S4x128x256, .f32⟩
  | .hbm, ⟨36, _⟩ => ⟨S4x128x256, .f32⟩
  | .hbm, ⟨37, _⟩ => ⟨S512x256, .f32⟩
  | .hbm, ⟨38, _⟩ => ⟨S512x256, .f32⟩
  | .hbm, ⟨39, _⟩ => ⟨S512x256, .f32⟩
  | _, _ => ⟨S4x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel10.lean ====
abbrev S4x256x1024 : Shape := ⟨3, ![4, 256, 1024]⟩
abbrev S1024x1024 : Shape := ⟨2, ![1024, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel10Ideal.lean ====
abbrev S4x256x1024 : Shape := ⟨3, ![4, 256, 1024]⟩
abbrev S1024x1024 : Shape := ⟨2, ![1024, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S4x256x1024 : Shape := ⟨3, ![4, 256, 1024]⟩
abbrev S_ : Shape := ⟨0, ![]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S1024x1024, .f32⟩
  | .hbm, ⟨38, _⟩ => ⟨S1024x1024, .f32⟩
  | .hbm, ⟨39, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel11.lean ====
abbrev S4x4x128x128 : Shape := ⟨4, ![4, 4, 128, 128]⟩
abbrev S2048x128 : Shape := ⟨2, ![2048, 128]⟩
abbrev S512x128 : Shape := ⟨2, ![512, 128]⟩

abbrev nBuf : Space → Nat
  | .hbm => 11
  | .vmem => 14
  | .smem => 0
  | _ => 0

abbrev bufTy : (tb : Table) → Fin (tcTables nBuf tb) → BufTy
  | .hbm, ⟨0, _⟩ => ⟨S4x4x128x128, .f32⟩
  | .hbm, ⟨1, _⟩ => ⟨S4x4x128x128, .f32⟩
  | .hbm, ⟨2, _⟩ => ⟨S4x4x128x128, .f32⟩
  | .hbm, ⟨3, _⟩ => ⟨S4x4x128x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S4x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel11Ideal.lean ====
abbrev S4x4x128x128 : Shape := ⟨4, ![4, 4, 128, 128]⟩
abbrev S2048x128 : Shape := ⟨2, ![2048, 128]⟩
abbrev S512x128 : Shape := ⟨2, ![512, 128]⟩

abbrev nBuf : Space → Nat
  | .hbm => 11
  | .vmem => 14
  | .smem => 0
  | _ => 0

abbrev bufTy : (tb : Table) → Fin (tcTables nBuf tb) → BufTy
  | .hbm, ⟨0, _⟩ => ⟨S4x4x128x128, .f32⟩
  | .hbm, ⟨1, _⟩ => ⟨S4x4x128x128, .f32⟩
  | .hbm, ⟨2, _⟩ => ⟨S4x4x128x128, .f32⟩
  | .hbm, ⟨3, _⟩ => ⟨S4x4x128x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S4x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S4x4x128x128 : Shape := ⟨4, ![4, 4, 128, 128]⟩
abbrev S_ : Shape := ⟨0, ![]⟩
abbrev S2048x128 : Shape := ⟨2, ![2048, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x4x128x128, .f32⟩
  | .hbm, ⟨1, _⟩ => ⟨S4x4x128x128, .f32⟩
  | .hbm, ⟨2, _⟩ => ⟨S4x4x128x128, .f32⟩
  | .hbm, ⟨3, _⟩ => ⟨S4x4x128x128, .f32⟩
  | .hbm, ⟨4, _⟩ => ⟨S_, .f32⟩
  | .hbm, ⟨5, _⟩ => ⟨S4x4x128x128, .f32⟩
  | .hbm, ⟨6, _⟩ => ⟨S4x4x128x128, .f32⟩
  | .hbm, ⟨7, _⟩ => ⟨S_, .f32⟩
  | .hbm, ⟨8, _⟩ => ⟨S4x4x128x128, .f32⟩
  | .hbm, ⟨9, _⟩ => ⟨S4x4x128x128, .f32⟩
  | .hbm, ⟨10, _⟩ => ⟨S4x4x128x128, .f32⟩
  | .hbm, ⟨11, _⟩ => ⟨S_, .f32⟩
  | .hbm, ⟨12, _⟩ => ⟨S4x4x128x128, .f32⟩
  | .hbm, ⟨13, _⟩ => ⟨S4x4x128x128, .f32⟩
  | .hbm, ⟨14, _⟩ => ⟨S4x4x128x128, .f32⟩
  | .hbm, ⟨15, _⟩ => ⟨S_, .f32⟩
  | .hbm, ⟨16, _⟩ => ⟨S4x4x128x128, .f32⟩
  | .hbm, ⟨17, _⟩ => ⟨S4x4x128x128, .f32⟩
  | .hbm, ⟨18, _⟩ => ⟨S4x4x128x128, .f32⟩
  | .hbm, ⟨19, _⟩ => ⟨S_, .f32⟩
  | .hbm, ⟨20, _⟩ => ⟨S4x4x128x128, .f32⟩
  | .hbm, ⟨21, _⟩ => ⟨S4x4x128x128, .f32⟩
  | .hbm, ⟨22, _⟩ => ⟨S_, .f32⟩
  | .hbm, ⟨23, _⟩ => ⟨S4x4x128x128, .f32⟩
  | .hbm, ⟨24, _⟩ => ⟨S4x4x128x128, .f32⟩
  | .hbm, ⟨25, _⟩ => ⟨S4x4x128x128, .f32⟩
  | .hbm, ⟨26, _⟩ => ⟨S_, .f32⟩
  | .hbm, ⟨27, _⟩ => ⟨S4x4x128x128, .f32⟩
  | .hbm, ⟨28, _⟩ => ⟨S4x4x128x128, .f32⟩
  | .hbm, ⟨29, _⟩ => ⟨S4x4x128x128, .f32⟩
  | .hbm, ⟨30, _⟩ => ⟨S_, .f32⟩
  | .hbm, ⟨31, _⟩ => ⟨S4x4x128x128, .f32⟩
  | .hbm, ⟨32, _⟩ => ⟨S4x4x128x128, .f32⟩
  | .hbm, ⟨33, _⟩ => ⟨S4x4x128x128, .f32⟩
  | .hbm, ⟨34, _⟩ => ⟨S_, .f32⟩
  | .hbm, ⟨35, _⟩ => ⟨S4x4x128x128, .f32⟩
  | .hbm, ⟨36, _⟩ => ⟨S4x4x128x128, .f32⟩
  | .hbm, ⟨37, _⟩ => ⟨S2048x128, .f32⟩
  | .hbm, ⟨38, _⟩ => ⟨S2048x128, .f32⟩
  | .hbm, ⟨39, _⟩ => ⟨S2048x128, .f32⟩
  | _, _ => ⟨S4x4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel12.lean ====
abbrev S4x4x128 : Shape := ⟨3, ![4, 4, 128]⟩
abbrev S16x128 : Shape := ⟨2, ![16, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x4x128, .f32⟩
  | .hbm, ⟨1, _⟩ => ⟨S4x4x128, .f32⟩
  | .hbm, ⟨2, _⟩ => ⟨S4x4x128, .f32⟩
  | .hbm, ⟨3, _⟩ => ⟨S4x4x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .hbm, ⟨9, _⟩ => ⟨S16x128, .f32⟩
  | .hbm, ⟨10, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S4x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel12Ideal.lean ====
abbrev S4x4x128 : Shape := ⟨3, ![4, 4, 128]⟩
abbrev S16x128 : Shape := ⟨2, ![16, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x4x128, .f32⟩
  | .hbm, ⟨1, _⟩ => ⟨S4x4x128, .f32⟩
  | .hbm, ⟨2, _⟩ => ⟨S4x4x128, .f32⟩
  | .hbm, ⟨3, _⟩ => ⟨S4x4x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .hbm, ⟨9, _⟩ => ⟨S16x128, .f32⟩
  | .hbm, ⟨10, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S4x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference12Ideal.lean ====
abbrev S4x4x128 : Shape := ⟨3, ![4, 4, 128]⟩
abbrev S_ : Shape := ⟨0, ![]⟩
abbrev S16x128 : Shape := ⟨2, ![16, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x4x128, .f32⟩
  | .hbm, ⟨1, _⟩ => ⟨S4x4x128, .f32⟩
  | .hbm, ⟨2, _⟩ => ⟨S4x4x128, .f32⟩
  | .hbm, ⟨3, _⟩ => ⟨S4x4x128, .f32⟩
  | .hbm, ⟨4, _⟩ => ⟨S_, .f32⟩
  | .hbm, ⟨5, _⟩ => ⟨S4x4x128, .f32⟩
  | .hbm, ⟨6, _⟩ => ⟨S4x4x128, .f32⟩
  | .hbm, ⟨7, _⟩ => ⟨S_, .f32⟩
  | .hbm, ⟨8, _⟩ => ⟨S4x4x128, .f32⟩
  | .hbm, ⟨9, _⟩ => ⟨S4x4x128, .f32⟩
  | .hbm, ⟨10, _⟩ => ⟨S4x4x128, .f32⟩
  | .hbm, ⟨11, _⟩ => ⟨S_, .f32⟩
  | .hbm, ⟨12, _⟩ => ⟨S4x4x128, .f32⟩
  | .hbm, ⟨13, _⟩ => ⟨S4x4x128, .f32⟩
  | .hbm, ⟨14, _⟩ => ⟨S4x4x128, .f32⟩
  | .hbm, ⟨15, _⟩ => ⟨S_, .f32⟩
  | .hbm, ⟨16, _⟩ => ⟨S4x4x128, .f32⟩
  | .hbm, ⟨17, _⟩ => ⟨S4x4x128, .f32⟩
  | .hbm, ⟨18, _⟩ => ⟨S4x4x128, .f32⟩
  | .hbm, ⟨19, _⟩ => ⟨S_, .f32⟩
  | .hbm, ⟨20, _⟩ => ⟨S4x4x128, .f32⟩
  | .hbm, ⟨21, _⟩ => ⟨S4x4x128, .f32⟩
  | .hbm, ⟨22, _⟩ => ⟨S_, .f32⟩
  | .hbm, ⟨23, _⟩ => ⟨S4x4x128, .f32⟩
  | .hbm, ⟨24, _⟩ => ⟨S4x4x128, .f32⟩
  | .hbm, ⟨25, _⟩ => ⟨S4x4x128, .f32⟩
  | .hbm, ⟨26, _⟩ => ⟨S_, .f32⟩
  | .hbm, ⟨27, _⟩ => ⟨S4x4x128, .f32⟩
  | .hbm, ⟨28, _⟩ => ⟨S4x4x128, .f32⟩
  | .hbm, ⟨29, _⟩ => ⟨S4x4x128, .f32⟩
  | .hbm, ⟨30, _⟩ => ⟨S_, .f32⟩
  | .hbm, ⟨31, _⟩ => ⟨S4x4x128, .f32⟩
  | .hbm, ⟨32, _⟩ => ⟨S4x4x128, .f32⟩
  | .hbm, ⟨33, _⟩ => ⟨S4x4x128, .f32⟩
  | .hbm, ⟨34, _⟩ => ⟨S_, .f32⟩
  | .hbm, ⟨35, _⟩ => ⟨S4x4x128, .f32⟩
  | .hbm, ⟨36, _⟩ => ⟨S4x4x128, .f32⟩
  | .hbm, ⟨37, _⟩ => ⟨S16x128, .f32⟩
  | .hbm, ⟨38, _⟩ => ⟨S16x128, .f32⟩
  | .hbm, ⟨39, _⟩ => ⟨S16x128, .f32⟩
  | _, _ => ⟨S4x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel13.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel13Ideal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference13Ideal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S4x256 : Shape := ⟨2, ![4, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel14Ideal.lean ====
abbrev S4x256 : Shape := ⟨2, ![4, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference14Ideal.lean ====
abbrev S4x256 : Shape := ⟨2, ![4, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S_, .f32⟩
  | .hbm, ⟨5, _⟩ => ⟨S4x256, .f32⟩
  | .hbm, ⟨6, _⟩ => ⟨S4x256, .f32⟩
  | .hbm, ⟨7, _⟩ => ⟨S_, .f32⟩
  | .hbm, ⟨8, _⟩ => ⟨S4x256, .f32⟩
  | .hbm, ⟨9, _⟩ => ⟨S4x256, .f32⟩
  | .hbm, ⟨10, _⟩ => ⟨S4x256, .f32⟩
  | .hbm, ⟨11, _⟩ => ⟨S_, .f32⟩
  | .hbm, ⟨12, _⟩ => ⟨S4x256, .f32⟩
  | .hbm, ⟨13, _⟩ => ⟨S4x256, .f32⟩
  | .hbm, ⟨14, _⟩ => ⟨S4x256, .f32⟩
  | .hbm, ⟨15, _⟩ => ⟨S_, .f32⟩
  | .hbm, ⟨16, _⟩ => ⟨S4x256, .f32⟩
  | .hbm, ⟨17, _⟩ => ⟨S4x256, .f32⟩
  | .hbm, ⟨18, _⟩ => ⟨S4x256, .f32⟩
  | .hbm, ⟨19, _⟩ => ⟨S_, .f32⟩
  | .hbm, ⟨20, _⟩ => ⟨S4x256, .f32⟩
  | .hbm, ⟨21, _⟩ => ⟨S4x256, .f32⟩
  | .hbm, ⟨22, _⟩ => ⟨S_, .f32⟩
  | .hbm, ⟨23, _⟩ => ⟨S4x256, .f32⟩
  | .hbm, ⟨24, _⟩ => ⟨S4x256, .f32⟩
  | .hbm, ⟨25, _⟩ => ⟨S4x256, .f32⟩
  | .hbm, ⟨26, _⟩ => ⟨S_, .f32⟩
  | .hbm, ⟨27, _⟩ => ⟨S4x256, .f32⟩
  | .hbm, ⟨28, _⟩ => ⟨S4x256, .f32⟩
  | .hbm, ⟨29, _⟩ => ⟨S4x256, .f32⟩
  | .hbm, ⟨30, _⟩ => ⟨S_, .f32⟩
  | .hbm, ⟨31, _⟩ => ⟨S4x256, .f32⟩
  | .hbm, ⟨32, _⟩ => ⟨S4x256, .f32⟩
  | .hbm, ⟨33, _⟩ => ⟨S4x256, .f32⟩
  | .hbm, ⟨34, _⟩ => ⟨S_, .f32⟩
  | .hbm, ⟨35, _⟩ => ⟨S4x256, .f32⟩
  | .hbm, ⟨36, _⟩ => ⟨S4x256, .f32⟩
  | _, _ => ⟨S4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S4x128 : Shape := ⟨2, ![4, 128]⟩

abbrev nBuf : Space → Nat
  | .hbm => 7
  | .vmem => 7
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel15Ideal.lean ====
abbrev S4x128 : Shape := ⟨2, ![4, 128]⟩

abbrev nBuf : Space → Nat
  | .hbm => 7
  | .vmem => 7
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference15Ideal.lean ====
abbrev S4x128 : Shape := ⟨2, ![4, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S_, .f32⟩
  | .hbm, ⟨5, _⟩ => ⟨S4x128, .f32⟩
  | .hbm, ⟨6, _⟩ => ⟨S4x128, .f32⟩
  | .hbm, ⟨7, _⟩ => ⟨S_, .f32⟩
  | .hbm, ⟨8, _⟩ => ⟨S4x128, .f32⟩
  | .hbm, ⟨9, _⟩ => ⟨S4x128, .f32⟩
  | .hbm, ⟨10, _⟩ => ⟨S4x128, .f32⟩
  | .hbm, ⟨11, _⟩ => ⟨S_, .f32⟩
  | .hbm, ⟨12, _⟩ => ⟨S4x128, .f32⟩
  | .hbm, ⟨13, _⟩ => ⟨S4x128, .f32⟩
  | .hbm, ⟨14, _⟩ => ⟨S4x128, .f32⟩
  | .hbm, ⟨15, _⟩ => ⟨S_, .f32⟩
  | .hbm, ⟨16, _⟩ => ⟨S4x128, .f32⟩
  | .hbm, ⟨17, _⟩ => ⟨S4x128, .f32⟩
  | .hbm, ⟨18, _⟩ => ⟨S4x128, .f32⟩
  | .hbm, ⟨19, _⟩ => ⟨S_, .f32⟩
  | .hbm, ⟨20, _⟩ => ⟨S4x128, .f32⟩
  | .hbm, ⟨21, _⟩ => ⟨S4x128, .f32⟩
  | .hbm, ⟨22, _⟩ => ⟨S_, .f32⟩
  | .hbm, ⟨23, _⟩ => ⟨S4x128, .f32⟩
  | .hbm, ⟨24, _⟩ => ⟨S4x128, .f32⟩
  | .hbm, ⟨25, _⟩ => ⟨S4x128, .f32⟩
  | .hbm, ⟨26, _⟩ => ⟨S_, .f32⟩
  | .hbm, ⟨27, _⟩ => ⟨S4x128, .f32⟩
  | .hbm, ⟨28, _⟩ => ⟨S4x128, .f32⟩
  | .hbm, ⟨29, _⟩ => ⟨S4x128, .f32⟩
  | .hbm, ⟨30, _⟩ => ⟨S_, .f32⟩
  | .hbm, ⟨31, _⟩ => ⟨S4x128, .f32⟩
  | .hbm, ⟨32, _⟩ => ⟨S4x128, .f32⟩
  | .hbm, ⟨33, _⟩ => ⟨S4x128, .f32⟩
  | .hbm, ⟨34, _⟩ => ⟨S_, .f32⟩
  | .hbm, ⟨35, _⟩ => ⟨S4x128, .f32⟩
  | .hbm, ⟨36, _⟩ => ⟨S4x128, .f32⟩
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S4x96 : Shape := ⟨2, ![4, 96]⟩

abbrev nBuf : Space → Nat
  | .hbm => 7
  | .vmem => 7
  | .smem => 0
  | _ => 0

abbrev bufTy : (tb : Table) → Fin (tcTables nBuf tb) → BufTy
  | .hbm, ⟨0, _⟩ => ⟨S4x96, .f32⟩
  | .hbm, ⟨1, _⟩ => ⟨S4x96, .f32⟩
  | .hbm, ⟨2, _⟩ => ⟨S4x96, .f32⟩
  | .hbm, ⟨3, _⟩ => ⟨S4x96, .f32⟩
  | .hbm, ⟨4, _⟩ => ⟨S4x96, .f32⟩
  | .hbm, ⟨5, _⟩ => ⟨S4x96, .f32⟩
  | .hbm, ⟨6, _⟩ => ⟨S4x96, .f32⟩
  | .local _ .vmem, ⟨0, _⟩ => ⟨S4x96, .f32⟩
  | .local _ .vmem, ⟨1, _⟩ => ⟨S4x96, .f32⟩
  | .local _ .vmem, ⟨2, _⟩ => ⟨S4x96, .f32⟩
  | .local _ .vmem, ⟨3, _⟩ => ⟨S4x96, .f32⟩
  | .local _ .vmem, ⟨4, _⟩ => ⟨S4x96, .f32⟩
  | .local _ .vmem, ⟨5, _⟩ => ⟨S4x96, .f32⟩
  | .local _ .vmem, ⟨6, _⟩ => ⟨S4x96, .f32⟩
  | _, _ => ⟨S4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel16Ideal.lean ====
abbrev S4x96 : Shape := ⟨2, ![4, 96]⟩

abbrev nBuf : Space → Nat
  | .hbm => 7
  | .vmem => 7
  | .smem => 0
  | _ => 0

abbrev bufTy : (tb : Table) → Fin (tcTables nBuf tb) → BufTy
  | .hbm, ⟨0, _⟩ => ⟨S4x96, .f32⟩
  | .hbm, ⟨1, _⟩ => ⟨S4x96, .f32⟩
  | .hbm, ⟨2, _⟩ => ⟨S4x96, .f32⟩
  | .hbm, ⟨3, _⟩ => ⟨S4x96, .f32⟩
  | .hbm, ⟨4, _⟩ => ⟨S4x96, .f32⟩
  | .hbm, ⟨5, _⟩ => ⟨S4x96, .f32⟩
  | .hbm, ⟨6, _⟩ => ⟨S4x96, .f32⟩
  | .local _ .vmem, ⟨0, _⟩ => ⟨S4x96, .f32⟩
  | .local _ .vmem, ⟨1, _⟩ => ⟨S4x96, .f32⟩
  | .local _ .vmem, ⟨2, _⟩ => ⟨S4x96, .f32⟩
  | .local _ .vmem, ⟨3, _⟩ => ⟨S4x96, .f32⟩
  | .local _ .vmem, ⟨4, _⟩ => ⟨S4x96, .f32⟩
  | .local _ .vmem, ⟨5, _⟩ => ⟨S4x96, .f32⟩
  | .local _ .vmem, ⟨6, _⟩ => ⟨S4x96, .f32⟩
  | _, _ => ⟨S4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference16Ideal.lean ====
abbrev S4x96 : Shape := ⟨2, ![4, 96]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x96, .f32⟩
  | .hbm, ⟨1, _⟩ => ⟨S4x96, .f32⟩
  | .hbm, ⟨2, _⟩ => ⟨S4x96, .f32⟩
  | .hbm, ⟨3, _⟩ => ⟨S4x96, .f32⟩
  | .hbm, ⟨4, _⟩ => ⟨S_, .f32⟩
  | .hbm, ⟨5, _⟩ => ⟨S4x96, .f32⟩
  | .hbm, ⟨6, _⟩ => ⟨S4x96, .f32⟩
  | .hbm, ⟨7, _⟩ => ⟨S_, .f32⟩
  | .hbm, ⟨8, _⟩ => ⟨S4x96, .f32⟩
  | .hbm, ⟨9, _⟩ => ⟨S4x96, .f32⟩
  | .hbm, ⟨10, _⟩ => ⟨S4x96, .f32⟩
  | .hbm, ⟨11, _⟩ => ⟨S_, .f32⟩
  | .hbm, ⟨12, _⟩ => ⟨S4x96, .f32⟩
  | .hbm, ⟨13, _⟩ => ⟨S4x96, .f32⟩
  | .hbm, ⟨14, _⟩ => ⟨S4x96, .f32⟩
  | .hbm, ⟨15, _⟩ => ⟨S_, .f32⟩
  | .hbm, ⟨16, _⟩ => ⟨S4x96, .f32⟩
  | .hbm, ⟨17, _⟩ => ⟨S4x96, .f32⟩
  | .hbm, ⟨18, _⟩ => ⟨S4x96, .f32⟩
  | .hbm, ⟨19, _⟩ => ⟨S_, .f32⟩
  | .hbm, ⟨20, _⟩ => ⟨S4x96, .f32⟩
  | .hbm, ⟨21, _⟩ => ⟨S4x96, .f32⟩
  | .hbm, ⟨22, _⟩ => ⟨S_, .f32⟩
  | .hbm, ⟨23, _⟩ => ⟨S4x96, .f32⟩
  | .hbm, ⟨24, _⟩ => ⟨S4x96, .f32⟩
  | .hbm, ⟨25, _⟩ => ⟨S4x96, .f32⟩
  | .hbm, ⟨26, _⟩ => ⟨S_, .f32⟩
  | .hbm, ⟨27, _⟩ => ⟨S4x96, .f32⟩
  | .hbm, ⟨28, _⟩ => ⟨S4x96, .f32⟩
  | .hbm, ⟨29, _⟩ => ⟨S4x96, .f32⟩
  | .hbm, ⟨30, _⟩ => ⟨S_, .f32⟩
  | .hbm, ⟨31, _⟩ => ⟨S4x96, .f32⟩
  | .hbm, ⟨32, _⟩ => ⟨S4x96, .f32⟩
  | .hbm, ⟨33, _⟩ => ⟨S4x96, .f32⟩
  | .hbm, ⟨34, _⟩ => ⟨S_, .f32⟩
  | .hbm, ⟨35, _⟩ => ⟨S4x96, .f32⟩
  | .hbm, ⟨36, _⟩ => ⟨S4x96, .f32⟩
  | _, _ => ⟨S4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S4x512 : Shape := ⟨2, ![4, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel17Ideal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== Reference17Ideal.lean ====
abbrev S4x512 : Shape := ⟨2, ![4, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S_, .f32⟩
  | .hbm, ⟨5, _⟩ => ⟨S4x512, .f32⟩
  | .hbm, ⟨6, _⟩ => ⟨S4x512, .f32⟩
  | .hbm, ⟨7, _⟩ => ⟨S_, .f32⟩
  | .hbm, ⟨8, _⟩ => ⟨S4x512, .f32⟩
  | .hbm, ⟨9, _⟩ => ⟨S4x512, .f32⟩
  | .hbm, ⟨10, _⟩ => ⟨S4x512, .f32⟩
  | .hbm, ⟨11, _⟩ => ⟨S_, .f32⟩
  | .hbm, ⟨12, _⟩ => ⟨S4x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S4x512, .f32⟩
  | .hbm, ⟨17, _⟩ => ⟨S4x512, .f32⟩
  | .hbm, ⟨18, _⟩ => ⟨S4x512, .f32⟩
  | .hbm, ⟨19, _⟩ => ⟨S_, .f32⟩
  | .hbm, ⟨20, _⟩ => ⟨S4x512, .f32⟩
  | .hbm, ⟨21, _⟩ => ⟨S4x512, .f32⟩
  | .hbm, ⟨22, _⟩ => ⟨S_, .f32⟩
  | .hbm, ⟨23, _⟩ => ⟨S4x512, .f32⟩
  | .hbm, ⟨24, _⟩ => ⟨S4x512, .f32⟩
  | .hbm, ⟨25, _⟩ => ⟨S4x512, .f32⟩
  | .hbm, ⟨26, _⟩ => ⟨S_, .f32⟩
  | .hbm, ⟨27, _⟩ => ⟨S4x512, .f32⟩
  | .hbm, ⟨28, _⟩ => ⟨S4x512, .f32⟩
  | .hbm, ⟨29, _⟩ => ⟨S4x512, .f32⟩
  | .hbm, ⟨30, _⟩ => ⟨S_, .f32⟩
  | .hbm, ⟨31, _⟩ => ⟨S4x512, .f32⟩
  | .hbm, ⟨32, _⟩ => ⟨S4x512, .f32⟩
  | .hbm, ⟨33, _⟩ => ⟨S4x512, .f32⟩
  | .hbm, ⟨34, _⟩ => ⟨S_, .f32⟩
  | .hbm, ⟨35, _⟩ => ⟨S4x512, .f32⟩
  | .hbm, ⟨36, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S2048x1024 : Shape := ⟨2, ![2048, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_8 : BitVec 32 := 0#32
  let v17 : BitVec 1 := Scalar.cmpi .ne v16 c0_i32_8
  v17

def k0_cond2 (i : grid0.Coords) : BitVec 1 :=
  let arg0 : BitVec 32 := BitVec.ofNat 32 (i 0).val
  let c0_i32 : BitVec 32 := 0#32
  let v15 : BitVec 1 := Scalar.cmpi .eq arg0 c0_i32
  let v_true : BitVec 1 := 1#1
  let v18 : BitVec 1 := Scalar.xori v15 v_true
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference18Ideal.lean ====
abbrev S2048x1024 : Shape := ⟨2, ![2048, 1024]⟩
abbrev S_ : Shape := ⟨0, ![]⟩
abbrev S2048 : Shape := ⟨1, ![2048]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S1x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Proof.Adam.lean ====
/- One step of the optimiser, element by element: what the kernel's operations and the reference's
   make of whole arrays of any shape. -/
module

public import Idealize.ShloMosaic.PureOps.Ideal
public import Idealize.ShloMosaic.PureOps.IdealRules
public import Idealize.ShloMosaic.Lib.Pipeline.Value
public import Idealize.ShloMosaic.Lib.ValueIdx

@[expose] public section

noncomputable section

namespace Cert.Adam

open Idealize.ShloMosaic

variable {s t : Shape}

/-- The new first moment: a weighted sum of the old one and the gradient. -/
def moment (m g : FVec Ideal s .f32) : FVec Ideal s .f32 := fun i =>
  FloatOps.addf (FloatOps.mulf (Scalar.ofBits .f32 0x3F666666#32) (m i)) (FloatOps.mulf (Scalar.ofBits .f32 0x3DCCCCCD#32) (g i))

/-- The new second moment: a weighted sum of the old one and the gradient's square. -/
def variance (v g : FVec Ideal s .f32) : FVec Ideal s .f32 := fun i =>
  FloatOps.addf (FloatOps.mulf (Scalar.ofBits .f32 0x3F7FBE77#32) (v i))
    (FloatOps.mulf (Scalar.ofBits .f32 0x3A83126F#32) (FloatOps.mulf (g i) (g i)))

/-- The inverses of what the two moments lack of their means. -/
def invBias1 : EReal := ((8388608 / 5463681 : ℝ) : EReal)
def invBias2 : EReal := ((268435456 / 2672307 : ℝ) : EReal)

/-- The step: the first moment over the root of the second, both times the inverse of what they lack of their mean,
    and the weight's decay, all times the negative rate. -/
def delta (w g m v : FVec Ideal s .f32) : FVec Ideal s .f32 := fun i =>
  FloatOps.mulf (Scalar.ofBits .f32 0xBA83126F#32) (FloatOps.addf
    (FloatOps.divf (FloatOps.mulf (moment m g i) invBias1)
      (FloatOps.addf (FloatOps.sqrt (FloatOps.mulf (variance v g i) invBias2))
        (Scalar.ofBits .f32 0x322BCC77#32)))
    (FloatOps.mulf (Scalar.ofBits .f32 0x3C23D70A#32) (w i)))

/-! ## Reshaped arrays -/

theorem moment_cast (m g : FVec Ideal s .f32) (h : s.ShapeCasts t) :
    shapeCast t (moment m g) h = moment (shapeCast t m h) (shapeCast t g h) := rfl
theorem variance_cast (v g : FVec Ideal s .f32) (h : s.ShapeCasts t) :
    shapeCast t (variance v g) h = variance (shapeCast t v h) (shapeCast t g h) := rfl
theorem delta_cast (w g m v : FVec Ideal s .f32) (h : s.ShapeCasts t) :
    shapeCast t (delta w g m v) h = delta (shapeCast t w h) (shapeCast t g h) (shapeCast t m h) (shapeCast t v h) := rfl

/-! ## Equal elements -/

theorem moment_at {m g : FVec Ideal s .f32} {m' g' : FVec Ideal t .f32} {i : s.Idx} {j : t.Idx} (hm : m i = m' j) (hg : g i = g' j) :
    moment m g i = moment m' g' j := by
  unfold moment; rw [hm, hg]
theorem variance_at {v g : FVec Ideal s .f32} {v' g' : FVec Ideal t .f32} {i : s.Idx} {j : t.Idx} (hv : v i = v' j)
    (hg : g i = g' j) : variance v g i = variance v' g' j := by
  unfold variance; rw [hv, hg]
theorem delta_at {w g m v : FVec Ideal s .f32} {w' g' m' v' : FVec Ideal t .f32} {i : s.Idx} {j : t.Idx} (hw : w i = w' j)
    (hg : g i = g' j) (hm : m i = m' j) (hv : v i = v' j) : delta w g m v i = delta w' g' m' v' j := by
  unfold delta; rw [moment_at hm hg, variance_at hv hg, hw]

/-! ## The reference's operations -/

/-- What the reference divides the two moments by. -/
theorem bias1 : Ideal.ofBits .f32 0x3F26BD02#32 = ((5463681 / 8388608 : ℝ) : EReal) := by
  simp [Ideal.ofBits, Ideal.ieee, -EReal.coe_mul]; norm_num
theorem bias2 : Ideal.ofBits .f32 0x3C231ACC#32 = ((2672307 / 268435456 : ℝ) : EReal) := by
  simp [Ideal.ofBits, Ideal.ieee, -EReal.coe_mul]; norm_num

/-- A quotient by them is a product with the inverses. -/
theorem div1 (x : EReal) : Ideal.div x (Ideal.ofBits .f32 0x3F26BD02#32) = x * invBias1 := by
  rw [bias1, Ideal.div_coe (by norm_num)]; unfold invBias1; norm_num
theorem div2 (x : EReal) : Ideal.div x (Ideal.ofBits .f32 0x3C231ACC#32) = x * invBias2 := by
  rw [bias2, Ideal.div_coe (by norm_num)]; unfold invBias2; norm_num

section
variable (h : (⟨0, ![]⟩ : Shape).BroadcastsInDim s ![]) (w g m v : FVec Ideal s .f32)

/-- A constant array of the reference. -/
abbrev fill (b : BitVec 32) : FVec Ideal s .f32 := broadcastInDim s ![] h (constant (⟨0, ![]⟩ : Shape) .f32 b)

theorem moment_ref : addf (mulf (fill h 0x3F666666#32) m) (mulf (fill h 0x3DCCCCCD#32) g) = moment m g := rfl
theorem variance_ref : addf (mulf (fill h 0x3F7FBE77#32) v) (mulf (fill h 0x3A83126F#32) (mulf g g)) = variance v g := rfl
theorem delta_ref : mulf (fill h 0xBA83126F#32) (addf (Host.divf (Host.divf (moment m g) (fill h 0x3F26BD02#32))
      (addf (Host.sqrt (Host.divf (variance v g) (fill h 0x3C231ACC#32))) (fill h 0x322BCC77#32)))
    (mulf (fill h 0x3C23D70A#32) w)) = delta w g m v := by
  funext i
  unfold delta
  rw [Ideal.mulf_def (x := moment m g i), Ideal.mulf_def (x := variance v g i), ← div1, ← div2]
  rfl
end

/-! ## The kernel's operations -/

section
variable (κ : String → Option EReal) (h1 : κ "inv_bias1" = some invBias1) (h2 : κ "inv_bias2" = some invBias2)
variable (h : s.ShapeCasts s) (w g m v : FVec Ideal s .f32)
include h1 h2

/-- The step of one element. -/
theorem delta_apply (i : s.Idx) : FloatOps.mulf (Scalar.ofBits .f32 0xBA83126F#32) (FloatOps.addf
    (FloatOps.divf (FloatOps.mulf (moment m g i) (Named.named (F := Ideal) κ "inv_bias1" (φ := .f32) 0x3FC48605#32))
      (FloatOps.addf (FloatOps.sqrt (FloatOps.mulf (variance v g i) (Named.named (F := Ideal) κ "inv_bias2" (φ := .f32) 0x42C8E6D3#32)))
        (Scalar.ofBits .f32 0x322BCC77#32)))
    (FloatOps.mulf (Scalar.ofBits .f32 0x3C23D70A#32) (w i))) = delta w g m v i := by
  rw [IdealRules.named_const.ideal_named_scalar κ "inv_bias1" _ _ h1, IdealRules.named_const.ideal_named_scalar κ "inv_bias2" _ _ h2]
  rfl

omit h1 h2 in
theorem moment_block : addf (mulf (broadcast s (Scalar.ofBits .f32 0x3F666666#32)) (shapeCast s m h))
    (mulf (broadcast s (Scalar.ofBits .f32 0x3DCCCCCD#32)) (shapeCast s g h)) = moment m g := by
  rw [shapeCast_self, shapeCast_self]; rfl
omit h1 h2 in
theorem variance_block : addf (mulf (broadcast s (Scalar.ofBits .f32 0x3F7FBE77#32)) (shapeCast s v h))
    (mulf (broadcast s (Scalar.ofBits .f32 0x3A83126F#32)) (mulf (shapeCast s g h) (shapeCast s g h))) = variance v g := by
  rw [shapeCast_self, shapeCast_self]; rfl
theorem delta_block : mulf (broadcast s (Scalar.ofBits .f32 0xBA83126F#32)) (addf
    (divf (mulf (moment m g) (broadcast s (Named.named (F := Ideal) κ "inv_bias1" (φ := .f32) 0x3FC48605#32)))
      (addf (sqrt (mulf (variance v g) (broadcast s (Named.named (F := Ideal) κ "inv_bias2" (φ := .f32) 0x42C8E6D3#32))))
        (broadcast s (Scalar.ofBits .f32 0x322BCC77#32))))
    (mulf (broadcast s (Scalar.ofBits .f32 0x3C23D70A#32)) (shapeCast s w h))) = delta w g m v := by
  rw [shapeCast_self]
  exact funext fun i => delta_apply κ h1 h2 w g m v i
end

/-! ## What a call leaves, put together from its three arrays -/

section
variable {off : Fin s.rank → ℕ} (z : off = fun _ => 0) (inb : ∀ a, off a + s.size a ≤ s.size a)
variable (h : s.ShapeCasts s) (w g m v : FVec Ideal s .f32)

/-- A block as the kernel reads it. -/
abbrev whole (x : s.Idx → Elt Ideal .f32) : FVec Ideal s .f32 := View.ld x (Rect.unit (s := s) off s.size inb)

/-- A block as the kernel stores it. -/
abbrev stored (x : FVec Ideal s .f32) : FVec Ideal s .f32 :=
  View.canon [(⟨Rect.unit (s := s) off s.size inb, x⟩ : View.Piece (Elt Ideal) s .f32)]

include z in
theorem whole_eq (x : s.Idx → Elt Ideal .f32) : whole inb x = x := View.ld_unit_zero z inb x

include z in
theorem moment_out : stored inb (addf (mulf (broadcast s (Scalar.ofBits .f32 0x3F666666#32)) (shapeCast s (whole inb m) h))
    (mulf (broadcast s (Scalar.ofBits .f32 0x3DCCCCCD#32)) (shapeCast s (whole inb g) h))) = moment m g := by
  refine (View.canon_unit_zero z inb _).trans ?_
  rw [whole_eq z inb m, whole_eq z inb g]
  exact moment_block h g m

include z in
theorem variance_out : stored inb (addf (mulf (broadcast s (Scalar.ofBits .f32 0x3F7FBE77#32)) (shapeCast s (whole inb v) h))
    (mulf (broadcast s (Scalar.ofBits .f32 0x3A83126F#32)) (mulf (shapeCast s (whole inb g) h) (shapeCast s (whole inb g) h)))) =
      variance v g := by
  refine (View.canon_unit_zero z inb _).trans ?_
  rw [whole_eq z inb v, whole_eq z inb g]
  exact variance_block h g v

include z in
theorem delta_out (κ : String → Option EReal) (h1 : κ "inv_bias1" = some invBias1) (h2 : κ "inv_bias2" = some invBias2) :
    stored inb (mulf (broadcast s (Scalar.ofBits .f32 0xBA83126F#32)) (addf
      (divf (mulf (addf (mulf (broadcast s (Scalar.ofBits .f32 0x3F666666#32)) (shapeCast s (whole inb m) h))
            (mulf (broadcast s (Scalar.ofBits .f32 0x3DCCCCCD#32)) (shapeCast s (whole inb g) h)))
          (broadcast s (Named.named (F := Ideal) κ "inv_bias1" (φ := .f32) 0x3FC48605#32)))
        (addf (sqrt (mulf (addf (mulf (broadcast s (Scalar.ofBits .f32 0x3F7FBE77#32)) (shapeCast s (whole inb v) h))
            (mulf (broadcast s (Scalar.ofBits .f32 0x3A83126F#32)) (mulf (shapeCast s (whole inb g) h) (shapeCast s (whole inb g) h))))
          (broadcast s (Named.named (F := Ideal) κ "inv_bias2" (φ := .f32) 0x42C8E6D3#32))))
          (broadcast s (Scalar.ofBits .f32 0x322BCC77#32))))
      (mulf (broadcast s (Scalar.ofBits .f32 0x3C23D70A#32)) (shapeCast s (whole inb w) h)))) = delta w g m v := by
  refine (View.canon_unit_zero z inb _).trans ?_
  rw [whole_eq z inb w, whole_eq z inb g, whole_eq z inb m, whole_eq z inb v, moment_block, variance_block]
  exact delta_block κ h1 h2 h w g m v
end

/-- Functions of four arguments that agree on all. -/
theorem funext₄ {α β γ δ ε : Type} {f f' : α → β → γ → δ → ε} (h : ∀ a b c d, f a b c d = f' a b c d) : f = f' :=
  funext fun a => funext fun b => funext fun c => funext fun d => h a b c d

/-- The reference's three results, of arguments that are the kernel's. -/
theorem results_ref (h : (⟨0, ![]⟩ : Shape).BroadcastsInDim s ![]) {w g m v w' g' m' v' : FVec Ideal s .f32}
    (e : w' = w ∧ g' = g ∧ m' = m ∧ v' = v) :
    mulf (fill h 0xBA83126F#32) (addf (Host.divf (Host.divf (addf (mulf (fill h 0x3F666666#32) m') (mulf (fill h 0x3DCCCCCD#32) g'))
        (fill h 0x3F26BD02#32)) (addf (Host.sqrt (Host.divf (addf (mulf (fill h 0x3F7FBE77#32) v')
        (mulf (fill h 0x3A83126F#32) (mulf g' g'))) (fill h 0x3C231ACC#32))) (fill h 0x322BCC77#32)))
      (mulf (fill h 0x3C23D70A#32) w')) = delta w g m v ∧
    addf (mulf (fill h 0x3F666666#32) m') (mulf (fill h 0x3DCCCCCD#32) g') = moment m g ∧
    addf (mulf (fill h 0x3F7FBE77#32) v') (mulf (fill h 0x3A83126F#32) (mulf g' g')) = variance v g := by
  obtain ⟨rfl, rfl, rfl, rfl⟩ := e
  exact ⟨delta_ref h _ _ _ _, rfl, rfl⟩

/-- Three results that are named by equal arrays. -/
theorem results_eq {α β γ : Type} {a a' a'' : α} {b b' b'' : β} {c c' c'' : γ} {rest : Prop}
    (e : a = a' ∧ b = b' ∧ c = c' ∧ rest) (f : a' = a'' ∧ b' = b'' ∧ c' = c'') : a = a'' ∧ b = b'' ∧ c = c'' ∧ rest :=
  ⟨e.1.trans f.1, e.2.1.trans f.2.1, e.2.2.1.trans f.2.2, e.2.2.2⟩

/-- The reference's three reshaped results, of the arrays that the kernel's call takes. -/
theorem results_cast (hc : s.ShapeCasts t) {W G M V : FVec Ideal t .f32} {w g m v : FVec Ideal s .f32}
    {d' m' v' : FVec Ideal s .f32} (e : d' = delta w g m v ∧ m' = moment m g ∧ v' = variance v g)
    (eW : W = shapeCast t w hc) (eG : G = shapeCast t g hc) (eM : M = shapeCast t m hc) (eV : V = shapeCast t v hc) :
    shapeCast t d' hc = delta W G M V ∧ shapeCast t m' hc = moment M G ∧ shapeCast t v' hc = variance V G := by
  obtain ⟨rfl, rfl, rfl⟩ := e
  subst eW eG eM eV
  exact ⟨rfl, rfl, rfl⟩

end Cert.Adam

end
-- ==== Proof.Rows.lean ====
/- Arrays by their coordinates, whatever their sizes, and the operations of the normalised products on them: a product of two
   matrices is the sum over the contracted axis, and the normalisation and its gradient are formulas of one row. -/
module

public import Idealize.ShloMosaic.Lib.Pipeline.Value
public import Idealize.ShloMosaic.Lib.ValueIdx
public import Idealize.ShloMosaic.Lib.KernelVsHost
public import Idealize.ShloMosaic.Lib.Pipeline.ValueKit
public import Idealize.ShloMosaic.PureOps.Ideal.Laws

@[expose] public section

set_option maxRecDepth 16384

noncomputable section

open scoped BigOperators

namespace Cert.Rows

open Idealize.ShloMosaic Idealize.ShloMosaic.ValueIdx

/-! ## Arrays by coordinates -/

/-- A vector. -/
def V1 {n : ℕ} {φ : FTy} (f : Fin n → EReal) : FVec Ideal ⟨1, ![n]⟩ φ := fun i => f (i 0)
/-- A matrix. -/
def M2 {n p : ℕ} {φ : FTy} (f : Fin n → Fin p → EReal) : FVec Ideal ⟨2, ![n, p]⟩ φ := fun i => f (i 0) (i 1)
/-- Several matrices. -/
def T3 {q n p : ℕ} {φ : FTy} (f : Fin q → Fin n → Fin p → EReal) : FVec Ideal ⟨3, ![q, n, p]⟩ φ := fun i => f (i 0) (i 1) (i 2)

/-- A vector and a matrix of 32-bit floats, and matrices of 16-bit ones. -/
abbrev Vf {n : ℕ} (f : Fin n → EReal) : FVec Ideal ⟨1, ![n]⟩ .f32 := V1 f
abbrev Mf {n p : ℕ} (f : Fin n → Fin p → EReal) : FVec Ideal ⟨2, ![n, p]⟩ .f32 := M2 f
abbrev Tb {q n p : ℕ} (f : Fin q → Fin n → Fin p → EReal) : FVec Ideal ⟨3, ![q, n, p]⟩ .bf16 := T3 f
abbrev Tf {q n p : ℕ} (f : Fin q → Fin n → Fin p → EReal) : FVec Ideal ⟨3, ![q, n, p]⟩ .f32 := T3 f
abbrev Mb {n p : ℕ} (f : Fin n → Fin p → EReal) : FVec Ideal ⟨2, ![n, p]⟩ .bf16 := M2 f

variable {q n p k : ℕ} {φ φ₁ φ₂ : FTy}

theorem ext1 (x : FVec Ideal ⟨1, ![n]⟩ φ) (f : Fin n → EReal) (h : ∀ a, x (ValueIdx.ix1 a) = f a) : x = V1 f := funext fun i =>
  (congrArg x (funext fun a => by fin_cases a; rfl)).trans (h (i 0))
theorem ext2 (x : FVec Ideal ⟨2, ![n, p]⟩ φ) (f : Fin n → Fin p → EReal) (h : ∀ a b, x (ValueIdx.ix2 a b) = f a b) : x = M2 f := funext fun i =>
  (congrArg x (funext fun a => by fin_cases a <;> rfl)).trans (h (i 0) (i 1))
theorem ext3 (x : FVec Ideal ⟨3, ![q, n, p]⟩ φ) (f : Fin q → Fin n → Fin p → EReal) (h : ∀ a b c, x (ValueIdx.ix3 a b c) = f a b c) : x = T3 f :=
  funext fun i => (congrArg x (funext fun a => by fin_cases a <;> rfl)).trans (h (i 0) (i 1) (i 2))

/-! ## Elementwise operations -/

theorem mul_M2 (f g : Fin n → Fin p → EReal) : mulf (M2 (φ := φ) f) (M2 g) = M2 fun a b => f a b * g a b := rfl
theorem add_M2 (f g : Fin n → Fin p → EReal) : addf (M2 (φ := φ) f) (M2 g) = M2 fun a b => f a b + g a b := rfl
theorem div_M2 (f g : Fin n → Fin p → EReal) : divf (M2 (φ := φ) f) (M2 g) = M2 fun a b => Ideal.div (f a b) (g a b) := rfl
theorem rsqrt_M2 (f : Fin n → Fin p → EReal) : rsqrt (M2 (φ := φ) f) = M2 fun a b => Ideal.rsqrt (f a b) := rfl
theorem max_M2 (f g : Fin n → Fin p → EReal) : maximumf (M2 (φ := φ) f) (M2 g) = M2 fun a b => max (f a b) (g a b) := rfl
theorem word_M2 (w : BitVec 32) : broadcast ⟨2, ![n, p]⟩ (Scalar.ofBits (F := Ideal) .f32 w) = M2 fun _ _ => Ideal.ofBits .f32 w := rfl
theorem trunc_M2 (f : Fin n → Fin p → EReal) (h) : truncf .bf16 (M2 (φ := .f32) f) h = M2 f := rfl
theorem ext_M2 (f : Fin n → Fin p → EReal) (h) : extf .f32 (M2 (φ := .bf16) f) h = M2 f := rfl

/-! ## Whole blocks -/

/-- A load of a whole block reads what was written there. -/
theorem load_all {sig : RefSig} {s : Shape} {e : EltTy} {arg : Memref sig .tc .vmem s e} (h : arg.IsWhole) (X : s.Idx → Elt Ideal e)
    {off : Fin s.rank → ℕ} (h0 : off = fun _ => 0) (inb) :
    View.readAt (Elt Ideal) arg.view (Rect.unit (s := s) off s.size inb).toLoadRect (h.unread X) = X :=
  (congrArg (fun Y => View.ld Y (Rect.unit (s := s) off s.size inb)) (h.read_unread X)).trans (View.ld_unit_zero h0 inb X)
theorem zero2 : (![0, 0] : Fin 2 → ℕ) = fun _ => 0 := by decide
theorem zero3 : (![0, 0, 0] : Fin 3 → ℕ) = fun _ => 0 := by decide

/-! ## Layout -/

theorem col_M2 (f : Fin n → Fin 1 → EReal) (h) : broadcastTo ⟨2, ![n, p]⟩ (M2 (φ := φ) f) h = M2 fun a _ => f a 0 := funext fun i =>
  broadcastTo_apply _ _ i (ValueIdx.ix2 (i 0) (0 : Fin 1)) (by
    intro a; fin_cases a
    · show (i 0).val = if n = 1 then 0 else (i 0).val
      have : (i 0).val < n := (i 0).isLt
      split_ifs <;> omega
    · rfl)
theorem row_M2 (f : Fin 1 → Fin p → EReal) (h) : broadcastTo ⟨2, ![n, p]⟩ (M2 (φ := φ) f) h = M2 fun _ b => f 0 b := funext fun i =>
  broadcastTo_apply _ _ i (ValueIdx.ix2 (0 : Fin 1) (i 1)) (by
    intro a; fin_cases a
    · rfl
    · show (i 1).val = if p = 1 then 0 else (i 1).val
      have : (i 1).val < p := (i 1).isLt
      split_ifs <;> omega)
/-- A vector laid as a column. -/
theorem asCol (f : Fin n → EReal) (h) : shapeCast ⟨2, ![n, 1]⟩ (V1 (φ := φ) f) h = M2 fun a _ => f a := funext fun i => by
  have h0 : (i 1).val = 0 := by have : (i 1).val < 1 := (i 1).isLt; omega
  refine shapeCast_apply _ _ i (ValueIdx.ix1 (i 0)) ?_
  rw [Shape.rowMajor_val_one, Shape.rowMajor_val_two, h0]; show (i 0).val = (i 0).val * 1 + 0; omega
/-- A vector laid as a row. -/
theorem asRow (f : Fin p → EReal) (h) : shapeCast ⟨2, ![1, p]⟩ (V1 (φ := φ) f) h = M2 fun _ b => f b := funext fun i => by
  have h0 : (i 0).val = 0 := by have : (i 0).val < 1 := (i 0).isLt; omega
  refine shapeCast_apply _ _ i (ValueIdx.ix1 (i 1)) ?_
  rw [Shape.rowMajor_val_one, Shape.rowMajor_val_two, h0]; show (i 1).val = 0 * p + (i 1).val; omega
/-- One matrix of several, alone. -/
theorem alone_T3 (f : Fin 1 → Fin n → Fin p → EReal) (h) : shapeCast ⟨2, ![n, p]⟩ (T3 (φ := φ) f) h = M2 (f 0) := funext fun i => by
  refine (shapeCast_apply _ _ i (ValueIdx.ix3 (0 : Fin 1) (i 0) (i 1)) ?_).trans rfl
  rw [Shape.rowMajor_val_three, Shape.rowMajor_val_two]
  show (0 * n + (i 0).val) * p + (i 1).val = (i 0).val * p + (i 1).val; rw [zero_mul, zero_add]
/-- A matrix under a unit axis. -/
theorem under_M2 (f : Fin n → Fin p → EReal) (h) : shapeCast ⟨3, ![1, n, p]⟩ (M2 (φ := φ) f) h = T3 fun _ => f := funext fun i => by
  have h0 : (i 0).val = 0 := by have : (i 0).val < 1 := (i 0).isLt; omega
  refine (shapeCast_apply _ _ i (ValueIdx.ix2 (i 1) (i 2)) ?_).trans rfl
  rw [Shape.rowMajor_val_three, Shape.rowMajor_val_two, h0]
  show (i 1).val * p + (i 2).val = (0 * n + (i 1).val) * p + (i 2).val; rw [zero_mul, zero_add]

/-- A matrix with a unit axis after it. -/
theorem before_M2 (f : Fin n → Fin p → EReal) (h) : shapeCast ⟨3, ![n, p, 1]⟩ (M2 (φ := φ) f) h = T3 fun a b _ => f a b := funext fun i => by
  have h2 : (i 2).val = 0 := by have : (i 2).val < 1 := (i 2).isLt; omega
  refine (shapeCast_apply _ _ i (ValueIdx.ix2 (i 0) (i 1)) ?_).trans rfl
  rw [Shape.rowMajor_val_three, Shape.rowMajor_val_two, h2]
  show (i 0).val * p + (i 1).val = ((i 0).val * p + (i 1).val) * 1 + 0; omega

/-- Some of a matrix's columns. -/
theorem slice_M2 (o : ℕ) (f : Fin n → Fin p → EReal) (h : Shape.Slices ⟨2, ![n, p]⟩ ![0, o] ⟨2, ![n, q]⟩) :
    extractStridedSlice ⟨2, ![n, q]⟩ ![0, o] (M2 (φ := φ) f) h
      = M2 fun a b => f a ⟨o + b.val, lt_of_lt_of_le (Nat.add_lt_add_left b.isLt o) (h.2 1)⟩ := funext fun i =>
  extractStridedSlice_apply _ _ _ i (ValueIdx.ix2 (i 0) ⟨o + (i 1).val, lt_of_lt_of_le (Nat.add_lt_add_left (i 1).isLt o) (h.2 1)⟩) (by
    intro a; fin_cases a
    · exact (Nat.zero_add _).symm
    · rfl)
/-- Zero columns after a matrix's own. -/
theorem pad_M2 (e : ℕ) (f : Fin n → Fin p → EReal) (v : FVec Ideal ⟨0, ![]⟩ φ) (hv : ∀ i, v i = 0) (h)
    (hu) : pad ⟨2, ![n, q]⟩ ![0, 0] ![0, e] ![0, 0] (M2 (φ := φ) f) v h hu = M2 fun a b => if h : b.val < p then f a ⟨b.val, h⟩ else 0 := funext fun i => by
  by_cases hb : (i 1).val < p
  · refine (pad_apply_of_inside _ _ _ _ _ h hu i (ValueIdx.ix2 (i 0) ⟨(i 1).val, hb⟩) ?_).trans ?_
    · intro a; fin_cases a
      · show (i 0).val = 0 + (i 0).val * (0 + 1); omega
      · show (i 1).val = 0 + (i 1).val * (0 + 1); omega
    · exact (dif_pos (c := (i 1).val < p) (t := fun h => f (i 0) ⟨(i 1).val, h⟩) (e := fun _ => (0 : EReal)) hb).symm
  · refine (pad_apply_of_not_inside _ _ _ _ _ h hu i (1 : Fin 2) ?_).trans ?_
    · rintro ⟨-, -, h3⟩
      have h4 : ((i 1).val - 0) / (0 + 1) < p := h3
      rw [Nat.sub_zero, Nat.div_one] at h4; exact hb h4
    · exact (hv _).trans (dif_neg (c := (i 1).val < p) (t := fun h => f (i 0) ⟨(i 1).val, h⟩) (e := fun _ => (0 : EReal)) hb).symm

/-! ## Sums and products -/

theorem sumRow_M2 (f : Fin n → Fin p → EReal) (h h₁ h₂) :
    multiReduction .add [1] ⟨1, ![n]⟩ (M2 (φ := .f32) f) 0x00000000#32 h h₁ h₂ = V1 fun a => ∑ b, f a b := funext fun i =>
  Ideal.multiReduction_add_single (M2 f) 0x00000000#32 h h₁ h₂ i
theorem sumCol_M2 (f : Fin n → Fin p → EReal) (h h₁ h₂) :
    multiReduction .add [0] ⟨1, ![p]⟩ (M2 (φ := .f32) f) 0x00000000#32 h h₁ h₂ = V1 fun b => ∑ a, f a b := funext fun i =>
  Ideal.multiReduction_add_single (M2 f) 0x00000000#32 h h₁ h₂ i

/-- Element `b` of part `k` of an axis split into parts of `q`. -/
def part {N : ℕ} (q : ℕ) (hN : 0 < N) (k : ℕ) (b : Fin q) : Fin N := ⟨(q * k + b.val) % N, Nat.mod_lt _ hN⟩
theorem part_val {N : ℕ} (q : ℕ) (hN : 0 < N) (k : ℕ) (b : Fin q) (c : ℕ) (h : q * c = N) (hk : k < c) : (part q hN k b).val = q * k + b.val := by
  refine Nat.mod_eq_of_lt ?_
  have h1 : q * (k + 1) ≤ q * c := Nat.mul_le_mul_left q hk
  have h2 := b.isLt
  rw [Nat.mul_succ] at h1; omega
/-- A sum is the sum of its parts' sums. -/
theorem sum_parts {M : Type} [AddCommMonoid M] {N : ℕ} (q c : ℕ) (hN : 0 < N) (h : q * c = N) (f : Fin N → M) :
    ∑ j, f j = ∑ k ∈ Finset.range c, ∑ b : Fin q, f (part q hN k b) := by
  have h' : N = c * q := by rw [← h, Nat.mul_comm]
  subst h'
  rw [← finProdFinEquiv.sum_comp, Fintype.sum_prod_type, Finset.sum_range]
  refine Finset.sum_congr rfl fun k _ => Finset.sum_congr rfl fun b _ => congrArg f (Fin.ext ?_)
  rw [part_val q hN k.val b c h k.isLt, finProdFinEquiv_apply_val, Nat.add_comm]
/-- A matrix's columns in parts. -/
theorem colParts {N : ℕ} (hN : 0 < N) (hq : p * q = N) (f : Fin n → Fin N → EReal) (h h') :
    transpose ⟨3, ![q, n, p]⟩ [1, 0, 2] (shapeCast ⟨3, ![n, q, p]⟩ (M2 (φ := φ) f) h) h' = T3 fun k a b => f a (part p hN k.val b) := funext fun i => by
  have hk : (i 0).val < q := (i 0).isLt
  refine (transpose_apply _ _ _ i (ValueIdx.ix3 (i 1) (i 0) (i 2)) (fun b => by fin_cases b <;> rfl)).trans
    ((shapeCast_apply _ _ _ (ValueIdx.ix2 (i 1) (part p hN (i 0).val (i 2))) ?_).trans rfl)
  refine (Shape.rowMajor_val_two _).trans (Eq.trans ?_ (Shape.rowMajor_val_three _).symm)
  show (i 1).val * N + (part p hN (i 0).val (i 2)).val = ((i 1).val * q + (i 0).val) * p + (i 2).val
  have e : (part p hN (i 0).val (i 2 : Fin p)).val = p * (i 0).val + (i 2).val := part_val p hN _ _ q hq hk
  refine (congrArg ((i 1).val * N + ·) e).trans ?_
  rw [← hq]; ring
/-- A matrix's rows in parts. -/
theorem rowParts {N : ℕ} (hN : 0 < N) (hq : n * q = N) (f : Fin N → Fin p → EReal) (h) :
    shapeCast ⟨3, ![q, n, p]⟩ (M2 (φ := φ) f) h = T3 fun k a b => f (part n hN k.val a) b := funext fun i => by
  have hk : (i 0).val < q := (i 0).isLt
  refine (shapeCast_apply _ _ i (ValueIdx.ix2 (part n hN (i 0).val (i 1)) (i 2)) ?_).trans rfl
  refine (Shape.rowMajor_val_two _).trans (Eq.trans ?_ (Shape.rowMajor_val_three _).symm)
  show (part n hN (i 0).val (i 1)).val * p + (i 2).val = ((i 0).val * n + (i 1).val) * p + (i 2).val
  have e : (part n hN (i 0).val (i 1 : Fin n)).val = n * (i 0).val + (i 1).val := part_val n hN _ _ q hq hk
  refine (congrArg (fun z => z * p + (i 2).val) e).trans ?_
  ring

/-- A product's record, by the axes contracted and kept. -/
abbrev dims (sl sr so : Shape) (cl : List (Fin sl.rank)) (cr : List (Fin sr.rank)) (nl : List (Fin sl.rank)) (nr : List (Fin sr.rank))
    (wf : DotDims.WF sl sr so cl cr nl nr [] []) : DotDims sl sr so where
  lhsContracting := cl
  rhsContracting := cr
  lhsNonContracting := nl
  rhsNonContracting := nr
  lhsBatch := []
  rhsBatch := []
  wf := wf

/-- Rows by columns. -/
theorem mm_nn (f : Fin n → Fin k → EReal) (g : Fin k → Fin p → EReal) (wf) :
    matmul (dims ⟨2, ![n, k]⟩ ⟨2, ![k, p]⟩ ⟨2, ![n, p]⟩ [1] [0] [0] [1] wf) none (M2 (φ := φ₁) f) (M2 (φ := φ₂) g) (constant _ .f32 0x00000000#32)
      = M2 fun a b => ∑ c, f a c * g c b := funext fun i => by
  simp only [matmul]
  rw [Ideal.matmul_constant_zero_apply, ← (ValueIdx.contrEquiv1 (dims ⟨2, ![n, k]⟩ ⟨2, ![k, p]⟩ ⟨2, ![n, p]⟩ [1] [0] [0] [1] wf) k rfl rfl).symm.sum_comp]
  rfl
/-- Rows by rows. -/
theorem mm_nt (f : Fin n → Fin k → EReal) (g : Fin p → Fin k → EReal) (wf) :
    matmul (dims ⟨2, ![n, k]⟩ ⟨2, ![p, k]⟩ ⟨2, ![n, p]⟩ [1] [1] [0] [0] wf) none (M2 (φ := φ₁) f) (M2 (φ := φ₂) g) (constant _ .f32 0x00000000#32)
      = M2 fun a b => ∑ c, f a c * g b c := funext fun i => by
  simp only [matmul]
  rw [Ideal.matmul_constant_zero_apply, ← (ValueIdx.contrEquiv1 (dims ⟨2, ![n, k]⟩ ⟨2, ![p, k]⟩ ⟨2, ![n, p]⟩ [1] [1] [0] [0] wf) k rfl rfl).symm.sum_comp]
  rfl
/-- Columns by columns. -/
theorem mm_tn (f : Fin k → Fin n → EReal) (g : Fin k → Fin p → EReal) (wf) :
    matmul (dims ⟨2, ![k, n]⟩ ⟨2, ![k, p]⟩ ⟨2, ![n, p]⟩ [0] [0] [1] [1] wf) none (M2 (φ := φ₁) f) (M2 (φ := φ₂) g) (constant _ .f32 0x00000000#32)
      = M2 fun a b => ∑ c, f c a * g c b := funext fun i => by
  simp only [matmul]
  rw [Ideal.matmul_constant_zero_apply, ← (ValueIdx.contrEquiv1 (dims ⟨2, ![k, n]⟩ ⟨2, ![k, p]⟩ ⟨2, ![n, p]⟩ [0] [0] [1] [1] wf) k rfl rfl).symm.sum_comp]
  rfl

/-! ## The normalisation of a row and its gradient -/

section
variable (x g d : Fin p → EReal)

/-- The width, a number word. -/
def width : EReal := Ideal.ofBits .f32 0x44800000#32
/-- The row's mean square, and the small number. -/
def ms : EReal := Ideal.div (∑ b, x b * x b) width + Ideal.ofBits .f32 0x358637BD#32
/-- The row's factor. -/
def rs : EReal := Ideal.rsqrt (ms x)
/-- The factor's derivative. -/
def drs : EReal := Ideal.ofBits .f32 0xBF000000#32 * Ideal.div (rs x) (ms x)
/-- The row over its root mean square. -/
def unit (b : Fin p) : EReal := x b * rs x
/-- The normalised row. -/
def norm (b : Fin p) : EReal := unit x b * g b
/-- What the mean square gives each element, half of it. -/
def pull : EReal := Ideal.div ((∑ b, x b * (d b * g b)) * drs x) width
/-- The gradient in the row. -/
def dx (b : Fin p) : EReal := d b * g b * rs x + x b * pull x g d + pull x g d * x b
end

variable {F : FTy → Type} [FloatOps F]

/-- The relations between the shapes of a block of rows. -/
structure Blk (n p : ℕ) : Prop where
  red : Shape.Reduces ⟨2, ![n, p]⟩ [1] ⟨1, ![n]⟩
  red0 : Shape.Reduces ⟨2, ![n, p]⟩ [0] ⟨1, ![p]⟩
  red1 : Shape.Reduces ⟨2, ![n, 1]⟩ [1] ⟨1, ![n]⟩
  cst : Shape.ShapeCasts ⟨1, ![n]⟩ ⟨2, ![n, 1]⟩
  cstRow : Shape.ShapeCasts ⟨1, ![p]⟩ ⟨2, ![1, p]⟩
  col : Shape.Broadcasts ⟨2, ![n, 1]⟩ ⟨2, ![n, p]⟩
  row : Shape.Broadcasts ⟨2, ![1, p]⟩ ⟨2, ![n, p]⟩

section
variable (H : Blk n p) (x : FVec F ⟨2, ![n, p]⟩ .f32) (g : FVec F ⟨2, ![1, p]⟩ .f32) (d : FVec F ⟨2, ![n, p]⟩ .f32)

/-- Each row's sum. -/
def rowSum : FVec F ⟨1, ![n]⟩ .f32 := multiReduction .add [1] ⟨1, ![n]⟩ x 0x00000000#32 H.red (.inl rfl) rfl
/-- A word everywhere. -/
def word (w : BitVec 32) : FVec F ⟨2, ![n, p]⟩ .f32 := broadcast ⟨2, ![n, p]⟩ (Scalar.ofBits .f32 w)
def msA : FVec F ⟨2, ![n, 1]⟩ .f32 := addf (divf (shapeCast _ (rowSum H (mulf x x)) H.cst) (word 0x44800000#32)) (word 0x358637BD#32)
def rsA : FVec F ⟨2, ![n, 1]⟩ .f32 := rsqrt (msA H x)
def drsA : FVec F ⟨2, ![n, 1]⟩ .f32 := mulf (word 0xBF000000#32) (divf (rsA H x) (msA H x))
def unitA : FVec F ⟨2, ![n, p]⟩ .f32 := mulf x (broadcastTo _ (rsA H x) H.col)
def normA : FVec F ⟨2, ![n, p]⟩ .f32 := mulf (unitA H x) (broadcastTo _ g H.row)
def upA : FVec F ⟨2, ![n, p]⟩ .f32 := mulf d (broadcastTo _ g H.row)
def pullA : FVec F ⟨2, ![n, p]⟩ .f32 := broadcastTo _ (shapeCast _
  (multiReduction .add [1] ⟨1, ![n]⟩ (divf (mulf (shapeCast _ (rowSum H (mulf x (upA H g d))) H.cst) (drsA H x)) (word 0x44800000#32))
    0x00000000#32 H.red1 (.inl rfl) rfl) H.cst) H.col
def dxA : FVec F ⟨2, ![n, p]⟩ .f32 := addf (addf (mulf (upA H g d) (broadcastTo _ (rsA H x) H.col)) (mulf x (pullA H x g d))) (mulf (pullA H x g d) x)
def dgA : FVec F ⟨2, ![1, p]⟩ .f32 := shapeCast _
  (multiReduction .add [0] ⟨1, ![p]⟩ (mulf (unitA H x) d) 0x00000000#32 H.red0 (.inl rfl) rfl) H.cstRow
end

section
variable (H : Blk n p) (x : Fin n → Fin p → EReal) (g : Fin p → EReal) (d : Fin n → Fin p → EReal)

theorem rowSum_M2 : rowSum H (M2 x) = V1 fun a => ∑ b, x a b := sumRow_M2 x _ _ _
theorem msA_M2 : msA H (M2 x) = M2 fun a _ => ms (x a) := by
  unfold msA; rw [mul_M2, rowSum_M2, asCol]; rfl
theorem rsA_M2 : rsA H (M2 x) = M2 fun a _ => rs (x a) := by
  unfold rsA; rw [msA_M2]; rfl
theorem drsA_M2 : drsA H (M2 x) = M2 fun a _ => drs (x a) := by
  unfold drsA; rw [msA_M2, rsA_M2]; rfl
theorem unitA_M2 : unitA H (M2 x) = M2 fun a b => unit (x a) b := by
  unfold unitA; rw [rsA_M2, col_M2]; rfl
theorem normA_M2 : normA H (M2 x) (M2 fun _ => g) = M2 fun a b => norm (x a) g b := by
  unfold normA; rw [unitA_M2, row_M2]; rfl
theorem upA_M2 : upA H (M2 fun _ => g) (M2 d) = M2 fun a b => d a b * g b := by
  unfold upA; rw [row_M2]; rfl
theorem pullA_M2 : pullA H (M2 x) (M2 fun _ => g) (M2 d) = M2 fun a _ => pull (x a) g (d a) := by
  unfold pullA; rw [upA_M2, mul_M2, rowSum_M2, asCol, drsA_M2, mul_M2]
  refine (congrArg (fun z => broadcastTo _ (shapeCast _ z H.cst) H.col) (sumRow_M2 (fun a _ => pull (x a) g (d a)) _ _ _)).trans ?_
  rw [asCol, col_M2]
  exact congrArg M2 (funext fun a => funext fun _ => Fin.sum_univ_one _)
theorem dxA_M2 : dxA H (M2 x) (M2 fun _ => g) (M2 d) = M2 fun a b => dx (x a) g (d a) b := by
  unfold dxA; rw [upA_M2, pullA_M2, rsA_M2, col_M2]; rfl
theorem dgA_M2 : dgA H (M2 x) (M2 d) = M2 fun _ b => ∑ a, unit (x a) b * d a b := by
  unfold dgA; rw [unitA_M2, mul_M2]
  exact (congrArg (fun z => shapeCast _ z H.cstRow) (sumCol_M2 (fun a b => unit (x a) b * d a b) _ _ _)).trans (asRow _ _)
end

end Cert.Rows

end

end
-- ==== Proof.AdamFeed.lean ====
/- The optimiser's calls for the feed-forward matrices. -/
module

public import proofs.«01_k».proof.Defs
public import proofs.«01_k».proof.Proof.Adam
public import proofs.«01_k».proof.Proof.Rows
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Run
public import Idealize.ShloMosaic.Lib.Pipeline.ValueKit
public import Idealize.ShloMosaic.Lib.Quiescent

@[expose] public section

set_option maxRecDepth 16384

noncomputable section

namespace Cert.Adam.Feed

open Idealize.ShloMosaic Idealize.ShloMosaic.TcCoe Idealize.ShloMosaic.Tactic Idealize.SL.Sem
open Cert.Kernel6Ideal Cert.Kernel6Ideal.Gen Cert.Rows

variable (m : (ℓ : Loc nD τ sig) → Buf (Elt Ideal) ℓ) (c : Dev nD)

theorem arrays : (dats m 0 c).arrAt 4 cfg0.N = delta (V m c main_v0) (V m c main_v1) (V m c main_v2) (V m c main_v3) ∧
    (dats m 0 c).arrAt 5 cfg0.N = moment (V m c main_v2) (V m c main_v1) ∧
    (dats m 0 c).arrAt 6 cfg0.N = variance (V m c main_v3) (V m c main_v1) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  · rw [after0_4, show out0_4 (F := Ideal) = delta from funext₄ fun w g m v => delta_out zero2 _ _ w g m v κ rfl rfl]
    exact delta_at rfl rfl rfl rfl
  · rw [after0_5, show out0_5 (F := Ideal) = fun _ g m _ => moment m g from funext₄ fun _ g m _ => moment_out zero2 _ _ g m]
    exact moment_at rfl rfl
  · rw [after0_6, show out0_6 (F := Ideal) = fun _ g _ v => variance v g from funext₄ fun _ g _ v => variance_out zero2 _ _ g v]
    exact variance_at rfl rfl

theorem frame : Cert.quiescent_Reference6Ideal (hReference6Ideal := Cert.Reference6Ideal.Gen.facts) := fun m ρ _ =>
  (θ_run Cert.Reference6Ideal.defs _ _).mono (fun r h => ⟨fun c => (h c).2.2.2, sem_eq_zero_of_no_sems (by decide) r.2⟩)
    (Cert.Reference6Ideal.Value.run (F := Ideal) m ρ)

theorem preserves : Cert.preserves_Kernel6_Kernel6Ideal :=
  ⟨IdealRules.named_const.statement κ _ _ _ _ rfl, IdealRules.named_const.statement κ _ _ _ _ rfl⟩

theorem algebraic : Cert.algebraic_Kernel6Ideal_Reference6Ideal (hKernel6Ideal := Cert.Kernel6Ideal.Gen.facts)
    (hReference6Ideal := Cert.Reference6Ideal.Gen.facts) := fun m g m' g' _ hargs =>
  ⟨_, _, _, (θ_run defs _ _).mono (fun r h c => results_eq (h c) (arrays m c)) (Value.run_blocks m g),
    (θ_run Cert.Reference6Ideal.defs _ _).mono (fun r h c => results_eq (h c) (results_cast _ (results_ref _ (hargs c))
      (by entry_read; rfl) (by entry_read; rfl) (by entry_read; rfl) (by entry_read; rfl)))
      (Cert.Reference6Ideal.Value.run (F := Ideal) m' g')⟩

end Cert.Adam.Feed

end

end
-- ==== Proof.AdamProj.lean ====
/- The optimiser's calls for the projections: the input's, the queries', the keys' and values', and the output's. -/
module

public import proofs.«01_k».proof.Defs
public import proofs.«01_k».proof.Proof.Adam
public import proofs.«01_k».proof.Proof.Rows
public import proofs.«01_k».proof.Proof.Gen.Kernel7
public import proofs.«01_k».proof.Proof.Gen.Kernel8
public import proofs.«01_k».proof.Proof.Gen.Kernel9
public import proofs.«01_k».proof.Proof.Gen.Kernel10
public import proofs.«01_k».proof.Proof.Gen.Kernel7Ideal.Value
public import proofs.«01_k».proof.Proof.Gen.Kernel8Ideal.Value
public import proofs.«01_k».proof.Proof.Gen.Kernel9Ideal.Value
public import proofs.«01_k».proof.Proof.Gen.Kernel10Ideal.Value
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import Idealize.ShloMosaic.Lib.Pipeline.ValueKit
public import Idealize.ShloMosaic.Lib.Quiescent

@[expose] public section

set_option maxRecDepth 16384

noncomputable section

namespace Cert.Adam

open Idealize.ShloMosaic Idealize.ShloMosaic.TcCoe Idealize.ShloMosaic.Tactic Idealize.SL.Sem Cert.Rows

/-! ## The input projection -/

namespace Input

open Cert.Kernel7Ideal Cert.Kernel7Ideal.Gen

theorem arrays (m : (ℓ : Loc nD τ sig) → Buf (Elt Ideal) ℓ) (c : Dev nD) :
    (dats m 0 c).arrAt 4 cfg0.N = delta (V m c main_v0) (V m c main_v1) (V m c main_v2) (V m c main_v3) ∧
    (dats m 0 c).arrAt 5 cfg0.N = moment (V m c main_v2) (V m c main_v1) ∧
    (dats m 0 c).arrAt 6 cfg0.N = variance (V m c main_v3) (V m c main_v1) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  · rw [after0_4, show out0_4 (F := Ideal) = delta from funext₄ fun w g m v => delta_out zero2 _ _ w g m v κ rfl rfl]
    exact delta_at rfl rfl rfl rfl
  · rw [after0_5, show out0_5 (F := Ideal) = fun _ g m _ => moment m g from funext₄ fun _ g m _ => moment_out zero2 _ _ g m]
    exact moment_at rfl rfl
  · rw [after0_6, show out0_6 (F := Ideal) = fun _ g _ v => variance v g from funext₄ fun _ g _ v => variance_out zero2 _ _ g v]
    exact variance_at rfl rfl

theorem frame : Cert.quiescent_Reference7Ideal (hReference7Ideal := Reference7Ideal.Gen.facts) := fun m ρ _ =>
  (θ_run Reference7Ideal.defs _ _).mono (fun _ h => ⟨fun c => (h c).2.2.2, sem_eq_zero_of_no_sems (by decide) _⟩)
    (Reference7Ideal.Value.run (F := Ideal) m ρ)

theorem preserves : Cert.preserves_Kernel7_Kernel7Ideal :=
  ⟨IdealRules.named_const.statement κ _ _ _ _ rfl, IdealRules.named_const.statement κ _ _ _ _ rfl⟩

theorem algebraic : Cert.algebraic_Kernel7Ideal_Reference7Ideal (hKernel7Ideal := facts)
    (hReference7Ideal := Reference7Ideal.Gen.facts) := fun m g m' g' _ hargs =>
  ⟨_, _, _, (θ_run defs _ _).mono (fun _ h c => results_eq (h c) (arrays m c)) (Value.run_blocks m g),
    (θ_run Reference7Ideal.defs _ _).mono (fun _ h c => results_eq (h c) (results_cast _ (results_ref _ (hargs c))
      (by entry_read; rfl) (by entry_read; rfl) (by entry_read; rfl) (by entry_read; rfl)))
      (Reference7Ideal.Value.run (F := Ideal) m' g')⟩

end Input

/-! ## The queries' up-projection -/

namespace Queries

open Cert.Kernel8Ideal Cert.Kernel8Ideal.Gen

theorem arrays (m : (ℓ : Loc nD τ sig) → Buf (Elt Ideal) ℓ) (c : Dev nD) :
    (dats m 0 c).arrAt 4 cfg0.N = delta (V m c main_v0) (V m c main_v1) (V m c main_v2) (V m c main_v3) ∧
    (dats m 0 c).arrAt 5 cfg0.N = moment (V m c main_v2) (V m c main_v1) ∧
    (dats m 0 c).arrAt 6 cfg0.N = variance (V m c main_v3) (V m c main_v1) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  · rw [after0_4, show out0_4 (F := Ideal) = delta from funext₄ fun w g m v => delta_out zero2 _ _ w g m v κ rfl rfl]
    exact delta_at rfl rfl rfl rfl
  · rw [after0_5, show out0_5 (F := Ideal) = fun _ g m _ => moment m g from funext₄ fun _ g m _ => moment_out zero2 _ _ g m]
    exact moment_at rfl rfl
  · rw [after0_6, show out0_6 (F := Ideal) = fun _ g _ v => variance v g from funext₄ fun _ g _ v => variance_out zero2 _ _ g v]
    exact variance_at rfl rfl

theorem frame : Cert.quiescent_Reference8Ideal (hReference8Ideal := Reference8Ideal.Gen.facts) := fun m ρ _ =>
  (θ_run Reference8Ideal.defs _ _).mono (fun _ h => ⟨fun c => (h c).2.2.2, sem_eq_zero_of_no_sems (by decide) _⟩)
    (Reference8Ideal.Value.run (F := Ideal) m ρ)

theorem preserves : Cert.preserves_Kernel8_Kernel8Ideal :=
  ⟨IdealRules.named_const.statement κ _ _ _ _ rfl, IdealRules.named_const.statement κ _ _ _ _ rfl⟩

theorem algebraic : Cert.algebraic_Kernel8Ideal_Reference8Ideal (hKernel8Ideal := facts)
    (hReference8Ideal := Reference8Ideal.Gen.facts) := fun m g m' g' _ hargs =>
  ⟨_, _, _, (θ_run defs _ _).mono (fun _ h c => results_eq (h c) (arrays m c)) (Value.run_blocks m g),
    (θ_run Reference8Ideal.defs _ _).mono (fun _ h c => results_eq (h c) (results_cast _ (results_ref _ (hargs c))
      (by entry_read; rfl) (by entry_read; rfl) (by entry_read; rfl) (by entry_read; rfl)))
      (Reference8Ideal.Value.run (F := Ideal) m' g')⟩

end Queries

/-! ## The keys' and values' up-projection -/

namespace KeysValues

open Cert.Kernel9Ideal Cert.Kernel9Ideal.Gen

theorem arrays (m : (ℓ : Loc nD τ sig) → Buf (Elt Ideal) ℓ) (c : Dev nD) :
    (dats m 0 c).arrAt 4 cfg0.N = delta (V m c main_v0) (V m c main_v1) (V m c main_v2) (V m c main_v3) ∧
    (dats m 0 c).arrAt 5 cfg0.N = moment (V m c main_v2) (V m c main_v1) ∧
    (dats m 0 c).arrAt 6 cfg0.N = variance (V m c main_v3) (V m c main_v1) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  · rw [after0_4, show out0_4 (F := Ideal) = delta from funext₄ fun w g m v => delta_out zero2 _ _ w g m v κ rfl rfl]
    exact delta_at rfl rfl rfl rfl
  · rw [after0_5, show out0_5 (F := Ideal) = fun _ g m _ => moment m g from funext₄ fun _ g m _ => moment_out zero2 _ _ g m]
    exact moment_at rfl rfl
  · rw [after0_6, show out0_6 (F := Ideal) = fun _ g _ v => variance v g from funext₄ fun _ g _ v => variance_out zero2 _ _ g v]
    exact variance_at rfl rfl

theorem frame : Cert.quiescent_Reference9Ideal (hReference9Ideal := Reference9Ideal.Gen.facts) := fun m ρ _ =>
  (θ_run Reference9Ideal.defs _ _).mono (fun _ h => ⟨fun c => (h c).2.2.2, sem_eq_zero_of_no_sems (by decide) _⟩)
    (Reference9Ideal.Value.run (F := Ideal) m ρ)

theorem preserves : Cert.preserves_Kernel9_Kernel9Ideal :=
  ⟨IdealRules.named_const.statement κ _ _ _ _ rfl, IdealRules.named_const.statement κ _ _ _ _ rfl⟩

theorem algebraic : Cert.algebraic_Kernel9Ideal_Reference9Ideal (hKernel9Ideal := facts)
    (hReference9Ideal := Reference9Ideal.Gen.facts) := fun m g m' g' _ hargs =>
  ⟨_, _, _, (θ_run defs _ _).mono (fun _ h c => results_eq (h c) (arrays m c)) (Value.run_blocks m g),
    (θ_run Reference9Ideal.defs _ _).mono (fun _ h c => results_eq (h c) (results_cast _ (results_ref _ (hargs c))
      (by entry_read; rfl) (by entry_read; rfl) (by entry_read; rfl) (by entry_read; rfl)))
      (Reference9Ideal.Value.run (F := Ideal) m' g')⟩

end KeysValues

/-! ## The output projection -/

namespace Output

open Cert.Kernel10Ideal Cert.Kernel10Ideal.Gen

theorem arrays (m : (ℓ : Loc nD τ sig) → Buf (Elt Ideal) ℓ) (c : Dev nD) :
    (dats m 0 c).arrAt 4 cfg0.N = delta (V m c main_v0) (V m c main_v1) (V m c main_v2) (V m c main_v3) ∧
    (dats m 0 c).arrAt 5 cfg0.N = moment (V m c main_v2) (V m c main_v1) ∧
    (dats m 0 c).arrAt 6 cfg0.N = variance (V m c main_v3) (V m c main_v1) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  · rw [after0_4, show out0_4 (F := Ideal) = delta from funext₄ fun w g m v => delta_out zero2 _ _ w g m v κ rfl rfl]
    exact delta_at rfl rfl rfl rfl
  · rw [after0_5, show out0_5 (F := Ideal) = fun _ g m _ => moment m g from funext₄ fun _ g m _ => moment_out zero2 _ _ g m]
    exact moment_at rfl rfl
  · rw [after0_6, show out0_6 (F := Ideal) = fun _ g _ v => variance v g from funext₄ fun _ g _ v => variance_out zero2 _ _ g v]
    exact variance_at rfl rfl

theorem frame : Cert.quiescent_Reference10Ideal (hReference10Ideal := Reference10Ideal.Gen.facts) := fun m ρ _ =>
  (θ_run Reference10Ideal.defs _ _).mono (fun _ h => ⟨fun c => (h c).2.2.2, sem_eq_zero_of_no_sems (by decide) _⟩)
    (Reference10Ideal.Value.run (F := Ideal) m ρ)

theorem preserves : Cert.preserves_Kernel10_Kernel10Ideal :=
  ⟨IdealRules.named_const.statement κ _ _ _ _ rfl, IdealRules.named_const.statement κ _ _ _ _ rfl⟩

theorem algebraic : Cert.algebraic_Kernel10Ideal_Reference10Ideal (hKernel10Ideal := facts)
    (hReference10Ideal := Reference10Ideal.Gen.facts) := fun m g m' g' _ hargs =>
  ⟨_, _, _, (θ_run defs _ _).mono (fun _ h c => results_eq (h c) (arrays m c)) (Value.run_blocks m g),
    (θ_run Reference10Ideal.defs _ _).mono (fun _ h c => results_eq (h c) (results_cast _ (results_ref _ (hargs c))
      (by entry_read; rfl) (by entry_read; rfl) (by entry_read; rfl) (by entry_read; rfl)))
      (Reference10Ideal.Value.run (F := Ideal) m' g')⟩

end Output

end Cert.Adam

end

end
-- ==== Proof.AdamGate.lean ====
/- The optimiser's calls for the gating's matrices and biases. -/
module

public import proofs.«01_k».proof.Defs
public import proofs.«01_k».proof.Proof.Adam
public import proofs.«01_k».proof.Proof.Rows
public import proofs.«01_k».proof.Proof.Gen.Kernel11
public import proofs.«01_k».proof.Proof.Gen.Kernel12
public import proofs.«01_k».proof.Proof.Gen.Kernel11Ideal.Value
public import proofs.«01_k».proof.Proof.Gen.Kernel12Ideal.Value
public import proofs.«01_k».proof.Proof.Gen.Reference11Ideal.Run
public import proofs.«01_k».proof.Proof.Gen.Reference12Ideal.Run
public import Idealize.ShloMosaic.Lib.Pipeline.ValueKit
public import Idealize.ShloMosaic.Lib.Quiescent

@[expose] public section

set_option maxRecDepth 16384

noncomputable section

namespace Cert.Adam

open Idealize.ShloMosaic Idealize.ShloMosaic.TcCoe Idealize.ShloMosaic.Tactic Idealize.SL.Sem Cert.Rows

/-! ## The matrices -/

namespace Matrices

open Cert.Kernel11Ideal Cert.Kernel11Ideal.Gen

theorem arrays (m : (ℓ : Loc nD τ sig) → Buf (Elt Ideal) ℓ) (c : Dev nD) :
    (dats m 0 c).arrAt 4 cfg0.N = delta (V m c main_v0) (V m c main_v1) (V m c main_v2) (V m c main_v3) ∧
    (dats m 0 c).arrAt 5 cfg0.N = moment (V m c main_v2) (V m c main_v1) ∧
    (dats m 0 c).arrAt 6 cfg0.N = variance (V m c main_v3) (V m c main_v1) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  · rw [after0_4, show out0_4 (F := Ideal) = delta from funext₄ fun w g m v => delta_out zero2 _ _ w g m v κ rfl rfl]
    exact delta_at rfl rfl rfl rfl
  · rw [after0_5, show out0_5 (F := Ideal) = fun _ g m _ => moment m g from funext₄ fun _ g m _ => moment_out zero2 _ _ g m]
    exact moment_at rfl rfl
  · rw [after0_6, show out0_6 (F := Ideal) = fun _ g _ v => variance v g from funext₄ fun _ g _ v => variance_out zero2 _ _ g v]
    exact variance_at rfl rfl

theorem frame : Cert.quiescent_Reference11Ideal (hReference11Ideal := Reference11Ideal.Gen.facts) := fun m ρ _ =>
  (θ_run Reference11Ideal.defs _ _).mono (fun _ h => ⟨fun c => (h c).2.2.2, sem_eq_zero_of_no_sems (by decide) _⟩)
    (Reference11Ideal.Value.run (F := Ideal) m ρ)

theorem preserves : Cert.preserves_Kernel11_Kernel11Ideal :=
  ⟨IdealRules.named_const.statement κ _ _ _ _ rfl, IdealRules.named_const.statement κ _ _ _ _ rfl⟩

theorem algebraic : Cert.algebraic_Kernel11Ideal_Reference11Ideal (hKernel11Ideal := facts)
    (hReference11Ideal := Reference11Ideal.Gen.facts) := fun m g m' g' _ hargs =>
  ⟨_, _, _, (θ_run defs _ _).mono (fun _ h c => results_eq (h c) (arrays m c)) (Value.run_blocks m g),
    (θ_run Reference11Ideal.defs _ _).mono (fun _ h c => results_eq (h c) (results_cast _ (results_ref _ (hargs c))
      (by entry_read; rfl) (by entry_read; rfl) (by entry_read; rfl) (by entry_read; rfl)))
      (Reference11Ideal.Value.run (F := Ideal) m' g')⟩

end Matrices

/-! ## The biases -/

namespace Biases

open Cert.Kernel12Ideal Cert.Kernel12Ideal.Gen

theorem arrays (m : (ℓ : Loc nD τ sig) → Buf (Elt Ideal) ℓ) (c : Dev nD) :
    (dats m 0 c).arrAt 4 cfg0.N = delta (V m c main_v0) (V m c main_v1) (V m c main_v2) (V m c main_v3) ∧
    (dats m 0 c).arrAt 5 cfg0.N = moment (V m c main_v2) (V m c main_v1) ∧
    (dats m 0 c).arrAt 6 cfg0.N = variance (V m c main_v3) (V m c main_v1) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  · rw [after0_4, show out0_4 (F := Ideal) = delta from funext₄ fun w g m v => delta_out zero2 _ _ w g m v κ rfl rfl]
    exact delta_at rfl rfl rfl rfl
  · rw [after0_5, show out0_5 (F := Ideal) = fun _ g m _ => moment m g from funext₄ fun _ g m _ => moment_out zero2 _ _ g m]
    exact moment_at rfl rfl
  · rw [after0_6, show out0_6 (F := Ideal) = fun _ g _ v => variance v g from funext₄ fun _ g _ v => variance_out zero2 _ _ g v]
    exact variance_at rfl rfl

theorem frame : Cert.quiescent_Reference12Ideal (hReference12Ideal := Reference12Ideal.Gen.facts) := fun m ρ _ =>
  (θ_run Reference12Ideal.defs _ _).mono (fun _ h => ⟨fun c => (h c).2.2.2, sem_eq_zero_of_no_sems (by decide) _⟩)
    (Reference12Ideal.Value.run (F := Ideal) m ρ)

theorem preserves : Cert.preserves_Kernel12_Kernel12Ideal :=
  ⟨IdealRules.named_const.statement κ _ _ _ _ rfl, IdealRules.named_const.statement κ _ _ _ _ rfl⟩

theorem algebraic : Cert.algebraic_Kernel12Ideal_Reference12Ideal (hKernel12Ideal := facts)
    (hReference12Ideal := Reference12Ideal.Gen.facts) := fun m g m' g' _ hargs =>
  ⟨_, _, _, (θ_run defs _ _).mono (fun _ h c => results_eq (h c) (arrays m c)) (Value.run_blocks m g),
    (θ_run Reference12Ideal.defs _ _).mono (fun _ h c => results_eq (h c) (results_cast _ (results_ref _ (hargs c))
      (by entry_read; rfl) (by entry_read; rfl) (by entry_read; rfl) (by entry_read; rfl)))
      (Reference12Ideal.Value.run (F := Ideal) m' g')⟩

end Biases

end Cert.Adam

end

end
-- ==== Proof.AdamGains.lean ====
/- The optimiser's calls for the gains, whose arrays the kernel takes as they are. -/
module

public import proofs.«01_k».proof.Defs
public import proofs.«01_k».proof.Proof.Adam
public import proofs.«01_k».proof.Proof.Gen.Kernel13Ideal.Value
public import proofs.«01_k».proof.Proof.Gen.Kernel14Ideal.Value
public import proofs.«01_k».proof.Proof.Gen.Kernel15Ideal.Value
public import proofs.«01_k».proof.Proof.Gen.Kernel16Ideal.Value
public import proofs.«01_k».proof.Proof.Gen.Kernel17Ideal.Value
public import proofs.«01_k».proof.Proof.Gen.Kernel13
public import proofs.«01_k».proof.Proof.Gen.Kernel14
public import proofs.«01_k».proof.Proof.Gen.Kernel15
public import proofs.«01_k».proof.Proof.Gen.Kernel16
public import proofs.«01_k».proof.Proof.Gen.Kernel17
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import Idealize.ShloMosaic.Lib.Quiescent

@[expose] public section

set_option maxRecDepth 16384

noncomputable section

namespace Cert.Adam

open Idealize.ShloMosaic Idealize.ShloMosaic.TcCoe Idealize.SL.Sem Idealize.ShloMosaic.IdealRules

/-! ## The layer norms -/

namespace Norm

theorem frame : Cert.quiescent_Reference13Ideal (hReference13Ideal := Reference13Ideal.Gen.facts) := fun m ρ _ =>
  (θ_run Reference13Ideal.defs _ _).mono (fun _ h => ⟨fun c => (h c).2.2.2, sem_eq_zero_of_no_sems (by decide) _⟩)
    (Reference13Ideal.Value.run (F := Ideal) m ρ)

theorem preserves : Cert.preserves_Kernel13_Kernel13Ideal :=
  ⟨named_const.statement Kernel13Ideal.κ _ _ _ _ rfl, named_const.statement Kernel13Ideal.κ _ _ _ _ rfl⟩

theorem algebraic : Cert.algebraic_Kernel13Ideal_Reference13Ideal (hKernel13Ideal := Kernel13Ideal.Gen.facts)
    (hReference13Ideal := Reference13Ideal.Gen.facts) := fun m g m' g' _ hargs =>
  ⟨_, _, _, (θ_run Kernel13Ideal.defs _ _).mono (fun _ h c => results_eq (h c)
      ⟨funext fun i => delta_apply Kernel13Ideal.κ rfl rfl _ _ _ _ i, rfl, rfl⟩) (Kernel13Ideal.Value.run m g),
    (θ_run Reference13Ideal.defs _ _).mono (fun _ h c => results_eq (h c) (results_ref _ (hargs c)))
      (Reference13Ideal.Value.run (F := Ideal) m' g')⟩

end Norm

/-! ## Gains of 256 lanes -/

namespace Wide

theorem frame : Cert.quiescent_Reference14Ideal (hReference14Ideal := Reference14Ideal.Gen.facts) := fun m ρ _ =>
  (θ_run Reference14Ideal.defs _ _).mono (fun _ h => ⟨fun c => (h c).2.2.2, sem_eq_zero_of_no_sems (by decide) _⟩)
    (Reference14Ideal.Value.run (F := Ideal) m ρ)

theorem preserves : Cert.preserves_Kernel14_Kernel14Ideal :=
  ⟨named_const.statement Kernel14Ideal.κ _ _ _ _ rfl, named_const.statement Kernel14Ideal.κ _ _ _ _ rfl⟩

theorem algebraic : Cert.algebraic_Kernel14Ideal_Reference14Ideal (hKernel14Ideal := Kernel14Ideal.Gen.facts)
    (hReference14Ideal := Reference14Ideal.Gen.facts) := fun m g m' g' _ hargs =>
  ⟨_, _, _, (θ_run Kernel14Ideal.defs _ _).mono (fun _ h c => results_eq (h c)
      ⟨funext fun i => delta_apply Kernel14Ideal.κ rfl rfl _ _ _ _ i, rfl, rfl⟩) (Kernel14Ideal.Value.run m g),
    (θ_run Reference14Ideal.defs _ _).mono (fun _ h c => results_eq (h c) (results_ref _ (hargs c)))
      (Reference14Ideal.Value.run (F := Ideal) m' g')⟩

end Wide

/-! ## The gain of the keys' and values' latents -/

namespace Latent

theorem frame : Cert.quiescent_Reference15Ideal (hReference15Ideal := Reference15Ideal.Gen.facts) := fun m ρ _ =>
  (θ_run Reference15Ideal.defs _ _).mono (fun _ h => ⟨fun c => (h c).2.2.2, sem_eq_zero_of_no_sems (by decide) _⟩)
    (Reference15Ideal.Value.run (F := Ideal) m ρ)

theorem preserves : Cert.preserves_Kernel15_Kernel15Ideal :=
  ⟨named_const.statement Kernel15Ideal.κ _ _ _ _ rfl, named_const.statement Kernel15Ideal.κ _ _ _ _ rfl⟩

theorem algebraic : Cert.algebraic_Kernel15Ideal_Reference15Ideal (hKernel15Ideal := Kernel15Ideal.Gen.facts)
    (hReference15Ideal := Reference15Ideal.Gen.facts) := fun m g m' g' _ hargs =>
  ⟨_, _, _, (θ_run Kernel15Ideal.defs _ _).mono (fun _ h c => results_eq (h c)
      ⟨funext fun i => delta_apply Kernel15Ideal.κ rfl rfl _ _ _ _ i, rfl, rfl⟩) (Kernel15Ideal.Value.run m g),
    (θ_run Reference15Ideal.defs _ _).mono (fun _ h c => results_eq (h c) (results_ref _ (hargs c)))
      (Reference15Ideal.Value.run (F := Ideal) m' g')⟩

end Latent

/-! ## The gains of a head's queries and keys -/

namespace Head

theorem frame : Cert.quiescent_Reference16Ideal (hReference16Ideal := Reference16Ideal.Gen.facts) := fun m ρ _ =>
  (θ_run Reference16Ideal.defs _ _).mono (fun _ h => ⟨fun c => (h c).2.2.2, sem_eq_zero_of_no_sems (by decide) _⟩)
    (Reference16Ideal.Value.run (F := Ideal) m ρ)

theorem preserves : Cert.preserves_Kernel16_Kernel16Ideal :=
  ⟨named_const.statement Kernel16Ideal.κ _ _ _ _ rfl, named_const.statement Kernel16Ideal.κ _ _ _ _ rfl⟩

theorem algebraic : Cert.algebraic_Kernel16Ideal_Reference16Ideal (hKernel16Ideal := Kernel16Ideal.Gen.facts)
    (hReference16Ideal := Reference16Ideal.Gen.facts) := fun m g m' g' _ hargs =>
  ⟨_, _, _, (θ_run Kernel16Ideal.defs _ _).mono (fun _ h c => results_eq (h c)
      ⟨funext fun i => delta_apply Kernel16Ideal.κ rfl rfl _ _ _ _ i, rfl, rfl⟩) (Kernel16Ideal.Value.run m g),
    (θ_run Reference16Ideal.defs _ _).mono (fun _ h c => results_eq (h c) (results_ref _ (hargs c)))
      (Reference16Ideal.Value.run (F := Ideal) m' g')⟩

end Head

/-! ## The gain of the attention's output -/

namespace Attended

theorem frame : Cert.quiescent_Reference17Ideal (hReference17Ideal := Reference17Ideal.Gen.facts) := fun m ρ _ =>
  (θ_run Reference17Ideal.defs _ _).mono (fun _ h => ⟨fun c => (h c).2.2.2, sem_eq_zero_of_no_sems (by decide) _⟩)
    (Reference17Ideal.Value.run (F := Ideal) m ρ)

theorem preserves : Cert.preserves_Kernel17_Kernel17Ideal :=
  ⟨named_const.statement Kernel17Ideal.κ _ _ _ _ rfl, named_const.statement Kernel17Ideal.κ _ _ _ _ rfl⟩

theorem algebraic : Cert.algebraic_Kernel17Ideal_Reference17Ideal (hKernel17Ideal := Kernel17Ideal.Gen.facts)
    (hReference17Ideal := Reference17Ideal.Gen.facts) := fun m g m' g' _ hargs =>
  ⟨_, _, _, (θ_run Kernel17Ideal.defs _ _).mono (fun _ h c => results_eq (h c)
      ⟨funext fun i => delta_apply Kernel17Ideal.κ rfl rfl _ _ _ _ i, rfl, rfl⟩) (Kernel17Ideal.Value.run m g),
    (θ_run Reference17Ideal.defs _ _).mono (fun _ h c => results_eq (h c) (results_ref _ (hargs c)))
      (Reference17Ideal.Value.run (F := Ideal) m' g')⟩

end Attended

end Cert.Adam

end

end
-- ==== Proof.Chunk.lean ====
/- What one chunk of 128 rows computes in the kernel, as functions of the chunk's inputs. Each definition is a few of the
   kernel's operations under a name; `Chunk` collects a chunk's inputs. Nothing is proved here. -/
module

public import proofs.«01_k».proof.Proof.Gen.KernelIdeal

@[expose] public section

noncomputable section

namespace Cert.Gate

open Idealize.ShloMosaic Cert.KernelIdeal Cert.KernelIdeal.Gen

variable {F : FTy → Type} [FloatOps F]

/-- A chunk of 128 rows of 256 lanes. -/
abbrev Tile (F : FTy → Type) := FVec F S128x256 .f32
/-- One value for each lane. -/
abbrev Lane (F : FTy → Type) := FVec F S1x256 .f32
/-- One value for each row. -/
abbrev Col (F : FTy → Type) := FVec F S128x1 .f32

/-- The constant tile of a float word. -/
def fill (w : BitVec 32) : Tile F := broadcast S128x256 (Scalar.ofBits .f32 w : F .f32)
/-- The constant column of a float word. -/
def fillCol (w : BitVec 32) : Col F := broadcast S128x1 (Scalar.ofBits .f32 w : F .f32)
/-- A lane vector given to every row. -/
def lanes (g : Lane F) : Tile F := broadcastTo S128x256 g broadcasts_S1x256_S128x256
/-- A column given to every lane. -/
def cols (g : Col F) : Tile F := broadcastTo S128x256 g broadcasts_S128x1_S128x256
/-- The sum of each row. -/
def rowSum (x : Tile F) : Col F :=
  shapeCast S128x1 (multiReduction .add [1] S128 x 0x00000000#32 reduces_S128x256_S128 (.inl rfl) rfl) shapeCasts_S128_S128x1
/-- The sum of each lane. -/
def laneSum (x : Tile F) : Lane F :=
  shapeCast S1x256 (multiReduction .add [0] S256 x 0x00000000#32 reduces_S128x256_S256 (.inl rfl) rfl) shapeCasts_S256_S1x256

/-! ## The activation -/

/-- Half of `x`. -/
def half (x : Tile F) : Tile F := mulf (fill 0x3F000000#32) x
/-- The hyperbolic tangent of the activation's cubic polynomial. -/
def th (x : Tile F) : Tile F :=
  tanh (mulf (fill 0x3F4C422A#32) (addf x (mulf (fill 0x3D372713#32) (mulf (mulf x x) x))))
/-- One more than the tangent. -/
def onePlus (x : Tile F) : Tile F := addf (fill 0x3F800000#32) (th x)
/-- The tangent's derivative, `(1 + t) (1 - t)`. -/
def dth (x : Tile F) : Tile F := mulf (onePlus x) (subf (fill 0x3F800000#32) (th x))
/-- The activation. -/
def gelu (x : Tile F) : Tile F := mulf (half x) (onePlus x)
/-- The gradient at the polynomial. -/
def geluP (x dy : Tile F) : Tile F := mulf (fill 0x3F4C422A#32) (mulf (mulf (half x) dy) (dth x))
/-- The gradient at the cube. -/
def geluQ (x dy : Tile F) : Tile F := mulf (fill 0x3D372713#32) (geluP x dy)
/-- The activation's gradient at `x` of the incoming `dy`. -/
def geluBack (x dy : Tile F) : Tile F :=
  addf (addf (addf (addf (geluP x dy) (mulf (mulf x x) (geluQ x dy))) (mulf x (mulf (geluQ x dy) x)))
    (mulf (mulf (geluQ x dy) x) x)) (mulf (fill 0x3F000000#32) (mulf dy (onePlus x)))

/-! ## The four heads' lanes, and the norm over a head -/

/-- One on the lanes of head `h`, and zero elsewhere. -/
def mask (h : BitVec 32) : Lane F :=
  sitofp .f32 (extui 32 (cmpi .eq (shrsi (iota .tc S1x256 32 [1] iota_S1x256_d1_w32) (broadcast S1x256 (6#32 : BitVec 32)))
    (broadcast S1x256 h)) natLt_1_32)
/-- The mean square over a head. -/
def headMean (h : BitVec 32) (x : Tile F) : Col F :=
  mulf (rowSum (mulf (mulf x x) (lanes (mask h)))) (fillCol 0x3C800000#32)
/-- A head's mean square on the head's lanes. -/
def headTerm (h : BitVec 32) (x : Tile F) : Tile F := mulf (lanes (mask h)) (cols (headMean h x))
/-- The mean square of a lane's head, and the norm's small constant. -/
def ms (x : Tile F) : Tile F :=
  addf (addf (addf (addf (addf (fill 0x00000000#32) (headTerm 0#32 x)) (headTerm 1#32 x)) (headTerm 2#32 x)) (headTerm 3#32 x))
    (fill 0x358637BD#32)
/-- The norm's factor. -/
def rs (x : Tile F) : Tile F := rsqrt (ms x)
/-- The derivative of the norm's factor in the mean square. -/
def drs (x : Tile F) : Tile F := mulf (fill 0xBF000000#32) (divf (rs x) (ms x))
/-- `x` times the norm's factor. -/
def normed (x : Tile F) : Tile F := mulf x (rs x)
/-- A sum over one column, the column itself. -/
def colSum (x : Col F) : Col F :=
  shapeCast S128x1 (multiReduction .add [1] S128 x 0x00000000#32 reduces_S128x1_S128 (.inl rfl) rfl) shapeCasts_S128_S128x1
/-- The mean of `z` over a head, on the head's lanes. -/
def headBack (h : BitVec 32) (z : Tile F) : Tile F :=
  mulf (cols (colSum (mulf (rowSum (mulf (lanes (mask h)) z)) (fillCol 0x3C800000#32)))) (lanes (mask h))
/-- The mean of `z` over a lane's head. -/
def headsBack (z : Tile F) : Tile F :=
  addf (addf (addf (headBack 3#32 z) (headBack 2#32 z)) (headBack 1#32 z)) (headBack 0#32 z)
/-- The gradient at the mean square. -/
def msBack (x g : Tile F) : Tile F := headsBack (mulf (mulf x g) (drs x))
/-- The norm's gradient at `x` of the incoming `g`. -/
def normBack (x g : Tile F) : Tile F :=
  addf (addf (mulf g (rs x)) (mulf x (msBack x g))) (mulf (msBack x g) x)

/-! ## The causal mixing of a chunk's rows -/

/-- The four heads' masks. -/
def masks : FVec F S4x1x256 .f32 :=
  concatenate S4x1x256 0 [⟨S1x1x256, shapeCast S1x1x256 (mask 0#32) shapeCasts_S1x256_S1x1x256⟩,
    ⟨S1x1x256, shapeCast S1x1x256 (mask 1#32) shapeCasts_S1x256_S1x1x256⟩,
    ⟨S1x1x256, shapeCast S1x1x256 (mask 2#32) shapeCasts_S1x256_S1x1x256⟩,
    ⟨S1x1x256, shapeCast S1x1x256 (mask 3#32) shapeCasts_S1x256_S1x1x256⟩] concatenates_S1x1x256_S1x1x256_S1x1x256_S1x1x256_S4x1x256_d0
/-- Every head's mask given to every row. -/
def masksAll : FVec F S4x128x256 .f32 := broadcastTo S4x128x256 masks broadcasts_S4x1x256_S4x128x256
/-- A tile given to every head. -/
def heads (x : Tile F) : FVec F S4x128x256 .f32 :=
  broadcastTo S4x128x256 (shapeCast S1x128x256 x shapeCasts_S128x256_S1x128x256) broadcasts_S1x128x256_S4x128x256
/-- Row at or after the other row. -/
def causal : IVec S4x128x128 1 :=
  broadcastTo S4x128x128 (shapeCast S1x128x128 (shapeCast S1x128x128
    (cmpi .sge (iota .tc S128x128 32 [0] iota_S128x128_d0_w32) (iota .tc S128x128 32 [1] iota_S128x128_d1_w32))
    shapeCasts_S128x128_S1x128x128) shapeCasts_S1x128x128_S1x128x128) broadcasts_S1x128x128_S4x128x128
/-- The causal part of four matrices. -/
def causalPart (w : FVec F S4x128x128 .f32) : FVec F S4x128x128 .f32 :=
  select causal w (broadcast S4x128x128 (Scalar.ofBits .f32 0x00000000#32 : F .f32))
/-- A tile's lanes kept head by head. -/
def split (x : Tile F) : FVec F S4x128x256 .f32 := mulf (heads x) masksAll
/-- The sum of four tiles. -/
def headSum (x : FVec F S4x128x256 .f32) : Tile F :=
  multiReduction .add [0] S128x256 x 0x00000000#32 reduces_S4x128x256_S128x256 (.inl rfl) rfl
/-- Each head's matrix times the tile's lanes of that head. -/
def mix (w : FVec F S4x128x128 .f32) (x : Tile F) : Tile F :=
  headSum (matmul dot_S4x128x128_S4x128x256_S4x128x256_2_1_1_2_0_0 none (truncf .bf16 (causalPart w) bitsLt_bf16_f32)
    (truncf .bf16 (split x) bitsLt_bf16_f32) (constant S4x128x256 .f32 0x00000000#32))
/-- A head's bias on the head's lanes. -/
def bias (h : BitVec 32) (b : Col F) : Tile F := mulf (cols b) (lanes (mask h))
/-- The mixing's gradient at the tile. -/
def mixBack (w : FVec F S4x128x128 .f32) (dy : Tile F) : Tile F :=
  multiReduction .add [0] S128x256 (shapeCast S1x128x256 (headSum (mulf
    (matmul dot_S4x128x128_S4x128x256_S4x128x256_1_1_2_2_0_0 none (truncf .bf16 (causalPart w) bitsLt_bf16_f32)
      (truncf .bf16 (heads dy) bitsLt_bf16_f32) (constant S4x128x256 .f32 0x00000000#32)) masksAll))
    shapeCasts_S128x256_S1x128x256) 0x00000000#32 reduces_S1x128x256_S128x256 (.inl rfl) rfl
/-- The mixing's gradient at the four matrices. -/
def mixBackW (x dy : Tile F) : FVec F S4x128x128 .f32 :=
  causalPart (matmul dot_S4x128x256_S4x128x256_S4x128x128_2_2_1_1_0_0 none (truncf .bf16 (heads dy) bitsLt_bf16_f32)
    (truncf .bf16 (split x) bitsLt_bf16_f32) (constant S4x128x128 .f32 0x00000000#32))
/-- The bias's gradient for a head. -/
def biasBack (h : BitVec 32) (dy : Tile F) : Col F := rowSum (mulf dy (lanes (mask h)))

/-! ## A chunk -/

/-- A chunk's inputs: the two halves of its rows, the norms' gains, the heads' matrices and biases, and the incoming gradient. -/
structure Chunk (F : FTy → Type) where
  u : Tile F
  v : Tile F
  vg : Lane F
  ws : FVec F S4x128x128 .f32
  b0 : Col F
  b1 : Col F
  b2 : Col F
  b3 : Col F
  og : Lane F
  ct : Tile F

namespace Chunk

variable (k : Chunk F)

/-- The second half's tile after its norm. -/
def vn : Tile F := mulf (normed (gelu k.v)) (lanes k.vg)
/-- The mixed rows. -/
def y : Tile F :=
  addf (addf (addf (addf (mix k.ws k.vn) (bias 0#32 k.b0)) (bias 1#32 k.b1)) (bias 2#32 k.b2)) (bias 3#32 k.b3)
/-- The gated rows. -/
def o : Tile F := mulf (gelu k.u) k.y
/-- The gradient at the gated rows. -/
def dout : Tile F := normBack k.o (mulf k.ct (lanes k.og))
/-- The gradient at the mixed rows. -/
def dy : Tile F := mulf (gelu k.u) k.dout
/-- The gradient at the normed rows of the second half. -/
def dvn : Tile F := mixBack k.ws k.dy
/-- The gradient at the first half. -/
def du : Tile F := geluBack k.u (mulf k.dout k.y)
/-- The gradient at the second half. -/
def dv : Tile F := geluBack k.v (normBack (gelu k.v) (mulf k.dvn (lanes k.vg)))
/-- The gradient at the second half's gains. -/
def dvg : Lane F := laneSum (mulf (normed (gelu k.v)) k.dvn)
/-- The gradient at the heads' matrices. -/
def dws : FVec F S4x128x128 .f32 := mixBackW k.vn k.dy
/-- The gradient at a head's biases. -/
def dbs (h : BitVec 32) : Col F := biasBack h k.dy
/-- The gradient at the output's gains. -/
def dog : Lane F := laneSum (mulf (normed k.o) k.ct)

end Chunk

end Cert.Gate

end

end
-- ==== Proof.Pieces.lean ====
/- The run of one grid point, its pieces named: what the kernel's body stores is the chunk functions of `Chunk.lean` at the
   chunk's loads, stored over nothing at the first point and added to what stands at a later point. -/
module

public import proofs.«01_k».proof.Proof.Gen.KernelIdeal.Value
public import proofs.«01_k».proof.Proof.Chunk

@[expose] public section

set_option maxRecDepth 16384

noncomputable section

namespace Cert.Gate

open Idealize.ShloMosaic Idealize.ShloMosaic.TcCoe Idealize.ShloMosaic.Tactic Cert.KernelIdeal Cert.KernelIdeal.Gen

variable {F : FTy → Type} [FloatOps F]

/-- A chunk from its loads. -/
def chunkOf (u v : Vec F S128x256 .f32) (vg : Vec F S1x256 .f32) (ws : Vec F S4x128x128 .f32) (b0 b1 b2 b3 : Vec F S1x128x1 .f32)
    (og : Vec F S1x256 .f32) (ct : Vec F S128x256 .f32) : Chunk F where
  u := u
  v := v
  vg := shapeCast S1x256 vg shapeCasts_S1x256_S1x256
  ws := ws
  b0 := shapeCast S128x1 b0 shapeCasts_S1x128x1_S128x1
  b1 := shapeCast S128x1 b1 shapeCasts_S1x128x1_S128x1
  b2 := shapeCast S128x1 b2 shapeCasts_S1x128x1_S128x1
  b3 := shapeCast S128x1 b3 shapeCasts_S1x128x1_S128x1
  og := shapeCast S1x256 og shapeCasts_S1x256_S1x256
  ct := ct

section
variable (arg1 : Memref sig .tc .vmem S512x512 .f32) (harg1 : arg1.IsWhole) (arg2 : Memref sig .tc .vmem S1x256 .f32) (harg2 : arg2.IsWhole) (arg3 : Memref sig .tc .vmem S4x128x128 .f32) (harg3 : arg3.IsWhole) (arg4 : Memref sig .tc .vmem S4x128x1 .f32) (harg4 : arg4.IsWhole) (arg5 : Memref sig .tc .vmem S1x256 .f32) (harg5 : arg5.IsWhole) (arg6 : Memref sig .tc .vmem S512x256 .f32) (harg6 : arg6.IsWhole)
  (x0 : Vec F S512x512 .f32) (x1 : Vec F S1x256 .f32) (x2 : Vec F S4x128x128 .f32) (x3 : Vec F S4x128x1 .f32) (x4 : Vec F S1x256 .f32) (x5 : Vec F S512x256 .f32)

/-- The point's chunk 0, as the body loads it. -/
def rawChunk0 : Chunk F := chunkOf
  (View.readAt (Elt F) arg1.view (Rect.unit (s := S512x512) ![0, 0] S128x256.size inb_S512x512_S128x256_0_0).toLoadRect (harg1.unread x0))
  (View.readAt (Elt F) arg1.view (Rect.unit (s := S512x512) ![0, 256] S128x256.size inb_S512x512_S128x256_0_256).toLoadRect (harg1.unread x0))
  (View.readAt (Elt F) arg2.view (Rect.unit ![0, 0] S1x256.size inb_S1x256_S1x256_0_0).toLoadRect (harg2.unread x1))
  (View.readAt (Elt F) arg3.view (Rect.unit ![0, 0, 0] S4x128x128.size inb_S4x128x128_S4x128x128_0_0_0).toLoadRect (harg3.unread x2))
  (View.readAt (Elt F) arg4.view (Rect.unit (s := S4x128x1) ![0, 0, 0] S1x128x1.size inb_S4x128x1_S1x128x1_0_0_0).toLoadRect (harg4.unread x3))
  (View.readAt (Elt F) arg4.view (Rect.unit (s := S4x128x1) ![1, 0, 0] S1x128x1.size inb_S4x128x1_S1x128x1_1_0_0).toLoadRect (harg4.unread x3))
  (View.readAt (Elt F) arg4.view (Rect.unit (s := S4x128x1) ![2, 0, 0] S1x128x1.size inb_S4x128x1_S1x128x1_2_0_0).toLoadRect (harg4.unread x3))
  (View.readAt (Elt F) arg4.view (Rect.unit (s := S4x128x1) ![3, 0, 0] S1x128x1.size inb_S4x128x1_S1x128x1_3_0_0).toLoadRect (harg4.unread x3))
  (View.readAt (Elt F) arg5.view (Rect.unit ![0, 0] S1x256.size inb_S1x256_S1x256_0_0).toLoadRect (harg5.unread x4))
  (View.readAt (Elt F) arg6.view (Rect.unit (s := S512x256) ![0, 0] S128x256.size inb_S512x256_S128x256_0_0).toLoadRect (harg6.unread x5))

/-- The point's chunk 1, as the body loads it. -/
def rawChunk1 : Chunk F := chunkOf
  (View.readAt (Elt F) arg1.view (Rect.unit (s := S512x512) ![128, 0] S128x256.size inb_S512x512_S128x256_128_0).toLoadRect (harg1.unread x0))
  (View.readAt (Elt F) arg1.view (Rect.unit (s := S512x512) ![128, 256] S128x256.size inb_S512x512_S128x256_128_256).toLoadRect (harg1.unread x0))
  (View.readAt (Elt F) arg2.view (Rect.unit ![0, 0] S1x256.size inb_S1x256_S1x256_0_0).toLoadRect (harg2.unread x1))
  (View.readAt (Elt F) arg3.view (Rect.unit ![0, 0, 0] S4x128x128.size inb_S4x128x128_S4x128x128_0_0_0).toLoadRect (harg3.unread x2))
  (View.readAt (Elt F) arg4.view (Rect.unit (s := S4x128x1) ![0, 0, 0] S1x128x1.size inb_S4x128x1_S1x128x1_0_0_0).toLoadRect (harg4.unread x3))
  (View.readAt (Elt F) arg4.view (Rect.unit (s := S4x128x1) ![1, 0, 0] S1x128x1.size inb_S4x128x1_S1x128x1_1_0_0).toLoadRect (harg4.unread x3))
  (View.readAt (Elt F) arg4.view (Rect.unit (s := S4x128x1) ![2, 0, 0] S1x128x1.size inb_S4x128x1_S1x128x1_2_0_0).toLoadRect (harg4.unread x3))
  (View.readAt (Elt F) arg4.view (Rect.unit (s := S4x128x1) ![3, 0, 0] S1x128x1.size inb_S4x128x1_S1x128x1_3_0_0).toLoadRect (harg4.unread x3))
  (View.readAt (Elt F) arg5.view (Rect.unit ![0, 0] S1x256.size inb_S1x256_S1x256_0_0).toLoadRect (harg5.unread x4))
  (View.readAt (Elt F) arg6.view (Rect.unit (s := S512x256) ![128, 0] S128x256.size inb_S512x256_S128x256_128_0).toLoadRect (harg6.unread x5))

/-- The point's chunk 2, as the body loads it. -/
def rawChunk2 : Chunk F := chunkOf
  (View.readAt (Elt F) arg1.view (Rect.unit (s := S512x512) ![256, 0] S128x256.size inb_S512x512_S128x256_256_0).toLoadRect (harg1.unread x0))
  (View.readAt (Elt F) arg1.view (Rect.unit (s := S512x512) ![256, 256] S128x256.size inb_S512x512_S128x256_256_256).toLoadRect (harg1.unread x0))
  (View.readAt (Elt F) arg2.view (Rect.unit ![0, 0] S1x256.size inb_S1x256_S1x256_0_0).toLoadRect (harg2.unread x1))
  (View.readAt (Elt F) arg3.view (Rect.unit ![0, 0, 0] S4x128x128.size inb_S4x128x128_S4x128x128_0_0_0).toLoadRect (harg3.unread x2))
  (View.readAt (Elt F) arg4.view (Rect.unit (s := S4x128x1) ![0, 0, 0] S1x128x1.size inb_S4x128x1_S1x128x1_0_0_0).toLoadRect (harg4.unread x3))
  (View.readAt (Elt F) arg4.view (Rect.unit (s := S4x128x1) ![1, 0, 0] S1x128x1.size inb_S4x128x1_S1x128x1_1_0_0).toLoadRect (harg4.unread x3))
  (View.readAt (Elt F) arg4.view (Rect.unit (s := S4x128x1) ![2, 0, 0] S1x128x1.size inb_S4x128x1_S1x128x1_2_0_0).toLoadRect (harg4.unread x3))
  (View.readAt (Elt F) arg4.view (Rect.unit (s := S4x128x1) ![3, 0, 0] S1x128x1.size inb_S4x128x1_S1x128x1_3_0_0).toLoadRect (harg4.unread x3))
  (View.readAt (Elt F) arg5.view (Rect.unit ![0, 0] S1x256.size inb_S1x256_S1x256_0_0).toLoadRect (harg5.unread x4))
  (View.readAt (Elt F) arg6.view (Rect.unit (s := S512x256) ![256, 0] S128x256.size inb_S512x256_S128x256_256_0).toLoadRect (harg6.unread x5))

/-- The point's chunk 3, as the body loads it. -/
def rawChunk3 : Chunk F := chunkOf
  (View.readAt (Elt F) arg1.view (Rect.unit (s := S512x512) ![384, 0] S128x256.size inb_S512x512_S128x256_384_0).toLoadRect (harg1.unread x0))
  (View.readAt (Elt F) arg1.view (Rect.unit (s := S512x512) ![384, 256] S128x256.size inb_S512x512_S128x256_384_256).toLoadRect (harg1.unread x0))
  (View.readAt (Elt F) arg2.view (Rect.unit ![0, 0] S1x256.size inb_S1x256_S1x256_0_0).toLoadRect (harg2.unread x1))
  (View.readAt (Elt F) arg3.view (Rect.unit ![0, 0, 0] S4x128x128.size inb_S4x128x128_S4x128x128_0_0_0).toLoadRect (harg3.unread x2))
  (View.readAt (Elt F) arg4.view (Rect.unit (s := S4x128x1) ![0, 0, 0] S1x128x1.size inb_S4x128x1_S1x128x1_0_0_0).toLoadRect (harg4.unread x3))
  (View.readAt (Elt F) arg4.view (Rect.unit (s := S4x128x1) ![1, 0, 0] S1x128x1.size inb_S4x128x1_S1x128x1_1_0_0).toLoadRect (harg4.unread x3))
  (View.readAt (Elt F) arg4.view (Rect.unit (s := S4x128x1) ![2, 0, 0] S1x128x1.size inb_S4x128x1_S1x128x1_2_0_0).toLoadRect (harg4.unread x3))
  (View.readAt (Elt F) arg4.view (Rect.unit (s := S4x128x1) ![3, 0, 0] S1x128x1.size inb_S4x128x1_S1x128x1_3_0_0).toLoadRect (harg4.unread x3))
  (View.readAt (Elt F) arg5.view (Rect.unit ![0, 0] S1x256.size inb_S1x256_S1x256_0_0).toLoadRect (harg5.unread x4))
  (View.readAt (Elt F) arg6.view (Rect.unit (s := S512x256) ![384, 0] S128x256.size inb_S512x256_S128x256_384_0).toLoadRect (harg6.unread x5))

end

/-- The pieces that a point of case A leaves for the gradient at the rows. -/
theorem pieces6_A  (c : Dev nD) (i : grid0.Coords) (arg1 : Memref sig .tc .vmem S512x512 .f32) (harg1 : arg1.IsWhole) (arg2 : Memref sig .tc .vmem S1x256 .f32) (harg2 : arg2.IsWhole) (arg3 : Memref sig .tc .vmem S4x128x128 .f32) (harg3 : arg3.IsWhole) (arg4 : Memref sig .tc .vmem S4x128x1 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S512x512 .f32) (harg7 : arg7.IsWhole) (arg8 : Memref sig .tc .vmem S1x256 .f32) (harg8 : arg8.IsWhole) (arg9 : Memref sig .tc .vmem S4x128x128 .f32) (harg9 : arg9.IsWhole) (arg10 : Memref sig .tc .vmem S4x128x1 .f32) (harg10 : arg10.IsWhole) (arg11 : Memref sig .tc .vmem S1x256 .f32) (harg11 : arg11.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (hc13 : ¬cond0_13 i)
    (x0 : Vec F S512x512 .f32) (x1 : Vec F S1x256 .f32) (x2 : Vec F S4x128x128 .f32) (x3 : Vec F S4x128x1 .f32) (x4 : Vec F S1x256 .f32) (x5 : Vec F S512x256 .f32)  :
    (kernelRun0_A (F := F) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5).1 = [⟨Rect.unit (s := S512x512) ![384, 256] S128x256.size inb_S512x512_S128x256_384_256, (rawChunk3 arg1 harg1 arg2 harg2 arg3 harg3 arg4 harg4 arg5 harg5 arg6 harg6 x0 x1 x2 x3 x4 x5).dv⟩, ⟨Rect.unit (s := S512x512) ![384, 0] S128x256.size inb_S512x512_S128x256_384_0, (rawChunk3 arg1 harg1 arg2 harg2 arg3 harg3 arg4 harg4 arg5 harg5 arg6 harg6 x0 x1 x2 x3 x4 x5).du⟩, ⟨Rect.unit (s := S512x512) ![256, 256] S128x256.size inb_S512x512_S128x256_256_256, (rawChunk2 arg1 harg1 arg2 harg2 arg3 harg3 arg4 harg4 arg5 harg5 arg6 harg6 x0 x1 x2 x3 x4 x5).dv⟩, ⟨Rect.unit (s := S512x512) ![256, 0] S128x256.size inb_S512x512_S128x256_256_0, (rawChunk2 arg1 harg1 arg2 harg2 arg3 harg3 arg4 harg4 arg5 harg5 arg6 harg6 x0 x1 x2 x3 x4 x5).du⟩, ⟨Rect.unit (s := S512x512) ![128, 256] S128x256.size inb_S512x512_S128x256_128_256, (rawChunk1 arg1 harg1 arg2 harg2 arg3 harg3 arg4 harg4 arg5 harg5 arg6 harg6 x0 x1 x2 x3 x4 x5).dv⟩, ⟨Rect.unit (s := S512x512) ![128, 0] S128x256.size inb_S512x512_S128x256_128_0, (rawChunk1 arg1 harg1 arg2 harg2 arg3 harg3 arg4 harg4 arg5 harg5 arg6 harg6 x0 x1 x2 x3 x4 x5).du⟩, ⟨Rect.unit (s := S512x512) ![0, 256] S128x256.size inb_S512x512_S128x256_0_256, (rawChunk0 arg1 harg1 arg2 harg2 arg3 harg3 arg4 harg4 arg5 harg5 arg6 harg6 x0 x1 x2 x3 x4 x5).dv⟩, ⟨Rect.unit (s := S512x512) ![0, 0] S128x256.size inb_S512x512_S128x256_0_0, (rawChunk0 arg1 harg1 arg2 harg2 arg3 harg3 arg4 harg4 arg5 harg5 arg6 harg6 x0 x1 x2 x3 x4 x5).du⟩] := by
  sl_kernel_rfl

/-- The pieces that a point of case A leaves for the gradient at the gains of the second half. -/
theorem pieces7_A  (c : Dev nD) (i : grid0.Coords) (arg1 : Memref sig .tc .vmem S512x512 .f32) (harg1 : arg1.IsWhole) (arg2 : Memref sig .tc .vmem S1x256 .f32) (harg2 : arg2.IsWhole) (arg3 : Memref sig .tc .vmem S4x128x128 .f32) (harg3 : arg3.IsWhole) (arg4 : Memref sig .tc .vmem S4x128x1 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S512x512 .f32) (harg7 : arg7.IsWhole) (arg8 : Memref sig .tc .vmem S1x256 .f32) (harg8 : arg8.IsWhole) (arg9 : Memref sig .tc .vmem S4x128x128 .f32) (harg9 : arg9.IsWhole) (arg10 : Memref sig .tc .vmem S4x128x1 .f32) (harg10 : arg10.IsWhole) (arg11 : Memref sig .tc .vmem S1x256 .f32) (harg11 : arg11.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (hc13 : ¬cond0_13 i)
    (x0 : Vec F S512x512 .f32) (x1 : Vec F S1x256 .f32) (x2 : Vec F S4x128x128 .f32) (x3 : Vec F S4x128x1 .f32) (x4 : Vec F S1x256 .f32) (x5 : Vec F S512x256 .f32)  :
    (kernelRun0_A (F := F) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5).2.1 = [⟨Rect.unit ![0, 0] S1x256.size inb_S1x256_S1x256_0_0, (addf (addf (addf ((rawChunk0 arg1 harg1 arg2 harg2 arg3 harg3 arg4 harg4 arg5 harg5 arg6 harg6 x0 x1 x2 x3 x4 x5).dvg) ((rawChunk1 arg1 harg1 arg2 harg2 arg3 harg3 arg4 harg4 arg5 harg5 arg6 harg6 x0 x1 x2 x3 x4 x5).dvg)) ((rawChunk2 arg1 harg1 arg2 harg2 arg3 harg3 arg4 harg4 arg5 harg5 arg6 harg6 x0 x1 x2 x3 x4 x5).dvg)) ((rawChunk3 arg1 harg1 arg2 harg2 arg3 harg3 arg4 harg4 arg5 harg5 arg6 harg6 x0 x1 x2 x3 x4 x5).dvg))⟩] := by
  sl_kernel_rfl

/-- The pieces that a point of case A leaves for the gradient at the matrices. -/
theorem pieces8_A  (c : Dev nD) (i : grid0.Coords) (arg1 : Memref sig .tc .vmem S512x512 .f32) (harg1 : arg1.IsWhole) (arg2 : Memref sig .tc .vmem S1x256 .f32) (harg2 : arg2.IsWhole) (arg3 : Memref sig .tc .vmem S4x128x128 .f32) (harg3 : arg3.IsWhole) (arg4 : Memref sig .tc .vmem S4x128x1 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S512x512 .f32) (harg7 : arg7.IsWhole) (arg8 : Memref sig .tc .vmem S1x256 .f32) (harg8 : arg8.IsWhole) (arg9 : Memref sig .tc .vmem S4x128x128 .f32) (harg9 : arg9.IsWhole) (arg10 : Memref sig .tc .vmem S4x128x1 .f32) (harg10 : arg10.IsWhole) (arg11 : Memref sig .tc .vmem S1x256 .f32) (harg11 : arg11.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (hc13 : ¬cond0_13 i)
    (x0 : Vec F S512x512 .f32) (x1 : Vec F S1x256 .f32) (x2 : Vec F S4x128x128 .f32) (x3 : Vec F S4x128x1 .f32) (x4 : Vec F S1x256 .f32) (x5 : Vec F S512x256 .f32)  :
    (kernelRun0_A (F := F) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5).2.2.1 = [⟨Rect.unit ![0, 0, 0] S4x128x128.size inb_S4x128x128_S4x128x128_0_0_0, (addf (addf (addf ((rawChunk0 arg1 harg1 arg2 harg2 arg3 harg3 arg4 harg4 arg5 harg5 arg6 harg6 x0 x1 x2 x3 x4 x5).dws) ((rawChunk1 arg1 harg1 arg2 harg2 arg3 harg3 arg4 harg4 arg5 harg5 arg6 harg6 x0 x1 x2 x3 x4 x5).dws)) ((rawChunk2 arg1 harg1 arg2 harg2 arg3 harg3 arg4 harg4 arg5 harg5 arg6 harg6 x0 x1 x2 x3 x4 x5).dws)) ((rawChunk3 arg1 harg1 arg2 harg2 arg3 harg3 arg4 harg4 arg5 harg5 arg6 harg6 x0 x1 x2 x3 x4 x5).dws))⟩] := by
  sl_kernel_rfl

/-- The pieces that a point of case A leaves for the gradient at the biases. -/
theorem pieces9_A  (c : Dev nD) (i : grid0.Coords) (arg1 : Memref sig .tc .vmem S512x512 .f32) (harg1 : arg1.IsWhole) (arg2 : Memref sig .tc .vmem S1x256 .f32) (harg2 : arg2.IsWhole) (arg3 : Memref sig .tc .vmem S4x128x128 .f32) (harg3 : arg3.IsWhole) (arg4 : Memref sig .tc .vmem S4x128x1 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S512x512 .f32) (harg7 : arg7.IsWhole) (arg8 : Memref sig .tc .vmem S1x256 .f32) (harg8 : arg8.IsWhole) (arg9 : Memref sig .tc .vmem S4x128x128 .f32) (harg9 : arg9.IsWhole) (arg10 : Memref sig .tc .vmem S4x128x1 .f32) (harg10 : arg10.IsWhole) (arg11 : Memref sig .tc .vmem S1x256 .f32) (harg11 : arg11.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (hc13 : ¬cond0_13 i)
    (x0 : Vec F S512x512 .f32) (x1 : Vec F S1x256 .f32) (x2 : Vec F S4x128x128 .f32) (x3 : Vec F S4x128x1 .f32) (x4 : Vec F S1x256 .f32) (x5 : Vec F S512x256 .f32)  :
    (kernelRun0_A (F := F) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5).2.2.2.1 = [⟨Rect.unit (s := S4x128x1) ![3, 0, 0] S1x128x1.size inb_S4x128x1_S1x128x1_3_0_0, shapeCast S1x128x1 (addf (addf (addf ((rawChunk0 arg1 harg1 arg2 harg2 arg3 harg3 arg4 harg4 arg5 harg5 arg6 harg6 x0 x1 x2 x3 x4 x5).dbs 3#32) ((rawChunk1 arg1 harg1 arg2 harg2 arg3 harg3 arg4 harg4 arg5 harg5 arg6 harg6 x0 x1 x2 x3 x4 x5).dbs 3#32)) ((rawChunk2 arg1 harg1 arg2 harg2 arg3 harg3 arg4 harg4 arg5 harg5 arg6 harg6 x0 x1 x2 x3 x4 x5).dbs 3#32)) ((rawChunk3 arg1 harg1 arg2 harg2 arg3 harg3 arg4 harg4 arg5 harg5 arg6 harg6 x0 x1 x2 x3 x4 x5).dbs 3#32)) shapeCasts_S128x1_S1x128x1⟩, ⟨Rect.unit (s := S4x128x1) ![2, 0, 0] S1x128x1.size inb_S4x128x1_S1x128x1_2_0_0, shapeCast S1x128x1 (addf (addf (addf ((rawChunk0 arg1 harg1 arg2 harg2 arg3 harg3 arg4 harg4 arg5 harg5 arg6 harg6 x0 x1 x2 x3 x4 x5).dbs 2#32) ((rawChunk1 arg1 harg1 arg2 harg2 arg3 harg3 arg4 harg4 arg5 harg5 arg6 harg6 x0 x1 x2 x3 x4 x5).dbs 2#32)) ((rawChunk2 arg1 harg1 arg2 harg2 arg3 harg3 arg4 harg4 arg5 harg5 arg6 harg6 x0 x1 x2 x3 x4 x5).dbs 2#32)) ((rawChunk3 arg1 harg1 arg2 harg2 arg3 harg3 arg4 harg4 arg5 harg5 arg6 harg6 x0 x1 x2 x3 x4 x5).dbs 2#32)) shapeCasts_S128x1_S1x128x1⟩, ⟨Rect.unit (s := S4x128x1) ![1, 0, 0] S1x128x1.size inb_S4x128x1_S1x128x1_1_0_0, shapeCast S1x128x1 (addf (addf (addf ((rawChunk0 arg1 harg1 arg2 harg2 arg3 harg3 arg4 harg4 arg5 harg5 arg6 harg6 x0 x1 x2 x3 x4 x5).dbs 1#32) ((rawChunk1 arg1 harg1 arg2 harg2 arg3 harg3 arg4 harg4 arg5 harg5 arg6 harg6 x0 x1 x2 x3 x4 x5).dbs 1#32)) ((rawChunk2 arg1 harg1 arg2 harg2 arg3 harg3 arg4 harg4 arg5 harg5 arg6 harg6 x0 x1 x2 x3 x4 x5).dbs 1#32)) ((rawChunk3 arg1 harg1 arg2 harg2 arg3 harg3 arg4 harg4 arg5 harg5 arg6 harg6 x0 x1 x2 x3 x4 x5).dbs 1#32)) shapeCasts_S128x1_S1x128x1⟩, ⟨Rect.unit (s := S4x128x1) ![0, 0, 0] S1x128x1.size inb_S4x128x1_S1x128x1_0_0_0, shapeCast S1x128x1 (addf (addf (addf ((rawChunk0 arg1 harg1 arg2 harg2 arg3 harg3 arg4 harg4 arg5 harg5 arg6 harg6 x0 x1 x2 x3 x4 x5).dbs 0#32) ((rawChunk1 arg1 harg1 arg2 harg2 arg3 harg3 arg4 harg4 arg5 harg5 arg6 harg6 x0 x1 x2 x3 x4 x5).dbs 0#32)) ((rawChunk2 arg1 harg1 arg2 harg2 arg3 harg3 arg4 harg4 arg5 harg5 arg6 harg6 x0 x1 x2 x3 x4 x5).dbs 0#32)) ((rawChunk3 arg1 harg1 arg2 harg2 arg3 harg3 arg4 harg4 arg5 harg5 arg6 harg6 x0 x1 x2 x3 x4 x5).dbs 0#32)) shapeCasts_S128x1_S1x128x1⟩] := by
  sl_kernel_rfl

/-- The pieces that a point of case A leaves for the gradient at the gains of the output. -/
theorem pieces10_A  (c : Dev nD) (i : grid0.Coords) (arg1 : Memref sig .tc .vmem S512x512 .f32) (harg1 : arg1.IsWhole) (arg2 : Memref sig .tc .vmem S1x256 .f32) (harg2 : arg2.IsWhole) (arg3 : Memref sig .tc .vmem S4x128x128 .f32) (harg3 : arg3.IsWhole) (arg4 : Memref sig .tc .vmem S4x128x1 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S512x512 .f32) (harg7 : arg7.IsWhole) (arg8 : Memref sig .tc .vmem S1x256 .f32) (harg8 : arg8.IsWhole) (arg9 : Memref sig .tc .vmem S4x128x128 .f32) (harg9 : arg9.IsWhole) (arg10 : Memref sig .tc .vmem S4x128x1 .f32) (harg10 : arg10.IsWhole) (arg11 : Memref sig .tc .vmem S1x256 .f32) (harg11 : arg11.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (hc13 : ¬cond0_13 i)
    (x0 : Vec F S512x512 .f32) (x1 : Vec F S1x256 .f32) (x2 : Vec F S4x128x128 .f32) (x3 : Vec F S4x128x1 .f32) (x4 : Vec F S1x256 .f32) (x5 : Vec F S512x256 .f32)  :
    (kernelRun0_A (F := F) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5).2.2.2.2.1 = [⟨Rect.unit ![0, 0] S1x256.size inb_S1x256_S1x256_0_0, (addf (addf (addf ((rawChunk0 arg1 harg1 arg2 harg2 arg3 harg3 arg4 harg4 arg5 harg5 arg6 harg6 x0 x1 x2 x3 x4 x5).dog) ((rawChunk1 arg1 harg1 arg2 harg2 arg3 harg3 arg4 harg4 arg5 harg5 arg6 harg6 x0 x1 x2 x3 x4 x5).dog)) ((rawChunk2 arg1 harg1 arg2 harg2 arg3 harg3 arg4 harg4 arg5 harg5 arg6 harg6 x0 x1 x2 x3 x4 x5).dog)) ((rawChunk3 arg1 harg1 arg2 harg2 arg3 harg3 arg4 harg4 arg5 harg5 arg6 harg6 x0 x1 x2 x3 x4 x5).dog))⟩] := by
  sl_kernel_rfl

/-- The pieces that a point of case B leaves for the gradient at the rows. -/
theorem pieces6_B  (c : Dev nD) (i : grid0.Coords) (arg1 : Memref sig .tc .vmem S512x512 .f32) (harg1 : arg1.IsWhole) (arg2 : Memref sig .tc .vmem S1x256 .f32) (harg2 : arg2.IsWhole) (arg3 : Memref sig .tc .vmem S4x128x128 .f32) (harg3 : arg3.IsWhole) (arg4 : Memref sig .tc .vmem S4x128x1 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S512x512 .f32) (harg7 : arg7.IsWhole) (arg8 : Memref sig .tc .vmem S1x256 .f32) (harg8 : arg8.IsWhole) (arg9 : Memref sig .tc .vmem S4x128x128 .f32) (harg9 : arg9.IsWhole) (arg10 : Memref sig .tc .vmem S4x128x1 .f32) (harg10 : arg10.IsWhole) (arg11 : Memref sig .tc .vmem S1x256 .f32) (harg11 : arg11.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i) (hc13 : cond0_13 i)
    (x0 : Vec F S512x512 .f32) (x1 : Vec F S1x256 .f32) (x2 : Vec F S4x128x128 .f32) (x3 : Vec F S4x128x1 .f32) (x4 : Vec F S1x256 .f32) (x5 : Vec F S512x256 .f32) (xo7 : Vec F S1x256 .f32) (xo8 : Vec F S4x128x128 .f32) (xo9 : Vec F S4x128x1 .f32) (xo10 : Vec F S1x256 .f32)  :
    (kernelRun0_B (F := F) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5 xo7 xo8 xo9 xo10).1 = [⟨Rect.unit (s := S512x512) ![384, 256] S128x256.size inb_S512x512_S128x256_384_256, (rawChunk3 arg1 harg1 arg2 harg2 arg3 harg3 arg4 harg4 arg5 harg5 arg6 harg6 x0 x1 x2 x3 x4 x5).dv⟩, ⟨Rect.unit (s := S512x512) ![384, 0] S128x256.size inb_S512x512_S128x256_384_0, (rawChunk3 arg1 harg1 arg2 harg2 arg3 harg3 arg4 harg4 arg5 harg5 arg6 harg6 x0 x1 x2 x3 x4 x5).du⟩, ⟨Rect.unit (s := S512x512) ![256, 256] S128x256.size inb_S512x512_S128x256_256_256, (rawChunk2 arg1 harg1 arg2 harg2 arg3 harg3 arg4 harg4 arg5 harg5 arg6 harg6 x0 x1 x2 x3 x4 x5).dv⟩, ⟨Rect.unit (s := S512x512) ![256, 0] S128x256.size inb_S512x512_S128x256_256_0, (rawChunk2 arg1 harg1 arg2 harg2 arg3 harg3 arg4 harg4 arg5 harg5 arg6 harg6 x0 x1 x2 x3 x4 x5).du⟩, ⟨Rect.unit (s := S512x512) ![128, 256] S128x256.size inb_S512x512_S128x256_128_256, (rawChunk1 arg1 harg1 arg2 harg2 arg3 harg3 arg4 harg4 arg5 harg5 arg6 harg6 x0 x1 x2 x3 x4 x5).dv⟩, ⟨Rect.unit (s := S512x512) ![128, 0] S128x256.size inb_S512x512_S128x256_128_0, (rawChunk1 arg1 harg1 arg2 harg2 arg3 harg3 arg4 harg4 arg5 harg5 arg6 harg6 x0 x1 x2 x3 x4 x5).du⟩, ⟨Rect.unit (s := S512x512) ![0, 256] S128x256.size inb_S512x512_S128x256_0_256, (rawChunk0 arg1 harg1 arg2 harg2 arg3 harg3 arg4 harg4 arg5 harg5 arg6 harg6 x0 x1 x2 x3 x4 x5).dv⟩, ⟨Rect.unit (s := S512x512) ![0, 0] S128x256.size inb_S512x512_S128x256_0_0, (rawChunk0 arg1 harg1 arg2 harg2 arg3 harg3 arg4 harg4 arg5 harg5 arg6 harg6 x0 x1 x2 x3 x4 x5).du⟩] := by
  sl_kernel_rfl

/-- The pieces that a point of case B leaves for the gradient at the gains of the second half. -/
theorem pieces7_B  (c : Dev nD) (i : grid0.Coords) (arg1 : Memref sig .tc .vmem S512x512 .f32) (harg1 : arg1.IsWhole) (arg2 : Memref sig .tc .vmem S1x256 .f32) (harg2 : arg2.IsWhole) (arg3 : Memref sig .tc .vmem S4x128x128 .f32) (harg3 : arg3.IsWhole) (arg4 : Memref sig .tc .vmem S4x128x1 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S512x512 .f32) (harg7 : arg7.IsWhole) (arg8 : Memref sig .tc .vmem S1x256 .f32) (harg8 : arg8.IsWhole) (arg9 : Memref sig .tc .vmem S4x128x128 .f32) (harg9 : arg9.IsWhole) (arg10 : Memref sig .tc .vmem S4x128x1 .f32) (harg10 : arg10.IsWhole) (arg11 : Memref sig .tc .vmem S1x256 .f32) (harg11 : arg11.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i) (hc13 : cond0_13 i)
    (x0 : Vec F S512x512 .f32) (x1 : Vec F S1x256 .f32) (x2 : Vec F S4x128x128 .f32) (x3 : Vec F S4x128x1 .f32) (x4 : Vec F S1x256 .f32) (x5 : Vec F S512x256 .f32) (xo7 : Vec F S1x256 .f32) (xo8 : Vec F S4x128x128 .f32) (xo9 : Vec F S4x128x1 .f32) (xo10 : Vec F S1x256 .f32)  :
    (kernelRun0_B (F := F) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5 xo7 xo8 xo9 xo10).2.1 = [⟨Rect.unit ![0, 0] S1x256.size inb_S1x256_S1x256_0_0, (addf (shapeCast S1x256 (View.readAt (Elt F) arg8.view (Rect.unit (s := S1x256) ![0, 0] S1x256.size inb_S1x256_S1x256_0_0).toLoadRect (harg8.unread xo7)) shapeCasts_S1x256_S1x256) (addf (addf (addf ((rawChunk0 arg1 harg1 arg2 harg2 arg3 harg3 arg4 harg4 arg5 harg5 arg6 harg6 x0 x1 x2 x3 x4 x5).dvg) ((rawChunk1 arg1 harg1 arg2 harg2 arg3 harg3 arg4 harg4 arg5 harg5 arg6 harg6 x0 x1 x2 x3 x4 x5).dvg)) ((rawChunk2 arg1 harg1 arg2 harg2 arg3 harg3 arg4 harg4 arg5 harg5 arg6 harg6 x0 x1 x2 x3 x4 x5).dvg)) ((rawChunk3 arg1 harg1 arg2 harg2 arg3 harg3 arg4 harg4 arg5 harg5 arg6 harg6 x0 x1 x2 x3 x4 x5).dvg)))⟩] := by
  sl_kernel_rfl

/-- The pieces that a point of case B leaves for the gradient at the matrices. -/
theorem pieces8_B  (c : Dev nD) (i : grid0.Coords) (arg1 : Memref sig .tc .vmem S512x512 .f32) (harg1 : arg1.IsWhole) (arg2 : Memref sig .tc .vmem S1x256 .f32) (harg2 : arg2.IsWhole) (arg3 : Memref sig .tc .vmem S4x128x128 .f32) (harg3 : arg3.IsWhole) (arg4 : Memref sig .tc .vmem S4x128x1 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S512x512 .f32) (harg7 : arg7.IsWhole) (arg8 : Memref sig .tc .vmem S1x256 .f32) (harg8 : arg8.IsWhole) (arg9 : Memref sig .tc .vmem S4x128x128 .f32) (harg9 : arg9.IsWhole) (arg10 : Memref sig .tc .vmem S4x128x1 .f32) (harg10 : arg10.IsWhole) (arg11 : Memref sig .tc .vmem S1x256 .f32) (harg11 : arg11.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i) (hc13 : cond0_13 i)
    (x0 : Vec F S512x512 .f32) (x1 : Vec F S1x256 .f32) (x2 : Vec F S4x128x128 .f32) (x3 : Vec F S4x128x1 .f32) (x4 : Vec F S1x256 .f32) (x5 : Vec F S512x256 .f32) (xo7 : Vec F S1x256 .f32) (xo8 : Vec F S4x128x128 .f32) (xo9 : Vec F S4x128x1 .f32) (xo10 : Vec F S1x256 .f32)  :
    (kernelRun0_B (F := F) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5 xo7 xo8 xo9 xo10).2.2.1 = [⟨Rect.unit ![0, 0, 0] S4x128x128.size inb_S4x128x128_S4x128x128_0_0_0, (addf (shapeCast S4x128x128 (View.readAt (Elt F) arg9.view (Rect.unit (s := S4x128x128) ![0, 0, 0] S4x128x128.size inb_S4x128x128_S4x128x128_0_0_0).toLoadRect (harg9.unread xo8)) shapeCasts_S4x128x128_S4x128x128) (addf (addf (addf ((rawChunk0 arg1 harg1 arg2 harg2 arg3 harg3 arg4 harg4 arg5 harg5 arg6 harg6 x0 x1 x2 x3 x4 x5).dws) ((rawChunk1 arg1 harg1 arg2 harg2 arg3 harg3 arg4 harg4 arg5 harg5 arg6 harg6 x0 x1 x2 x3 x4 x5).dws)) ((rawChunk2 arg1 harg1 arg2 harg2 arg3 harg3 arg4 harg4 arg5 harg5 arg6 harg6 x0 x1 x2 x3 x4 x5).dws)) ((rawChunk3 arg1 harg1 arg2 harg2 arg3 harg3 arg4 harg4 arg5 harg5 arg6 harg6 x0 x1 x2 x3 x4 x5).dws)))⟩] := by
  sl_kernel_rfl

/-- The pieces that a point of case B leaves for the gradient at the biases. -/
theorem pieces9_B  (c : Dev nD) (i : grid0.Coords) (arg1 : Memref sig .tc .vmem S512x512 .f32) (harg1 : arg1.IsWhole) (arg2 : Memref sig .tc .vmem S1x256 .f32) (harg2 : arg2.IsWhole) (arg3 : Memref sig .tc .vmem S4x128x128 .f32) (harg3 : arg3.IsWhole) (arg4 : Memref sig .tc .vmem S4x128x1 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S512x512 .f32) (harg7 : arg7.IsWhole) (arg8 : Memref sig .tc .vmem S1x256 .f32) (harg8 : arg8.IsWhole) (arg9 : Memref sig .tc .vmem S4x128x128 .f32) (harg9 : arg9.IsWhole) (arg10 : Memref sig .tc .vmem S4x128x1 .f32) (harg10 : arg10.IsWhole) (arg11 : Memref sig .tc .vmem S1x256 .f32) (harg11 : arg11.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i) (hc13 : cond0_13 i)
    (x0 : Vec F S512x512 .f32) (x1 : Vec F S1x256 .f32) (x2 : Vec F S4x128x128 .f32) (x3 : Vec F S4x128x1 .f32) (x4 : Vec F S1x256 .f32) (x5 : Vec F S512x256 .f32) (xo7 : Vec F S1x256 .f32) (xo8 : Vec F S4x128x128 .f32) (xo9 : Vec F S4x128x1 .f32) (xo10 : Vec F S1x256 .f32)  :
    (kernelRun0_B (F := F) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5 xo7 xo8 xo9 xo10).2.2.2.1 = [⟨Rect.unit (s := S4x128x1) ![3, 0, 0] S1x128x1.size inb_S4x128x1_S1x128x1_3_0_0, shapeCast S1x128x1 (addf (shapeCast S128x1 (View.readAt (Elt F) arg10.view (Rect.unit (s := S4x128x1) ![3, 0, 0] S1x128x1.size inb_S4x128x1_S1x128x1_3_0_0).toLoadRect (harg10.unread xo9)) shapeCasts_S1x128x1_S128x1) (addf (addf (addf ((rawChunk0 arg1 harg1 arg2 harg2 arg3 harg3 arg4 harg4 arg5 harg5 arg6 harg6 x0 x1 x2 x3 x4 x5).dbs 3#32) ((rawChunk1 arg1 harg1 arg2 harg2 arg3 harg3 arg4 harg4 arg5 harg5 arg6 harg6 x0 x1 x2 x3 x4 x5).dbs 3#32)) ((rawChunk2 arg1 harg1 arg2 harg2 arg3 harg3 arg4 harg4 arg5 harg5 arg6 harg6 x0 x1 x2 x3 x4 x5).dbs 3#32)) ((rawChunk3 arg1 harg1 arg2 harg2 arg3 harg3 arg4 harg4 arg5 harg5 arg6 harg6 x0 x1 x2 x3 x4 x5).dbs 3#32))) shapeCasts_S128x1_S1x128x1⟩, ⟨Rect.unit (s := S4x128x1) ![2, 0, 0] S1x128x1.size inb_S4x128x1_S1x128x1_2_0_0, shapeCast S1x128x1 (addf (shapeCast S128x1 (View.readAt (Elt F) arg10.view (Rect.unit (s := S4x128x1) ![2, 0, 0] S1x128x1.size inb_S4x128x1_S1x128x1_2_0_0).toLoadRect (harg10.unread xo9)) shapeCasts_S1x128x1_S128x1) (addf (addf (addf ((rawChunk0 arg1 harg1 arg2 harg2 arg3 harg3 arg4 harg4 arg5 harg5 arg6 harg6 x0 x1 x2 x3 x4 x5).dbs 2#32) ((rawChunk1 arg1 harg1 arg2 harg2 arg3 harg3 arg4 harg4 arg5 harg5 arg6 harg6 x0 x1 x2 x3 x4 x5).dbs 2#32)) ((rawChunk2 arg1 harg1 arg2 harg2 arg3 harg3 arg4 harg4 arg5 harg5 arg6 harg6 x0 x1 x2 x3 x4 x5).dbs 2#32)) ((rawChunk3 arg1 harg1 arg2 harg2 arg3 harg3 arg4 harg4 arg5 harg5 arg6 harg6 x0 x1 x2 x3 x4 x5).dbs 2#32))) shapeCasts_S128x1_S1x128x1⟩, ⟨Rect.unit (s := S4x128x1) ![1, 0, 0] S1x128x1.size inb_S4x128x1_S1x128x1_1_0_0, shapeCast S1x128x1 (addf (shapeCast S128x1 (View.readAt (Elt F) arg10.view (Rect.unit (s := S4x128x1) ![1, 0, 0] S1x128x1.size inb_S4x128x1_S1x128x1_1_0_0).toLoadRect (harg10.unread xo9)) shapeCasts_S1x128x1_S128x1) (addf (addf (addf ((rawChunk0 arg1 harg1 arg2 harg2 arg3 harg3 arg4 harg4 arg5 harg5 arg6 harg6 x0 x1 x2 x3 x4 x5).dbs 1#32) ((rawChunk1 arg1 harg1 arg2 harg2 arg3 harg3 arg4 harg4 arg5 harg5 arg6 harg6 x0 x1 x2 x3 x4 x5).dbs 1#32)) ((rawChunk2 arg1 harg1 arg2 harg2 arg3 harg3 arg4 harg4 arg5 harg5 arg6 harg6 x0 x1 x2 x3 x4 x5).dbs 1#32)) ((rawChunk3 arg1 harg1 arg2 harg2 arg3 harg3 arg4 harg4 arg5 harg5 arg6 harg6 x0 x1 x2 x3 x4 x5).dbs 1#32))) shapeCasts_S128x1_S1x128x1⟩, ⟨Rect.unit (s := S4x128x1) ![0, 0, 0] S1x128x1.size inb_S4x128x1_S1x128x1_0_0_0, shapeCast S1x128x1 (addf (shapeCast S128x1 (View.readAt (Elt F) arg10.view (Rect.unit (s := S4x128x1) ![0, 0, 0] S1x128x1.size inb_S4x128x1_S1x128x1_0_0_0).toLoadRect (harg10.unread xo9)) shapeCasts_S1x128x1_S128x1) (addf (addf (addf ((rawChunk0 arg1 harg1 arg2 harg2 arg3 harg3 arg4 harg4 arg5 harg5 arg6 harg6 x0 x1 x2 x3 x4 x5).dbs 0#32) ((rawChunk1 arg1 harg1 arg2 harg2 arg3 harg3 arg4 harg4 arg5 harg5 arg6 harg6 x0 x1 x2 x3 x4 x5).dbs 0#32)) ((rawChunk2 arg1 harg1 arg2 harg2 arg3 harg3 arg4 harg4 arg5 harg5 arg6 harg6 x0 x1 x2 x3 x4 x5).dbs 0#32)) ((rawChunk3 arg1 harg1 arg2 harg2 arg3 harg3 arg4 harg4 arg5 harg5 arg6 harg6 x0 x1 x2 x3 x4 x5).dbs 0#32))) shapeCasts_S128x1_S1x128x1⟩] := by
  sl_kernel_rfl

/-- The pieces that a point of case B leaves for the gradient at the gains of the output. -/
theorem pieces10_B  (c : Dev nD) (i : grid0.Coords) (arg1 : Memref sig .tc .vmem S512x512 .f32) (harg1 : arg1.IsWhole) (arg2 : Memref sig .tc .vmem S1x256 .f32) (harg2 : arg2.IsWhole) (arg3 : Memref sig .tc .vmem S4x128x128 .f32) (harg3 : arg3.IsWhole) (arg4 : Memref sig .tc .vmem S4x128x1 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S512x512 .f32) (harg7 : arg7.IsWhole) (arg8 : Memref sig .tc .vmem S1x256 .f32) (harg8 : arg8.IsWhole) (arg9 : Memref sig .tc .vmem S4x128x128 .f32) (harg9 : arg9.IsWhole) (arg10 : Memref sig .tc .vmem S4x128x1 .f32) (harg10 : arg10.IsWhole) (arg11 : Memref sig .tc .vmem S1x256 .f32) (harg11 : arg11.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i) (hc13 : cond0_13 i)
    (x0 : Vec F S512x512 .f32) (x1 : Vec F S1x256 .f32) (x2 : Vec F S4x128x128 .f32) (x3 : Vec F S4x128x1 .f32) (x4 : Vec F S1x256 .f32) (x5 : Vec F S512x256 .f32) (xo7 : Vec F S1x256 .f32) (xo8 : Vec F S4x128x128 .f32) (xo9 : Vec F S4x128x1 .f32) (xo10 : Vec F S1x256 .f32)  :
    (kernelRun0_B (F := F) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5 xo7 xo8 xo9 xo10).2.2.2.2.1 = [⟨Rect.unit ![0, 0] S1x256.size inb_S1x256_S1x256_0_0, (addf (shapeCast S1x256 (View.readAt (Elt F) arg11.view (Rect.unit (s := S1x256) ![0, 0] S1x256.size inb_S1x256_S1x256_0_0).toLoadRect (harg11.unread xo10)) shapeCasts_S1x256_S1x256) (addf (addf (addf ((rawChunk0 arg1 harg1 arg2 harg2 arg3 harg3 arg4 harg4 arg5 harg5 arg6 harg6 x0 x1 x2 x3 x4 x5).dog) ((rawChunk1 arg1 harg1 arg2 harg2 arg3 harg3 arg4 harg4 arg5 harg5 arg6 harg6 x0 x1 x2 x3 x4 x5).dog)) ((rawChunk2 arg1 harg1 arg2 harg2 arg3 harg3 arg4 harg4 arg5 harg5 arg6 harg6 x0 x1 x2 x3 x4 x5).dog)) ((rawChunk3 arg1 harg1 arg2 harg2 arg3 harg3 arg4 harg4 arg5 harg5 arg6 harg6 x0 x1 x2 x3 x4 x5).dog)))⟩] := by
  sl_kernel_rfl

end Cert.Gate

end

end
-- ==== Proof.Reals.lean ====
/- Tiles of reals: what each of a chunk's operations computes where every element is a real number. `Chunk.lean`'s stages
   become formulas over the reals here, with a head's 64 lanes summed over in place of the masks. -/
module

public import proofs.«01_k».proof.Proof.Chunk
public import Idealize.ShloMosaic.Lib.Pipeline.ValueKit
public import Idealize.ShloMosaic.Lib.IdealHost
public import Idealize.ShloMosaic.Lib.ValueIdx

@[expose] public section

set_option maxRecDepth 16384

noncomputable section

open scoped BigOperators

namespace Cert.Gate

open Idealize.ShloMosaic Idealize.ShloMosaic.ValueIdx Cert.KernelIdeal Cert.KernelIdeal.Gen

/-! ## Sums and words -/

/-- A sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The tangent's factor, √(2/π) as a float word. -/
def kA : ℝ := 13386282 / 2 ^ 24
/-- The cube's factor, 0.044715 as a float word. -/
def kB : ℝ := 12003091 / 2 ^ 28
/-- The norm's small constant, 1e-6 as a float word. -/
def kE : ℝ := 8796093 / 2 ^ 43

theorem kE_pos : 0 < kE := by unfold kE; positivity

theorem word_kA : Ideal.ofBits .f32 0x3F4C422A#32 = ((kA : ℝ) : EReal) := by
  simp [Ideal.ofBits, Ideal.ieee, kA, -EReal.coe_mul]; norm_num
theorem word_kB : Ideal.ofBits .f32 0x3D372713#32 = ((kB : ℝ) : EReal) := by
  simp [Ideal.ofBits, Ideal.ieee, kB, -EReal.coe_mul]; norm_num
theorem word_kE : Ideal.ofBits .f32 0x358637BD#32 = ((kE : ℝ) : EReal) := by
  simp [Ideal.ofBits, Ideal.ieee, kE, -EReal.coe_mul]; norm_num
theorem word_half : Ideal.ofBits .f32 0x3F000000#32 = ((1 / 2 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num
theorem word_64th : Ideal.ofBits .f32 0x3C800000#32 = ((1 / 64 : ℝ) : EReal) := by
  simp [Ideal.ofBits, Ideal.ieee, -EReal.coe_mul]; norm_num
theorem word_one : Ideal.ofBits .f32 0x3F800000#32 = ((1 : ℝ) : EReal) := by
  rw [Ideal.ofBits_one_f32]; norm_cast
theorem word_zero : Ideal.ofBits .f32 0x00000000#32 = ((0 : ℝ) : EReal) := by
  rw [Ideal.ofBits_zero_f32]; norm_cast

/-! ## Tiles of reals -/

/-- A real for each row and lane. -/
abbrev T := Fin 128 → Fin 256 → ℝ

/-- A tile of reals. -/
def tile (f : T) : Tile Ideal := fun i => ((f (i 0) (i 1) : ℝ) : EReal)
/-- A lane vector of reals. -/
def lane (f : Fin 256 → ℝ) : Lane Ideal := fun i => ((f (i 1) : ℝ) : EReal)
/-- A column of reals. -/
def col (f : Fin 128 → ℝ) : Col Ideal := fun i => ((f (i 0) : ℝ) : EReal)
/-- Four matrices of reals. -/
def mats (f : Fin 4 → Fin 128 → Fin 128 → ℝ) : FVec Ideal S4x128x128 .f32 := fun i => ((f (i 0) (i 1) (i 2) : ℝ) : EReal)
/-- Four tiles of reals. -/
def tiles (f : Fin 4 → T) : FVec Ideal S4x128x256 .f32 := fun i => ((f (i 0) (i 1) (i 2) : ℝ) : EReal)

theorem mulf_tile (f g : T) : mulf (tile f) (tile g) = tile fun r l => f r l * g r l :=
  funext fun _ => (EReal.coe_mul _ _).symm
theorem addf_tile (f g : T) : addf (tile f) (tile g) = tile fun r l => f r l + g r l :=
  funext fun _ => (EReal.coe_add _ _).symm
theorem subf_tile (f g : T) : subf (tile f) (tile g) = tile fun r l => f r l - g r l :=
  funext fun _ => (EReal.coe_sub _ _).symm
theorem tanh_tile (f : T) : tanh (tile f) = tile fun r l => Real.tanh (f r l) :=
  funext fun i => Ideal.tanh_coe _
theorem mulf_col (f g : Fin 128 → ℝ) : mulf (col f) (col g) = col fun r => f r * g r :=
  funext fun _ => (EReal.coe_mul _ _).symm
theorem mulf_tiles (f g : Fin 4 → T) : mulf (tiles f) (tiles g) = tiles fun h r l => f h r l * g h r l :=
  funext fun _ => (EReal.coe_mul _ _).symm
theorem rsqrt_tile (f : T) (hf : ∀ r l, 0 < f r l) : rsqrt (tile f) = tile fun r l => (√(f r l))⁻¹ :=
  funext fun i => by
    have h := hf (i 0) (i 1)
    exact (Ideal.rsqrt_coe (r := f (i 0) (i 1))).trans (by rw [if_neg (not_lt.2 h.le), if_neg h.ne']; rfl)
theorem divf_tile (f g : T) (hg : ∀ r l, g r l ≠ 0) : divf (tile f) (tile g) = tile fun r l => f r l / g r l :=
  funext fun i => (Ideal.div_coe (hg (i 0) (i 1)) ((f (i 0) (i 1) : ℝ) : EReal)).trans (by
    rw [← EReal.coe_mul, mul_one_div]; rfl)

theorem fill_tile (w : BitVec 32) (x : ℝ) (h : Ideal.ofBits .f32 w = (x : EReal)) : fill (F := Ideal) w = tile fun _ _ => x :=
  funext fun _ => h
theorem fillCol_col (w : BitVec 32) (x : ℝ) (h : Ideal.ofBits .f32 w = (x : EReal)) : fillCol (F := Ideal) w = col fun _ => x :=
  funext fun _ => h

theorem lanes_lane (f : Fin 256 → ℝ) : lanes (lane f) = tile fun _ l => f l := funext fun i =>
  broadcastTo_apply _ _ i (ValueIdx.ix2 (0 : Fin 1) (i 1 : Fin 256)) (by intro a; fin_cases a <;> rfl)
theorem cols_col (f : Fin 128 → ℝ) : cols (col f) = tile fun r _ => f r := funext fun i =>
  broadcastTo_apply _ _ i (ValueIdx.ix2 (i 0 : Fin 128) (0 : Fin 1)) (by intro a; fin_cases a <;> rfl)
/-- A vector laid as a column, read at a row. -/
theorem asCol (x : FVec Ideal S128 .f32) (i : S128x1.Idx) : shapeCast S128x1 x shapeCasts_S128_S128x1 i = x (ValueIdx.ix1 (i 0 : Fin 128)) := by
  have h0 : (i 1).val = 0 := by have : (i 1).val < 1 := (i 1).isLt; omega
  refine shapeCast_apply _ _ i _ ?_
  rw [Shape.rowMajor_val_one, Shape.rowMajor_val_two, h0]; simp [S128x1]
/-- A vector laid as a row, read at a lane. -/
theorem asLane (x : FVec Ideal S256 .f32) (i : S1x256.Idx) : shapeCast S1x256 x shapeCasts_S256_S1x256 i = x (ValueIdx.ix1 (i 1 : Fin 256)) := by
  have h0 : (i 0).val = 0 := by have : (i 0).val < 1 := (i 0).isLt; omega
  refine shapeCast_apply _ _ i _ ?_
  rw [Shape.rowMajor_val_one, Shape.rowMajor_val_two, h0]; simp [S1x256]
theorem rowSum_tile (f : T) : rowSum (tile f) = col fun r => ∑ l, f r l := funext fun i =>
  (asCol _ i).trans ((Ideal.multiReduction_add_single (tile f) 0x00000000#32 reduces_S128x256_S128 (.inl rfl) rfl _).trans (coe_sum _ _).symm)
theorem laneSum_tile (f : T) : laneSum (tile f) = lane fun l => ∑ r, f r l := funext fun i =>
  (asLane _ i).trans ((Ideal.multiReduction_add_single (tile f) 0x00000000#32 reduces_S128x256_S256 (.inl rfl) rfl _).trans (coe_sum _ _).symm)
theorem colSum_col (f : Fin 128 → ℝ) : colSum (col f) = col f := funext fun i =>
  (asCol _ i).trans ((Ideal.multiReduction_add_single (col f) 0x00000000#32 reduces_S128x1_S128 (.inl rfl) rfl _).trans (Fin.sum_univ_one _))

/-! ## The activation -/

/-- The tangent of the activation's polynomial. -/
def tR (x : ℝ) : ℝ := Real.tanh (kA * (x + kB * (x * x * x)))
/-- The activation. -/
def geluR (x : ℝ) : ℝ := 1 / 2 * x * (1 + tR x)
/-- The activation's derivative. -/
def dgeluR (x : ℝ) : ℝ := 1 / 2 * x * ((1 + tR x) * (1 - tR x)) * kA * (1 + 3 * kB * (x * x)) + 1 / 2 * (1 + tR x)

theorem gelu_tile (f : T) : gelu (tile f) = tile fun r l => geluR (f r l) := by
  simp only [gelu, half, onePlus, th, fill_tile _ _ word_half, fill_tile _ _ word_one, fill_tile _ _ word_kA,
    fill_tile _ _ word_kB, mulf_tile, addf_tile, tanh_tile]
  rfl
theorem geluBack_tile (f g : T) : geluBack (tile f) (tile g) = tile fun r l => g r l * dgeluR (f r l) := by
  simp only [geluBack, geluP, geluQ, dth, half, onePlus, th, fill_tile _ _ word_half, fill_tile _ _ word_one, fill_tile _ _ word_kA,
    fill_tile _ _ word_kB, mulf_tile, addf_tile, subf_tile, tanh_tile]
  refine congrArg tile (funext fun r => funext fun l => ?_)
  simp only [dgeluR, tR]
  ring

/-! ## The heads' lanes -/

/-- The head of a lane. -/
def head (l : Fin 256) : Fin 4 := ⟨l.val / 64, by omega⟩
/-- A head's lane. -/
def ln (h : Fin 4) (d : Fin 64) : Fin 256 := ⟨64 * h.val + d.val, by omega⟩
/-- One on the lanes of head `h`. -/
def onH (h : Fin 4) (l : Fin 256) : ℝ := if head l = h then 1 else 0

theorem head_ln (h : Fin 4) (d : Fin 64) : head (ln h d) = h := Fin.ext (by simp only [head, ln]; omega)

/-- A sum over all lanes is one over the heads and a head's lanes. -/
theorem sum_lanes (z : Fin 256 → ℝ) : ∑ l, z l = ∑ h : Fin 4, ∑ d : Fin 64, z (ln h d) := by
  rw [← Fintype.sum_prod_type', ← (finProdFinEquiv (m := 4) (n := 64)).sum_comp z]
  refine Finset.sum_congr rfl fun p _ => congrArg z (Fin.ext ?_)
  simp [finProdFinEquiv, ln]; omega
/-- Only a head's lanes are summed where its mask multiplies. -/
theorem sum_on (h : Fin 4) (z : Fin 256 → ℝ) : ∑ l, z l * onH h l = ∑ d : Fin 64, z (ln h d) := by
  rw [sum_lanes, Finset.sum_eq_single h]
  · simp [onH, head_ln]
  · intro b _ hb; simp [onH, head_ln, hb]
  · simp
/-- Of four terms under the masks, a lane's head's is left. -/
theorem sum_terms (c : Fin 4 → ℝ) (l : Fin 256) : onH 0 l * c 0 + onH 1 l * c 1 + onH 2 l * c 2 + onH 3 l * c 3 = c (head l) := by
  simp only [onH]
  generalize head l = h
  fin_cases h <;> simp

theorem mask_words : ∀ h : Fin 4, ∀ l : Fin 256, (IntOp.cmpi .eq (IntOp.shrsi .vector (BitVec.ofNat 32 l.val) 6#32) (BitVec.ofNat 32 h.val)).setWidth 32
    = if l.val / 64 = h.val then 1#32 else 0#32 := by decide +kernel

theorem mask_lane (h : Fin 4) (w : BitVec 32) (hw : w = BitVec.ofNat 32 h.val) : mask (F := Ideal) w = lane (onH h) := funext fun i => by
  subst hw
  have e := mask_words h (i 1)
  show ((BitVec.toInt ((IntOp.cmpi .eq (IntOp.shrsi .vector (iota .tc S1x256 32 [1] iota_S1x256_d1_w32 i) 6#32) (BitVec.ofNat 32 h.val)).setWidth 32) : ℝ) : EReal) = _
  refine Eq.trans (b := ((BitVec.toInt (if (i 1 : Fin 256).val / 64 = h.val then 1#32 else 0#32) : ℝ) : EReal)) ?_ ?_
  · rw [← e]
    exact congrArg (fun b : BitVec 32 => ((BitVec.toInt ((IntOp.cmpi .eq (IntOp.shrsi .vector b 6#32) (BitVec.ofNat 32 h.val)).setWidth 32) : ℝ) : EReal))
      (iota_single_apply _ _ _ _ _ i)
  · show _ = ((onH h (i 1) : ℝ) : EReal)
    unfold onH head
    simp only [Fin.ext_iff]
    split <;> simp

theorem m0 : mask (F := Ideal) 0#32 = lane (onH 0) := mask_lane 0 _ rfl
theorem m1 : mask (F := Ideal) 1#32 = lane (onH 1) := mask_lane 1 _ rfl
theorem m2 : mask (F := Ideal) 2#32 = lane (onH 2) := mask_lane 2 _ rfl
theorem m3 : mask (F := Ideal) 3#32 = lane (onH 3) := mask_lane 3 _ rfl

/-! ## The norm over a head -/

/-- The mean of `z` over head `h` of row `r`. -/
def meanR (z : T) (r : Fin 128) (h : Fin 4) : ℝ := (∑ d, z r (ln h d)) * (1 / 64)
/-- The mean square of a row's head, and the small constant. -/
def msR (x : T) (r : Fin 128) (h : Fin 4) : ℝ := meanR (fun r l => x r l * x r l) r h + kE
/-- The norm's factor. -/
def rsR (x : T) (r : Fin 128) (h : Fin 4) : ℝ := (√(msR x r h))⁻¹
/-- Its derivative in the mean square. -/
def drsR (x : T) (r : Fin 128) (h : Fin 4) : ℝ := -(1 / 2) * (rsR x r h / msR x r h)
/-- The normed rows. -/
def normedR (x : T) : T := fun r l => x r l * rsR x r (head l)
/-- The gradient at the mean square. -/
def msBackR (x g : T) (r : Fin 128) (h : Fin 4) : ℝ := meanR (fun r l => x r l * g r l * drsR x r (head l)) r h
/-- The norm's gradient. -/
def normBackR (x g : T) : T := fun r l => g r l * rsR x r (head l) + 2 * (x r l * msBackR x g r (head l))

theorem msR_pos (x : T) (r : Fin 128) (h : Fin 4) : 0 < msR x r h := by
  have : 0 ≤ ∑ d, x r (ln h d) * x r (ln h d) := Finset.sum_nonneg fun d _ => mul_self_nonneg _
  have := kE_pos
  unfold msR meanR
  positivity

theorem headTerm_tile (h : Fin 4) (w : BitVec 32) (hw : mask (F := Ideal) w = lane (onH h)) (f : T) :
    headTerm w (tile f) = tile fun r l => onH h l * meanR (fun r l => f r l * f r l) r h := by
  simp only [headTerm, headMean, hw, lanes_lane, mulf_tile, rowSum_tile, fillCol_col _ _ word_64th, mulf_col, cols_col]
  simp only [sum_on h fun l => _ * _, meanR]
theorem ms_tile (f : T) : ms (tile f) = tile fun r l => msR f r (head l) := by
  simp only [ms, headTerm_tile _ _ m0, headTerm_tile _ _ m1, headTerm_tile _ _ m2, headTerm_tile _ _ m3, fill_tile _ _ word_zero,
    fill_tile _ _ word_kE, addf_tile]
  refine congrArg tile (funext fun r => funext fun l => ?_)
  rw [zero_add, sum_terms (meanR (fun r l => f r l * f r l) r), msR]
theorem rs_tile (f : T) : rs (tile f) = tile fun r l => rsR f r (head l) := by
  rw [rs, ms_tile, rsqrt_tile _ fun r l => msR_pos f r _]; rfl
theorem drs_tile (f : T) : drs (tile f) = tile fun r l => drsR f r (head l) := by
  rw [drs, rs_tile, ms_tile, divf_tile _ _ fun r l => (msR_pos f r _).ne', fill_tile _ _ word_neg_half, mulf_tile]; rfl
theorem normed_tile (f : T) : normed (tile f) = tile (normedR f) := by
  rw [normed, rs_tile, mulf_tile]; rfl
theorem headBack_tile (h : Fin 4) (w : BitVec 32) (hw : mask (F := Ideal) w = lane (onH h)) (f : T) :
    headBack w (tile f) = tile fun r l => onH h l * meanR f r h := by
  simp only [headBack, hw, lanes_lane, mulf_tile, rowSum_tile, fillCol_col _ _ word_64th, mulf_col, colSum_col, cols_col]
  refine congrArg tile (funext fun r => funext fun l => ?_)
  rw [mul_comm, meanR, ← sum_on h]
  simp only [mul_comm]
theorem headsBack_tile (f : T) : headsBack (tile f) = tile fun r l => meanR f r (head l) := by
  simp only [headsBack, headBack_tile _ _ m0, headBack_tile _ _ m1, headBack_tile _ _ m2, headBack_tile _ _ m3, addf_tile]
  refine congrArg tile (funext fun r => funext fun l => ?_)
  rw [← sum_terms (meanR f r)]; ring
theorem normBack_tile (f g : T) : normBack (tile f) (tile g) = tile (normBackR f g) := by
  simp only [normBack, msBack, drs_tile, rs_tile, mulf_tile, headsBack_tile, addf_tile]
  refine congrArg tile (funext fun r => funext fun l => ?_)
  simp only [normBackR, msBackR]; ring

/-! ## The mixing -/

/-- The causal part of the matrices. -/
def causalR (w : Fin 4 → Fin 128 → Fin 128 → ℝ) (h : Fin 4) (t s : Fin 128) : ℝ := if s ≤ t then w h t s else 0
/-- The mixed rows. -/
def mixR (w : Fin 4 → Fin 128 → Fin 128 → ℝ) (x : T) : T := fun t l => ∑ s, causalR w (head l) t s * x s l
/-- The mixing's gradient at the rows. -/
def mixBackR (w : Fin 4 → Fin 128 → Fin 128 → ℝ) (dy : T) : T := fun s l => ∑ t, causalR w (head l) t s * dy t l
/-- The mixing's gradient at the matrices. -/
def mixBackWR (x dy : T) (h : Fin 4) (t s : Fin 128) : ℝ := if s ≤ t then ∑ d, dy t (ln h d) * x s (ln h d) else 0

/-- A mask as a layer of the stack, read at a lane. -/
theorem layer (w : Fin 256 → ℝ) (j : S1x1x256.Idx) : shapeCast S1x1x256 (lane w) shapeCasts_S1x256_S1x1x256 j = ((w (j 2) : ℝ) : EReal) :=
  shapeCast_addUnit_apply _ (lane w) _ j
theorem masksAll_tiles : masksAll (F := Ideal) = tiles fun h _ l => onH h l := funext fun i => by
  refine (broadcastTo_apply masks broadcasts_S4x1x256_S4x128x256 i (ValueIdx.ix3 (i 0 : Fin 4) (0 : Fin 1) (i 2 : Fin 256))
    (by intro a; fin_cases a <;> rfl)).trans ?_
  unfold masks
  rw [m0, m1, m2, m3]
  show concatenate _ _ _ _ _ = ((onH (i 0) (i 2) : ℝ) : EReal)
  generalize (i 0 : Fin 4) = h
  generalize (i 2 : Fin 256) = l
  fin_cases h
  · refine Eq.trans ?_ (layer (onH 0) (ValueIdx.ix3 (0 : Fin 1) (0 : Fin 1) l))
    refine concatenate_apply_piece (t := S4x1x256) 0 _ _ _ 0 ?_ S1x1x256 _ ?_ rfl 0 ?_ _ ?_ ?_
    · exact Nat.le_of_ble_eq_true rfl
    · rfl
    · rfl
    · intro b hb; fin_cases b <;> first | rfl | exact absurd rfl hb
    · rfl
  · refine Eq.trans ?_ (layer (onH 1) (ValueIdx.ix3 (0 : Fin 1) (0 : Fin 1) l))
    refine concatenate_apply_piece (t := S4x1x256) 0 _ _ _ 1 ?_ S1x1x256 _ ?_ rfl 1 ?_ _ ?_ ?_
    · exact Nat.le_of_ble_eq_true rfl
    · rfl
    · rfl
    · intro b hb; fin_cases b <;> first | rfl | exact absurd rfl hb
    · rfl
  · refine Eq.trans ?_ (layer (onH 2) (ValueIdx.ix3 (0 : Fin 1) (0 : Fin 1) l))
    refine concatenate_apply_piece (t := S4x1x256) 0 _ _ _ 2 ?_ S1x1x256 _ ?_ rfl 2 ?_ _ ?_ ?_
    · exact Nat.le_of_ble_eq_true rfl
    · rfl
    · rfl
    · intro b hb; fin_cases b <;> first | rfl | exact absurd rfl hb
    · rfl
  · refine Eq.trans ?_ (layer (onH 3) (ValueIdx.ix3 (0 : Fin 1) (0 : Fin 1) l))
    refine concatenate_apply_piece (t := S4x1x256) 0 _ _ _ 3 ?_ S1x1x256 _ ?_ rfl 3 ?_ _ ?_ ?_
    · exact Nat.le_of_ble_eq_true rfl
    · rfl
    · rfl
    · intro b hb; fin_cases b <;> first | rfl | exact absurd rfl hb
    · rfl
theorem heads_tiles (f : T) : heads (tile f) = tiles fun _ => f := funext fun i =>
  (broadcastTo_apply _ broadcasts_S1x128x256_S4x128x256 i (ValueIdx.ix3 (0 : Fin 1) (i 1 : Fin 128) (i 2 : Fin 256))
    (by intro a; fin_cases a <;> rfl)).trans (shapeCast_addUnit_apply _ (tile f) _ _)
theorem split_tiles (f : T) : split (tile f) = tiles fun h r l => f r l * onH h l := by
  rw [split, heads_tiles, masksAll_tiles, mulf_tiles]
theorem headSum_tiles (f : Fin 4 → T) : headSum (tiles f) = tile fun r l => ∑ h, f h r l := funext fun i =>
  (Ideal.multiReduction_add_single (tiles f) 0x00000000#32 reduces_S4x128x256_S128x256 (.inl rfl) rfl _).trans (coe_sum _ _).symm

theorem causal_words : ∀ t s : Fin 128, IntOp.cmpi .sge (BitVec.ofNat 32 t.val) (BitVec.ofNat 32 s.val) = if s ≤ t then 1#1 else 0#1 := by
  decide +kernel
theorem causal_apply (i : S4x128x128.Idx) : causal i = if (i 2 : Fin 128) ≤ (i 1 : Fin 128) then 1#1 else 0#1 := by
  refine (broadcastTo_apply _ broadcasts_S1x128x128_S4x128x128 i (ValueIdx.ix3 (0 : Fin 1) (i 1 : Fin 128) (i 2 : Fin 128))
    (by intro a; fin_cases a <;> rfl)).trans ?_
  rw [shapeCast_self]
  refine (shapeCast_addUnit_apply _ (cmpi .sge (iota .tc S128x128 32 [0] iota_S128x128_d0_w32) (iota .tc S128x128 32 [1] iota_S128x128_d1_w32)) _ _).trans ?_
  show IntOp.cmpi .sge (iota .tc S128x128 32 [0] iota_S128x128_d0_w32 _) (iota .tc S128x128 32 [1] iota_S128x128_d1_w32 _) = _
  exact (congrArg₂ (IntOp.cmpi .sge) (iota_single_apply .tc S128x128 32 0 iota_S128x128_d0_w32 _)
    (iota_single_apply .tc S128x128 32 1 iota_S128x128_d1_w32 _)).trans (causal_words (i 1) (i 2))
theorem causalPart_mats (w : Fin 4 → Fin 128 → Fin 128 → ℝ) : causalPart (mats w) = mats (causalR w) := funext fun i => by
  show Scalar.select (causal i) (mats w i) (Ideal.ofBits .f32 0x00000000#32) = ((causalR w (i 0) (i 1) (i 2) : ℝ) : EReal)
  rw [causal_apply, word_zero]
  unfold causalR
  by_cases h : (i 2 : Fin 128) ≤ (i 1 : Fin 128)
  · rw [if_pos h]; exact congrArg (fun x : ℝ => (x : EReal)) (if_pos h).symm
  · rw [if_neg h]; exact congrArg (fun x : ℝ => (x : EReal)) (if_neg h).symm

/-- The matrices times the tiles. -/
theorem mm_tiles (w : Fin 4 → Fin 128 → Fin 128 → ℝ) (x : Fin 4 → T) :
    matmul dot_S4x128x128_S4x128x256_S4x128x256_2_1_1_2_0_0 none (truncf .bf16 (mats w) bitsLt_bf16_f32)
      (truncf .bf16 (tiles x) bitsLt_bf16_f32) (constant S4x128x256 .f32 0x00000000#32)
      = tiles fun h t l => ∑ s, w h t s * x h s l := funext fun i => by
  simp only [matmul]
  rw [Ideal.matmul_constant_zero_apply,
    ← (ValueIdx.contrEquiv1 dot_S4x128x128_S4x128x256_S4x128x256_2_1_1_2_0_0 128 rfl rfl).symm.sum_comp, tiles, coe_sum]
  exact Finset.sum_congr rfl fun k _ => (EReal.coe_mul _ _).symm
/-- The transposed matrices times the tiles. -/
theorem mmT_tiles (w : Fin 4 → Fin 128 → Fin 128 → ℝ) (x : Fin 4 → T) :
    matmul dot_S4x128x128_S4x128x256_S4x128x256_1_1_2_2_0_0 none (truncf .bf16 (mats w) bitsLt_bf16_f32)
      (truncf .bf16 (tiles x) bitsLt_bf16_f32) (constant S4x128x256 .f32 0x00000000#32)
      = tiles fun h s l => ∑ t, w h t s * x h t l := funext fun i => by
  simp only [matmul]
  rw [Ideal.matmul_constant_zero_apply,
    ← (ValueIdx.contrEquiv1 dot_S4x128x128_S4x128x256_S4x128x256_1_1_2_2_0_0 128 rfl rfl).symm.sum_comp, tiles, coe_sum]
  exact Finset.sum_congr rfl fun k _ => (EReal.coe_mul _ _).symm
/-- The tiles times the transposed tiles. -/
theorem mmW_tiles (x y : Fin 4 → T) :
    matmul dot_S4x128x256_S4x128x256_S4x128x128_2_2_1_1_0_0 none (truncf .bf16 (tiles x) bitsLt_bf16_f32)
      (truncf .bf16 (tiles y) bitsLt_bf16_f32) (constant S4x128x128 .f32 0x00000000#32)
      = mats fun h t s => ∑ l, x h t l * y h s l := funext fun i => by
  simp only [matmul]
  rw [Ideal.matmul_constant_zero_apply,
    ← (ValueIdx.contrEquiv1 dot_S4x128x256_S4x128x256_S4x128x128_2_2_1_1_0_0 256 rfl rfl).symm.sum_comp, mats, coe_sum]
  exact Finset.sum_congr rfl fun k _ => (EReal.coe_mul _ _).symm

theorem mix_tile (w : Fin 4 → Fin 128 → Fin 128 → ℝ) (x : T) : mix (mats w) (tile x) = tile (mixR w x) := by
  rw [mix, causalPart_mats, split_tiles, mm_tiles, headSum_tiles]
  refine congrArg tile (funext fun t => funext fun l => ?_)
  rw [Finset.sum_eq_single (head l)]
  · simp [onH, mixR]
  · intro b _ hb; simp [onH, hb.symm]
  · simp
theorem bias_tile (h : Fin 4) (w : BitVec 32) (hw : mask (F := Ideal) w = lane (onH h)) (b : Fin 128 → ℝ) :
    bias w (col b) = tile fun r l => onH h l * b r := by
  simp only [bias, hw, lanes_lane, cols_col, mulf_tile, mul_comm]
theorem mixBack_tile (w : Fin 4 → Fin 128 → Fin 128 → ℝ) (dy : T) : mixBack (mats w) (tile dy) = tile (mixBackR w dy) := by
  rw [mixBack, causalPart_mats, heads_tiles, masksAll_tiles, mmT_tiles, mulf_tiles, headSum_tiles]
  funext i
  refine (Ideal.multiReduction_add_single _ 0x00000000#32 reduces_S1x128x256_S128x256 (.inl rfl) rfl _).trans ?_
  refine (Fin.sum_univ_one _).trans ((shapeCast_addUnit_apply _ (tile _) _ _).trans (congrArg (fun x : ℝ => (x : EReal)) ?_))
  refine (Finset.sum_eq_single (head (i 1)) (fun b _ hb => ?_) (by simp)).trans ?_
  · exact mul_eq_zero_of_right _ (if_neg fun e => hb e.symm)
  · exact (congrArg (_ * ·) (if_pos rfl)).trans (mul_one _)
theorem mixBackW_tile (x dy : T) : mixBackW (tile x) (tile dy) = mats (mixBackWR x dy) := by
  rw [mixBackW, heads_tiles, split_tiles, mmW_tiles, causalPart_mats]
  refine congrArg mats (funext fun h => funext fun t => funext fun s => ?_)
  simp only [causalR, mixBackWR, ← mul_assoc, sum_on h]
theorem biasBack_tile (h : Fin 4) (w : BitVec 32) (hw : mask (F := Ideal) w = lane (onH h)) (dy : T) :
    biasBack w (tile dy) = col fun r => ∑ d, dy r (ln h d) := by
  simp only [biasBack, hw, lanes_lane, mulf_tile, rowSum_tile, sum_on]

/-! ## A chunk of reals -/

/-- A chunk's inputs, all real: `b h` is head `h`'s bias. -/
structure RChunk where
  u : T
  v : T
  vg : Fin 256 → ℝ
  ws : Fin 4 → Fin 128 → Fin 128 → ℝ
  b : Fin 4 → Fin 128 → ℝ
  og : Fin 256 → ℝ
  ct : T

namespace RChunk

variable (k : RChunk)

/-- As the kernel's chunk. -/
def toChunk : Chunk Ideal :=
  ⟨tile k.u, tile k.v, lane k.vg, mats k.ws, col (k.b 0), col (k.b 1), col (k.b 2), col (k.b 3), lane k.og, tile k.ct⟩

/-- The activated halves. -/
def gu : T := fun r l => geluR (k.u r l)
def gv : T := fun r l => geluR (k.v r l)
/-- The second half after its norm. -/
def vn : T := fun r l => normedR k.gv r l * k.vg l
/-- The mixed rows. -/
def y : T := fun r l => mixR k.ws k.vn r l + k.b (head l) r
/-- The gated rows. -/
def o : T := fun r l => k.gu r l * k.y r l
/-- The gradient at the gated rows. -/
def dout : T := normBackR k.o fun r l => k.ct r l * k.og l
/-- The gradient at the mixed rows. -/
def dy : T := fun r l => k.gu r l * k.dout r l
/-- The gradient at the normed rows. -/
def dvn : T := mixBackR k.ws k.dy
/-- The gradient at the first half. -/
def du : T := fun r l => k.dout r l * k.y r l * dgeluR (k.u r l)
/-- The gradient at the second half. -/
def dv : T := fun r l => normBackR k.gv (fun r l => k.dvn r l * k.vg l) r l * dgeluR (k.v r l)
/-- The gradient at the second half's gains. -/
def dvg (l : Fin 256) : ℝ := ∑ r, normedR k.gv r l * k.dvn r l
/-- The gradient at the matrices. -/
def dws : Fin 4 → Fin 128 → Fin 128 → ℝ := mixBackWR k.vn k.dy
/-- The gradient at the biases. -/
def dbs (h : Fin 4) (r : Fin 128) : ℝ := ∑ d, k.dy r (ln h d)
/-- The gradient at the output's gains. -/
def dog (l : Fin 256) : ℝ := ∑ r, normedR k.o r l * k.ct r l

theorem toChunk_vn : k.toChunk.vn = tile k.vn := by
  rw [Chunk.vn, toChunk, gelu_tile, normed_tile, lanes_lane, mulf_tile]; rfl
theorem toChunk_y : k.toChunk.y = tile k.y := by
  rw [Chunk.y, toChunk_vn]
  simp only [toChunk, mix_tile, bias_tile _ _ m0, bias_tile _ _ m1, bias_tile _ _ m2, bias_tile _ _ m3, addf_tile]
  refine congrArg tile (funext fun r => funext fun l => ?_)
  rw [y, ← sum_terms fun h => k.b h r]; ring
theorem toChunk_o : k.toChunk.o = tile k.o := by
  rw [Chunk.o, toChunk_y, toChunk, gelu_tile, mulf_tile]; rfl
theorem toChunk_dout : k.toChunk.dout = tile k.dout := by
  rw [Chunk.dout, toChunk_o, toChunk, lanes_lane, mulf_tile, normBack_tile]; rfl
theorem toChunk_dy : k.toChunk.dy = tile k.dy := by
  rw [Chunk.dy, toChunk_dout, toChunk, gelu_tile, mulf_tile]; rfl
theorem toChunk_dvn : k.toChunk.dvn = tile k.dvn := by
  rw [Chunk.dvn, toChunk_dy, toChunk, mixBack_tile]; rfl
theorem toChunk_du : k.toChunk.du = tile k.du := by
  rw [Chunk.du, toChunk_dout, toChunk_y, mulf_tile, toChunk, geluBack_tile]; rfl
theorem toChunk_dv : k.toChunk.dv = tile k.dv := by
  rw [Chunk.dv, toChunk_dvn, toChunk, lanes_lane, mulf_tile, gelu_tile, normBack_tile, geluBack_tile]; rfl
theorem toChunk_dvg : k.toChunk.dvg = lane k.dvg := by
  rw [Chunk.dvg, toChunk_dvn, toChunk, gelu_tile, normed_tile, mulf_tile, laneSum_tile]; rfl
theorem toChunk_dws : k.toChunk.dws = mats k.dws := by
  rw [Chunk.dws, toChunk_dy, toChunk_vn, mixBackW_tile]; rfl
theorem toChunk_dbs (h : Fin 4) (w : BitVec 32) (hw : mask (F := Ideal) w = lane (onH h)) : k.toChunk.dbs w = col (k.dbs h) := by
  rw [Chunk.dbs, toChunk_dy, biasBack_tile h w hw]; rfl
theorem toChunk_dog : k.toChunk.dog = lane k.dog := by
  rw [Chunk.dog, toChunk_o, toChunk, normed_tile, mulf_tile, laneSum_tile]; rfl

end RChunk

end Cert.Gate

end

end
-- ==== Proof.Point.lean ====
/- What one grid point leaves where its blocks are real: its four chunks' gradients over the reals, stored at the first point and
   added to what stands at a later one. -/
module

public import proofs.«01_k».proof.Proof.Pieces
public import proofs.«01_k».proof.Proof.Reals

@[expose] public section

set_option maxRecDepth 16384

noncomputable section

open scoped BigOperators

namespace Cert.Gate

open Idealize.ShloMosaic Idealize.ShloMosaic.ValueIdx Idealize.ShloMosaic.TcCoe Idealize.ShloMosaic.Tactic Cert.KernelIdeal Cert.KernelIdeal.Gen

/-! ## Loads of real arrays -/

/-- A load from a whole buffer reads its contents at the load's place. -/
theorem at_load {s : Shape} {arg : Memref sig .tc .vmem s .f32} (h : arg.IsWhole) (X : s.Idx → Elt Ideal .f32) (r : Rect s) (i : r.shape.Idx) :
    View.readAt (Elt Ideal) arg.view r.toLoadRect (h.unread X) i = X (r.idx i) :=
  congrFun (h.read_unread X) (r.idx i)
/-- Rows `o …` and lanes `p …` of a block of width 512. -/
theorem load_wide {arg : Memref sig .tc .vmem S512x512 .f32} (h : arg.IsWhole) (f : Fin 512 → Fin 512 → ℝ) (o p : ℕ) (inb)
    (ho : o + 128 ≤ 512) (hp : p + 256 ≤ 512) :
    View.readAt (Elt Ideal) arg.view (Rect.unit (s := S512x512) ![o, p] S128x256.size inb).toLoadRect
        (h.unread fun i => ((f (i 0) (i 1) : ℝ) : EReal))
      = tile fun r l => f ⟨o + r.val, by omega⟩ ⟨p + l.val, by omega⟩ := by
  refine funext fun i => (at_load h _ _ i).trans ?_
  refine congrArg (fun x : ℝ => (x : EReal)) (congrArg₂ f (Fin.ext ?_) (Fin.ext ?_))
  · show o + 1 * (i 0).val = o + (i 0).val; omega
  · show p + 1 * (i 1).val = p + (i 1).val; omega
/-- Rows `o …` of a block of width 256. -/
theorem load_rows {arg : Memref sig .tc .vmem S512x256 .f32} (h : arg.IsWhole) (f : Fin 512 → Fin 256 → ℝ) (o : ℕ) (inb)
    (ho : o + 128 ≤ 512) :
    View.readAt (Elt Ideal) arg.view (Rect.unit (s := S512x256) ![o, 0] S128x256.size inb).toLoadRect
        (h.unread fun i => ((f (i 0) (i 1) : ℝ) : EReal))
      = tile fun r l => f ⟨o + r.val, by omega⟩ l := by
  refine funext fun i => (at_load h _ _ i).trans ?_
  refine congrArg (fun x : ℝ => (x : EReal)) (congrArg₂ f (Fin.ext ?_) (Fin.ext ?_))
  · show o + 1 * (i 0).val = o + (i 0).val; omega
  · show 0 + 1 * (i 1).val = (i 1).val; omega
/-- A lane vector. -/
theorem load_lane {arg : Memref sig .tc .vmem S1x256 .f32} (h : arg.IsWhole) (f : Fin 256 → ℝ) (inb) :
    shapeCast S1x256 (View.readAt (Elt Ideal) arg.view (Rect.unit (s := S1x256) ![0, 0] S1x256.size inb).toLoadRect
        (h.unread (lane f))) shapeCasts_S1x256_S1x256 = lane f := by
  refine (shapeCast_self _ _).trans (funext fun i => (at_load h _ _ i).trans ?_)
  refine congrArg (fun x : ℝ => (x : EReal)) (congrArg f (Fin.ext ?_))
  show 0 + 1 * (i 1).val = (i 1).val; omega
/-- Four matrices. -/
theorem load_mats {arg : Memref sig .tc .vmem S4x128x128 .f32} (h : arg.IsWhole) (f : Fin 4 → Fin 128 → Fin 128 → ℝ) (inb) :
    View.readAt (Elt Ideal) arg.view (Rect.unit (s := S4x128x128) ![0, 0, 0] S4x128x128.size inb).toLoadRect
        (h.unread (mats f)) = mats f := by
  refine funext fun i => (at_load h _ _ i).trans ?_
  refine congrArg (fun x : ℝ => (x : EReal)) ?_
  refine congr (congr (congrArg f (Fin.ext ?_)) (Fin.ext ?_)) (Fin.ext ?_)
  · show 0 + 1 * (i 0).val = (i 0).val; omega
  · show 0 + 1 * (i 1).val = (i 1).val; omega
  · show 0 + 1 * (i 2).val = (i 2).val; omega
/-- The biases, four columns. -/
def fourCols (f : Fin 4 → Fin 128 → ℝ) : FVec Ideal S4x128x1 .f32 := fun i => ((f (i 0) (i 1) : ℝ) : EReal)
/-- One head's column. -/
theorem load_col {arg : Memref sig .tc .vmem S4x128x1 .f32} (h : arg.IsWhole) (f : Fin 4 → Fin 128 → ℝ) (g : ℕ) (inb) (hg : g < 4) :
    shapeCast S128x1 (View.readAt (Elt Ideal) arg.view (Rect.unit (s := S4x128x1) ![g, 0, 0] S1x128x1.size inb).toLoadRect
        (h.unread (fourCols f))) shapeCasts_S1x128x1_S128x1 = col (f ⟨g, hg⟩) := by
  refine funext fun i => ?_
  refine (shapeCast_apply _ _ i (ValueIdx.ix3 (0 : Fin 1) (i 0) (i 1)) (by
    rw [Shape.rowMajor_val_three, Shape.rowMajor_val_two]
    show (0 * 128 + (i 0).val) * 1 + (i 1).val = (i 0).val * 1 + (i 1).val; omega)).trans ?_
  refine (at_load h _ _ _).trans ?_
  refine congrArg (fun x : ℝ => (x : EReal)) (congrArg₂ f (Fin.ext ?_) (Fin.ext ?_))
  · show g + 1 * 0 = g; omega
  · show 0 + 1 * (i 0).val = (i 0).val; omega

theorem addf_lane (f g : Fin 256 → ℝ) : addf (lane f) (lane g) = lane fun l => f l + g l := funext fun _ => (EReal.coe_add _ _).symm
theorem addf_col (f g : Fin 128 → ℝ) : addf (col f) (col g) = col fun l => f l + g l := funext fun _ => (EReal.coe_add _ _).symm
theorem addf_mats (f g : Fin 4 → Fin 128 → Fin 128 → ℝ) : addf (mats f) (mats g) = mats fun h r l => f h r l + g h r l :=
  funext fun _ => (EReal.coe_add _ _).symm

/-! ## A point's blocks -/

/-- A point's six blocks, all real. -/
structure Blk where
  pa : Fin 512 → Fin 512 → ℝ
  vg : Fin 256 → ℝ
  ws : Fin 4 → Fin 128 → Fin 128 → ℝ
  bs : Fin 4 → Fin 128 → ℝ
  og : Fin 256 → ℝ
  dya : Fin 512 → Fin 256 → ℝ

namespace Blk

variable (b : Blk)

def x0 : Vec Ideal S512x512 .f32 := fun i => ((b.pa (i 0) (i 1) : ℝ) : EReal)
def x5 : Vec Ideal S512x256 .f32 := fun i => ((b.dya (i 0) (i 1) : ℝ) : EReal)

/-- Chunk `j` of the point: its rows `128 j …`. -/
def chunk (j : Fin 4) : RChunk where
  u r l := b.pa ⟨128 * j.val + r.val, by omega⟩ ⟨l.val, by omega⟩
  v r l := b.pa ⟨128 * j.val + r.val, by omega⟩ ⟨256 + l.val, by omega⟩
  vg := b.vg
  ws := b.ws
  b := b.bs
  og := b.og
  ct r l := b.dya ⟨128 * j.val + r.val, by omega⟩ l

/-- The point's totals. -/
def dvg (l : Fin 256) : ℝ := ∑ j, (b.chunk j).dvg l
def dws (h : Fin 4) (r l : Fin 128) : ℝ := ∑ j, (b.chunk j).dws h r l
def dbs (h : Fin 4) (r : Fin 128) : ℝ := ∑ j, (b.chunk j).dbs h r
def dog (l : Fin 256) : ℝ := ∑ j, (b.chunk j).dog l
/-- The gradient at the point's rows: of the first half's columns, then of the second's. -/
def dpa (r c : Fin 512) : ℝ :=
  if h : c.val < 256 then (b.chunk ⟨r.val / 128, by omega⟩).du ⟨r.val % 128, by omega⟩ ⟨c.val, h⟩
  else (b.chunk ⟨r.val / 128, by omega⟩).dv ⟨r.val % 128, by omega⟩ ⟨c.val - 256, by omega⟩
theorem dpa_lo (j : Fin 4) (r : Fin 128) (l : Fin 256) (p q : Fin 512) (hp : p.val = 128 * j.val + r.val) (hq : q.val = l.val) :
    b.dpa p q = (b.chunk j).du r l := by
  obtain ⟨p, hp'⟩ := p; obtain ⟨q, hq'⟩ := q; simp only at hp hq; subst hp hq
  have e1 : (⟨(128 * j.val + r.val) / 128, by omega⟩ : Fin 4) = j := Fin.ext (by show (128 * j.val + r.val) / 128 = j.val; omega)
  have e2 : (⟨(128 * j.val + r.val) % 128, by omega⟩ : Fin 128) = r := Fin.ext (by show (128 * j.val + r.val) % 128 = r.val; omega)
  simp only [dpa, l.isLt, dif_pos, e1, e2]
theorem dpa_hi (j : Fin 4) (r : Fin 128) (l : Fin 256) (p q : Fin 512) (hp : p.val = 128 * j.val + r.val) (hq : q.val = 256 + l.val) :
    b.dpa p q = (b.chunk j).dv r l := by
  obtain ⟨p, hp'⟩ := p; obtain ⟨q, hq'⟩ := q; simp only at hp hq; subst hp hq
  have e1 : (⟨(128 * j.val + r.val) / 128, by omega⟩ : Fin 4) = j := Fin.ext (by show (128 * j.val + r.val) / 128 = j.val; omega)
  have e2 : (⟨(128 * j.val + r.val) % 128, by omega⟩ : Fin 128) = r := Fin.ext (by show (128 * j.val + r.val) % 128 = r.val; omega)
  have e3 : ¬ 256 + l.val < 256 := by omega
  have e4 : (⟨256 + l.val - 256, by omega⟩ : Fin 256) = l := Fin.ext (by show 256 + l.val - 256 = l.val; omega)
  simp only [dpa, e3, dif_neg, not_false_eq_true, e1, e2, e4]

end Blk

theorem chunkOf_eq (k : RChunk) {u v vg ws b0 b1 b2 b3 og ct} (h0 : u = tile k.u) (h1 : v = tile k.v)
    (h2 : shapeCast S1x256 vg shapeCasts_S1x256_S1x256 = lane k.vg) (h3 : ws = mats k.ws)
    (h4 : shapeCast S128x1 b0 shapeCasts_S1x128x1_S128x1 = col (k.b 0)) (h5 : shapeCast S128x1 b1 shapeCasts_S1x128x1_S128x1 = col (k.b 1))
    (h6 : shapeCast S128x1 b2 shapeCasts_S1x128x1_S128x1 = col (k.b 2)) (h7 : shapeCast S128x1 b3 shapeCasts_S1x128x1_S128x1 = col (k.b 3))
    (h8 : shapeCast S1x256 og shapeCasts_S1x256_S1x256 = lane k.og) (h9 : ct = tile k.ct) :
    chunkOf (F := Ideal) u v vg ws b0 b1 b2 b3 og ct = k.toChunk := by
  unfold chunkOf RChunk.toChunk
  rw [h0, h1, h2, h3, h4, h5, h6, h7, h8, h9]

section
variable (b : Blk) (arg1 : Memref sig .tc .vmem S512x512 .f32) (harg1 : arg1.IsWhole) (arg2 : Memref sig .tc .vmem S1x256 .f32) (harg2 : arg2.IsWhole) (arg3 : Memref sig .tc .vmem S4x128x128 .f32) (harg3 : arg3.IsWhole) (arg4 : Memref sig .tc .vmem S4x128x1 .f32) (harg4 : arg4.IsWhole) (arg5 : Memref sig .tc .vmem S1x256 .f32) (harg5 : arg5.IsWhole) (arg6 : Memref sig .tc .vmem S512x256 .f32) (harg6 : arg6.IsWhole)

theorem raw0 : rawChunk0 (F := Ideal) arg1 harg1 arg2 harg2 arg3 harg3 arg4 harg4 arg5 harg5 arg6 harg6 b.x0 (lane b.vg) (mats b.ws) (fourCols b.bs) (lane b.og) b.x5 = (b.chunk 0).toChunk :=
  chunkOf_eq (b.chunk 0)
    ((load_wide harg1 b.pa 0 0 _ (by decide) (by decide)).trans (congrArg tile (funext fun r => funext fun l =>
      congrArg₂ b.pa (Fin.ext rfl) (Fin.ext (Nat.zero_add _)))))
    (load_wide harg1 b.pa 0 256 _ (by decide) (by decide))
    (load_lane harg2 b.vg _) (load_mats harg3 b.ws _)
    (load_col harg4 b.bs 0 _ (by decide)) (load_col harg4 b.bs 1 _ (by decide)) (load_col harg4 b.bs 2 _ (by decide)) (load_col harg4 b.bs 3 _ (by decide))
    (load_lane harg5 b.og _) (load_rows harg6 b.dya 0 _ (by decide))
theorem raw1 : rawChunk1 (F := Ideal) arg1 harg1 arg2 harg2 arg3 harg3 arg4 harg4 arg5 harg5 arg6 harg6 b.x0 (lane b.vg) (mats b.ws) (fourCols b.bs) (lane b.og) b.x5 = (b.chunk 1).toChunk :=
  chunkOf_eq (b.chunk 1)
    ((load_wide harg1 b.pa 128 0 _ (by decide) (by decide)).trans (congrArg tile (funext fun r => funext fun l =>
      congrArg₂ b.pa (Fin.ext rfl) (Fin.ext (Nat.zero_add _)))))
    (load_wide harg1 b.pa 128 256 _ (by decide) (by decide))
    (load_lane harg2 b.vg _) (load_mats harg3 b.ws _)
    (load_col harg4 b.bs 0 _ (by decide)) (load_col harg4 b.bs 1 _ (by decide)) (load_col harg4 b.bs 2 _ (by decide)) (load_col harg4 b.bs 3 _ (by decide))
    (load_lane harg5 b.og _) (load_rows harg6 b.dya 128 _ (by decide))
theorem raw2 : rawChunk2 (F := Ideal) arg1 harg1 arg2 harg2 arg3 harg3 arg4 harg4 arg5 harg5 arg6 harg6 b.x0 (lane b.vg) (mats b.ws) (fourCols b.bs) (lane b.og) b.x5 = (b.chunk 2).toChunk :=
  chunkOf_eq (b.chunk 2)
    ((load_wide harg1 b.pa 256 0 _ (by decide) (by decide)).trans (congrArg tile (funext fun r => funext fun l =>
      congrArg₂ b.pa (Fin.ext rfl) (Fin.ext (Nat.zero_add _)))))
    (load_wide harg1 b.pa 256 256 _ (by decide) (by decide))
    (load_lane harg2 b.vg _) (load_mats harg3 b.ws _)
    (load_col harg4 b.bs 0 _ (by decide)) (load_col harg4 b.bs 1 _ (by decide)) (load_col harg4 b.bs 2 _ (by decide)) (load_col harg4 b.bs 3 _ (by decide))
    (load_lane harg5 b.og _) (load_rows harg6 b.dya 256 _ (by decide))
theorem raw3 : rawChunk3 (F := Ideal) arg1 harg1 arg2 harg2 arg3 harg3 arg4 harg4 arg5 harg5 arg6 harg6 b.x0 (lane b.vg) (mats b.ws) (fourCols b.bs) (lane b.og) b.x5 = (b.chunk 3).toChunk :=
  chunkOf_eq (b.chunk 3)
    ((load_wide harg1 b.pa 384 0 _ (by decide) (by decide)).trans (congrArg tile (funext fun r => funext fun l =>
      congrArg₂ b.pa (Fin.ext rfl) (Fin.ext (Nat.zero_add _)))))
    (load_wide harg1 b.pa 384 256 _ (by decide) (by decide))
    (load_lane harg2 b.vg _) (load_mats harg3 b.ws _)
    (load_col harg4 b.bs 0 _ (by decide)) (load_col harg4 b.bs 1 _ (by decide)) (load_col harg4 b.bs 2 _ (by decide)) (load_col harg4 b.bs 3 _ (by decide))
    (load_lane harg5 b.og _) (load_rows harg6 b.dya 384 _ (by decide))

end

/-- The sum of four chunks' lanes, added up in the body's order. -/
theorem tot_lane (f : Fin 4 → Fin 256 → ℝ) :
    addf (addf (addf (lane (f 0)) (lane (f 1))) (lane (f 2))) (lane (f 3)) = lane fun l => ∑ j, f j l := by
  simp only [addf_lane, Fin.sum_univ_four]
theorem tot_col (f : Fin 4 → Fin 128 → ℝ) :
    addf (addf (addf (col (f 0)) (col (f 1))) (col (f 2))) (col (f 3)) = col fun l => ∑ j, f j l := by
  simp only [addf_col, Fin.sum_univ_four]
theorem tot_mats (f : Fin 4 → Fin 4 → Fin 128 → Fin 128 → ℝ) :
    addf (addf (addf (mats (f 0)) (mats (f 1))) (mats (f 2))) (mats (f 3)) = mats fun h r l => ∑ j, f j h r l := by
  simp only [addf_mats, Fin.sum_univ_four]

/-- A column stored as one head's biases. -/
theorem cast_col (f : Fin 128 → ℝ) (i : S1x128x1.Idx) :
    shapeCast S1x128x1 (col f) shapeCasts_S128x1_S1x128x1 i = ((f (i 1) : ℝ) : EReal) := by
  refine (shapeCast_apply _ _ i (ValueIdx.ix2 (i 1) (i 2)) (by
    rw [Shape.rowMajor_val_three, Shape.rowMajor_val_two]
    have : (i 0).val < 1 := (i 0).isLt
    show (i 1).val * 1 + (i 2).val = ((i 0).val * 128 + (i 1).val) * 1 + (i 2).val; omega)).trans ?_
  rfl

/-- A point of case A, at the gradient of the rows. -/
theorem rows_A (b : Blk)  (c : Dev nD) (i : grid0.Coords) (arg1 : Memref sig .tc .vmem S512x512 .f32) (harg1 : arg1.IsWhole) (arg2 : Memref sig .tc .vmem S1x256 .f32) (harg2 : arg2.IsWhole) (arg3 : Memref sig .tc .vmem S4x128x128 .f32) (harg3 : arg3.IsWhole) (arg4 : Memref sig .tc .vmem S4x128x1 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S512x512 .f32) (harg7 : arg7.IsWhole) (arg8 : Memref sig .tc .vmem S1x256 .f32) (harg8 : arg8.IsWhole) (arg9 : Memref sig .tc .vmem S4x128x128 .f32) (harg9 : arg9.IsWhole) (arg10 : Memref sig .tc .vmem S4x128x1 .f32) (harg10 : arg10.IsWhole) (arg11 : Memref sig .tc .vmem S1x256 .f32) (harg11 : arg11.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (hc13 : ¬cond0_13 i)
     :
    out0_A_6 (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 b.x0 (lane b.vg) (mats b.ws) (fourCols b.bs) (lane b.og) b.x5 = fun i => ((b.dpa (i 0) (i 1) : ℝ) : EReal) := by
  show View.read (Elt Ideal) VO0_6 (VO0_6.writes (Elt Ideal) VO0_6.junk (kernelRun0_A (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 b.x0 (lane b.vg) (mats b.ws) (fourCols b.bs) (lane b.og) b.x5).1) = _
  rw [View.read_writes_junk_eq_canon, pieces6_A (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 b.x0 (lane b.vg) (mats b.ws) (fourCols b.bs) (lane b.og) b.x5]
  simp only [raw0, raw1, raw2, raw3, RChunk.toChunk_du, RChunk.toChunk_dv]
  refine funext fun y => View.canon_apply_of_pieces (Val := Elt Ideal) (e := .f32) (S := S512x512) (fun i => ((b.dpa (i 0) (i 1) : ℝ) : EReal)) _ ?_ y ?_
  swap
  · exact View.cover_of_tiledL (Val := Elt Ideal) (e := .f32) (s := S512x512) _ ![128, 256] (by sl_kernel_rfl) y
  refine List.forall_mem_cons.2 ⟨fun x => ?_, List.forall_mem_cons.2 ⟨fun x => ?_, List.forall_mem_cons.2 ⟨fun x => ?_,
    List.forall_mem_cons.2 ⟨fun x => ?_, List.forall_mem_cons.2 ⟨fun x => ?_, List.forall_mem_cons.2 ⟨fun x => ?_,
    List.forall_mem_cons.2 ⟨fun x => ?_, List.forall_mem_cons.2 ⟨fun x => ?_, fun p h => absurd h (List.not_mem_nil)⟩⟩⟩⟩⟩⟩⟩⟩
  · refine congrArg (fun x : ℝ => (x : EReal)) (b.dpa_hi 3 (x 0) (x 1) _ _ ?_ ?_).symm
    · show 384 + 1 * (x 0).val = 128 * 3 + (x 0).val; omega
    · show 256 + 1 * (x 1).val = 256 + (x 1).val; omega
  · refine congrArg (fun x : ℝ => (x : EReal)) (b.dpa_lo 3 (x 0) (x 1) _ _ ?_ ?_).symm
    · show 384 + 1 * (x 0).val = 128 * 3 + (x 0).val; omega
    · show 0 + 1 * (x 1).val = (x 1).val; omega
  · refine congrArg (fun x : ℝ => (x : EReal)) (b.dpa_hi 2 (x 0) (x 1) _ _ ?_ ?_).symm
    · show 256 + 1 * (x 0).val = 128 * 2 + (x 0).val; omega
    · show 256 + 1 * (x 1).val = 256 + (x 1).val; omega
  · refine congrArg (fun x : ℝ => (x : EReal)) (b.dpa_lo 2 (x 0) (x 1) _ _ ?_ ?_).symm
    · show 256 + 1 * (x 0).val = 128 * 2 + (x 0).val; omega
    · show 0 + 1 * (x 1).val = (x 1).val; omega
  · refine congrArg (fun x : ℝ => (x : EReal)) (b.dpa_hi 1 (x 0) (x 1) _ _ ?_ ?_).symm
    · show 128 + 1 * (x 0).val = 128 * 1 + (x 0).val; omega
    · show 256 + 1 * (x 1).val = 256 + (x 1).val; omega
  · refine congrArg (fun x : ℝ => (x : EReal)) (b.dpa_lo 1 (x 0) (x 1) _ _ ?_ ?_).symm
    · show 128 + 1 * (x 0).val = 128 * 1 + (x 0).val; omega
    · show 0 + 1 * (x 1).val = (x 1).val; omega
  · refine congrArg (fun x : ℝ => (x : EReal)) (b.dpa_hi 0 (x 0) (x 1) _ _ ?_ ?_).symm
    · show 0 + 1 * (x 0).val = 128 * 0 + (x 0).val; omega
    · show 256 + 1 * (x 1).val = 256 + (x 1).val; omega
  · refine congrArg (fun x : ℝ => (x : EReal)) (b.dpa_lo 0 (x 0) (x 1) _ _ ?_ ?_).symm
    · show 0 + 1 * (x 0).val = 128 * 0 + (x 0).val; omega
    · show 0 + 1 * (x 1).val = (x 1).val; omega

/-- A point of case A, at output 7. -/
theorem sum7_A (b : Blk)  (c : Dev nD) (i : grid0.Coords) (arg1 : Memref sig .tc .vmem S512x512 .f32) (harg1 : arg1.IsWhole) (arg2 : Memref sig .tc .vmem S1x256 .f32) (harg2 : arg2.IsWhole) (arg3 : Memref sig .tc .vmem S4x128x128 .f32) (harg3 : arg3.IsWhole) (arg4 : Memref sig .tc .vmem S4x128x1 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S512x512 .f32) (harg7 : arg7.IsWhole) (arg8 : Memref sig .tc .vmem S1x256 .f32) (harg8 : arg8.IsWhole) (arg9 : Memref sig .tc .vmem S4x128x128 .f32) (harg9 : arg9.IsWhole) (arg10 : Memref sig .tc .vmem S4x128x1 .f32) (harg10 : arg10.IsWhole) (arg11 : Memref sig .tc .vmem S1x256 .f32) (harg11 : arg11.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (hc13 : ¬cond0_13 i)
     :
    out0_A_7 (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 b.x0 (lane b.vg) (mats b.ws) (fourCols b.bs) (lane b.og) b.x5 = lane b.dvg := by
  show View.read (Elt Ideal) VO0_7 (VO0_7.writes (Elt Ideal) VO0_7.junk (kernelRun0_A (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 b.x0 (lane b.vg) (mats b.ws) (fourCols b.bs) (lane b.og) b.x5).2.1) = _
  rw [View.read_writes_junk_eq_canon, pieces7_A (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 b.x0 (lane b.vg) (mats b.ws) (fourCols b.bs) (lane b.og) b.x5]
  simp only [raw0, raw1, raw2, raw3, RChunk.toChunk_dvg]
  refine (View.canon_cons_unit_lit _ _ _ (by decide)).trans ?_
  exact tot_lane fun j => (b.chunk j).dvg

/-- A point of case A, at output 8. -/
theorem sum8_A (b : Blk)  (c : Dev nD) (i : grid0.Coords) (arg1 : Memref sig .tc .vmem S512x512 .f32) (harg1 : arg1.IsWhole) (arg2 : Memref sig .tc .vmem S1x256 .f32) (harg2 : arg2.IsWhole) (arg3 : Memref sig .tc .vmem S4x128x128 .f32) (harg3 : arg3.IsWhole) (arg4 : Memref sig .tc .vmem S4x128x1 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S512x512 .f32) (harg7 : arg7.IsWhole) (arg8 : Memref sig .tc .vmem S1x256 .f32) (harg8 : arg8.IsWhole) (arg9 : Memref sig .tc .vmem S4x128x128 .f32) (harg9 : arg9.IsWhole) (arg10 : Memref sig .tc .vmem S4x128x1 .f32) (harg10 : arg10.IsWhole) (arg11 : Memref sig .tc .vmem S1x256 .f32) (harg11 : arg11.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (hc13 : ¬cond0_13 i)
     :
    out0_A_8 (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 b.x0 (lane b.vg) (mats b.ws) (fourCols b.bs) (lane b.og) b.x5 = mats b.dws := by
  show View.read (Elt Ideal) VO0_8 (VO0_8.writes (Elt Ideal) VO0_8.junk (kernelRun0_A (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 b.x0 (lane b.vg) (mats b.ws) (fourCols b.bs) (lane b.og) b.x5).2.2.1) = _
  rw [View.read_writes_junk_eq_canon, pieces8_A (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 b.x0 (lane b.vg) (mats b.ws) (fourCols b.bs) (lane b.og) b.x5]
  simp only [raw0, raw1, raw2, raw3, RChunk.toChunk_dws]
  refine (View.canon_cons_unit_lit _ _ _ (by decide)).trans ?_
  exact tot_mats fun j => (b.chunk j).dws

/-- A point of case A, at output 10. -/
theorem sum10_A (b : Blk)  (c : Dev nD) (i : grid0.Coords) (arg1 : Memref sig .tc .vmem S512x512 .f32) (harg1 : arg1.IsWhole) (arg2 : Memref sig .tc .vmem S1x256 .f32) (harg2 : arg2.IsWhole) (arg3 : Memref sig .tc .vmem S4x128x128 .f32) (harg3 : arg3.IsWhole) (arg4 : Memref sig .tc .vmem S4x128x1 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S512x512 .f32) (harg7 : arg7.IsWhole) (arg8 : Memref sig .tc .vmem S1x256 .f32) (harg8 : arg8.IsWhole) (arg9 : Memref sig .tc .vmem S4x128x128 .f32) (harg9 : arg9.IsWhole) (arg10 : Memref sig .tc .vmem S4x128x1 .f32) (harg10 : arg10.IsWhole) (arg11 : Memref sig .tc .vmem S1x256 .f32) (harg11 : arg11.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (hc13 : ¬cond0_13 i)
     :
    out0_A_10 (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 b.x0 (lane b.vg) (mats b.ws) (fourCols b.bs) (lane b.og) b.x5 = lane b.dog := by
  show View.read (Elt Ideal) VO0_10 (VO0_10.writes (Elt Ideal) VO0_10.junk (kernelRun0_A (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 b.x0 (lane b.vg) (mats b.ws) (fourCols b.bs) (lane b.og) b.x5).2.2.2.2.1) = _
  rw [View.read_writes_junk_eq_canon, pieces10_A (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 b.x0 (lane b.vg) (mats b.ws) (fourCols b.bs) (lane b.og) b.x5]
  simp only [raw0, raw1, raw2, raw3, RChunk.toChunk_dog]
  refine (View.canon_cons_unit_lit _ _ _ (by decide)).trans ?_
  exact tot_lane fun j => (b.chunk j).dog

/-- A point of case A, at the biases. -/
theorem sum9_A (b : Blk)  (c : Dev nD) (i : grid0.Coords) (arg1 : Memref sig .tc .vmem S512x512 .f32) (harg1 : arg1.IsWhole) (arg2 : Memref sig .tc .vmem S1x256 .f32) (harg2 : arg2.IsWhole) (arg3 : Memref sig .tc .vmem S4x128x128 .f32) (harg3 : arg3.IsWhole) (arg4 : Memref sig .tc .vmem S4x128x1 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S512x512 .f32) (harg7 : arg7.IsWhole) (arg8 : Memref sig .tc .vmem S1x256 .f32) (harg8 : arg8.IsWhole) (arg9 : Memref sig .tc .vmem S4x128x128 .f32) (harg9 : arg9.IsWhole) (arg10 : Memref sig .tc .vmem S4x128x1 .f32) (harg10 : arg10.IsWhole) (arg11 : Memref sig .tc .vmem S1x256 .f32) (harg11 : arg11.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (hc13 : ¬cond0_13 i)
     :
    out0_A_9 (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 b.x0 (lane b.vg) (mats b.ws) (fourCols b.bs) (lane b.og) b.x5 = fourCols b.dbs := by
  show View.read (Elt Ideal) VO0_9 (VO0_9.writes (Elt Ideal) VO0_9.junk (kernelRun0_A (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 b.x0 (lane b.vg) (mats b.ws) (fourCols b.bs) (lane b.og) b.x5).2.2.2.1) = _
  rw [View.read_writes_junk_eq_canon, pieces9_A (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 b.x0 (lane b.vg) (mats b.ws) (fourCols b.bs) (lane b.og) b.x5]
  simp only [raw0, raw1, raw2, raw3, RChunk.toChunk_dbs _ 0 _ m0, RChunk.toChunk_dbs _ 1 _ m1, RChunk.toChunk_dbs _ 2 _ m2, RChunk.toChunk_dbs _ 3 _ m3]
  refine funext fun y => View.canon_apply_of_pieces (Val := Elt Ideal) (e := .f32) (S := S4x128x1) (fourCols b.dbs) _ ?_ y ?_
  swap
  · exact View.cover_of_tiledL (Val := Elt Ideal) (e := .f32) (s := S4x128x1) _ ![1, 128, 1] (by sl_kernel_rfl) y
  refine List.forall_mem_cons.2 ⟨fun x => ?_, List.forall_mem_cons.2 ⟨fun x => ?_, List.forall_mem_cons.2 ⟨fun x => ?_,
    List.forall_mem_cons.2 ⟨fun x => ?_, fun p h => absurd h (List.not_mem_nil)⟩⟩⟩⟩
  · refine (congrFun (congrArg (fun v => shapeCast S1x128x1 v shapeCasts_S128x1_S1x128x1) (tot_col fun j => (b.chunk j).dbs 3)) x).trans ((cast_col _ x).trans ?_)
    refine congrArg (fun x : ℝ => (x : EReal)) (congrArg₂ b.dbs (x := (3 : Fin 4)) (y := x 1) (Fin.ext ?_) (Fin.ext ?_))
    · have : (x 0).val < 1 := (x 0).isLt
      show 3 = 3 + 1 * (x 0).val; omega
    · show (x 1).val = 0 + 1 * (x 1).val; omega
  · refine (congrFun (congrArg (fun v => shapeCast S1x128x1 v shapeCasts_S128x1_S1x128x1) (tot_col fun j => (b.chunk j).dbs 2)) x).trans ((cast_col _ x).trans ?_)
    refine congrArg (fun x : ℝ => (x : EReal)) (congrArg₂ b.dbs (x := (2 : Fin 4)) (y := x 1) (Fin.ext ?_) (Fin.ext ?_))
    · have : (x 0).val < 1 := (x 0).isLt
      show 2 = 2 + 1 * (x 0).val; omega
    · show (x 1).val = 0 + 1 * (x 1).val; omega
  · refine (congrFun (congrArg (fun v => shapeCast S1x128x1 v shapeCasts_S128x1_S1x128x1) (tot_col fun j => (b.chunk j).dbs 1)) x).trans ((cast_col _ x).trans ?_)
    refine congrArg (fun x : ℝ => (x : EReal)) (congrArg₂ b.dbs (x := (1 : Fin 4)) (y := x 1) (Fin.ext ?_) (Fin.ext ?_))
    · have : (x 0).val < 1 := (x 0).isLt
      show 1 = 1 + 1 * (x 0).val; omega
    · show (x 1).val = 0 + 1 * (x 1).val; omega
  · refine (congrFun (congrArg (fun v => shapeCast S1x128x1 v shapeCasts_S128x1_S1x128x1) (tot_col fun j => (b.chunk j).dbs 0)) x).trans ((cast_col _ x).trans ?_)
    refine congrArg (fun x : ℝ => (x : EReal)) (congrArg₂ b.dbs (x := (0 : Fin 4)) (y := x 1) (Fin.ext ?_) (Fin.ext ?_))
    · have : (x 0).val < 1 := (x 0).isLt
      show 0 = 0 + 1 * (x 0).val; omega
    · show (x 1).val = 0 + 1 * (x 1).val; omega

/-- A point of case B, at the gradient of the rows. -/
theorem rows_B (b : Blk) (p7 : Fin 256 → ℝ) (p8 : Fin 4 → Fin 128 → Fin 128 → ℝ) (p9 : Fin 4 → Fin 128 → ℝ) (p10 : Fin 256 → ℝ)  (c : Dev nD) (i : grid0.Coords) (arg1 : Memref sig .tc .vmem S512x512 .f32) (harg1 : arg1.IsWhole) (arg2 : Memref sig .tc .vmem S1x256 .f32) (harg2 : arg2.IsWhole) (arg3 : Memref sig .tc .vmem S4x128x128 .f32) (harg3 : arg3.IsWhole) (arg4 : Memref sig .tc .vmem S4x128x1 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S512x512 .f32) (harg7 : arg7.IsWhole) (arg8 : Memref sig .tc .vmem S1x256 .f32) (harg8 : arg8.IsWhole) (arg9 : Memref sig .tc .vmem S4x128x128 .f32) (harg9 : arg9.IsWhole) (arg10 : Memref sig .tc .vmem S4x128x1 .f32) (harg10 : arg10.IsWhole) (arg11 : Memref sig .tc .vmem S1x256 .f32) (harg11 : arg11.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i) (hc13 : cond0_13 i)
     :
    out0_B_6 (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 b.x0 (lane b.vg) (mats b.ws) (fourCols b.bs) (lane b.og) b.x5 (lane p7) (mats p8) (fourCols p9) (lane p10) = fun i => ((b.dpa (i 0) (i 1) : ℝ) : EReal) := by
  show View.read (Elt Ideal) VO0_6 (VO0_6.writes (Elt Ideal) VO0_6.junk (kernelRun0_B (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 b.x0 (lane b.vg) (mats b.ws) (fourCols b.bs) (lane b.og) b.x5 (lane p7) (mats p8) (fourCols p9) (lane p10)).1) = _
  rw [View.read_writes_junk_eq_canon, pieces6_B (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 b.x0 (lane b.vg) (mats b.ws) (fourCols b.bs) (lane b.og) b.x5 (lane p7) (mats p8) (fourCols p9) (lane p10)]
  simp only [raw0, raw1, raw2, raw3, RChunk.toChunk_du, RChunk.toChunk_dv]
  refine funext fun y => View.canon_apply_of_pieces (Val := Elt Ideal) (e := .f32) (S := S512x512) (fun i => ((b.dpa (i 0) (i 1) : ℝ) : EReal)) _ ?_ y ?_
  swap
  · exact View.cover_of_tiledL (Val := Elt Ideal) (e := .f32) (s := S512x512) _ ![128, 256] (by sl_kernel_rfl) y
  refine List.forall_mem_cons.2 ⟨fun x => ?_, List.forall_mem_cons.2 ⟨fun x => ?_, List.forall_mem_cons.2 ⟨fun x => ?_,
    List.forall_mem_cons.2 ⟨fun x => ?_, List.forall_mem_cons.2 ⟨fun x => ?_, List.forall_mem_cons.2 ⟨fun x => ?_,
    List.forall_mem_cons.2 ⟨fun x => ?_, List.forall_mem_cons.2 ⟨fun x => ?_, fun p h => absurd h (List.not_mem_nil)⟩⟩⟩⟩⟩⟩⟩⟩
  · refine congrArg (fun x : ℝ => (x : EReal)) (b.dpa_hi 3 (x 0) (x 1) _ _ ?_ ?_).symm
    · show 384 + 1 * (x 0).val = 128 * 3 + (x 0).val; omega
    · show 256 + 1 * (x 1).val = 256 + (x 1).val; omega
  · refine congrArg (fun x : ℝ => (x : EReal)) (b.dpa_lo 3 (x 0) (x 1) _ _ ?_ ?_).symm
    · show 384 + 1 * (x 0).val = 128 * 3 + (x 0).val; omega
    · show 0 + 1 * (x 1).val = (x 1).val; omega
  · refine congrArg (fun x : ℝ => (x : EReal)) (b.dpa_hi 2 (x 0) (x 1) _ _ ?_ ?_).symm
    · show 256 + 1 * (x 0).val = 128 * 2 + (x 0).val; omega
    · show 256 + 1 * (x 1).val = 256 + (x 1).val; omega
  · refine congrArg (fun x : ℝ => (x : EReal)) (b.dpa_lo 2 (x 0) (x 1) _ _ ?_ ?_).symm
    · show 256 + 1 * (x 0).val = 128 * 2 + (x 0).val; omega
    · show 0 + 1 * (x 1).val = (x 1).val; omega
  · refine congrArg (fun x : ℝ => (x : EReal)) (b.dpa_hi 1 (x 0) (x 1) _ _ ?_ ?_).symm
    · show 128 + 1 * (x 0).val = 128 * 1 + (x 0).val; omega
    · show 256 + 1 * (x 1).val = 256 + (x 1).val; omega
  · refine congrArg (fun x : ℝ => (x : EReal)) (b.dpa_lo 1 (x 0) (x 1) _ _ ?_ ?_).symm
    · show 128 + 1 * (x 0).val = 128 * 1 + (x 0).val; omega
    · show 0 + 1 * (x 1).val = (x 1).val; omega
  · refine congrArg (fun x : ℝ => (x : EReal)) (b.dpa_hi 0 (x 0) (x 1) _ _ ?_ ?_).symm
    · show 0 + 1 * (x 0).val = 128 * 0 + (x 0).val; omega
    · show 256 + 1 * (x 1).val = 256 + (x 1).val; omega
  · refine congrArg (fun x : ℝ => (x : EReal)) (b.dpa_lo 0 (x 0) (x 1) _ _ ?_ ?_).symm
    · show 0 + 1 * (x 0).val = 128 * 0 + (x 0).val; omega
    · show 0 + 1 * (x 1).val = (x 1).val; omega

/-- A point of case B, at output 7. -/
theorem sum7_B (b : Blk) (p7 : Fin 256 → ℝ) (p8 : Fin 4 → Fin 128 → Fin 128 → ℝ) (p9 : Fin 4 → Fin 128 → ℝ) (p10 : Fin 256 → ℝ)  (c : Dev nD) (i : grid0.Coords) (arg1 : Memref sig .tc .vmem S512x512 .f32) (harg1 : arg1.IsWhole) (arg2 : Memref sig .tc .vmem S1x256 .f32) (harg2 : arg2.IsWhole) (arg3 : Memref sig .tc .vmem S4x128x128 .f32) (harg3 : arg3.IsWhole) (arg4 : Memref sig .tc .vmem S4x128x1 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S512x512 .f32) (harg7 : arg7.IsWhole) (arg8 : Memref sig .tc .vmem S1x256 .f32) (harg8 : arg8.IsWhole) (arg9 : Memref sig .tc .vmem S4x128x128 .f32) (harg9 : arg9.IsWhole) (arg10 : Memref sig .tc .vmem S4x128x1 .f32) (harg10 : arg10.IsWhole) (arg11 : Memref sig .tc .vmem S1x256 .f32) (harg11 : arg11.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i) (hc13 : cond0_13 i)
     :
    out0_B_7 (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 b.x0 (lane b.vg) (mats b.ws) (fourCols b.bs) (lane b.og) b.x5 (lane p7) (mats p8) (fourCols p9) (lane p10) = lane fun l => p7 l + b.dvg l := by
  show View.read (Elt Ideal) VO0_7 (VO0_7.writes (Elt Ideal) VO0_7.junk (kernelRun0_B (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 b.x0 (lane b.vg) (mats b.ws) (fourCols b.bs) (lane b.og) b.x5 (lane p7) (mats p8) (fourCols p9) (lane p10)).2.1) = _
  rw [View.read_writes_junk_eq_canon, pieces7_B (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 b.x0 (lane b.vg) (mats b.ws) (fourCols b.bs) (lane b.og) b.x5 (lane p7) (mats p8) (fourCols p9) (lane p10)]
  simp only [raw0, raw1, raw2, raw3, RChunk.toChunk_dvg]
  refine (View.canon_cons_unit_lit _ _ _ (by decide)).trans ?_
  exact (congrArg₂ addf (load_lane harg8 p7 _) (tot_lane fun j => (b.chunk j).dvg)).trans (addf_lane _ _)

/-- A point of case B, at output 8. -/
theorem sum8_B (b : Blk) (p7 : Fin 256 → ℝ) (p8 : Fin 4 → Fin 128 → Fin 128 → ℝ) (p9 : Fin 4 → Fin 128 → ℝ) (p10 : Fin 256 → ℝ)  (c : Dev nD) (i : grid0.Coords) (arg1 : Memref sig .tc .vmem S512x512 .f32) (harg1 : arg1.IsWhole) (arg2 : Memref sig .tc .vmem S1x256 .f32) (harg2 : arg2.IsWhole) (arg3 : Memref sig .tc .vmem S4x128x128 .f32) (harg3 : arg3.IsWhole) (arg4 : Memref sig .tc .vmem S4x128x1 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S512x512 .f32) (harg7 : arg7.IsWhole) (arg8 : Memref sig .tc .vmem S1x256 .f32) (harg8 : arg8.IsWhole) (arg9 : Memref sig .tc .vmem S4x128x128 .f32) (harg9 : arg9.IsWhole) (arg10 : Memref sig .tc .vmem S4x128x1 .f32) (harg10 : arg10.IsWhole) (arg11 : Memref sig .tc .vmem S1x256 .f32) (harg11 : arg11.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i) (hc13 : cond0_13 i)
     :
    out0_B_8 (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 b.x0 (lane b.vg) (mats b.ws) (fourCols b.bs) (lane b.og) b.x5 (lane p7) (mats p8) (fourCols p9) (lane p10) = mats fun h r l => p8 h r l + b.dws h r l := by
  show View.read (Elt Ideal) VO0_8 (VO0_8.writes (Elt Ideal) VO0_8.junk (kernelRun0_B (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 b.x0 (lane b.vg) (mats b.ws) (fourCols b.bs) (lane b.og) b.x5 (lane p7) (mats p8) (fourCols p9) (lane p10)).2.2.1) = _
  rw [View.read_writes_junk_eq_canon, pieces8_B (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 b.x0 (lane b.vg) (mats b.ws) (fourCols b.bs) (lane b.og) b.x5 (lane p7) (mats p8) (fourCols p9) (lane p10)]
  simp only [raw0, raw1, raw2, raw3, RChunk.toChunk_dws]
  refine (View.canon_cons_unit_lit _ _ _ (by decide)).trans ?_
  exact (congrArg₂ addf ((shapeCast_self _ _).trans (load_mats harg9 p8 _)) (tot_mats fun j => (b.chunk j).dws)).trans (addf_mats _ _)

/-- A point of case B, at output 10. -/
theorem sum10_B (b : Blk) (p7 : Fin 256 → ℝ) (p8 : Fin 4 → Fin 128 → Fin 128 → ℝ) (p9 : Fin 4 → Fin 128 → ℝ) (p10 : Fin 256 → ℝ)  (c : Dev nD) (i : grid0.Coords) (arg1 : Memref sig .tc .vmem S512x512 .f32) (harg1 : arg1.IsWhole) (arg2 : Memref sig .tc .vmem S1x256 .f32) (harg2 : arg2.IsWhole) (arg3 : Memref sig .tc .vmem S4x128x128 .f32) (harg3 : arg3.IsWhole) (arg4 : Memref sig .tc .vmem S4x128x1 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S512x512 .f32) (harg7 : arg7.IsWhole) (arg8 : Memref sig .tc .vmem S1x256 .f32) (harg8 : arg8.IsWhole) (arg9 : Memref sig .tc .vmem S4x128x128 .f32) (harg9 : arg9.IsWhole) (arg10 : Memref sig .tc .vmem S4x128x1 .f32) (harg10 : arg10.IsWhole) (arg11 : Memref sig .tc .vmem S1x256 .f32) (harg11 : arg11.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i) (hc13 : cond0_13 i)
     :
    out0_B_10 (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 b.x0 (lane b.vg) (mats b.ws) (fourCols b.bs) (lane b.og) b.x5 (lane p7) (mats p8) (fourCols p9) (lane p10) = lane fun l => p10 l + b.dog l := by
  show View.read (Elt Ideal) VO0_10 (VO0_10.writes (Elt Ideal) VO0_10.junk (kernelRun0_B (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 b.x0 (lane b.vg) (mats b.ws) (fourCols b.bs) (lane b.og) b.x5 (lane p7) (mats p8) (fourCols p9) (lane p10)).2.2.2.2.1) = _
  rw [View.read_writes_junk_eq_canon, pieces10_B (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 b.x0 (lane b.vg) (mats b.ws) (fourCols b.bs) (lane b.og) b.x5 (lane p7) (mats p8) (fourCols p9) (lane p10)]
  simp only [raw0, raw1, raw2, raw3, RChunk.toChunk_dog]
  refine (View.canon_cons_unit_lit _ _ _ (by decide)).trans ?_
  exact (congrArg₂ addf (load_lane harg11 p10 _) (tot_lane fun j => (b.chunk j).dog)).trans (addf_lane _ _)

/-- A point of case B, at the biases. -/
theorem sum9_B (b : Blk) (p7 : Fin 256 → ℝ) (p8 : Fin 4 → Fin 128 → Fin 128 → ℝ) (p9 : Fin 4 → Fin 128 → ℝ) (p10 : Fin 256 → ℝ)  (c : Dev nD) (i : grid0.Coords) (arg1 : Memref sig .tc .vmem S512x512 .f32) (harg1 : arg1.IsWhole) (arg2 : Memref sig .tc .vmem S1x256 .f32) (harg2 : arg2.IsWhole) (arg3 : Memref sig .tc .vmem S4x128x128 .f32) (harg3 : arg3.IsWhole) (arg4 : Memref sig .tc .vmem S4x128x1 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S512x512 .f32) (harg7 : arg7.IsWhole) (arg8 : Memref sig .tc .vmem S1x256 .f32) (harg8 : arg8.IsWhole) (arg9 : Memref sig .tc .vmem S4x128x128 .f32) (harg9 : arg9.IsWhole) (arg10 : Memref sig .tc .vmem S4x128x1 .f32) (harg10 : arg10.IsWhole) (arg11 : Memref sig .tc .vmem S1x256 .f32) (harg11 : arg11.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i) (hc13 : cond0_13 i)
     :
    out0_B_9 (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 b.x0 (lane b.vg) (mats b.ws) (fourCols b.bs) (lane b.og) b.x5 (lane p7) (mats p8) (fourCols p9) (lane p10) = fourCols fun h r => p9 h r + b.dbs h r := by
  show View.read (Elt Ideal) VO0_9 (VO0_9.writes (Elt Ideal) VO0_9.junk (kernelRun0_B (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 b.x0 (lane b.vg) (mats b.ws) (fourCols b.bs) (lane b.og) b.x5 (lane p7) (mats p8) (fourCols p9) (lane p10)).2.2.2.1) = _
  rw [View.read_writes_junk_eq_canon, pieces9_B (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 b.x0 (lane b.vg) (mats b.ws) (fourCols b.bs) (lane b.og) b.x5 (lane p7) (mats p8) (fourCols p9) (lane p10)]
  simp only [raw0, raw1, raw2, raw3, RChunk.toChunk_dbs _ 0 _ m0, RChunk.toChunk_dbs _ 1 _ m1, RChunk.toChunk_dbs _ 2 _ m2, RChunk.toChunk_dbs _ 3 _ m3]
  refine funext fun y => View.canon_apply_of_pieces (Val := Elt Ideal) (e := .f32) (S := S4x128x1) (fourCols fun h r => p9 h r + b.dbs h r) _ ?_ y ?_
  swap
  · exact View.cover_of_tiledL (Val := Elt Ideal) (e := .f32) (s := S4x128x1) _ ![1, 128, 1] (by sl_kernel_rfl) y
  refine List.forall_mem_cons.2 ⟨fun x => ?_, List.forall_mem_cons.2 ⟨fun x => ?_, List.forall_mem_cons.2 ⟨fun x => ?_,
    List.forall_mem_cons.2 ⟨fun x => ?_, fun p h => absurd h (List.not_mem_nil)⟩⟩⟩⟩
  · refine (congrFun (congrArg (fun v => shapeCast S1x128x1 v shapeCasts_S128x1_S1x128x1) ((congrArg₂ addf (load_col harg10 p9 3 _ (by decide)) (tot_col fun j => (b.chunk j).dbs 3)).trans (addf_col _ _))) x).trans ((cast_col _ x).trans ?_)
    refine congrArg (fun x : ℝ => (x : EReal)) (congrArg₂ (fun h r => p9 h r + b.dbs h r) (x := (3 : Fin 4)) (y := x 1) (Fin.ext ?_) (Fin.ext ?_))
    · have : (x 0).val < 1 := (x 0).isLt
      show 3 = 3 + 1 * (x 0).val; omega
    · show (x 1).val = 0 + 1 * (x 1).val; omega
  · refine (congrFun (congrArg (fun v => shapeCast S1x128x1 v shapeCasts_S128x1_S1x128x1) ((congrArg₂ addf (load_col harg10 p9 2 _ (by decide)) (tot_col fun j => (b.chunk j).dbs 2)).trans (addf_col _ _))) x).trans ((cast_col _ x).trans ?_)
    refine congrArg (fun x : ℝ => (x : EReal)) (congrArg₂ (fun h r => p9 h r + b.dbs h r) (x := (2 : Fin 4)) (y := x 1) (Fin.ext ?_) (Fin.ext ?_))
    · have : (x 0).val < 1 := (x 0).isLt
      show 2 = 2 + 1 * (x 0).val; omega
    · show (x 1).val = 0 + 1 * (x 1).val; omega
  · refine (congrFun (congrArg (fun v => shapeCast S1x128x1 v shapeCasts_S128x1_S1x128x1) ((congrArg₂ addf (load_col harg10 p9 1 _ (by decide)) (tot_col fun j => (b.chunk j).dbs 1)).trans (addf_col _ _))) x).trans ((cast_col _ x).trans ?_)
    refine congrArg (fun x : ℝ => (x : EReal)) (congrArg₂ (fun h r => p9 h r + b.dbs h r) (x := (1 : Fin 4)) (y := x 1) (Fin.ext ?_) (Fin.ext ?_))
    · have : (x 0).val < 1 := (x 0).isLt
      show 1 = 1 + 1 * (x 0).val; omega
    · show (x 1).val = 0 + 1 * (x 1).val; omega
  · refine (congrFun (congrArg (fun v => shapeCast S1x128x1 v shapeCasts_S128x1_S1x128x1) ((congrArg₂ addf (load_col harg10 p9 0 _ (by decide)) (tot_col fun j => (b.chunk j).dbs 0)).trans (addf_col _ _))) x).trans ((cast_col _ x).trans ?_)
    refine congrArg (fun x : ℝ => (x : EReal)) (congrArg₂ (fun h r => p9 h r + b.dbs h r) (x := (0 : Fin 4)) (y := x 1) (Fin.ext ?_) (Fin.ext ?_))
    · have : (x 0).val < 1 := (x 0).isLt
      show 0 = 0 + 1 * (x 0).val; omega
    · show (x 1).val = 0 + 1 * (x 1).val; omega

end Cert.Gate

end

end
-- ==== Proof.RefOps.lean ====
/- The reference's layout operations, sums and products on arrays of reals: each is the array of a formula over the
   reals, rows and lanes named by two indices whatever the shape. -/
module

public import proofs.«01_k».proof.Proof.Reals
public import proofs.«01_k».proof.Proof.Gen.ReferenceIdeal.Read
public import Idealize.ShloMosaic.Lib.TwoAxisContraction

@[expose] public section

set_option maxRecDepth 16384

noncomputable section

open scoped BigOperators

namespace Cert.GateRef

open Idealize.ShloMosaic Idealize.ShloMosaic.ValueIdx Cert.ReferenceIdeal Cert.ReferenceIdeal.Gen Cert.Gate

/-! ## Arrays of reals -/

/-- A real for each row and lane of the whole array. -/
abbrev B := Fin 2048 → Fin 256 → ℝ
/-- A real for each row and head. -/
abbrev H := Fin 2048 → Fin 4 → ℝ

/-- A chunk's row. -/
def row (n : Fin 16) (r : Fin 128) : Fin 2048 := ⟨128 * n.val + r.val, by omega⟩
/-- A row's chunk. -/
def ch (R : Fin 2048) : Fin 16 := ⟨R.val / 128, by omega⟩
/-- A row's place in its chunk. -/
def rw' (R : Fin 2048) : Fin 128 := ⟨R.val % 128, by omega⟩

theorem ch_row (n : Fin 16) (r : Fin 128) : ch (row n r) = n := Fin.ext (by simp only [ch, row]; omega)
theorem rw'_row (n : Fin 16) (r : Fin 128) : rw' (row n r) = r := Fin.ext (by simp only [rw', row]; omega)
theorem row_ch (R : Fin 2048) : row (ch R) (rw' R) = R := Fin.ext (by simp only [ch, rw', row]; omega)

/-- A sum over all rows is one over the chunks and a chunk's rows. -/
theorem sum_rows (z : Fin 2048 → ℝ) : ∑ R, z R = ∑ n : Fin 16, ∑ r : Fin 128, z (row n r) := by
  rw [← Fintype.sum_prod_type', ← (finProdFinEquiv (m := 16) (n := 128)).sum_comp z]
  refine Finset.sum_congr rfl fun p _ => congrArg z (Fin.ext ?_)
  simp [finProdFinEquiv, row]; omega

/-- Rows and lanes. -/
def R2 (f : B) : FVec Ideal S2048x256 .f32 := fun i => ((f (i 0) (i 1) : ℝ) : EReal)
/-- The lanes by head. -/
def R3 (f : B) : FVec Ideal S2048x4x64 .f32 := fun i => ((f (i 0) (ln (i 1) (i 2)) : ℝ) : EReal)
/-- The rows by chunk, the lanes by head. -/
def R4 (f : B) : FVec Ideal S16x128x4x64 .f32 := fun i => ((f (row (i 0) (i 1)) (ln (i 2) (i 3)) : ℝ) : EReal)
/-- Rows and heads. -/
def H2 (f : H) : FVec Ideal S2048x4 .f32 := fun i => ((f (i 0) (i 1) : ℝ) : EReal)
/-- Rows and heads, and a unit axis. -/
def H3 (f : H) : FVec Ideal S2048x4x1 .f32 := fun i => ((f (i 0) (i 1) : ℝ) : EReal)
/-- Lanes. -/
def L1 (f : Fin 256 → ℝ) : FVec Ideal S256 .f32 := fun i => ((f (i 0) : ℝ) : EReal)
/-- Lanes by head. -/
def L2 (f : Fin 256 → ℝ) : FVec Ideal S4x64 .f32 := fun i => ((f (ln (i 0) (i 1)) : ℝ) : EReal)
/-- Lanes by head under a unit axis. -/
def L3 (f : Fin 256 → ℝ) : FVec Ideal S1x4x64 .f32 := fun i => ((f (ln (i 1) (i 2)) : ℝ) : EReal)
/-- The matrices. -/
def M3 (f : Fin 4 → Fin 128 → Fin 128 → ℝ) : FVec Ideal S4x128x128 .f32 := fun i => ((f (i 0) (i 1) (i 2) : ℝ) : EReal)
/-- The biases. -/
def P2 (f : Fin 4 → Fin 128 → ℝ) : FVec Ideal S4x128 .f32 := fun i => ((f (i 0) (i 1) : ℝ) : EReal)
/-- The biases, transposed. -/
def Q2 (f : Fin 4 → Fin 128 → ℝ) : FVec Ideal S128x4 .f32 := fun i => ((f (i 1) (i 0) : ℝ) : EReal)
/-- The biases, transposed, and a unit axis. -/
def Q3 (f : Fin 4 → Fin 128 → ℝ) : FVec Ideal S128x4x1 .f32 := fun i => ((f (i 1) (i 0) : ℝ) : EReal)
/-- The biases, transposed, between unit axes. -/
def Q4 (f : Fin 4 → Fin 128 → ℝ) : FVec Ideal S1x128x4x1 .f32 := fun i => ((f (i 2) (i 1) : ℝ) : EReal)

/-! ## Elementwise operations -/

theorem mul_R2 (f g : B) : mulf (R2 f) (R2 g) = R2 fun r l => f r l * g r l := funext fun _ => (EReal.coe_mul _ _).symm
theorem add_R2 (f g : B) : addf (R2 f) (R2 g) = R2 fun r l => f r l + g r l := funext fun _ => (EReal.coe_add _ _).symm
theorem sub_R2 (f g : B) : subf (R2 f) (R2 g) = R2 fun r l => f r l - g r l := funext fun _ => (EReal.coe_sub _ _).symm
theorem tanh_R2 (f : B) : Host.tanh (R2 f) = R2 fun r l => Real.tanh (f r l) := funext fun _ => Ideal.tanh_coe _
theorem mul_R3 (f g : B) : mulf (R3 f) (R3 g) = R3 fun r l => f r l * g r l := funext fun _ => (EReal.coe_mul _ _).symm
theorem add_R3 (f g : B) : addf (R3 f) (R3 g) = R3 fun r l => f r l + g r l := funext fun _ => (EReal.coe_add _ _).symm
theorem add_R4 (f g : B) : addf (R4 f) (R4 g) = R4 fun r l => f r l + g r l := funext fun _ => (EReal.coe_add _ _).symm
theorem mul_H3 (f g : H) : mulf (H3 f) (H3 g) = H3 fun r h => f r h * g r h := funext fun _ => (EReal.coe_mul _ _).symm
theorem add_H3 (f g : H) : addf (H3 f) (H3 g) = H3 fun r h => f r h + g r h := funext fun _ => (EReal.coe_add _ _).symm
theorem rsqrt_H3 (f : H) (hf : ∀ r h, 0 < f r h) : Host.rsqrt (H3 f) = H3 fun r h => (√(f r h))⁻¹ :=
  funext fun i => by
    have h := hf (i 0) (i 1)
    exact (Ideal.rsqrt_coe (r := f (i 0) (i 1))).trans (by rw [if_neg (not_lt.2 h.le), if_neg h.ne']; rfl)
theorem div_H3 (f g : H) (hg : ∀ r h, g r h ≠ 0) : Host.divf (H3 f) (H3 g) = H3 fun r h => f r h / g r h :=
  funext fun i => (Ideal.div_coe (hg (i 0) (i 1)) ((f (i 0) (i 1) : ℝ) : EReal)).trans (by
    rw [← EReal.coe_mul, mul_one_div]; rfl)

theorem word_three : Ideal.ofBits .f32 0x40400000#32 = ((3 : ℝ) : EReal) := by
  simp [Ideal.ofBits, Ideal.ieee, -EReal.coe_mul]; norm_num
theorem word_64 : Ideal.ofBits .f32 0x42800000#32 = ((64 : ℝ) : EReal) := by
  simp [Ideal.ofBits, Ideal.ieee, -EReal.coe_mul]; norm_num

theorem fill2 (w : BitVec 32) (x : ℝ) (hw : Ideal.ofBits .f32 w = (x : EReal)) :
    broadcastInDim S2048x256 ![] bcast_S_S2048x256 (constant (F := Ideal) S_ .f32 w) = R2 fun _ _ => x := funext fun _ => hw
theorem fillH (w : BitVec 32) (x : ℝ) (hw : Ideal.ofBits .f32 w = (x : EReal)) :
    broadcastInDim S2048x4x1 ![] bcast_S_S2048x4x1 (constant (F := Ideal) S_ .f32 w) = H3 fun _ _ => x := funext fun _ => hw

/-! ## Layouts -/

theorem cast23 (f : B) : shapeCast S2048x4x64 (R2 f) shapeCasts_S2048x256_S2048x4x64 = R3 f := funext fun i =>
  shapeCast_apply _ _ i (ValueIdx.ix2 (i 0 : Fin 2048) (ln (i 1) (i 2)))
    (by rw [Shape.rowMajor_val_two, Shape.rowMajor_val_three]
        show (i 0).val * 256 + (64 * (i 1).val + (i 2).val) = ((i 0).val * 4 + (i 1).val) * 64 + (i 2).val
        omega)
theorem cast32 (f : B) : shapeCast S2048x256 (R3 f) shapeCasts_S2048x4x64_S2048x256 = R2 f := funext fun i =>
  (shapeCast_apply _ _ i (ValueIdx.ix3 (i 0 : Fin 2048) (head (i 1)) (⟨(i 1).val % 64, Nat.mod_lt _ (by norm_num)⟩ : Fin 64))
    (by rw [Shape.rowMajor_val_two, Shape.rowMajor_val_three]
        show ((i 0).val * 4 + (i 1).val / 64) * 64 + (i 1).val % 64 = (i 0).val * 256 + (i 1).val
        omega)).trans (congrArg (fun l => ((f (i 0) l : ℝ) : EReal)) (Fin.ext (by
          show 64 * ((i 1).val / 64) + (i 1).val % 64 = (i 1).val
          omega)))
theorem cast24 (f : B) : shapeCast S16x128x4x64 (R2 f) shapeCasts_S2048x256_S16x128x4x64 = R4 f := funext fun i =>
  shapeCast_apply _ _ i (ValueIdx.ix2 (row (i 0) (i 1)) (ln (i 2) (i 3)))
    (by rw [Shape.rowMajor_val_two, Shape.rowMajor_val_four]
        show (128 * (i 0).val + (i 1).val) * 256 + (64 * (i 2).val + (i 3).val) = (((i 0).val * 128 + (i 1).val) * 4 + (i 2).val) * 64 + (i 3).val
        omega)
theorem cast42 (f : B) : shapeCast S2048x256 (R4 f) shapeCasts_S16x128x4x64_S2048x256 = R2 f := funext fun i =>
  (shapeCast_apply _ _ i (ValueIdx.ix4 (ch (i 0)) (rw' (i 0)) (head (i 1)) (⟨(i 1).val % 64, Nat.mod_lt _ (by norm_num)⟩ : Fin 64))
    (by rw [Shape.rowMajor_val_two, Shape.rowMajor_val_four]
        show ((((i 0).val / 128) * 128 + (i 0).val % 128) * 4 + (i 1).val / 64) * 64 + (i 1).val % 64 = (i 0).val * 256 + (i 1).val
        omega)).trans (congrArg₂ (fun r l => ((f r l : ℝ) : EReal)) (row_ch (i 0)) (Fin.ext (by
          show 64 * ((i 1).val / 64) + (i 1).val % 64 = (i 1).val
          omega)))
theorem castH23 (f : H) : shapeCast S2048x4x1 (H2 f) shapeCasts_S2048x4_S2048x4x1 = H3 f := funext fun i =>
  shapeCast_apply _ _ i (ValueIdx.ix2 (i 0 : Fin 2048) (i 1 : Fin 4))
    (by rw [Shape.rowMajor_val_two, Shape.rowMajor_val_three]
        have : (i 2).val < 1 := (i 2).isLt
        show (i 0).val * 4 + (i 1).val = ((i 0).val * 4 + (i 1).val) * 1 + (i 2).val
        omega)
theorem bcastH23 (f : H) : broadcastInDim S2048x4x1 ![0, 1] bcast_S2048x4_S2048x4x1_0_1 (H2 f) = H3 f := funext fun i =>
  broadcastInDim_apply _ _ _ i (ValueIdx.ix2 (i 0 : Fin 2048) (i 1 : Fin 4)) (by intro a; fin_cases a <;> rfl)
theorem bcastH2R (f : H) : broadcastInDim S2048x4x64 ![0, 1] bcast_S2048x4_S2048x4x64_0_1 (H2 f) = R3 fun r l => f r (head l) :=
  funext fun i => (broadcastInDim_apply _ _ _ i (ValueIdx.ix2 (i 0 : Fin 2048) (i 1 : Fin 4)) (by intro a; fin_cases a <;> rfl)).trans
    (congrArg (fun h => ((f (i 0) h : ℝ) : EReal)) (head_ln (i 1) (i 2)).symm)
theorem bcastH3R (f : H) : broadcastInDim S2048x4x64 ![0, 1, 2] bcast_S2048x4x1_S2048x4x64_0_1_2 (H3 f) = R3 fun r l => f r (head l) :=
  funext fun i => (broadcastInDim_apply _ _ _ i (ValueIdx.ix3 (i 0 : Fin 2048) (i 1 : Fin 4) (0 : Fin 1)) (by intro a; fin_cases a <;> rfl)).trans
    (congrArg (fun h => ((f (i 0) h : ℝ) : EReal)) (head_ln (i 1) (i 2)).symm)
theorem castL12 (f : Fin 256 → ℝ) : shapeCast S4x64 (L1 f) shapeCasts_S256_S4x64 = L2 f := funext fun i =>
  shapeCast_apply _ _ i (ValueIdx.ix1 (ln (i 0) (i 1)))
    (by rw [Shape.rowMajor_val_one, Shape.rowMajor_val_two]
        show 64 * (i 0).val + (i 1).val = (i 0).val * 64 + (i 1).val
        omega)
theorem castL21 (f : Fin 256 → ℝ) : shapeCast S256 (L2 f) shapeCasts_S4x64_S256 = L1 f := funext fun i =>
  (shapeCast_apply _ _ i (ValueIdx.ix2 (head (i 0)) (⟨(i 0).val % 64, Nat.mod_lt _ (by norm_num)⟩ : Fin 64))
    (by rw [Shape.rowMajor_val_one, Shape.rowMajor_val_two]
        show (i 0).val / 64 * 64 + (i 0).val % 64 = (i 0).val
        omega)).trans (congrArg (fun l => ((f l : ℝ) : EReal)) (Fin.ext (by
          show 64 * ((i 0).val / 64) + (i 0).val % 64 = (i 0).val
          omega)))
theorem castL23 (f : Fin 256 → ℝ) : shapeCast S1x4x64 (L2 f) shapeCasts_S4x64_S1x4x64 = L3 f := funext fun i =>
  shapeCast_apply _ _ i (ValueIdx.ix2 (i 1 : Fin 4) (i 2 : Fin 64))
    (by rw [Shape.rowMajor_val_two, Shape.rowMajor_val_three]
        have : (i 0).val < 1 := (i 0).isLt
        show (i 1).val * 64 + (i 2).val = ((i 0).val * 4 + (i 1).val) * 64 + (i 2).val
        omega)
theorem bcastL23 (f : Fin 256 → ℝ) : broadcastInDim S1x4x64 ![1, 2] bcast_S4x64_S1x4x64_1_2 (L2 f) = L3 f := funext fun i =>
  broadcastInDim_apply _ _ _ i (ValueIdx.ix2 (i 1 : Fin 4) (i 2 : Fin 64)) (by intro a; fin_cases a <;> rfl)
theorem bcastL3R (f : Fin 256 → ℝ) : broadcastInDim S2048x4x64 ![0, 1, 2] bcast_S1x4x64_S2048x4x64_0_1_2 (L3 f) = R3 fun _ l => f l :=
  funext fun i => broadcastInDim_apply _ _ _ i (ValueIdx.ix3 (0 : Fin 1) (i 1 : Fin 4) (i 2 : Fin 64)) (by intro a; fin_cases a <;> rfl)
theorem castL1 (f : Fin 256 → ℝ) : shapeCast S1x256 (L1 f) shapeCasts_S256_S1x256 = fun i => ((f (i 1) : ℝ) : EReal) := funext fun i =>
  shapeCast_apply _ _ i (ValueIdx.ix1 (i 1 : Fin 256))
    (by rw [Shape.rowMajor_val_one, Shape.rowMajor_val_two]
        have : (i 0).val < 1 := (i 0).isLt
        show (i 1).val = (i 0).val * 256 + (i 1).val
        omega)
theorem transP (f : Fin 4 → Fin 128 → ℝ) : transpose S128x4 [1, 0] (P2 f) transposes_S4x128_S128x4_1_0 = Q2 f := funext fun i =>
  transpose_apply _ _ _ i (ValueIdx.ix2 (i 1 : Fin 4) (i 0 : Fin 128)) (by intro a; fin_cases a <;> rfl)
theorem transQ (f : Fin 4 → Fin 128 → ℝ) : transpose S4x128 [1, 0] (Q2 f) transposes_S128x4_S4x128_1_0 = P2 f := funext fun i =>
  transpose_apply _ _ _ i (ValueIdx.ix2 (i 1 : Fin 128) (i 0 : Fin 4)) (by intro a; fin_cases a <;> rfl)
theorem bcastQ23 (f : Fin 4 → Fin 128 → ℝ) : broadcastInDim S128x4x1 ![0, 1] bcast_S128x4_S128x4x1_0_1 (Q2 f) = Q3 f := funext fun i =>
  broadcastInDim_apply _ _ _ i (ValueIdx.ix2 (i 0 : Fin 128) (i 1 : Fin 4)) (by intro a; fin_cases a <;> rfl)
theorem bcastQ34 (f : Fin 4 → Fin 128 → ℝ) : broadcastInDim S1x128x4x1 ![1, 2, 3] bcast_S128x4x1_S1x128x4x1_1_2_3 (Q3 f) = Q4 f := funext fun i =>
  broadcastInDim_apply _ _ _ i (ValueIdx.ix3 (i 1 : Fin 128) (i 2 : Fin 4) (0 : Fin 1)) (by intro a; fin_cases a <;> rfl)
theorem bcastQ4R (f : Fin 4 → Fin 128 → ℝ) :
    broadcastInDim S16x128x4x64 ![0, 1, 2, 3] bcast_S1x128x4x1_S16x128x4x64_0_1_2_3 (Q4 f) = R4 fun r l => f (head l) (rw' r) := funext fun i =>
  (broadcastInDim_apply _ _ _ i (ValueIdx.ix4 (0 : Fin 1) (i 1 : Fin 128) (i 2 : Fin 4) (0 : Fin 1)) (by intro a; fin_cases a <;> rfl)).trans
    (congrArg₂ (fun h r => ((f h r : ℝ) : EReal)) (head_ln (i 2) (i 3)).symm (rw'_row (i 0) (i 1)).symm)
theorem castQ24 (f : Fin 4 → Fin 128 → ℝ) : shapeCast S1x128x4x1 (Q2 f) shapeCasts_S128x4_S1x128x4x1 = Q4 f := funext fun i =>
  shapeCast_apply _ _ i (ValueIdx.ix2 (i 1 : Fin 128) (i 2 : Fin 4))
    (by rw [Shape.rowMajor_val_two, Shape.rowMajor_val_four]
        have : (i 0).val < 1 := (i 0).isLt
        have : (i 3).val < 1 := (i 3).isLt
        show (i 1).val * 4 + (i 2).val = (((i 0).val * 128 + (i 1).val) * 4 + (i 2).val) * 1 + (i 3).val
        omega)
theorem castP (f : Fin 4 → Fin 128 → ℝ) : shapeCast S4x128x1 (P2 f) shapeCasts_S4x128_S4x128x1 = fun i => ((f (i 0) (i 1) : ℝ) : EReal) :=
  funext fun i => shapeCast_apply _ _ i (ValueIdx.ix2 (i 0 : Fin 4) (i 1 : Fin 128))
    (by rw [Shape.rowMajor_val_two, Shape.rowMajor_val_three]
        have : (i 2).val < 1 := (i 2).isLt
        show (i 0).val * 128 + (i 1).val = ((i 0).val * 128 + (i 1).val) * 1 + (i 2).val
        omega)

/-! ## Sums -/

/-- A sum from the zero word is the sum. -/
theorem zero_start (x : EReal) : Ideal.ofBits .f32 0x00000000#32 + x = x := by rw [Ideal.ofBits_zero_f32]; exact zero_add x

theorem sumD (f : B) : Host.reduceAdd (R3 f) (constant (F := Ideal) S_ .f32 0x00000000#32) reducesTo_S2048x4x64_S2048x4_d2 h_S_
    = H2 fun r h => ∑ d, f r (ln h d) := funext fun i =>
  (Ideal.hostReduceAdd_single reducesTo_S2048x4x64_S2048x4_d2 (by decide) (R3 f) _ i).trans ((zero_start _).trans (coe_sum _ _).symm)
theorem sumR (f : B) : Host.reduceAdd (R3 f) (constant (F := Ideal) S_ .f32 0x00000000#32) reducesTo_S2048x4x64_S4x64_d0 h_S_
    = L2 fun l => ∑ r, f r l := funext fun i =>
  (Ideal.hostReduceAdd_single reducesTo_S2048x4x64_S4x64_d0 (by decide) (R3 f) _ i).trans ((zero_start _).trans (coe_sum _ _).symm)
theorem sumH (f : H) : Host.reduceAdd (H3 f) (constant (F := Ideal) S_ .f32 0x00000000#32) reducesTo_S2048x4x1_S2048x4_d2 h_S_ = H2 f := funext fun i =>
  (Ideal.hostReduceAdd_single reducesTo_S2048x4x1_S2048x4_d2 (by decide) (H3 f) _ i).trans ((zero_start _).trans (Fin.sum_univ_one _))
theorem sumL (f : Fin 256 → ℝ) : Host.reduceAdd (L3 f) (constant (F := Ideal) S_ .f32 0x00000000#32) reducesTo_S1x4x64_S4x64_d0 h_S_ = L2 f := funext fun i =>
  (Ideal.hostReduceAdd_single reducesTo_S1x4x64_S4x64_d0 (by decide) (L3 f) _ i).trans ((zero_start _).trans (Fin.sum_univ_one _))
theorem sumQ (f : Fin 4 → Fin 128 → ℝ) : Host.reduceAdd (Q3 f) (constant (F := Ideal) S_ .f32 0x00000000#32) reducesTo_S128x4x1_S128x4_d2 h_S_ = Q2 f :=
  funext fun i =>
  (Ideal.hostReduceAdd_single reducesTo_S128x4x1_S128x4_d2 (by decide) (Q3 f) _ i).trans ((zero_start _).trans (Fin.sum_univ_one _))

/-- A sum over the first and the last of four axes. -/
theorem sum_outer (A D : ℕ) (h : (⟨4, ![A, 128, 4, D]⟩ : Shape).ReducesTo [0, 3] S128x4) (x : (⟨4, ![A, 128, 4, D]⟩ : Shape).Idx → EReal)
    (j : S128x4.Idx) :
    Ideal.hostReduceAdd h x (Ideal.ofBits .f32 0x00000000#32) j
      = ∑ a : Fin A, ∑ d : Fin D, x (ValueIdx.ix4 a (j 0 : Fin 128) (j 1 : Fin 4) d) := by
  unfold Ideal.hostReduceAdd
  rw [zero_start, ← Fintype.sum_prod_type']
  refine Finset.sum_nbij' (fun i => ((i 0 : Fin A), (i 3 : Fin D))) (fun p => ValueIdx.ix4 p.1 (j 0 : Fin 128) (j 1 : Fin 4) p.2) ?_ ?_ ?_ ?_ ?_
  · intro i _; exact Finset.mem_univ _
  · intro p _
    refine Finset.mem_filter.2 ⟨Finset.mem_univ _, funext fun b => ?_⟩
    fin_cases b <;> rfl
  · intro i hi
    have e := (Finset.mem_filter.1 hi).2
    subst e
    funext b
    fin_cases b <;> rfl
  · intro p _; rfl
  · intro i hi
    have e := (Finset.mem_filter.1 hi).2
    subst e
    refine congrArg x (funext fun b => ?_)
    fin_cases b <;> rfl

theorem sumND (f : B) : Host.reduceAdd (R4 f) (constant (F := Ideal) S_ .f32 0x00000000#32) reducesTo_S16x128x4x64_S128x4_d0_3 h_S_
    = Q2 fun h r => ∑ n, ∑ d, f (row n r) (ln h d) := funext fun i =>
  (sum_outer 16 64 reducesTo_S16x128x4x64_S128x4_d0_3 (R4 f) i).trans
    (((coe_sum _ _).trans (Finset.sum_congr rfl fun _ _ => coe_sum _ _)).symm)
theorem sumQ4 (f : Fin 4 → Fin 128 → ℝ) : Host.reduceAdd (Q4 f) (constant (F := Ideal) S_ .f32 0x00000000#32) reducesTo_S1x128x4x1_S128x4_d0_3 h_S_ = Q2 f :=
  funext fun i => (sum_outer 1 1 reducesTo_S1x128x4x1_S128x4_d0_3 (Q4 f) i).trans ((Fin.sum_univ_one _).trans (Fin.sum_univ_one _))

/-! ## Products -/

/-- The rows by head, lane and chunk. -/
def D4 (f : B) : FVec Ideal S4x16x64x128 .f32 := fun i => ((f (row (i 1) (i 3)) (ln (i 0) (i 2)) : ℝ) : EReal)

theorem transR (f : B) : transpose S4x16x64x128 [2, 0, 3, 1] (R4 f) transposes_S16x128x4x64_S4x16x64x128_2_0_3_1 = D4 f := funext fun i =>
  transpose_apply _ _ _ i (ValueIdx.ix4 (i 1 : Fin 16) (i 3 : Fin 128) (i 0 : Fin 4) (i 2 : Fin 64)) (by intro a; fin_cases a <;> rfl)
theorem transD (f : B) : transpose S16x128x4x64 [1, 3, 0, 2] (D4 f) transposes_S4x16x64x128_S16x128x4x64_1_3_0_2 = R4 f := funext fun i =>
  transpose_apply _ _ _ i (ValueIdx.ix4 (i 2 : Fin 4) (i 0 : Fin 16) (i 3 : Fin 64) (i 1 : Fin 128)) (by intro a; fin_cases a <;> rfl)
/-- A mixed row, read at a chunk's row and a head's lane. -/
theorem mixAt (f : B) (w : Fin 4 → Fin 128 → Fin 128 → ℝ) (n : Fin 16) (r : Fin 128) (h : Fin 4) (d : Fin 64) :
    ∑ s, f (row (ch (row n r)) s) (ln h d) * w (head (ln h d)) (rw' (row n r)) s = ∑ s, f (row n s) (ln h d) * w h r s := by
  rw [ch_row, rw'_row, head_ln]
theorem mixAtT (f : B) (w : Fin 4 → Fin 128 → Fin 128 → ℝ) (n : Fin 16) (r : Fin 128) (h : Fin 4) (d : Fin 64) :
    ∑ t, f (row (ch (row n r)) t) (ln h d) * w (head (ln h d)) t (rw' (row n r)) = ∑ t, f (row n t) (ln h d) * w h t r := by
  rw [ch_row, rw'_row, head_ln]
theorem dotMix (f : B) (w : Fin 4 → Fin 128 → Fin 128 → ℝ) :
    Host.dotGeneral dot_S16x128x4x64_S4x128x128_S4x16x64x128_1_2_03_1_2_0 none (R4 f) (M3 w)
      = D4 fun r l => ∑ s, f (row (ch r) s) l * w (head l) (rw' r) s := funext fun i => by
  simp only [Host.dotGeneral]
  refine (Ideal.dotGeneral_apply _ _ _ _ _ _).trans ?_
  rw [← (ValueIdx.contrEquiv1 dot_S16x128x4x64_S4x128x128_S4x16x64x128_1_2_03_1_2_0 128 rfl rfl).symm.sum_comp]
  refine Eq.trans ?_ (congrArg (fun x : ℝ => (x : EReal)) (mixAt f w (i 1) (i 3) (i 0) (i 2)).symm)
  rw [coe_sum]
  exact Finset.sum_congr rfl fun k _ => (EReal.coe_mul _ _).symm
theorem dotMixT (f : B) (w : Fin 4 → Fin 128 → Fin 128 → ℝ) :
    Host.dotGeneral dot_S4x16x64x128_S4x128x128_S4x16x64x128_3_1_12_2_0_0 none (D4 f) (M3 w)
      = D4 fun r l => ∑ t, f (row (ch r) t) l * w (head l) t (rw' r) := funext fun i => by
  simp only [Host.dotGeneral]
  refine (Ideal.dotGeneral_apply _ _ _ _ _ _).trans ?_
  rw [← (ValueIdx.contrEquiv1 dot_S4x16x64x128_S4x128x128_S4x16x64x128_3_1_12_2_0_0 128 rfl rfl).symm.sum_comp]
  refine Eq.trans ?_ (congrArg (fun x : ℝ => (x : EReal)) (mixAtT f w (i 1) (i 3) (i 0) (i 2)).symm)
  rw [coe_sum]
  exact Finset.sum_congr rfl fun k _ => (EReal.coe_mul _ _).symm
theorem dotW (f g : B) :
    Host.dotGeneral dot_S4x16x64x128_S16x128x4x64_S4x128x128_12_03_3_1_0_2 none (D4 f) (R4 g)
      = M3 fun h t s => ∑ n, ∑ d, f (row n t) (ln h d) * g (row n s) (ln h d) := funext fun i => by
  simp only [Host.dotGeneral]
  refine (Ideal.dotGeneral_apply _ _ _ _ _ _).trans ?_
  rw [ValueIdx.sum_contr2 dot_S4x16x64x128_S16x128x4x64_S4x128x128_12_03_3_1_0_2 16 64 rfl rfl rfl, M3, coe_sum]
  refine Finset.sum_congr rfl fun n _ => ?_
  rw [coe_sum]
  exact Finset.sum_congr rfl fun d _ => (EReal.coe_mul _ _).symm

/-! ## The causal mask -/

theorem mask_apply (i : S4x128x128.Idx) : Read.val_main_v66_1 (F := Ideal) i = if (i 2 : Fin 128) ≤ (i 1 : Fin 128) then 1#1 else 0#1 := by
  refine (broadcastInDim_apply _ bcast_S128x128_S4x128x128_1_2 _ i (ValueIdx.ix2 (i 1 : Fin 128) (i 2 : Fin 128)) (by intro a; fin_cases a <;> rfl)).trans ?_
  show Scalar.select (IntOp.cmpi .sge (BitVec.ofNat 32 (i 1).val + 0#32) (BitVec.ofNat 32 (i 2).val)) (1#1) (0#1) = _
  rw [BitVec.add_zero]
  refine (congrArg (fun c => Scalar.select c (1#1) (0#1)) (causal_words (i 1) (i 2))).trans ?_
  exact (apply_ite (fun c : BitVec 1 => Scalar.select c (1#1) (0#1)) _ _ _)
theorem select_M3 (f : Fin 4 → Fin 128 → Fin 128 → ℝ) (z : FVec Ideal S4x128x128 .f32) (hz : ∀ i, z i = ((0 : ℝ) : EReal)) :
    select (Read.val_main_v66_1 (F := Ideal)) (M3 f) z = M3 (causalR f) := funext fun i => by
  show Scalar.select (Read.val_main_v66_1 (F := Ideal) i) (M3 f i) (z i) = ((causalR f (i 0) (i 1) (i 2) : ℝ) : EReal)
  rw [mask_apply, hz]
  unfold causalR
  by_cases h : (i 2 : Fin 128) ≤ (i 1 : Fin 128)
  · rw [if_pos h]; exact congrArg (fun x : ℝ => (x : EReal)) (if_pos h).symm
  · rw [if_neg h]; exact congrArg (fun x : ℝ => (x : EReal)) (if_neg h).symm

end Cert.GateRef

end

end
-- ==== Proof.Ref.lean ====
/- What the reference computes on real arguments: each of its values is the array of a chunk's formula, read at a row's
   chunk and place. -/
module

public import proofs.«01_k».proof.Proof.RefOps

@[expose] public section

set_option maxRecDepth 16384

noncomputable section

open scoped BigOperators

namespace Cert.GateRef

open Idealize.ShloMosaic Idealize.ShloMosaic.ValueIdx Cert.ReferenceIdeal Cert.ReferenceIdeal.Gen Cert.ReferenceIdeal.Read Cert.Gate

/-- The arguments, all real. -/
structure Args where
  pa : Fin 2048 → Fin 512 → ℝ
  vg : Fin 256 → ℝ
  ws : Fin 4 → Fin 128 → Fin 128 → ℝ
  bs : Fin 4 → Fin 128 → ℝ
  og : Fin 256 → ℝ
  dya : Fin 2048 → Fin 256 → ℝ

namespace Args

variable (a : Args)

/-- The projected rows' array. -/
def x0 : FVec Ideal S2048x512 .f32 := fun i => ((a.pa (i 0) (i 1) : ℝ) : EReal)
/-- A lane of the first half. -/
def lo (l : Fin 256) : Fin 512 := ⟨l.val, by omega⟩
/-- A lane of the second half. -/
def hi (l : Fin 256) : Fin 512 := ⟨256 + l.val, by omega⟩
/-- One chunk's inputs. -/
def chunk (n : Fin 16) : RChunk :=
  ⟨fun r l => a.pa (row n r) (lo l), fun r l => a.pa (row n r) (hi l), a.vg, a.ws, a.bs, a.og, fun r l => a.dya (row n r) l⟩
/-- A chunk's formula over rows and lanes, for the whole array. -/
def up (f : RChunk → T) : B := fun r l => f (a.chunk (ch r)) (rw' r) l
/-- A chunk's formula over rows and heads, for the whole array. -/
def uh (f : RChunk → Fin 128 → Fin 4 → ℝ) : H := fun r h => f (a.chunk (ch r)) (rw' r) h

theorem up_row (f : RChunk → T) (n : Fin 16) (r : Fin 128) (l : Fin 256) : a.up f (row n r) l = f (a.chunk n) r l := by
  rw [up, ch_row, rw'_row]

theorem over64 (x : ℝ) : x / 64 = x * (1 / 64) := div_eq_mul_one_div x 64

/-! ## The forward -/

theorem e0 : val_main_v0 (F := Ideal) a.x0 = R2 (a.up (·.u)) := funext fun i =>
  congrArg₂ (fun r l => ((a.pa r l : ℝ) : EReal)) ((Fin.ext (Nat.zero_add _)).trans (row_ch (i 0)).symm) (Fin.ext (Nat.zero_add _))
theorem e1 : val_main_v1 (F := Ideal) a.x0 = R2 (a.up (·.v)) := funext fun i =>
  congrArg₂ (fun r l => ((a.pa r l : ℝ) : EReal)) ((Fin.ext (Nat.zero_add _)).trans (row_ch (i 0)).symm) (Fin.ext rfl)
theorem e6 : val_main_v6 (F := Ideal) a.x0 = R2 (a.up fun k r l => 3 * (k.u r l * k.u r l)) := by
  simp only [val_main_v6, val_main_v5, val_main_cst, val_main_v4, e0, fill2 _ _ word_three, mul_R2]; rfl
theorem e12 : val_main_v12 (F := Ideal) a.x0 = R2 (a.up fun k r l => tR (k.u r l)) := by
  simp only [val_main_v12, val_main_v11, val_main_v10, val_main_cst_1, val_main_v9, val_main_v8, val_main_v7, val_main_cst_0, val_main_v3,
    val_main_v2, e0, fill2 _ _ word_kA, fill2 _ _ word_kB, mul_R2, add_R2, tanh_R2]; rfl
theorem e17 : val_main_v17 (F := Ideal) a.x0 = R2 (a.up fun k r l => (1 + tR (k.u r l)) * (1 - tR (k.u r l))) := by
  simp only [val_main_v17, val_main_v16, val_main_v15, val_main_cst_3, val_main_v14, val_main_v13, val_main_cst_2, e12, fill2 _ _ word_one,
    mul_R2, add_R2, sub_R2]; rfl
theorem e21 : val_main_v21 (F := Ideal) a.x0 = R2 (a.up fun k r l => 1 / 2 * (1 + tR (k.u r l))) := by
  simp only [val_main_v21, val_main_v20, val_main_cst_5, val_main_v19, val_main_v18, val_main_cst_4, e12, fill2 _ _ word_one,
    fill2 _ _ word_half, mul_R2, add_R2]; rfl
theorem e22 : val_main_v22 (F := Ideal) a.x0 = R2 (a.up (·.gu)) := by
  simp only [val_main_v22, e0, e21, mul_R2]
  refine congrArg R2 (funext₂ fun r l => ?_)
  simp only [up, RChunk.gu, geluR]; ring
theorem e27 : val_main_v27 (F := Ideal) a.x0 = R2 (a.up fun k r l => 3 * (k.v r l * k.v r l)) := by
  simp only [val_main_v27, val_main_v26, val_main_cst_6, val_main_v25, e1, fill2 _ _ word_three, mul_R2]; rfl
theorem e33 : val_main_v33 (F := Ideal) a.x0 = R2 (a.up fun k r l => tR (k.v r l)) := by
  simp only [val_main_v33, val_main_v32, val_main_v31, val_main_cst_8, val_main_v30, val_main_v29, val_main_v28, val_main_cst_7, val_main_v24,
    val_main_v23, e1, fill2 _ _ word_kA, fill2 _ _ word_kB, mul_R2, add_R2, tanh_R2]; rfl
theorem e38 : val_main_v38 (F := Ideal) a.x0 = R2 (a.up fun k r l => (1 + tR (k.v r l)) * (1 - tR (k.v r l))) := by
  simp only [val_main_v38, val_main_v37, val_main_v36, val_main_cst_10, val_main_v35, val_main_v34, val_main_cst_9, e33, fill2 _ _ word_one,
    mul_R2, add_R2, sub_R2]; rfl
theorem e42 : val_main_v42 (F := Ideal) a.x0 = R2 (a.up fun k r l => 1 / 2 * (1 + tR (k.v r l))) := by
  simp only [val_main_v42, val_main_v41, val_main_cst_12, val_main_v40, val_main_v39, val_main_cst_11, e33, fill2 _ _ word_one,
    fill2 _ _ word_half, mul_R2, add_R2]; rfl
theorem e44 : val_main_v44 (F := Ideal) a.x0 = R3 (a.up (·.gv)) := by
  simp only [val_main_v44, val_main_v43, e1, e42, mul_R2, cast23]
  refine congrArg R3 (funext₂ fun r l => ?_)
  simp only [up, RChunk.gv, geluR]; ring
theorem e48 : val_main_v48 (F := Ideal) a.x0 = H3 fun r h => ∑ d, a.up (·.gv) r (ln h d) * a.up (·.gv) r (ln h d) := by
  rw [val_main_v48, val_main_v47, val_main_cst_13, val_main_v46, e44, mul_R3, sumD, bcastH23]
theorem e52 : val_main_v52 (F := Ideal) a.x0 = H3 (a.uh fun k => msR k.gv) := by
  simp only [val_main_v52, val_main_v51, val_main_cst_15, val_main_v50, val_main_v49, val_main_cst_14, e48, fillH _ _ word_64, fillH _ _ word_kE,
    div_H3 _ _ fun _ _ => (by norm_num : (64 : ℝ) ≠ 0), add_H3]
  refine congrArg H3 (funext₂ fun r h => ?_)
  rw [over64]; simp only [up, uh, msR, meanR]
theorem e53 : val_main_v53 (F := Ideal) a.x0 = H3 (a.uh fun k => rsR k.gv) := by
  exact (congrArg Host.rsqrt a.e52).trans (rsqrt_H3 _ fun r h => msR_pos _ _ _)
theorem e56 : val_main_v56 (F := Ideal) a.x0 = H3 (a.uh fun k => drsR k.gv) := by
  rw [val_main_v56, val_main_v55, val_main_cst_16, val_main_v54, e53, e52, div_H3 _ (a.uh fun k => msR k.gv) fun r h => (msR_pos _ _ _).ne', fillH _ _ word_neg_half, mul_H3]
  rfl
theorem e57 : val_main_v57 (F := Ideal) a.x0 = R3 fun r l => a.uh (fun k => rsR k.gv) r (head l) := by
  rw [val_main_v57, e53, bcastH3R]
theorem e58 : val_main_v58 (F := Ideal) a.x0 = R3 (a.up fun k => normedR k.gv) := by
  rw [val_main_v58, e57, e44, mul_R3]; rfl
theorem e59 : val_main_v59 (F := Ideal) (L1 a.vg) = L3 a.vg := by
  rw [val_main_v59, val_main_v45, castL12, bcastL23]
theorem e63 : val_main_v63 (F := Ideal) a.x0 (L1 a.vg) = R4 (a.up (·.vn)) := by
  rw [val_main_v63, val_main_v62, val_main_v61, val_main_v60, e58, e59, bcastL3R, mul_R3, cast32, cast24]; rfl
theorem e66 : val_main_v66_0 (F := Ideal) (M3 a.ws) = M3 (causalR a.ws) := by
  rw [val_main_v66_0]
  refine select_M3 _ _ fun i => ?_
  show (((BitVec.toInt 0#32 : ℤ) : ℝ) : EReal) = _
  norm_num
theorem e68 : val_main_v68 (F := Ideal) a.x0 (L1 a.vg) (M3 a.ws) = R4 fun r l => ∑ s, a.up (·.vn) (row (ch r) s) l * causalR a.ws (head l) (rw' r) s := by
  rw [val_main_v68, val_main_v67, e63, e66, dotMix, transD]
theorem e72 : val_main_v72 (F := Ideal) (P2 a.bs) = R4 fun r l => a.bs (head l) (rw' r) := by
  rw [val_main_v72, val_main_v71, val_main_v70, val_main_v69, transP, bcastQ23, bcastQ34, bcastQ4R]
theorem e73 : val_main_v73 (F := Ideal) a.x0 (L1 a.vg) (M3 a.ws) (P2 a.bs) = R4 (a.up (·.y)) := by
  rw [val_main_v73, e68, e72, add_R4]
  refine congrArg R4 (funext₂ fun r l => ?_)
  simp only [up_row, mul_comm]; rfl
theorem e74 : val_main_v74 (F := Ideal) a.x0 (L1 a.vg) (M3 a.ws) (P2 a.bs) = R2 (a.up (·.y)) := by
  rw [val_main_v74, e73, cast42]
theorem e76 : val_main_v76 (F := Ideal) a.x0 (L1 a.vg) (M3 a.ws) (P2 a.bs) = R3 (a.up (·.o)) := by
  rw [val_main_v76, val_main_v75, e22, e74, mul_R2, cast23]; rfl
theorem e80 : val_main_v80 (F := Ideal) a.x0 (L1 a.vg) (M3 a.ws) (P2 a.bs) = H3 fun r h => ∑ d, a.up (·.o) r (ln h d) * a.up (·.o) r (ln h d) := by
  rw [val_main_v80, val_main_v79, val_main_cst_18, val_main_v78, e76, mul_R3, sumD, bcastH23]
theorem e84 : val_main_v84 (F := Ideal) a.x0 (L1 a.vg) (M3 a.ws) (P2 a.bs) = H3 (a.uh fun k => msR k.o) := by
  simp only [val_main_v84, val_main_v83, val_main_cst_20, val_main_v82, val_main_v81, val_main_cst_19, e80, fillH _ _ word_64, fillH _ _ word_kE,
    div_H3 _ _ fun _ _ => (by norm_num : (64 : ℝ) ≠ 0), add_H3]
  refine congrArg H3 (funext₂ fun r h => ?_)
  rw [over64]; simp only [up, uh, msR, meanR]
theorem e85 : val_main_v85 (F := Ideal) a.x0 (L1 a.vg) (M3 a.ws) (P2 a.bs) = H3 (a.uh fun k => rsR k.o) := by
  exact (congrArg Host.rsqrt a.e84).trans (rsqrt_H3 _ fun r h => msR_pos _ _ _)
theorem e88 : val_main_v88 (F := Ideal) a.x0 (L1 a.vg) (M3 a.ws) (P2 a.bs) = H3 (a.uh fun k => drsR k.o) := by
  rw [val_main_v88, val_main_v87, val_main_cst_21, val_main_v86, e85, e84, div_H3 _ (a.uh fun k => msR k.o) fun r h => (msR_pos _ _ _).ne', fillH _ _ word_neg_half, mul_H3]
  rfl
theorem e89 : val_main_v89 (F := Ideal) a.x0 (L1 a.vg) (M3 a.ws) (P2 a.bs) = R3 fun r l => a.uh (fun k => rsR k.o) r (head l) := by
  rw [val_main_v89, e85, bcastH3R]
theorem e90 : val_main_v90 (F := Ideal) a.x0 (L1 a.vg) (M3 a.ws) (P2 a.bs) = R3 (a.up fun k => normedR k.o) := by
  rw [val_main_v90, e89, e76, mul_R3]; rfl
theorem e91 : val_main_v91 (F := Ideal) (L1 a.og) = L3 a.og := by
  rw [val_main_v91, val_main_v77, castL12, bcastL23]

/-! ## The backward -/

theorem e95 : val_main_v95 (F := Ideal) (R2 a.dya) = R3 (a.up (·.ct)) := by
  rw [val_main_v95, cast23]
  refine congrArg R3 (funext₂ fun r l => ?_)
  show a.dya r l = a.dya (row (ch r) (rw' r)) l
  rw [row_ch]
theorem dog_at (l : Fin 256) : ∑ r, a.up (fun k => normedR k.o) r l * a.up (·.ct) r l = ∑ n, (a.chunk n).dog l := by
  simp only [sum_rows, up_row, RChunk.dog]
theorem e183 : val_main_v183 (F := Ideal) a.x0 (L1 a.vg) (M3 a.ws) (P2 a.bs) (R2 a.dya)
    = fun i => ((∑ n, (a.chunk n).dog (i 1) : ℝ) : EReal) := by
  rw [val_main_v183, val_main_v116, val_main_v101, val_main_cst_23, val_main_v98, val_main_v97, val_main_cst_22, val_main_v96, e90, e95,
    mul_R3, sumR, castL23, sumL, castL21, castL1]
  exact funext fun i => congrArg (fun x : ℝ => (x : EReal)) (a.dog_at (i 1))
theorem e100 : val_main_v100 (F := Ideal) (L1 a.og) (R2 a.dya) = R3 (a.up fun k r l => k.ct r l * k.og l) := by
  rw [val_main_v100, val_main_v99, e91, e95, bcastL3R, mul_R3]; rfl
theorem e104 : val_main_v104 (F := Ideal) a.x0 (L1 a.vg) (M3 a.ws) (P2 a.bs) (L1 a.og) (R2 a.dya) = H3 fun r h => ∑ d, a.up (·.o) r (ln h d) * a.up (fun k r l => k.ct r l * k.og l) r (ln h d) := by
  rw [val_main_v104, val_main_v103, val_main_cst_24, val_main_v102, e76, e100, mul_R3, sumD, castH23]
theorem e111 : val_main_v111 (F := Ideal) a.x0 (L1 a.vg) (M3 a.ws) (P2 a.bs) (L1 a.og) (R2 a.dya) = R3 (a.up fun k r l => msBackR k.o (fun r l => k.ct r l * k.og l) r (head l)) := by
  rw [val_main_v111, val_main_v110, val_main_cst_26, val_main_v109, val_main_v108, val_main_cst_25, val_main_v107, e104, e88, mul_H3, fillH _ _ word_64,
    div_H3 _ _ fun _ _ => (by norm_num : (64 : ℝ) ≠ 0), sumH, bcastH2R]
  refine congrArg R3 (funext₂ fun r l => ?_)
  rw [over64]; simp only [up, uh, msBackR, meanR, head_ln, Finset.sum_mul]
theorem e105 : val_main_v105 (F := Ideal) a.x0 (L1 a.vg) (M3 a.ws) (P2 a.bs) = R3 fun r l => a.uh (fun k => rsR k.o) r (head l) := by
  rw [val_main_v105, e85, bcastH3R]
theorem e117 : val_main_v117 (F := Ideal) a.x0 (L1 a.vg) (M3 a.ws) (P2 a.bs) (L1 a.og) (R2 a.dya) = R2 (a.up (·.dout)) := by
  simp only [val_main_v117, val_main_v115, val_main_v114, val_main_v113, val_main_v112, val_main_v106, e105, e111, e100, e76, mul_R3, add_R3]
  rw [cast32]
  refine congrArg R2 (funext₂ fun r l => ?_)
  simp only [up, uh, RChunk.dout, normBackR]; ring
theorem e120 : val_main_v120 (F := Ideal) a.x0 (L1 a.vg) (M3 a.ws) (P2 a.bs) (L1 a.og) (R2 a.dya) = R4 (a.up (·.dy)) := by
  rw [val_main_v120, val_main_v118, e22, e117, mul_R2, cast24]; rfl
theorem e119 : val_main_v119 (F := Ideal) a.x0 (L1 a.vg) (M3 a.ws) (P2 a.bs) (L1 a.og) (R2 a.dya) = R2 (a.up fun k r l => k.dout r l * k.y r l) := by
  rw [val_main_v119, e117, e74, mul_R2]; rfl
theorem dbs_at (h : Fin 4) (r : Fin 128) : ∑ n, ∑ d, a.up (·.dy) (row n r) (ln h d) = ∑ n, (a.chunk n).dbs h r := by
  simp only [up_row, RChunk.dbs]
theorem e182 : val_main_v182 (F := Ideal) a.x0 (L1 a.vg) (M3 a.ws) (P2 a.bs) (L1 a.og) (R2 a.dya)
    = fun i => ((∑ n, (a.chunk n).dbs (i 0) (i 1) : ℝ) : EReal) := by
  rw [val_main_v182, val_main_v126, val_main_v125, val_main_cst_29, val_main_v124, val_main_v123, val_main_cst_28, val_main_v122,
    val_main_v121, val_main_cst_27, e120, sumND, castQ24, sumQ4, bcastQ23, sumQ, transQ, castP]
  exact funext fun i => congrArg (fun x : ℝ => (x : EReal)) (a.dbs_at (i 0) (i 1))
theorem e127 : val_main_v127 (F := Ideal) a.x0 (L1 a.vg) (M3 a.ws) (P2 a.bs) (L1 a.og) (R2 a.dya) = D4 (a.up (·.dy)) := by
  rw [val_main_v127, e120, transR]
theorem dws_at (h : Fin 4) (t s : Fin 128) :
    causalR (fun h t s => ∑ n, ∑ d, a.up (·.dy) (row n t) (ln h d) * a.up (·.vn) (row n s) (ln h d)) h t s = ∑ n, (a.chunk n).dws h t s := by
  simp only [up_row, causalR, RChunk.dws, mixBackWR]
  split
  · rfl
  · exact Finset.sum_const_zero.symm
theorem e131 : val_main_v131 (F := Ideal) a.x0 (L1 a.vg) (M3 a.ws) (P2 a.bs) (L1 a.og) (R2 a.dya)
    = fun i => ((∑ n, (a.chunk n).dws (i 0) (i 1) (i 2) : ℝ) : EReal) := by
  rw [val_main_v131, val_main_v128, e127, e63, dotW]
  refine (select_M3 _ _ fun i => word_zero).trans (funext fun i => congrArg (fun x : ℝ => (x : EReal)) ?_)
  exact a.dws_at (i 0) (i 1) (i 2)
theorem e132 : val_main_v132 (F := Ideal) a.x0 (L1 a.vg) (M3 a.ws) (P2 a.bs) (L1 a.og) (R2 a.dya) = R2 (a.up (·.dvn)) := by
  rw [val_main_v132, val_main_v130, val_main_v129, e127, e66, dotMixT, transD, cast42]
  refine congrArg R2 (funext₂ fun r l => ?_)
  simp only [up_row, mul_comm]; rfl
theorem e133 : val_main_v133 (F := Ideal) a.x0 (L1 a.vg) (M3 a.ws) (P2 a.bs) (L1 a.og) (R2 a.dya) = R3 (a.up (·.dvn)) := by
  rw [val_main_v133, e132, cast23]
theorem dvg_at (l : Fin 256) : ∑ r, a.up (fun k => normedR k.gv) r l * a.up (·.dvn) r l = ∑ n, (a.chunk n).dvg l := by
  simp only [sum_rows, up_row, RChunk.dvg]
theorem e181 : val_main_v181 (F := Ideal) a.x0 (L1 a.vg) (M3 a.ws) (P2 a.bs) (L1 a.og) (R2 a.dya)
    = fun i => ((∑ n, (a.chunk n).dvg (i 1) : ℝ) : EReal) := by
  rw [val_main_v181, val_main_v154, val_main_v139, val_main_cst_31, val_main_v136, val_main_v135, val_main_cst_30, val_main_v134, e58, e133,
    mul_R3, sumR, castL23, sumL, castL21, castL1]
  exact funext fun i => congrArg (fun x : ℝ => (x : EReal)) (a.dvg_at (i 1))
theorem e138 : val_main_v138 (F := Ideal) a.x0 (L1 a.vg) (M3 a.ws) (P2 a.bs) (L1 a.og) (R2 a.dya) = R3 (a.up fun k r l => k.dvn r l * k.vg l) := by
  rw [val_main_v138, val_main_v137, e59, e133, bcastL3R, mul_R3]; rfl
theorem e142 : val_main_v142 (F := Ideal) a.x0 (L1 a.vg) (M3 a.ws) (P2 a.bs) (L1 a.og) (R2 a.dya) = H3 fun r h => ∑ d, a.up (·.gv) r (ln h d) * a.up (fun k r l => k.dvn r l * k.vg l) r (ln h d) := by
  rw [val_main_v142, val_main_v141, val_main_cst_32, val_main_v140, e44, e138, mul_R3, sumD, castH23]
theorem e149 : val_main_v149 (F := Ideal) a.x0 (L1 a.vg) (M3 a.ws) (P2 a.bs) (L1 a.og) (R2 a.dya) = R3 (a.up fun k r l => msBackR k.gv (fun r l => k.dvn r l * k.vg l) r (head l)) := by
  rw [val_main_v149, val_main_v148, val_main_cst_34, val_main_v147, val_main_v146, val_main_cst_33, val_main_v145, e142, e56, mul_H3, fillH _ _ word_64,
    div_H3 _ _ fun _ _ => (by norm_num : (64 : ℝ) ≠ 0), sumH, bcastH2R]
  refine congrArg R3 (funext₂ fun r l => ?_)
  rw [over64]; simp only [up, uh, msBackR, meanR, head_ln, Finset.sum_mul]
theorem e143 : val_main_v143 (F := Ideal) a.x0 = R3 fun r l => a.uh (fun k => rsR k.gv) r (head l) := by
  rw [val_main_v143, e53, bcastH3R]
theorem e155 : val_main_v155 (F := Ideal) a.x0 (L1 a.vg) (M3 a.ws) (P2 a.bs) (L1 a.og) (R2 a.dya) = R2 (a.up fun k => normBackR k.gv fun r l => k.dvn r l * k.vg l) := by
  simp only [val_main_v155, val_main_v153, val_main_v152, val_main_v151, val_main_v150, val_main_v144, e143, e149, e138, e44, mul_R3, add_R3]
  rw [cast32]
  refine congrArg R2 (funext₂ fun r l => ?_)
  simp only [up, uh, normBackR]; ring
theorem e167 : val_main_v167 (F := Ideal) a.x0 (L1 a.vg) (M3 a.ws) (P2 a.bs) (L1 a.og) (R2 a.dya) = R2 (a.up (·.dv)) := by
  simp only [val_main_v167, val_main_v166, val_main_v165, val_main_v164, val_main_cst_37, val_main_v163, val_main_v162, val_main_v161,
    val_main_cst_36, val_main_v160, val_main_v159, val_main_v158, val_main_cst_35, val_main_v157, val_main_v156, e1, e27, e38, e42, e155,
    fill2 _ _ word_half, fill2 _ _ word_kA, fill2 _ _ word_kB, mul_R2, add_R2]
  refine congrArg R2 (funext₂ fun r l => ?_)
  simp only [up, RChunk.dv, dgeluR]; ring
theorem e179 : val_main_v179 (F := Ideal) a.x0 (L1 a.vg) (M3 a.ws) (P2 a.bs) (L1 a.og) (R2 a.dya) = R2 (a.up (·.du)) := by
  simp only [val_main_v179, val_main_v178, val_main_v177, val_main_v176, val_main_cst_40, val_main_v175, val_main_v174, val_main_v173,
    val_main_cst_39, val_main_v172, val_main_v171, val_main_v170, val_main_cst_38, val_main_v169, val_main_v168, e0, e6, e17, e21, e119,
    fill2 _ _ word_half, fill2 _ _ word_kA, fill2 _ _ word_kB, mul_R2, add_R2]
  refine congrArg R2 (funext₂ fun r l => ?_)
  simp only [up, RChunk.du, dgeluR]; ring
/-- The gradient at the projected rows: the two halves' side by side. -/
def dpa (r : Fin 2048) (c : Fin 512) : ℝ :=
  if h : c.val < 256 then a.up (·.du) r ⟨c.val, h⟩ else a.up (·.dv) r ⟨c.val - 256, by omega⟩
theorem dpa_lo (r : Fin 2048) (c : Fin 512) (h : c.val < 256) : a.up (·.du) r ⟨c.val, h⟩ = a.dpa r c := by rw [dpa, dif_pos h]
theorem dpa_hi (r : Fin 2048) (c : Fin 512) (h : ¬c.val < 256) : a.up (·.dv) r ⟨c.val - 256, by omega⟩ = a.dpa r c := by rw [dpa, dif_neg h]
theorem e180 : val_main_v180 (F := Ideal) a.x0 (L1 a.vg) (M3 a.ws) (P2 a.bs) (L1 a.og) (R2 a.dya)
    = fun i => ((a.dpa (i 0) (i 1) : ℝ) : EReal) := by
  rw [val_main_v180, e179, e167]
  funext i
  by_cases h : (i 1).val < 256
  · refine (concatenate_pair_apply_left (t := S2048x512) 1 _ _ concatenates_S2048x256_S2048x256_S2048x512_d1 i rfl
      (ValueIdx.ix2 (i 0 : Fin 2048) (⟨(i 1).val, h⟩ : Fin 256)) ?_).trans (congrArg (fun x : ℝ => (x : EReal)) (a.dpa_lo (i 0) (i 1) h))
    intro b; fin_cases b <;> rfl
  · have h2 : (i 1).val < 512 := (i 1).isLt
    refine (concatenate_pair_apply_right (t := S2048x512) 1 _ _ concatenates_S2048x256_S2048x256_S2048x512_d1 i rfl rfl
      (ValueIdx.ix2 (i 0 : Fin 2048) (⟨(i 1).val - 256, by omega⟩ : Fin 256)) ?_ ?_).trans (congrArg (fun x : ℝ => (x : EReal)) (a.dpa_hi (i 0) (i 1) h))
    · intro b hb; fin_cases b
      · rfl
      · exact absurd rfl hb
    · show (i 1).val - 256 + 256 = (i 1).val
      omega

end Args

end Cert.GateRef

end

end
-- ==== Proof.Arrays.lean ====
/- The call's result arrays where its arguments are real: the blocks that the points read, what stands after each point, and the five
   arrays after the last one. -/
module

public import proofs.«01_k».proof.Proof.Point
public import proofs.«01_k».proof.Proof.Ref

@[expose] public section

set_option maxRecDepth 16384

noncomputable section

open scoped BigOperators

namespace Cert.Gate

open Idealize.ShloMosaic Idealize.ShloMosaic.TcCoe Idealize.ShloMosaic.Tactic Cert.KernelIdeal Cert.KernelIdeal.Gen
open Cert.GateRef (Args)

variable (m : (ℓ : Loc nD τ sig) → Buf (Elt Ideal) ℓ) (c : Dev nD)

/-! ## The blocks the points read -/

theorem idx_in : ∀ t : Fin grid0.N, win0_0.index t = ![t.val, 0] ∧ win0_1.index t = ![0, 0] ∧ win0_2.index t = ![0, 0, 0]
    ∧ win0_3.index t = ![0, 0, 0] ∧ win0_4.index t = ![0, 0] ∧ win0_5.index t = ![t.val, 0] := by decide +kernel

theorem iblk0 (t : Fin cfg0.N) (y : S512x512.Idx) (i : S2048x512.Idx) (h0 : (i 0).val = 512 * t.val + (y 0).val) (h1 : (i 1).val = (y 1).val) :
    iblk m c 0 t y = m ((c : Thread nD τ).loc main_arg0) i := by
  blk_ext [iblk, V, idx_in t]
theorem iblk5 (t : Fin cfg0.N) (y : S512x256.Idx) (i : S2048x256.Idx) (h0 : (i 0).val = 512 * t.val + (y 0).val) (h1 : (i 1).val = (y 1).val) :
    iblk m c 5 t y = m ((c : Thread nD τ).loc main_arg5) i := by
  blk_ext [iblk, V, idx_in t]
theorem iblk2 (t : Fin cfg0.N) (y : S4x128x128.Idx) : iblk m c 2 t y = m ((c : Thread nD τ).loc main_arg2) y := by
  blk_ext [iblk, V, idx_in t]
theorem iblk1 (t : Fin cfg0.N) (y : S1x256.Idx) : iblk m c 1 t y = m ((c : Thread nD τ).loc main_arg1) (ValueIdx.ix1 (y 1)) := by
  have e : V m c main_v0 = shapeCast S1x256 (m ((c : Thread nD τ).loc main_arg1)) shapeCasts_S256_S1x256 := by
    entry_read
    rfl
  have e2 : iblk m c 1 t y = V m c main_v0 y := by
    blk_ext [iblk, idx_in t]
  rw [e2, e]
  refine shapeCast_apply _ _ y (ValueIdx.ix1 (y 1)) ?_
  rw [Shape.rowMajor_val_one, Shape.rowMajor_val_two]
  have : (y 0).val < 1 := (y 0).isLt
  show (y 1).val = (y 0).val * 256 + (y 1).val; omega
theorem iblk3 (t : Fin cfg0.N) (y : S4x128x1.Idx) : iblk m c 3 t y = m ((c : Thread nD τ).loc main_arg3) (ValueIdx.ix2 (y 0) (y 1)) := by
  have e : V m c main_v1 = shapeCast S4x128x1 (m ((c : Thread nD τ).loc main_arg3)) shapeCasts_S4x128_S4x128x1 := by
    entry_read
    rfl
  have e2 : iblk m c 3 t y = V m c main_v1 y := by
    blk_ext [iblk, idx_in t]
  rw [e2, e]
  refine shapeCast_apply _ _ y (ValueIdx.ix2 (y 0) (y 1)) ?_
  rw [Shape.rowMajor_val_two, Shape.rowMajor_val_three]
  have : (y 2).val < 1 := (y 2).isLt
  show (y 0).val * 128 + (y 1).val = ((y 0).val * 128 + (y 1).val) * 1 + (y 2).val; omega
theorem iblk4 (t : Fin cfg0.N) (y : S1x256.Idx) : iblk m c 4 t y = m ((c : Thread nD τ).loc main_arg4) (ValueIdx.ix1 (y 1)) := by
  have e : V m c main_v2 = shapeCast S1x256 (m ((c : Thread nD τ).loc main_arg4)) shapeCasts_S256_S1x256 := by
    entry_read
    rfl
  have e2 : iblk m c 4 t y = V m c main_v2 y := by
    blk_ext [iblk, idx_in t]
  rw [e2, e]
  refine shapeCast_apply _ _ y (ValueIdx.ix1 (y 1)) ?_
  rw [Shape.rowMajor_val_one, Shape.rowMajor_val_two]
  have : (y 0).val < 1 := (y 0).isLt
  show (y 1).val = (y 0).val * 256 + (y 1).val; omega

/-- The device's arguments are the reals `a`. -/
structure Holds (a : Args) : Prop where
  h0 : m ((c : Thread nD τ).loc main_arg0) = a.x0
  h1 : m ((c : Thread nD τ).loc main_arg1) = GateRef.L1 a.vg
  h2 : m ((c : Thread nD τ).loc main_arg2) = GateRef.M3 a.ws
  h3 : m ((c : Thread nD τ).loc main_arg3) = GateRef.P2 a.bs
  h4 : m ((c : Thread nD τ).loc main_arg4) = GateRef.L1 a.og
  h5 : m ((c : Thread nD τ).loc main_arg5) = GateRef.R2 a.dya

/-- Point `k`'s blocks. -/
def blk (a : Args) (k : ℕ) : Blk where
  pa r q := a.pa ⟨(512 * k + r.val) % 2048, Nat.mod_lt _ (by decide)⟩ q
  vg := a.vg
  ws := a.ws
  bs := a.bs
  og := a.og
  dya r l := a.dya ⟨(512 * k + r.val) % 2048, Nat.mod_lt _ (by decide)⟩ l

theorem lt4 (t : Fin cfg0.N) : t.val < 4 := lt_of_lt_of_eq t.isLt N_0

section
variable {m c} {a : Args} (H : Holds m c a)
include H

theorem in0 (t : Fin cfg0.N) : iblk m c 0 t = (blk a t.val).x0 := funext fun y => by
  have ht := lt4 t
  have hy : (y 0).val < 512 := (y 0).isLt
  refine (iblk0 m c t y (ValueIdx.ix2 ⟨(512 * t.val + (y 0).val) % 2048, Nat.mod_lt _ (by decide)⟩ (y 1)) ?_ rfl).trans ?_
  · exact Nat.mod_eq_of_lt (by omega)
  · rw [H.h0]; rfl
theorem in5 (t : Fin cfg0.N) : iblk m c 5 t = (blk a t.val).x5 := funext fun y => by
  have ht := lt4 t
  have hy : (y 0).val < 512 := (y 0).isLt
  refine (iblk5 m c t y (ValueIdx.ix2 ⟨(512 * t.val + (y 0).val) % 2048, Nat.mod_lt _ (by decide)⟩ (y 1)) ?_ rfl).trans ?_
  · exact Nat.mod_eq_of_lt (by omega)
  · rw [H.h5]; rfl
theorem in1 (t : Fin cfg0.N) : iblk m c 1 t = lane (blk a t.val).vg := funext fun y => by
  refine (iblk1 m c t y).trans ?_
  rw [H.h1]; rfl
theorem in2 (t : Fin cfg0.N) : iblk m c 2 t = mats (blk a t.val).ws := funext fun y => by
  refine (iblk2 m c t y).trans ?_
  rw [H.h2]; rfl
theorem in3 (t : Fin cfg0.N) : iblk m c 3 t = fourCols (blk a t.val).bs := funext fun y => by
  refine (iblk3 m c t y).trans ?_
  rw [H.h3]; rfl
theorem in4 (t : Fin cfg0.N) : iblk m c 4 t = lane (blk a t.val).og := funext fun y => by
  refine (iblk4 m c t y).trans ?_
  rw [H.h4]; rfl

/-! ## What stands after each point -/

theorem outs (n : ℕ) (hn : n < cfg0.N) : outsAt0 m c n hn
    = ((fun i => (((blk a n).dpa (i 0) (i 1) : ℝ) : EReal)),
       lane (fun l => ∑ k ∈ Finset.range (n + 1), (blk a k).dvg l),
       mats (fun h r l => ∑ k ∈ Finset.range (n + 1), (blk a k).dws h r l),
       fourCols (fun h r => ∑ k ∈ Finset.range (n + 1), (blk a k).dbs h r),
       lane (fun l => ∑ k ∈ Finset.range (n + 1), (blk a k).dog l)) := by
  induction n with
  | zero =>
    refine (outsAt0_A m c ⟨0, hn⟩ (by show 0 % 4 = 0; decide) (by show ¬ 1 ≤ 0; decide) (by show 0 % 4 = 0; decide) (by show ¬ 1 ≤ 0; decide) (by show 0 % 4 = 0; decide) (by show ¬ 1 ≤ 0; decide) (by show 0 % 4 = 0; decide) (by show ¬ 1 ≤ 0; decide) (by show 0 % 4 = 0; decide) (by show ¬ 1 ≤ 0; decide) (by show 0 % 4 = 0; decide) (by show ¬ 1 ≤ 0; decide) (by show 0 % 4 = 0; decide) (by show ¬ 1 ≤ 0; decide)).trans ?_
    rw [in0 H, in1 H, in2 H, in3 H, in4 H, in5 H]
    simp only [zero_add, Finset.sum_range_one]
    rw [rows_A (blk a 0), sum7_A (blk a 0), sum8_A (blk a 0), sum9_A (blk a 0), sum10_A (blk a 0)]
  | succ n ih =>
    have h4 : n + 1 < 4 := lt4 ⟨n + 1, hn⟩
    have ih' := ih (Nat.lt_of_succ_lt hn)
    refine (outsAt0_B m c ⟨n + 1, hn⟩ (by show ¬ (n + 1) % 4 = 0; omega) (by show 1 ≤ n + 1; omega) (by show ¬ (n + 1) % 4 = 0; omega) (by show 1 ≤ n + 1; omega) (by show ¬ (n + 1) % 4 = 0; omega) (by show 1 ≤ n + 1; omega) (by show ¬ (n + 1) % 4 = 0; omega) (by show 1 ≤ n + 1; omega) (by show ¬ (n + 1) % 4 = 0; omega) (by show 1 ≤ n + 1; omega) (by show ¬ (n + 1) % 4 = 0; omega) (by show 1 ≤ n + 1; omega) (by show ¬ (n + 1) % 4 = 0; omega) (by show 1 ≤ n + 1; omega)).trans ?_
    have e : ∀ h, outsAt0 m c ((⟨n + 1, hn⟩ : Fin cfg0.N).val - 1) h = _ := fun _ => ih'
    rw [in0 H, in1 H, in2 H, in3 H, in4 H, in5 H, e]
    simp only [Finset.sum_range_succ _ (n + 1)]
    rw [rows_B (blk a (n + 1)), sum7_B (blk a (n + 1)), sum8_B (blk a (n + 1)), sum9_B (blk a (n + 1)), sum10_B (blk a (n + 1))]

omit H in
/-- Chunk `j` of point `k` is the array's chunk `4 k + j`. -/
theorem chunk_blk (k : ℕ) (hk : k < 4) (j : Fin 4) (n : Fin 16) (h : n.val = 4 * k + j.val) : (blk a k).chunk j = a.chunk n := by
  have e : ∀ r : Fin 128, (⟨(512 * k + (128 * j.val + r.val)) % 2048, Nat.mod_lt _ (by decide)⟩ : Fin 2048) = GateRef.row n r := fun r =>
    Fin.ext (by show (512 * k + (128 * j.val + r.val)) % 2048 = 128 * n.val + r.val; omega)
  have hu : ∀ (r : Fin 128) (q : Fin 512), a.pa ⟨(512 * k + (128 * j.val + r.val)) % 2048, Nat.mod_lt _ (by decide)⟩ q = a.pa (GateRef.row n r) q :=
    fun r q => congrArg (fun p => a.pa p q) (e r)
  have hd : ∀ (r : Fin 128) (q : Fin 256), a.dya ⟨(512 * k + (128 * j.val + r.val)) % 2048, Nat.mod_lt _ (by decide)⟩ q = a.dya (GateRef.row n r) q :=
    fun r q => congrArg (fun p => a.dya p q) (e r)
  simp only [Blk.chunk, blk, hu, hd]; rfl

omit H in
/-- The points' chunks are the array's. -/
theorem sum_points (g : Fin 16 → ℝ) (f : ℕ → Fin 4 → ℝ)
    (h : ∀ k (_ : k < 4) (j : Fin 4) (n : Fin 16), n.val = 4 * k + j.val → f k j = g n) :
    ∑ k ∈ Finset.range (3 + 1), ∑ j, f k j = ∑ n, g n := by
  have e : ∑ n, g n = ∑ k : Fin 4, ∑ j : Fin 4, g ⟨4 * k.val + j.val, by omega⟩ := by
    simp only [Fin.sum_univ_four, Fin.sum_univ_succ (n := 15), Fin.sum_univ_succ (n := 14), Fin.sum_univ_succ (n := 13), Fin.sum_univ_succ (n := 12),
      Fin.sum_univ_succ (n := 11), Fin.sum_univ_succ (n := 10), Fin.sum_univ_succ (n := 9), Fin.sum_univ_succ (n := 8), Fin.sum_univ_succ (n := 7),
      Fin.sum_univ_succ (n := 6), Fin.sum_univ_succ (n := 5), Fin.sum_univ_succ (n := 4), Fin.sum_univ_zero]
    simp only [← add_assoc]
    rfl
  rw [e, Finset.sum_range]
  exact Finset.sum_congr rfl fun k _ => Finset.sum_congr rfl fun j _ => h k.val k.isLt j _ rfl

/-! ## The arrays after the run -/

omit H in
theorem idx6 : ∀ t : Fin grid0.N, win0_6.index t = ![t.val, 0] := by decide +kernel

/-- A real array, at an index with given coordinates. -/
theorem at_coords {n p : ℕ} (f : Fin n → Fin p → ℝ) (i i' : Fin n) (j j' : Fin p) (hi : i.val = i'.val) (hj : j.val = j'.val) :
    ((f i j : ℝ) : EReal) = ((f i' j' : ℝ) : EReal) := by rw [Fin.ext hi, Fin.ext hj]

omit H in
theorem dpa_blk (k : ℕ) (hk : k < 4) (r c : Fin 512) (R : Fin 2048) (hR : R.val = 512 * k + r.val) : (blk a k).dpa r c = a.dpa R c := by
  have e : (blk a k).chunk ⟨r.val / 128, by omega⟩ = a.chunk (GateRef.ch R) := chunk_blk k hk _ _ (by
    show R.val / 128 = 4 * k + r.val / 128; omega)
  have e2 : (⟨r.val % 128, by omega⟩ : Fin 128) = GateRef.rw' R := Fin.ext (by show r.val % 128 = R.val % 128; omega)
  unfold Blk.dpa Args.dpa Args.up
  rw [e, e2]

theorem array6 : (dats m 0 c).arrAt 6 cfg0.N = fun i : S2048x512.Idx => ((a.dpa (i 0) (i 1) : ℝ) : EReal) := by
  refine (dats m 0 c).arrAt_eq_of_covers 6 _ (by decide +kernel) fun t hf y => ?_
  rw [after0_6, outs H]
  have e0 : (((((cfg0.win 6).blk t).view.emb y) 0 : Fin 2048) : ℕ) = 512 * t.val + (y 0).val := by
    blk_simp [idx6 t]; show t.val * 512 + (y 0).val = 512 * t.val + (y 0).val; omega
  have e1 : (((((cfg0.win 6).blk t).view.emb y) 1 : Fin 512) : ℕ) = (y 1).val := by
    blk_simp [idx6 t]
  exact congrArg (fun x : ℝ => (x : EReal)) ((dpa_blk t.val (lt4 t) (y 0) (y 1) _ e0).trans (congrArg (a.dpa _) (Fin.ext e1.symm)))
theorem array7 : (dats m 0 c).arrAt 7 cfg0.N = lane (fun l => ∑ n, (a.chunk n).dvg l) := by
  refine (dats m 0 c).arrAt_eq_of_after_last 7 t0_3 (by decide +kernel) _ fun j => ?_
  rw [after0_7, outs H]
  exact congrArg (fun x : ℝ => (x : EReal)) (sum_points (fun n => (a.chunk n).dvg (j 1)) (fun k i => ((blk a k).chunk i).dvg (j 1))
    fun k hk i n h => by rw [chunk_blk k hk i n h])
theorem array8 : (dats m 0 c).arrAt 8 cfg0.N = mats (fun h r l => ∑ n, (a.chunk n).dws h r l) := by
  refine (dats m 0 c).arrAt_eq_of_after_last 8 t0_3 (by decide +kernel) _ fun j => ?_
  rw [after0_8, outs H]
  exact congrArg (fun x : ℝ => (x : EReal)) (sum_points (fun n => (a.chunk n).dws (j 0) (j 1) (j 2)) (fun k i => ((blk a k).chunk i).dws (j 0) (j 1) (j 2))
    fun k hk i n h => by rw [chunk_blk k hk i n h])
theorem array9 : (dats m 0 c).arrAt 9 cfg0.N = fourCols (fun h r => ∑ n, (a.chunk n).dbs h r) := by
  refine (dats m 0 c).arrAt_eq_of_after_last 9 t0_3 (by decide +kernel) _ fun j => ?_
  rw [after0_9, outs H]
  exact congrArg (fun x : ℝ => (x : EReal)) (sum_points (fun n => (a.chunk n).dbs (j 0) (j 1)) (fun k i => ((blk a k).chunk i).dbs (j 0) (j 1))
    fun k hk i n h => by rw [chunk_blk k hk i n h])
theorem array10 : (dats m 0 c).arrAt 10 cfg0.N = lane (fun l => ∑ n, (a.chunk n).dog l) := by
  refine (dats m 0 c).arrAt_eq_of_after_last 10 t0_3 (by decide +kernel) _ fun j => ?_
  rw [after0_10, outs H]
  exact congrArg (fun x : ℝ => (x : EReal)) (sum_points (fun n => (a.chunk n).dog (j 1)) (fun k i => ((blk a k).chunk i).dog (j 1))
    fun k hk i n h => by rw [chunk_blk k hk i n h])

end

end Cert.Gate

end

end
-- ==== Proof.Finite.lean ====
/- What the precondition says: every element of every argument is a real number. -/
module

public import proofs.«01_k».proof.Defs
public import proofs.«01_k».proof.Proof.Arrays
public import Idealize.ShloMosaic.Lib.ReduceAll

@[expose] public section

set_option maxRecDepth 16384

noncomputable section

namespace Cert.Finite

open Idealize.ShloMosaic

/-- An extended real whose absolute value is below +∞ is a real. -/
theorem real_of_lt (x : EReal) (h : Ideal.cmp .olt (max x (-x)) (Ideal.ofBits .f32 0x7F800000#32) = 1#1) : ∃ r : ℝ, x = (r : EReal) := by
  have e : Ideal.ofBits .f32 0x7F800000#32 = (⊤ : EReal) := by
    simp [Ideal.ofBits, Ideal.ieee]
  rw [e] at h
  induction x with
  | bot => simp [Ideal.cmp] at h
  | top => simp [Ideal.cmp] at h
  | coe r => exact ⟨r, rfl⟩

/-- An array whose test is all ones is an array of reals. -/
theorem reals {s u t : Shape} {axes : List (Fin s.rank)} [Subsingleton u.Idx] (v : FVec Ideal s .f32)
    (w : FVec Ideal s .f32) (hw : ∀ i, w i = Ideal.ofBits .f32 0x7F800000#32)
    (init : t.Idx → BitVec 1) (h : s.ReducesTo axes u) (hu : 0 < t.numel) (j : u.Idx)
    (e : Host.reduce IntOp.andi (cmpf .olt (Host.absf v) w) init h hu j = 1#1) (i : s.Idx) : ∃ r : ℝ, v i = (r : EReal) := by
  have h1 := Host.reduce_andi_all _ init h hu j e i
  refine real_of_lt _ ?_
  rw [← hw i]
  exact h1

theorem and_one (c d : BitVec 1) : IntOp.andi c d = 1#1 → c = 1#1 ∧ d = 1#1 := by revert c d; decide

instance : Cert.Pre_finite.Facts where
  bcast_S_S2048x512 := by decide
  reducesTo_S2048x512_S_d0_1 := by decide
  h_S_ := by decide
  bcast_S_S256 := by decide
  reducesTo_S256_S_d0 := by decide
  bcast_S_S4x128x128 := by decide
  reducesTo_S4x128x128_S_d0_1_2 := by decide
  bcast_S_S4x128 := by decide
  reducesTo_S4x128_S_d0_1 := by decide
  bcast_S_S2048x256 := by decide
  reducesTo_S2048x256_S_d0_1 := by decide

instance : Subsingleton Cert.Pre_finite.S_.Idx := ⟨fun _ _ => funext fun i => i.elim0⟩

theorem eta1 {n : ℕ} (i : (⟨1, ![n]⟩ : Shape).Idx) : ValueIdx.ix1 (i 0) = i := funext fun k => by fin_cases k; rfl
theorem eta2 {n p : ℕ} (i : (⟨2, ![n, p]⟩ : Shape).Idx) : ValueIdx.ix2 (i 0) (i 1) = i := funext fun k => by fin_cases k <;> rfl
theorem eta3 {n p q : ℕ} (i : (⟨3, ![n, p, q]⟩ : Shape).Idx) : ValueIdx.ix3 (i 0) (i 1) (i 2) = i := funext fun k => by fin_cases k <;> rfl

/-- Under the precondition a device's arguments are reals. -/
theorem args (m : (ℓ : Loc Cert.KernelIdeal.nD Cert.KernelIdeal.τ Cert.KernelIdeal.sig) → Buf (Elt Ideal) ℓ)
    (h : Cert.Pre_KernelIdeal_finite m) (c : Dev Cert.KernelIdeal.nD) : ∃ a : Cert.GateRef.Args, Cert.Gate.Holds m c a := by
  have e := congrFun (h c) (fun i => i.elim0)
  obtain ⟨e, e5⟩ := and_one _ _ e
  obtain ⟨e, e4⟩ := and_one _ _ e
  obtain ⟨e, e3⟩ := and_one _ _ e
  obtain ⟨e, e2⟩ := and_one _ _ e
  obtain ⟨e0, e1⟩ := and_one _ _ e
  choose f0 h0 using reals _ _ (fun _ => rfl) _ _ _ _ e0
  choose f1 h1 using reals _ _ (fun _ => rfl) _ _ _ _ e1
  choose f2 h2 using reals _ _ (fun _ => rfl) _ _ _ _ e2
  choose f3 h3 using reals _ _ (fun _ => rfl) _ _ _ _ e3
  choose f4 h4 using reals _ _ (fun _ => rfl) _ _ _ _ e4
  choose f5 h5 using reals _ _ (fun _ => rfl) _ _ _ _ e5
  exact ⟨⟨fun r q => f0 (ValueIdx.ix2 r q), fun l => f1 (ValueIdx.ix1 l), fun g r l => f2 (ValueIdx.ix3 g r l), fun g r => f3 (ValueIdx.ix2 g r),
      fun l => f4 (ValueIdx.ix1 l), fun r l => f5 (ValueIdx.ix2 r l)⟩,
    ⟨funext fun i => (h0 i).trans (congrArg (fun i => (f0 i : EReal)) (eta2 i).symm),
     funext fun i => (h1 i).trans (congrArg (fun i => (f1 i : EReal)) (eta1 i).symm),
     funext fun i => (h2 i).trans (congrArg (fun i => (f2 i : EReal)) (eta3 i).symm),
     funext fun i => (h3 i).trans (congrArg (fun i => (f3 i : EReal)) (eta2 i).symm),
     funext fun i => (h4 i).trans (congrArg (fun i => (f4 i : EReal)) (eta1 i).symm),
     funext fun i => (h5 i).trans (congrArg (fun i => (f5 i : EReal)) (eta2 i).symm)⟩⟩

end Cert.Finite

end

end
-- ==== Proof.RefFfnFwd.lean ====
/- The reference of the feed-forward layer's forward call, two products over the whole arrays: the hidden units are the positive
   parts of the normalised row times `w1`, and their squares times `w2` are added to the row. -/
module

public import proofs.«01_k».proof.Proof.Rows
public import proofs.«01_k».proof.Proof.Gen.Reference3Ideal.Read

@[expose] public section

set_option maxRecDepth 16384

noncomputable section

open scoped BigOperators

namespace Cert.FfnFwdRef

open Idealize.ShloMosaic Cert.Reference3Ideal Cert.Reference3Ideal.Gen Cert.Reference3Ideal.Read Cert.Rows

/-- The hidden unit of a row. -/
def hid (x g : Fin 1024 → EReal) (w1 : Fin 1024 → Fin 4096 → EReal) (j : Fin 4096) : EReal := max (∑ c, norm x g c * w1 c j) 0
/-- What the hidden unit `j` adds to the row. -/
def adds (x g : Fin 1024 → EReal) (w1 : Fin 1024 → Fin 4096 → EReal) (w2 : Fin 4096 → Fin 1024 → EReal) (j : Fin 4096) (b : Fin 1024) : EReal :=
  hid x g w1 j * hid x g w1 j * w2 j b

variable (x : Fin 2048 → Fin 1024 → EReal) (g : Fin 1024 → EReal) (w1 : Fin 1024 → Fin 4096 → EReal) (w2 : Fin 4096 → Fin 1024 → EReal)

theorem v6 : val_main_v6 (F := Ideal) (Mf x) = Mf fun a _ => ms (x a) := funext fun i => by
  rw [val_main_v6_apply, val_main_v4_apply, val_main_v2_apply, val_main_v1_apply, val_main_v3_apply, val_main_v5_apply]
  show Ideal.div (Ideal.ofBits .f32 0x00000000#32 + ∑ b, x (i 0) b * x (i 0) b) _ + _ = _
  rw [Ideal.ofBits_zero_f32, zero_add]; rfl
theorem v12 : val_main_v12 (F := Ideal) (Mf x) (Vf g) = Mf fun a b => norm (x a) g b := funext fun i => by
  rw [val_main_v12_apply, val_main_v9_apply, val_main_v8_apply, val_main_v7_apply, val_main_v11_apply, val_main_v10_apply, v6]; rfl
theorem v14 : val_main_v14 (F := Ideal) (Mf x) (Vf g) (Mf w1) = Mf fun a j => hid (x a) g w1 j := funext fun i => by
  rw [val_main_v14_apply, val_main_v13_apply, v12, val_main_call0_v0_apply, val_main_call0_cst_apply]
  show max (∑ c, norm (x (i 0)) g c * w1 c (i 1)) (Ideal.ofBits .f32 0x00000000#32) = _
  rw [Ideal.ofBits_zero_f32]; rfl
theorem v17 : val_main_v17 (F := Ideal) (Mf x) (Vf g) (Mf w1) (Mf w2) = Mf fun a b => x a b + ∑ j, adds (x a) g w1 w2 j b := funext fun i => by
  rw [val_main_v17_apply, val_main_v16_apply]
  refine congrArg (x (i 0) (i 1) + ·) (Finset.sum_congr rfl fun j _ => ?_)
  rw [val_main_v15_apply, v14]; rfl
theorem v18 : val_main_v18 (F := Ideal) (Mf x) (Vf g) (Mf w1) = Mb fun a j => hid (x a) g w1 j := funext fun i => by
  rw [val_main_v18_apply, v14]; rfl

end Cert.FfnFwdRef

end

end
-- ==== Proof.RefFfnBwd.lean ====
/- The reference of the feed-forward layer's backward call: the gradients over the whole arrays, and what each of the four parts of
   the hidden units adds to the gradient in the rows. -/
module

public import proofs.«01_k».proof.Proof.RefFfnFwd
public import proofs.«01_k».proof.Proof.Gen.Reference2Ideal.Read

@[expose] public section

set_option maxRecDepth 16384

noncomputable section

open scoped BigOperators

namespace Cert.FfnBwdRef

open Idealize.ShloMosaic Cert.Reference2Ideal Cert.Reference2Ideal.Gen Cert.Reference2Ideal.Read Cert.Rows Cert.FfnFwdRef

/-- Two, a number word. -/
def two : EReal := Ideal.ofBits .f32 0x40000000#32
/-- Hidden unit `j` of part `p`. -/
abbrev unitOf (p : ℕ) (j : Fin 1024) : Fin 4096 := part (N := 4096) 1024 (by decide) p j
/-- Row `r` of block `i`. -/
abbrev rowOf (i : ℕ) (r : Fin 512) : Fin 2048 := part (N := 2048) 512 (by decide) i r

section
variable (x : Fin 2048 → Fin 1024 → EReal) (g : Fin 1024 → EReal) (w1 : Fin 1024 → Fin 4096 → EReal) (w2 : Fin 4096 → Fin 1024 → EReal)
  (dy : Fin 2048 → Fin 1024 → EReal)

/-- The gradient in a hidden unit before its positive part is taken. -/
def da (a : Fin 2048) (j : Fin 4096) : EReal := (∑ b, dy a b * w2 j b) * (two * hid (x a) g w1 j)
/-- What part `p` adds to the gradient in the normalised row. -/
def back (p : ℕ) (a : Fin 2048) (c : Fin 1024) : EReal := ∑ j, da x g w1 w2 dy a (unitOf p j) * w1 c (unitOf p j)
def dxp (p : ℕ) (a : Fin 2048) (b : Fin 1024) : EReal := dx (x a) g (back x g w1 w2 dy p a) b
def dg (b : Fin 1024) : EReal := ∑ a, unit (x a) b * ∑ j, da x g w1 w2 dy a j * w1 b j
def dw1 (c : Fin 1024) (j : Fin 4096) : EReal := ∑ a, norm (x a) g c * da x g w1 w2 dy a j
def dw2 (j : Fin 4096) (b : Fin 1024) : EReal := ∑ a, hid (x a) g w1 j * hid (x a) g w1 j * dy a b

/-- Where the positive part is zero its derivative times it is too. -/
theorem chosen (z s : EReal) : Scalar.select (Ideal.cmp .ogt z (Ideal.ofBits .f32 0x00000000#32)) (s * (two * max z (Ideal.ofBits .f32 0x00000000#32)))
    (Ideal.ofBits .f32 0x00000000#32) = s * (two * max z 0) := by
  rw [Ideal.ofBits_zero_f32]
  by_cases h : 0 < z
  · simp [Scalar.select, Ideal.cmp, h]
  · rw [max_eq_right (not_lt.mp h), mul_zero, mul_zero]
    simp [Scalar.select]

/-! ## Over the whole arrays -/

theorem v6 : val_main_v6 (F := Ideal) (Mf x) = Mf fun a _ => ms (x a) := funext fun i => by
  rw [val_main_v6_apply, val_main_v4_apply, val_main_v2_apply, val_main_v1_apply, val_main_v3_apply, val_main_v5_apply]
  show Ideal.div (Ideal.ofBits .f32 0x00000000#32 + ∑ b, x (i 0) b * x (i 0) b) _ + _ = _
  rw [Ideal.ofBits_zero_f32, zero_add]; rfl
theorem v12 : val_main_v12 (F := Ideal) (Mf x) = Mf fun a b => unit (x a) b := funext fun i => by
  rw [val_main_v12_apply, val_main_v11_apply, val_main_v7_apply, v6]; rfl
theorem v15 : val_main_v15 (F := Ideal) (Mf x) (Vf g) = Mf fun a b => norm (x a) g b := funext fun i => by
  rw [val_main_v15_apply, val_main_v14_apply, val_main_v13_apply, v12]; rfl
theorem v16 : val_main_v16 (F := Ideal) (Mf x) (Vf g) (Mf w1) = Mf fun a j => ∑ c, norm (x a) g c * w1 c j := funext fun i => by
  rw [val_main_v16_apply, v15]; rfl
theorem v17 : val_main_v17 (F := Ideal) (Mf x) (Vf g) (Mf w1) = Mf fun a j => hid (x a) g w1 j := funext fun i => by
  rw [val_main_v17_apply, v16, val_main_call0_v0_apply, val_main_call0_cst_apply]
  show max (∑ c, norm (x (i 0)) g c * w1 c (i 1)) (Ideal.ofBits .f32 0x00000000#32) = _
  rw [Ideal.ofBits_zero_f32]; rfl
theorem v26 : val_main_v26 (F := Ideal) (Mf x) (Vf g) (Mf w1) (Mf dy) = Mf fun j b => dw2 x g w1 dy j b := funext fun i => by
  rw [val_main_v26_apply, val_main_v25_apply]
  simp only [val_main_v21_apply, v17]
  exact Finset.sum_congr rfl fun a _ => mul_comm (dy a (i 1)) (hid (x a) g w1 (i 0) * hid (x a) g w1 (i 0))
theorem v30 : val_main_v30 (F := Ideal) (Mf x) (Vf g) (Mf w1) (Mf w2) (Mf dy) = Mf fun a j => da x g w1 w2 dy a j := funext fun i => by
  rw [val_main_v30_apply, val_main_v19_apply, val_main_v28_apply, val_main_v27_apply, val_main_v23_apply, val_main_v17_apply, v16]
  exact chosen (∑ c, norm (x (i 0)) g c * w1 c (i 1)) (∑ b, dy (i 0) b * w2 (i 1) b)
theorem v32 : val_main_v32 (F := Ideal) (Mf x) (Vf g) (Mf w1) (Mf w2) (Mf dy) = Mf fun c j => dw1 x g w1 w2 dy c j := funext fun i => by
  rw [val_main_v32_apply, val_main_v31_apply, v30, v15]
  exact Finset.sum_congr rfl fun a _ => mul_comm (da x g w1 w2 dy a (i 1)) (norm (x a) g (i 0))
theorem v36 : val_main_v36 (F := Ideal) (Mf x) (Vf g) (Mf w1) (Mf w2) (Mf dy) = Mf fun _ b => dg x g w1 w2 dy b := by
  have e : val_main_v35 (F := Ideal) (Mf x) (Vf g) (Mf w1) (Mf w2) (Mf dy) = Vf (dg x g w1 w2 dy) := funext fun i => by
    rw [val_main_v35_apply]
    show Ideal.ofBits .f32 0x00000000#32 + _ = _
    rw [Ideal.ofBits_zero_f32, zero_add]
    simp only [val_main_v34_apply, val_main_v33_apply, v12, v30]; rfl
  unfold val_main_v36; rw [e]; exact asRow _ _
theorem v119 : val_main_v119 (F := Ideal) (Mf x) (Vf g) (Mf w1) (Mf w2) (Mf dy) = Mf fun _ b => dg x g w1 w2 dy b := by
  have e : val_main_v39 (F := Ideal) (Mf x) (Vf g) (Mf w1) (Mf w2) (Mf dy) = Vf (dg x g w1 w2 dy) := funext fun i => by
    rw [val_main_v39_apply, Fin.sum_univ_one, v36]
    show Ideal.ofBits .f32 0x00000000#32 + _ = _
    rw [Ideal.ofBits_zero_f32, zero_add]; rfl
  unfold val_main_v119; rw [e]; exact asRow _ _
theorem v117 : val_main_v117 (F := Ideal) (Mf x) (Vf g) (Mf w1) (Mf w2) (Mf dy) = Tf fun p a b => dw1 x g w1 w2 dy a (unitOf p.val b) := by
  unfold val_main_v117 val_main_v116; rw [v32]
  exact colParts (φ := .f32) (q := 4) (p := 1024) (show 0 < 4096 by decide) rfl (dw1 x g w1 w2 dy) _ _
theorem v118 : val_main_v118 (F := Ideal) (Mf x) (Vf g) (Mf w1) (Mf dy) = Tf fun p a b => dw2 x g w1 dy (unitOf p.val a) b := by
  unfold val_main_v118; rw [v26]
  exact rowParts (φ := .f32) (q := 4) (n := 1024) (show 0 < 4096 by decide) rfl (dw2 x g w1 dy) _
theorem v120 : val_main_v120 (F := Ideal) (Mf x) (Vf g) (Mf w1) (Mf w2) (Mf dy) = Tb fun p a b => dw1 x g w1 w2 dy a (unitOf p.val b) := funext fun i => by
  rw [val_main_v120_apply, v117]; rfl
theorem v121 : val_main_v121 (F := Ideal) (Mf x) (Vf g) (Mf w1) (Mf dy) = Tb fun p a b => dw2 x g w1 dy (unitOf p.val a) b := funext fun i => by
  rw [val_main_v121_apply, v118]; rfl

/-! ## Part by part -/

theorem v55 : val_main_v55 (F := Ideal) (Mf w1) = Tf fun p a b => w1 a (unitOf p.val b) := by
  unfold val_main_v55 val_main_v54
  exact colParts (φ := .f32) (q := 4) (p := 1024) (show 0 < 4096 by decide) rfl w1 _ _
theorem v56 : val_main_v56 (F := Ideal) (Mf w2) = Tf fun p a b => w2 (unitOf p.val a) b := by
  unfold val_main_v56
  exact rowParts (φ := .f32) (q := 4) (n := 1024) (show 0 < 4096 by decide) rfl w2 _
theorem v63 : val_main_v63 (F := Ideal) (Mf x) = Mf fun a _ => ms (x a) := funext fun i => by
  rw [val_main_v63_apply, val_main_v61_apply, val_main_v59_apply, val_main_v58_apply, val_main_v60_apply, val_main_v62_apply]
  show Ideal.div (Ideal.ofBits .f32 0x00000000#32 + ∑ b, x (i 0) b * x (i 0) b) _ + _ = _
  rw [Ideal.ofBits_zero_f32, zero_add]; rfl
theorem v64 : val_main_v64 (F := Ideal) (Mf x) = Mf fun a _ => rs (x a) := funext fun i => by
  rw [val_main_v64_apply, v63]; rfl
theorem v67 : val_main_v67 (F := Ideal) (Mf x) = Mf fun a _ => drs (x a) := funext fun i => by
  rw [val_main_v67_apply, val_main_v65_apply, val_main_v66_apply, v63, v64]; rfl
theorem v72 : val_main_v72 (F := Ideal) (Mf x) (Vf g) = Mf fun a b => norm (x a) g b := funext fun i => by
  rw [val_main_v72_apply, val_main_v71_apply, val_main_v70_apply, val_main_v69_apply, val_main_v68_apply, v64]; rfl
theorem v73 : val_main_v73 (F := Ideal) (Mf x) (Vf g) (Mf w1) = Tf fun a p j => ∑ c, norm (x a) g c * w1 c (unitOf p.val j) := funext fun i => by
  rw [val_main_v73_apply, v72, v55]; rfl
theorem v88 : val_main_v88 (F := Ideal) (Mf x) (Vf g) (Mf w1) (Mf w2) (Mf dy) = Tf fun p a j => da x g w1 w2 dy a (unitOf p.val j) := funext fun i => by
  rw [val_main_v88_apply, val_main_v85_apply, val_main_v76_apply, val_main_v87_apply, val_main_v83_apply, val_main_v82_apply, val_main_v80_apply,
    val_main_v74_apply, v73, v56]
  exact chosen (∑ c, norm (x (i 1)) g c * w1 c (unitOf (i 0).val (i 2))) (∑ b, dy (i 1) b * w2 (unitOf (i 0).val (i 2)) b)
theorem v92 : val_main_v92 (F := Ideal) (Mf x) (Vf g) (Mf w1) (Mf w2) (Mf dy) = Tf fun p a c => back x g w1 w2 dy p.val a c * g c := funext fun i => by
  rw [val_main_v92_apply, val_main_v89_apply, val_main_v91_apply, val_main_v90_apply, val_main_v70_apply, v88, v55]; rfl
theorem v97 : val_main_v97 (F := Ideal) (Mf x) (Vf g) (Mf w1) (Mf w2) (Mf dy) = Tf fun p a _ => ∑ b, x a b * (back x g w1 w2 dy p.val a b * g b) := by
  have e : val_main_v96 (F := Ideal) (Mf x) (Vf g) (Mf w1) (Mf w2) (Mf dy) = Mf fun p a => ∑ b, x a b * (back x g w1 w2 dy p.val a b * g b) := funext fun i => by
    rw [val_main_v96_apply]
    show Ideal.ofBits .f32 0x00000000#32 + _ = _
    rw [Ideal.ofBits_zero_f32, zero_add]
    simp only [val_main_v95_apply, val_main_v94_apply, val_main_v93_apply, v92]; rfl
  unfold val_main_v97; rw [e]; exact before_M2 _ _
theorem v107 : val_main_v107 (F := Ideal) (Mf x) (Vf g) (Mf w1) (Mf w2) (Mf dy) = Tf fun p a _ => pull (x a) g (back x g w1 w2 dy p.val a) := funext fun i => by
  rw [val_main_v107_apply, val_main_v106_apply, Fin.sum_univ_one, val_main_v105_apply, val_main_v103_apply, val_main_v104_apply, val_main_v102_apply,
    val_main_v101_apply, v97, v67]
  show Ideal.ofBits .f32 0x00000000#32 + _ = _
  rw [Ideal.ofBits_zero_f32, zero_add]; rfl
theorem v115 : val_main_v115 (F := Ideal) (Mf x) (Vf g) (Mf w1) (Mf w2) (Mf dy) = Tf fun p a b => dxp x g w1 w2 dy p.val a b := funext fun i => by
  rw [val_main_v115_apply, val_main_v114_apply, val_main_v113_apply, val_main_v112_apply, val_main_v111_apply, val_main_v110_apply, val_main_v109_apply,
    val_main_v108_apply, val_main_v100_apply, val_main_v99_apply, val_main_v98_apply, v107, v92, v64]; rfl
end

end Cert.FfnBwdRef

end

end
-- ==== Proof.FfnBwdReals.lean ====
/- The gradient in the gain, point by point and over the whole arrays: the two agree where every argument is real. -/
module

public import proofs.«01_k».proof.Proof.RefFfnBwd
public import proofs.«01_k».proof.Proof.Reals

@[expose] public section

set_option maxRecDepth 16384

noncomputable section

open scoped BigOperators

namespace Cert.FfnBwdRef

open Idealize.ShloMosaic Cert.Rows Cert.FfnFwdRef

/-- A real number. -/
def IsReal (e : EReal) : Prop := ∃ r : ℝ, e = r

theorem IsReal.mul {a b : EReal} : IsReal a → IsReal b → IsReal (a * b) := fun ⟨r, hr⟩ ⟨s, hs⟩ => ⟨r * s, by rw [hr, hs, EReal.coe_mul]⟩
theorem IsReal.zero : IsReal 0 := ⟨0, rfl⟩
theorem IsReal.max {a b : EReal} : IsReal a → IsReal b → IsReal (max a b) := fun ha hb => by
  rcases le_total a b with h | h
  · rwa [max_eq_right h]
  · rwa [max_eq_left h]
theorem IsReal.sum {ι : Type*} (s : Finset ι) (f : ι → EReal) (h : ∀ i, IsReal (f i)) : IsReal (∑ i ∈ s, f i) := by
  choose r hr using h
  exact ⟨∑ i ∈ s, r i, by rw [Cert.Gate.coe_sum]; exact Finset.sum_congr rfl fun i _ => hr i⟩
/-- A real factor over a sum of reals. -/
theorem mul_sum_real {ι : Type*} (s : Finset ι) (a : EReal) (f : ι → EReal) (ha : IsReal a) (h : ∀ i, IsReal (f i)) : a * ∑ i ∈ s, f i = ∑ i ∈ s, a * f i := by
  obtain ⟨r, rfl⟩ := ha
  choose t ht using h
  simp only [ht, ← EReal.coe_mul, ← Cert.Gate.coe_sum, Finset.mul_sum]

theorem two_real : IsReal two := ⟨2, by
  unfold two; simp [Ideal.ofBits, Ideal.ieee, -EReal.coe_mul]; norm_num⟩
theorem word_width : width = ((1024 : ℝ) : EReal) := by
  unfold width; simp [Ideal.ofBits, Ideal.ieee, -EReal.coe_mul]; norm_num
/-- The reciprocal root of a row of reals is real: the mean of squares is not negative and a positive constant is added. -/
theorem rs_real {p : ℕ} (x : Fin p → EReal) (h : ∀ b, IsReal (x b)) : IsReal (rs x) := by
  choose r hr using h
  have hp : (0 : ℝ) < (∑ b, r b * r b) / 1024 + Cert.Gate.kE :=
    add_pos_of_nonneg_of_pos (div_nonneg (Finset.sum_nonneg fun b _ => mul_self_nonneg _) (by norm_num)) Cert.Gate.kE_pos
  have e : ms x = (((∑ b, r b * r b) / 1024 + Cert.Gate.kE : ℝ) : EReal) := by
    unfold ms; rw [word_width, Cert.Gate.word_kE]
    simp only [hr, ← EReal.coe_mul, ← Cert.Gate.coe_sum]
    rw [Ideal.div_coe (by norm_num), ← EReal.coe_mul, mul_one_div, EReal.coe_add]
  unfold rs; rw [e]
  exact ⟨_, (Ideal.rsqrt_coe (r := _)).trans (by rw [if_neg (not_lt.2 hp.le), if_neg hp.ne'])⟩

section
variable {x : Fin 2048 → Fin 1024 → EReal} {g : Fin 1024 → EReal} {w1 : Fin 1024 → Fin 4096 → EReal} {w2 : Fin 4096 → Fin 1024 → EReal}
  {dy : Fin 2048 → Fin 1024 → EReal} (hx : ∀ a b, IsReal (x a b)) (hg : ∀ b, IsReal (g b)) (h1 : ∀ a b, IsReal (w1 a b)) (h2 : ∀ a b, IsReal (w2 a b))
  (hd : ∀ a b, IsReal (dy a b))
include hx hg h1 h2 hd

theorem unit_real (a : Fin 2048) (b : Fin 1024) : IsReal (unit (x a) b) := (hx a b).mul (rs_real _ (hx a))
theorem da_real (a : Fin 2048) (j : Fin 4096) : IsReal (da x g w1 w2 dy a j) :=
  (IsReal.sum _ _ fun b => (hd a b).mul (h2 j b)).mul (two_real.mul
    (IsReal.max (IsReal.sum _ _ fun c => (((unit_real hx hg h1 h2 hd a c).mul (hg c)).mul (h1 c j))) IsReal.zero))
theorem back_real (p : ℕ) (a : Fin 2048) (c : Fin 1024) : IsReal (back x g w1 w2 dy p a c) :=
  IsReal.sum _ _ fun j => (da_real hx hg h1 h2 hd a _).mul (h1 c _)

omit hx hg h1 h2 hd in
/-- Sixteen points, four parts by four blocks of rows. -/
theorem sum_sixteen (f : ℕ → EReal) : ∑ t ∈ Finset.range 16, f t = ∑ p ∈ Finset.range 4, ∑ i ∈ Finset.range 4, f (4 * p + i) := by
  rw [Finset.sum_range, sum_parts 4 4 (by decide) rfl (fun t : Fin 16 => f t.val)]
  refine Finset.sum_congr rfl fun p hp => ?_
  rw [Finset.sum_range]
  exact Finset.sum_congr rfl fun i _ => congrArg f (part_val 4 _ _ _ 4 rfl (Finset.mem_range.mp hp))

/-- The sixteen points' sums are the sum over the rows of the whole gradient. -/
theorem dg_points (b : Fin 1024) : ∑ t ∈ Finset.range 16, ∑ r : Fin 512, unit (x (rowOf (t % 4) r)) b * back x g w1 w2 dy (t / 4) (rowOf (t % 4) r) b
    = dg x g w1 w2 dy b := by
  have e : ∀ a, ∑ p ∈ Finset.range 4, back x g w1 w2 dy p a b = ∑ j, da x g w1 w2 dy a j * w1 b j := fun a =>
    (sum_parts 1024 4 (by decide) rfl fun j => da x g w1 w2 dy a j * w1 b j).symm
  calc ∑ t ∈ Finset.range 16, ∑ r : Fin 512, unit (x (rowOf (t % 4) r)) b * back x g w1 w2 dy (t / 4) (rowOf (t % 4) r) b
      = ∑ p ∈ Finset.range 4, ∑ i ∈ Finset.range 4, ∑ r : Fin 512, unit (x (rowOf i r)) b * back x g w1 w2 dy p (rowOf i r) b := by
        rw [sum_sixteen]
        refine Finset.sum_congr rfl fun p _ => Finset.sum_congr rfl fun i hi => ?_
        have hi := Finset.mem_range.mp hi
        rw [show (4 * p + i) % 4 = i by omega, show (4 * p + i) / 4 = p by omega]
    _ = ∑ p ∈ Finset.range 4, ∑ a, unit (x a) b * back x g w1 w2 dy p a b :=
        Finset.sum_congr rfl fun p _ => (sum_parts 512 4 (by decide) rfl fun a => unit (x a) b * back x g w1 w2 dy p a b).symm
    _ = ∑ a, ∑ p ∈ Finset.range 4, unit (x a) b * back x g w1 w2 dy p a b := Finset.sum_comm
    _ = dg x g w1 w2 dy b := Finset.sum_congr rfl fun a _ => by
        rw [← e a, mul_sum_real _ _ _ (unit_real hx hg h1 h2 hd a b) fun p => back_real hx hg h1 h2 hd p a b]
end

end Cert.FfnBwdRef

end

end
-- ==== Proof.FfnBwdPieces.lean ====
/- The feed-forward layer's backward call, a point's stores: each output block as a function of the blocks the point reads. -/
module

public import proofs.«01_k».proof.Proof.Rows
public import proofs.«01_k».proof.Proof.Gen.Kernel2Ideal.Value

@[expose] public section

set_option maxRecDepth 16384

noncomputable section

open scoped BigOperators

namespace Cert.FfnBwd

open Idealize.ShloMosaic Idealize.ShloMosaic.TcCoe Idealize.ShloMosaic.Tactic Cert.Kernel2Ideal Cert.Kernel2Ideal.Gen
open Cert.Rows

/-- Output 6 at a point of case A. -/
theorem at_A_6 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x1024x1024 .f32) (harg11 : arg11.IsWhole) (arg12 : Memref sig .tc .vmem S1x1024x1024 .bf16) (harg12 : arg12.IsWhole) (arg13 : Memref sig .tc .vmem S1x1024x1024 .bf16) (harg13 : arg13.IsWhole) (hc0 : cond0_0 i) (hc1 : ¬cond0_1 i) (hc2 : cond0_2 i) (hc3 : ¬cond0_3 i) (hc4 : cond0_4 i) (hc5 : ¬cond0_5 i) (hc6 : ¬cond0_6 i)
    (x0 : Vec Ideal S512x1024 .f32) (x1 : Vec Ideal S1x1024 .f32) (x2 : Vec Ideal S1x1024x1024 .bf16) (x3 : Vec Ideal S1x1024x1024 .bf16) (x4 : Vec Ideal S512x1024 .bf16) (x5 : Vec Ideal S512x1024 .f32) :
    out0_A_6 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 = k0_pay16 x0 (k0_pay6 x1) (k0_pay8 x0) (k0_pay9 x0) (k0_pay14 x4 x5 x3 x2) := by
  have h : (kernelRun0_A (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5).1 = [⟨Rect.unit (s := S1x512x1024) ![0, 0, 0] S1x512x1024.size inb_S1x512x1024_S1x512x1024_0_0_0, k0_pay16 (View.readAt (Elt Ideal) arg2.view (Rect.unit (s := S512x1024) ![0, 0] S512x1024.size inb_S512x1024_S512x1024_0_0).toLoadRect (harg2.unread x0)) (k0_pay6 (View.readAt (Elt Ideal) arg3.view (Rect.unit (s := S1x1024) ![0, 0] S1x1024.size inb_S1x1024_S1x1024_0_0).toLoadRect (harg3.unread x1))) (k0_pay8 (View.readAt (Elt Ideal) arg2.view (Rect.unit (s := S512x1024) ![0, 0] S512x1024.size inb_S512x1024_S512x1024_0_0).toLoadRect (harg2.unread x0))) (k0_pay9 (View.readAt (Elt Ideal) arg2.view (Rect.unit (s := S512x1024) ![0, 0] S512x1024.size inb_S512x1024_S512x1024_0_0).toLoadRect (harg2.unread x0))) (k0_pay14 (View.readAt (Elt Ideal) arg6.view (Rect.unit (s := S512x1024) ![0, 0] S512x1024.size inb_S512x1024_S512x1024_0_0).toLoadRect (harg6.unread x4)) (View.readAt (Elt Ideal) arg7.view (Rect.unit (s := S512x1024) ![0, 0] S512x1024.size inb_S512x1024_S512x1024_0_0).toLoadRect (harg7.unread x5)) (View.readAt (Elt Ideal) arg5.view (Rect.unit (s := S1x1024x1024) ![0, 0, 0] S1x1024x1024.size inb_S1x1024x1024_S1x1024x1024_0_0_0).toLoadRect (harg5.unread x3)) (View.readAt (Elt Ideal) arg4.view (Rect.unit (s := S1x1024x1024) ![0, 0, 0] S1x1024x1024.size inb_S1x1024x1024_S1x1024x1024_0_0_0).toLoadRect (harg4.unread x2)))⟩] := by sl_kernel_rfl
  show View.read (Elt Ideal) VO0_6 (VO0_6.writes (Elt Ideal) VO0_6.junk (kernelRun0_A (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5).1) = _
  rw [View.read_writes_junk_eq_canon, h]
  refine (View.canon_unit_zero zero3 _ _).trans ?_
  rw [load_all harg2 x0 zero2, load_all harg3 x1 zero2, load_all harg6 x4 zero2, load_all harg7 x5 zero2, load_all harg5 x3 zero3, load_all harg4 x2 zero3]

/-- Output 7 at a point of case A. -/
theorem at_A_7 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x1024x1024 .f32) (harg11 : arg11.IsWhole) (arg12 : Memref sig .tc .vmem S1x1024x1024 .bf16) (harg12 : arg12.IsWhole) (arg13 : Memref sig .tc .vmem S1x1024x1024 .bf16) (harg13 : arg13.IsWhole) (hc0 : cond0_0 i) (hc1 : ¬cond0_1 i) (hc2 : cond0_2 i) (hc3 : ¬cond0_3 i) (hc4 : cond0_4 i) (hc5 : ¬cond0_5 i) (hc6 : ¬cond0_6 i)
    (x0 : Vec Ideal S512x1024 .f32) (x1 : Vec Ideal S1x1024 .f32) (x2 : Vec Ideal S1x1024x1024 .bf16) (x3 : Vec Ideal S1x1024x1024 .bf16) (x4 : Vec Ideal S512x1024 .bf16) (x5 : Vec Ideal S512x1024 .f32) :
    out0_A_7 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 = k0_pay15 x0 x4 x5 x3 x2 := by
  have h : (kernelRun0_A (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5).2.1 = [⟨Rect.unit (s := S1x1024) ![0, 0] S1x1024.size inb_S1x1024_S1x1024_0_0, k0_pay15 (View.readAt (Elt Ideal) arg2.view (Rect.unit (s := S512x1024) ![0, 0] S512x1024.size inb_S512x1024_S512x1024_0_0).toLoadRect (harg2.unread x0)) (View.readAt (Elt Ideal) arg6.view (Rect.unit (s := S512x1024) ![0, 0] S512x1024.size inb_S512x1024_S512x1024_0_0).toLoadRect (harg6.unread x4)) (View.readAt (Elt Ideal) arg7.view (Rect.unit (s := S512x1024) ![0, 0] S512x1024.size inb_S512x1024_S512x1024_0_0).toLoadRect (harg7.unread x5)) (View.readAt (Elt Ideal) arg5.view (Rect.unit (s := S1x1024x1024) ![0, 0, 0] S1x1024x1024.size inb_S1x1024x1024_S1x1024x1024_0_0_0).toLoadRect (harg5.unread x3)) (View.readAt (Elt Ideal) arg4.view (Rect.unit (s := S1x1024x1024) ![0, 0, 0] S1x1024x1024.size inb_S1x1024x1024_S1x1024x1024_0_0_0).toLoadRect (harg4.unread x2))⟩] := by sl_kernel_rfl
  show View.read (Elt Ideal) VO0_7 (VO0_7.writes (Elt Ideal) VO0_7.junk (kernelRun0_A (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5).2.1) = _
  rw [View.read_writes_junk_eq_canon, h]
  refine (View.canon_unit_zero zero2 _ _).trans ?_
  rw [load_all harg2 x0 zero2, load_all harg6 x4 zero2, load_all harg7 x5 zero2, load_all harg5 x3 zero3, load_all harg4 x2 zero3]

/-- Output 8 at a point of case A. -/
theorem at_A_8 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x1024x1024 .f32) (harg11 : arg11.IsWhole) (arg12 : Memref sig .tc .vmem S1x1024x1024 .bf16) (harg12 : arg12.IsWhole) (arg13 : Memref sig .tc .vmem S1x1024x1024 .bf16) (harg13 : arg13.IsWhole) (hc0 : cond0_0 i) (hc1 : ¬cond0_1 i) (hc2 : cond0_2 i) (hc3 : ¬cond0_3 i) (hc4 : cond0_4 i) (hc5 : ¬cond0_5 i) (hc6 : ¬cond0_6 i)
    (x0 : Vec Ideal S512x1024 .f32) (x1 : Vec Ideal S1x1024 .f32) (x2 : Vec Ideal S1x1024x1024 .bf16) (x3 : Vec Ideal S1x1024x1024 .bf16) (x4 : Vec Ideal S512x1024 .bf16) (x5 : Vec Ideal S512x1024 .f32) :
    out0_A_8 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 = k0_pay19 (k0_pay11 x0 x1) (k0_pay13 x4 x5 x3) := by
  have h : (kernelRun0_A (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5).2.2.1 = [⟨Rect.unit (s := S1x1024x1024) ![0, 0, 0] S1x1024x1024.size inb_S1x1024x1024_S1x1024x1024_0_0_0, k0_pay19 (k0_pay11 (View.readAt (Elt Ideal) arg2.view (Rect.unit (s := S512x1024) ![0, 0] S512x1024.size inb_S512x1024_S512x1024_0_0).toLoadRect (harg2.unread x0)) (View.readAt (Elt Ideal) arg3.view (Rect.unit (s := S1x1024) ![0, 0] S1x1024.size inb_S1x1024_S1x1024_0_0).toLoadRect (harg3.unread x1))) (k0_pay13 (View.readAt (Elt Ideal) arg6.view (Rect.unit (s := S512x1024) ![0, 0] S512x1024.size inb_S512x1024_S512x1024_0_0).toLoadRect (harg6.unread x4)) (View.readAt (Elt Ideal) arg7.view (Rect.unit (s := S512x1024) ![0, 0] S512x1024.size inb_S512x1024_S512x1024_0_0).toLoadRect (harg7.unread x5)) (View.readAt (Elt Ideal) arg5.view (Rect.unit (s := S1x1024x1024) ![0, 0, 0] S1x1024x1024.size inb_S1x1024x1024_S1x1024x1024_0_0_0).toLoadRect (harg5.unread x3)))⟩] := by sl_kernel_rfl
  show View.read (Elt Ideal) VO0_8 (VO0_8.writes (Elt Ideal) VO0_8.junk (kernelRun0_A (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5).2.2.1) = _
  rw [View.read_writes_junk_eq_canon, h]
  refine (View.canon_unit_zero zero3 _ _).trans ?_
  rw [load_all harg2 x0 zero2, load_all harg3 x1 zero2, load_all harg6 x4 zero2, load_all harg7 x5 zero2, load_all harg5 x3 zero3]

/-- Output 9 at a point of case A. -/
theorem at_A_9 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x1024x1024 .f32) (harg11 : arg11.IsWhole) (arg12 : Memref sig .tc .vmem S1x1024x1024 .bf16) (harg12 : arg12.IsWhole) (arg13 : Memref sig .tc .vmem S1x1024x1024 .bf16) (harg13 : arg13.IsWhole) (hc0 : cond0_0 i) (hc1 : ¬cond0_1 i) (hc2 : cond0_2 i) (hc3 : ¬cond0_3 i) (hc4 : cond0_4 i) (hc5 : ¬cond0_5 i) (hc6 : ¬cond0_6 i)
    (x0 : Vec Ideal S512x1024 .f32) (x1 : Vec Ideal S1x1024 .f32) (x2 : Vec Ideal S1x1024x1024 .bf16) (x3 : Vec Ideal S1x1024x1024 .bf16) (x4 : Vec Ideal S512x1024 .bf16) (x5 : Vec Ideal S512x1024 .f32) :
    out0_A_9 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 = k0_pay2 x5 (k0_pay21 (k0_pay12 x4)) := by
  have h : (kernelRun0_A (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5).2.2.2.1 = [⟨Rect.unit (s := S1x1024x1024) ![0, 0, 0] S1x1024x1024.size inb_S1x1024x1024_S1x1024x1024_0_0_0, k0_pay2 (View.readAt (Elt Ideal) arg7.view (Rect.unit (s := S512x1024) ![0, 0] S512x1024.size inb_S512x1024_S512x1024_0_0).toLoadRect (harg7.unread x5)) (k0_pay21 (k0_pay12 (View.readAt (Elt Ideal) arg6.view (Rect.unit (s := S512x1024) ![0, 0] S512x1024.size inb_S512x1024_S512x1024_0_0).toLoadRect (harg6.unread x4))))⟩] := by sl_kernel_rfl
  show View.read (Elt Ideal) VO0_9 (VO0_9.writes (Elt Ideal) VO0_9.junk (kernelRun0_A (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5).2.2.2.1) = _
  rw [View.read_writes_junk_eq_canon, h]
  refine (View.canon_unit_zero zero3 _ _).trans ?_
  rw [load_all harg7 x5 zero2, load_all harg6 x4 zero2]

/-- Output 6 at a point of case B. -/
theorem at_B_6 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x1024x1024 .f32) (harg11 : arg11.IsWhole) (arg12 : Memref sig .tc .vmem S1x1024x1024 .bf16) (harg12 : arg12.IsWhole) (arg13 : Memref sig .tc .vmem S1x1024x1024 .bf16) (harg13 : arg13.IsWhole) (hc0 : ¬cond0_0 i) (hc1 : cond0_1 i) (hc2 : ¬cond0_2 i) (hc3 : cond0_3 i) (hc4 : ¬cond0_4 i) (hc5 : cond0_5 i) (hc6 : ¬cond0_6 i)
    (x0 : Vec Ideal S512x1024 .f32) (x1 : Vec Ideal S1x1024 .f32) (x2 : Vec Ideal S1x1024x1024 .bf16) (x3 : Vec Ideal S1x1024x1024 .bf16) (x4 : Vec Ideal S512x1024 .bf16) (x5 : Vec Ideal S512x1024 .f32) (xo7 : Vec Ideal S1x1024 .f32) (xo8 : Vec Ideal S1x1024x1024 .f32) (xo9 : Vec Ideal S1x1024x1024 .f32) :
    out0_B_6 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 xo8 xo9 = k0_pay16 x0 (k0_pay6 x1) (k0_pay8 x0) (k0_pay9 x0) (k0_pay14 x4 x5 x3 x2) := by
  have h : (kernelRun0_B (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 xo8 xo9).1 = [⟨Rect.unit (s := S1x512x1024) ![0, 0, 0] S1x512x1024.size inb_S1x512x1024_S1x512x1024_0_0_0, k0_pay16 (View.readAt (Elt Ideal) arg2.view (Rect.unit (s := S512x1024) ![0, 0] S512x1024.size inb_S512x1024_S512x1024_0_0).toLoadRect (harg2.unread x0)) (k0_pay6 (View.readAt (Elt Ideal) arg3.view (Rect.unit (s := S1x1024) ![0, 0] S1x1024.size inb_S1x1024_S1x1024_0_0).toLoadRect (harg3.unread x1))) (k0_pay8 (View.readAt (Elt Ideal) arg2.view (Rect.unit (s := S512x1024) ![0, 0] S512x1024.size inb_S512x1024_S512x1024_0_0).toLoadRect (harg2.unread x0))) (k0_pay9 (View.readAt (Elt Ideal) arg2.view (Rect.unit (s := S512x1024) ![0, 0] S512x1024.size inb_S512x1024_S512x1024_0_0).toLoadRect (harg2.unread x0))) (k0_pay14 (View.readAt (Elt Ideal) arg6.view (Rect.unit (s := S512x1024) ![0, 0] S512x1024.size inb_S512x1024_S512x1024_0_0).toLoadRect (harg6.unread x4)) (View.readAt (Elt Ideal) arg7.view (Rect.unit (s := S512x1024) ![0, 0] S512x1024.size inb_S512x1024_S512x1024_0_0).toLoadRect (harg7.unread x5)) (View.readAt (Elt Ideal) arg5.view (Rect.unit (s := S1x1024x1024) ![0, 0, 0] S1x1024x1024.size inb_S1x1024x1024_S1x1024x1024_0_0_0).toLoadRect (harg5.unread x3)) (View.readAt (Elt Ideal) arg4.view (Rect.unit (s := S1x1024x1024) ![0, 0, 0] S1x1024x1024.size inb_S1x1024x1024_S1x1024x1024_0_0_0).toLoadRect (harg4.unread x2)))⟩] := by sl_kernel_rfl
  show View.read (Elt Ideal) VO0_6 (VO0_6.writes (Elt Ideal) VO0_6.junk (kernelRun0_B (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 xo8 xo9).1) = _
  rw [View.read_writes_junk_eq_canon, h]
  refine (View.canon_unit_zero zero3 _ _).trans ?_
  rw [load_all harg2 x0 zero2, load_all harg3 x1 zero2, load_all harg6 x4 zero2, load_all harg7 x5 zero2, load_all harg5 x3 zero3, load_all harg4 x2 zero3]

/-- Output 7 at a point of case B. -/
theorem at_B_7 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x1024x1024 .f32) (harg11 : arg11.IsWhole) (arg12 : Memref sig .tc .vmem S1x1024x1024 .bf16) (harg12 : arg12.IsWhole) (arg13 : Memref sig .tc .vmem S1x1024x1024 .bf16) (harg13 : arg13.IsWhole) (hc0 : ¬cond0_0 i) (hc1 : cond0_1 i) (hc2 : ¬cond0_2 i) (hc3 : cond0_3 i) (hc4 : ¬cond0_4 i) (hc5 : cond0_5 i) (hc6 : ¬cond0_6 i)
    (x0 : Vec Ideal S512x1024 .f32) (x1 : Vec Ideal S1x1024 .f32) (x2 : Vec Ideal S1x1024x1024 .bf16) (x3 : Vec Ideal S1x1024x1024 .bf16) (x4 : Vec Ideal S512x1024 .bf16) (x5 : Vec Ideal S512x1024 .f32) (xo7 : Vec Ideal S1x1024 .f32) (xo8 : Vec Ideal S1x1024x1024 .f32) (xo9 : Vec Ideal S1x1024x1024 .f32) :
    out0_B_7 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 xo8 xo9 = k0_pay17 (k0_pay15 x0 x4 x5 x3 x2) xo7 := by
  have h : (kernelRun0_B (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 xo8 xo9).2.1 = [⟨Rect.unit (s := S1x1024) ![0, 0] S1x1024.size inb_S1x1024_S1x1024_0_0, k0_pay17 (k0_pay15 (View.readAt (Elt Ideal) arg2.view (Rect.unit (s := S512x1024) ![0, 0] S512x1024.size inb_S512x1024_S512x1024_0_0).toLoadRect (harg2.unread x0)) (View.readAt (Elt Ideal) arg6.view (Rect.unit (s := S512x1024) ![0, 0] S512x1024.size inb_S512x1024_S512x1024_0_0).toLoadRect (harg6.unread x4)) (View.readAt (Elt Ideal) arg7.view (Rect.unit (s := S512x1024) ![0, 0] S512x1024.size inb_S512x1024_S512x1024_0_0).toLoadRect (harg7.unread x5)) (View.readAt (Elt Ideal) arg5.view (Rect.unit (s := S1x1024x1024) ![0, 0, 0] S1x1024x1024.size inb_S1x1024x1024_S1x1024x1024_0_0_0).toLoadRect (harg5.unread x3)) (View.readAt (Elt Ideal) arg4.view (Rect.unit (s := S1x1024x1024) ![0, 0, 0] S1x1024x1024.size inb_S1x1024x1024_S1x1024x1024_0_0_0).toLoadRect (harg4.unread x2))) (View.readAt (Elt Ideal) arg9.view (Rect.unit (s := S1x1024) ![0, 0] S1x1024.size inb_S1x1024_S1x1024_0_0).toLoadRect (harg9.unread xo7))⟩] := by sl_kernel_rfl
  show View.read (Elt Ideal) VO0_7 (VO0_7.writes (Elt Ideal) VO0_7.junk (kernelRun0_B (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 xo8 xo9).2.1) = _
  rw [View.read_writes_junk_eq_canon, h]
  refine (View.canon_unit_zero zero2 _ _).trans ?_
  rw [load_all harg2 x0 zero2, load_all harg6 x4 zero2, load_all harg7 x5 zero2, load_all harg5 x3 zero3, load_all harg4 x2 zero3, load_all harg9 xo7 zero2]

/-- Output 8 at a point of case B. -/
theorem at_B_8 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x1024x1024 .f32) (harg11 : arg11.IsWhole) (arg12 : Memref sig .tc .vmem S1x1024x1024 .bf16) (harg12 : arg12.IsWhole) (arg13 : Memref sig .tc .vmem S1x1024x1024 .bf16) (harg13 : arg13.IsWhole) (hc0 : ¬cond0_0 i) (hc1 : cond0_1 i) (hc2 : ¬cond0_2 i) (hc3 : cond0_3 i) (hc4 : ¬cond0_4 i) (hc5 : cond0_5 i) (hc6 : ¬cond0_6 i)
    (x0 : Vec Ideal S512x1024 .f32) (x1 : Vec Ideal S1x1024 .f32) (x2 : Vec Ideal S1x1024x1024 .bf16) (x3 : Vec Ideal S1x1024x1024 .bf16) (x4 : Vec Ideal S512x1024 .bf16) (x5 : Vec Ideal S512x1024 .f32) (xo7 : Vec Ideal S1x1024 .f32) (xo8 : Vec Ideal S1x1024x1024 .f32) (xo9 : Vec Ideal S1x1024x1024 .f32) :
    out0_B_8 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 xo8 xo9 = k0_pay20 (k0_pay11 x0 x1) (k0_pay13 x4 x5 x3) xo8 := by
  have h : (kernelRun0_B (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 xo8 xo9).2.2.1 = [⟨Rect.unit (s := S1x1024x1024) ![0, 0, 0] S1x1024x1024.size inb_S1x1024x1024_S1x1024x1024_0_0_0, k0_pay20 (k0_pay11 (View.readAt (Elt Ideal) arg2.view (Rect.unit (s := S512x1024) ![0, 0] S512x1024.size inb_S512x1024_S512x1024_0_0).toLoadRect (harg2.unread x0)) (View.readAt (Elt Ideal) arg3.view (Rect.unit (s := S1x1024) ![0, 0] S1x1024.size inb_S1x1024_S1x1024_0_0).toLoadRect (harg3.unread x1))) (k0_pay13 (View.readAt (Elt Ideal) arg6.view (Rect.unit (s := S512x1024) ![0, 0] S512x1024.size inb_S512x1024_S512x1024_0_0).toLoadRect (harg6.unread x4)) (View.readAt (Elt Ideal) arg7.view (Rect.unit (s := S512x1024) ![0, 0] S512x1024.size inb_S512x1024_S512x1024_0_0).toLoadRect (harg7.unread x5)) (View.readAt (Elt Ideal) arg5.view (Rect.unit (s := S1x1024x1024) ![0, 0, 0] S1x1024x1024.size inb_S1x1024x1024_S1x1024x1024_0_0_0).toLoadRect (harg5.unread x3))) (View.readAt (Elt Ideal) arg10.view (Rect.unit (s := S1x1024x1024) ![0, 0, 0] S1x1024x1024.size inb_S1x1024x1024_S1x1024x1024_0_0_0).toLoadRect (harg10.unread xo8))⟩] := by sl_kernel_rfl
  show View.read (Elt Ideal) VO0_8 (VO0_8.writes (Elt Ideal) VO0_8.junk (kernelRun0_B (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 xo8 xo9).2.2.1) = _
  rw [View.read_writes_junk_eq_canon, h]
  refine (View.canon_unit_zero zero3 _ _).trans ?_
  rw [load_all harg2 x0 zero2, load_all harg3 x1 zero2, load_all harg6 x4 zero2, load_all harg7 x5 zero2, load_all harg5 x3 zero3, load_all harg10 xo8 zero3]

/-- Output 9 at a point of case B. -/
theorem at_B_9 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x1024x1024 .f32) (harg11 : arg11.IsWhole) (arg12 : Memref sig .tc .vmem S1x1024x1024 .bf16) (harg12 : arg12.IsWhole) (arg13 : Memref sig .tc .vmem S1x1024x1024 .bf16) (harg13 : arg13.IsWhole) (hc0 : ¬cond0_0 i) (hc1 : cond0_1 i) (hc2 : ¬cond0_2 i) (hc3 : cond0_3 i) (hc4 : ¬cond0_4 i) (hc5 : cond0_5 i) (hc6 : ¬cond0_6 i)
    (x0 : Vec Ideal S512x1024 .f32) (x1 : Vec Ideal S1x1024 .f32) (x2 : Vec Ideal S1x1024x1024 .bf16) (x3 : Vec Ideal S1x1024x1024 .bf16) (x4 : Vec Ideal S512x1024 .bf16) (x5 : Vec Ideal S512x1024 .f32) (xo7 : Vec Ideal S1x1024 .f32) (xo8 : Vec Ideal S1x1024x1024 .f32) (xo9 : Vec Ideal S1x1024x1024 .f32) :
    out0_B_9 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 xo8 xo9 = k0_pay3 x5 (k0_pay21 (k0_pay12 x4)) xo9 := by
  have h : (kernelRun0_B (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 xo8 xo9).2.2.2.1 = [⟨Rect.unit (s := S1x1024x1024) ![0, 0, 0] S1x1024x1024.size inb_S1x1024x1024_S1x1024x1024_0_0_0, k0_pay3 (View.readAt (Elt Ideal) arg7.view (Rect.unit (s := S512x1024) ![0, 0] S512x1024.size inb_S512x1024_S512x1024_0_0).toLoadRect (harg7.unread x5)) (k0_pay21 (k0_pay12 (View.readAt (Elt Ideal) arg6.view (Rect.unit (s := S512x1024) ![0, 0] S512x1024.size inb_S512x1024_S512x1024_0_0).toLoadRect (harg6.unread x4)))) (View.readAt (Elt Ideal) arg11.view (Rect.unit (s := S1x1024x1024) ![0, 0, 0] S1x1024x1024.size inb_S1x1024x1024_S1x1024x1024_0_0_0).toLoadRect (harg11.unread xo9))⟩] := by sl_kernel_rfl
  show View.read (Elt Ideal) VO0_9 (VO0_9.writes (Elt Ideal) VO0_9.junk (kernelRun0_B (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 xo8 xo9).2.2.2.1) = _
  rw [View.read_writes_junk_eq_canon, h]
  refine (View.canon_unit_zero zero3 _ _).trans ?_
  rw [load_all harg7 x5 zero2, load_all harg6 x4 zero2, load_all harg11 xo9 zero3]

/-- Output 6 at a point of case C. -/
theorem at_C_6 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x1024x1024 .f32) (harg11 : arg11.IsWhole) (arg12 : Memref sig .tc .vmem S1x1024x1024 .bf16) (harg12 : arg12.IsWhole) (arg13 : Memref sig .tc .vmem S1x1024x1024 .bf16) (harg13 : arg13.IsWhole) (hc0 : ¬cond0_0 i) (hc1 : cond0_1 i) (hc2 : ¬cond0_2 i) (hc3 : cond0_3 i) (hc4 : ¬cond0_4 i) (hc5 : cond0_5 i) (hc6 : cond0_6 i)
    (x0 : Vec Ideal S512x1024 .f32) (x1 : Vec Ideal S1x1024 .f32) (x2 : Vec Ideal S1x1024x1024 .bf16) (x3 : Vec Ideal S1x1024x1024 .bf16) (x4 : Vec Ideal S512x1024 .bf16) (x5 : Vec Ideal S512x1024 .f32) (xo7 : Vec Ideal S1x1024 .f32) (xo8 : Vec Ideal S1x1024x1024 .f32) (xo9 : Vec Ideal S1x1024x1024 .f32) :
    out0_C_6 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 xo8 xo9 = k0_pay16 x0 (k0_pay6 x1) (k0_pay8 x0) (k0_pay9 x0) (k0_pay14 x4 x5 x3 x2) := by
  have h : (kernelRun0_C (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 xo8 xo9).1 = [⟨Rect.unit (s := S1x512x1024) ![0, 0, 0] S1x512x1024.size inb_S1x512x1024_S1x512x1024_0_0_0, k0_pay16 (View.readAt (Elt Ideal) arg2.view (Rect.unit (s := S512x1024) ![0, 0] S512x1024.size inb_S512x1024_S512x1024_0_0).toLoadRect (harg2.unread x0)) (k0_pay6 (View.readAt (Elt Ideal) arg3.view (Rect.unit (s := S1x1024) ![0, 0] S1x1024.size inb_S1x1024_S1x1024_0_0).toLoadRect (harg3.unread x1))) (k0_pay8 (View.readAt (Elt Ideal) arg2.view (Rect.unit (s := S512x1024) ![0, 0] S512x1024.size inb_S512x1024_S512x1024_0_0).toLoadRect (harg2.unread x0))) (k0_pay9 (View.readAt (Elt Ideal) arg2.view (Rect.unit (s := S512x1024) ![0, 0] S512x1024.size inb_S512x1024_S512x1024_0_0).toLoadRect (harg2.unread x0))) (k0_pay14 (View.readAt (Elt Ideal) arg6.view (Rect.unit (s := S512x1024) ![0, 0] S512x1024.size inb_S512x1024_S512x1024_0_0).toLoadRect (harg6.unread x4)) (View.readAt (Elt Ideal) arg7.view (Rect.unit (s := S512x1024) ![0, 0] S512x1024.size inb_S512x1024_S512x1024_0_0).toLoadRect (harg7.unread x5)) (View.readAt (Elt Ideal) arg5.view (Rect.unit (s := S1x1024x1024) ![0, 0, 0] S1x1024x1024.size inb_S1x1024x1024_S1x1024x1024_0_0_0).toLoadRect (harg5.unread x3)) (View.readAt (Elt Ideal) arg4.view (Rect.unit (s := S1x1024x1024) ![0, 0, 0] S1x1024x1024.size inb_S1x1024x1024_S1x1024x1024_0_0_0).toLoadRect (harg4.unread x2)))⟩] := by sl_kernel_rfl
  show View.read (Elt Ideal) VO0_6 (VO0_6.writes (Elt Ideal) VO0_6.junk (kernelRun0_C (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 xo8 xo9).1) = _
  rw [View.read_writes_junk_eq_canon, h]
  refine (View.canon_unit_zero zero3 _ _).trans ?_
  rw [load_all harg2 x0 zero2, load_all harg3 x1 zero2, load_all harg6 x4 zero2, load_all harg7 x5 zero2, load_all harg5 x3 zero3, load_all harg4 x2 zero3]

/-- Output 7 at a point of case C. -/
theorem at_C_7 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x1024x1024 .f32) (harg11 : arg11.IsWhole) (arg12 : Memref sig .tc .vmem S1x1024x1024 .bf16) (harg12 : arg12.IsWhole) (arg13 : Memref sig .tc .vmem S1x1024x1024 .bf16) (harg13 : arg13.IsWhole) (hc0 : ¬cond0_0 i) (hc1 : cond0_1 i) (hc2 : ¬cond0_2 i) (hc3 : cond0_3 i) (hc4 : ¬cond0_4 i) (hc5 : cond0_5 i) (hc6 : cond0_6 i)
    (x0 : Vec Ideal S512x1024 .f32) (x1 : Vec Ideal S1x1024 .f32) (x2 : Vec Ideal S1x1024x1024 .bf16) (x3 : Vec Ideal S1x1024x1024 .bf16) (x4 : Vec Ideal S512x1024 .bf16) (x5 : Vec Ideal S512x1024 .f32) (xo7 : Vec Ideal S1x1024 .f32) (xo8 : Vec Ideal S1x1024x1024 .f32) (xo9 : Vec Ideal S1x1024x1024 .f32) :
    out0_C_7 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 xo8 xo9 = k0_pay17 (k0_pay15 x0 x4 x5 x3 x2) xo7 := by
  have h : (kernelRun0_C (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 xo8 xo9).2.1 = [⟨Rect.unit (s := S1x1024) ![0, 0] S1x1024.size inb_S1x1024_S1x1024_0_0, k0_pay17 (k0_pay15 (View.readAt (Elt Ideal) arg2.view (Rect.unit (s := S512x1024) ![0, 0] S512x1024.size inb_S512x1024_S512x1024_0_0).toLoadRect (harg2.unread x0)) (View.readAt (Elt Ideal) arg6.view (Rect.unit (s := S512x1024) ![0, 0] S512x1024.size inb_S512x1024_S512x1024_0_0).toLoadRect (harg6.unread x4)) (View.readAt (Elt Ideal) arg7.view (Rect.unit (s := S512x1024) ![0, 0] S512x1024.size inb_S512x1024_S512x1024_0_0).toLoadRect (harg7.unread x5)) (View.readAt (Elt Ideal) arg5.view (Rect.unit (s := S1x1024x1024) ![0, 0, 0] S1x1024x1024.size inb_S1x1024x1024_S1x1024x1024_0_0_0).toLoadRect (harg5.unread x3)) (View.readAt (Elt Ideal) arg4.view (Rect.unit (s := S1x1024x1024) ![0, 0, 0] S1x1024x1024.size inb_S1x1024x1024_S1x1024x1024_0_0_0).toLoadRect (harg4.unread x2))) (View.readAt (Elt Ideal) arg9.view (Rect.unit (s := S1x1024) ![0, 0] S1x1024.size inb_S1x1024_S1x1024_0_0).toLoadRect (harg9.unread xo7))⟩] := by sl_kernel_rfl
  show View.read (Elt Ideal) VO0_7 (VO0_7.writes (Elt Ideal) VO0_7.junk (kernelRun0_C (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 xo8 xo9).2.1) = _
  rw [View.read_writes_junk_eq_canon, h]
  refine (View.canon_unit_zero zero2 _ _).trans ?_
  rw [load_all harg2 x0 zero2, load_all harg6 x4 zero2, load_all harg7 x5 zero2, load_all harg5 x3 zero3, load_all harg4 x2 zero3, load_all harg9 xo7 zero2]

/-- Output 8 at a point of case C. -/
theorem at_C_8 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x1024x1024 .f32) (harg11 : arg11.IsWhole) (arg12 : Memref sig .tc .vmem S1x1024x1024 .bf16) (harg12 : arg12.IsWhole) (arg13 : Memref sig .tc .vmem S1x1024x1024 .bf16) (harg13 : arg13.IsWhole) (hc0 : ¬cond0_0 i) (hc1 : cond0_1 i) (hc2 : ¬cond0_2 i) (hc3 : cond0_3 i) (hc4 : ¬cond0_4 i) (hc5 : cond0_5 i) (hc6 : cond0_6 i)
    (x0 : Vec Ideal S512x1024 .f32) (x1 : Vec Ideal S1x1024 .f32) (x2 : Vec Ideal S1x1024x1024 .bf16) (x3 : Vec Ideal S1x1024x1024 .bf16) (x4 : Vec Ideal S512x1024 .bf16) (x5 : Vec Ideal S512x1024 .f32) (xo7 : Vec Ideal S1x1024 .f32) (xo8 : Vec Ideal S1x1024x1024 .f32) (xo9 : Vec Ideal S1x1024x1024 .f32) :
    out0_C_8 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 xo8 xo9 = k0_pay20 (k0_pay11 x0 x1) (k0_pay13 x4 x5 x3) xo8 := by
  have h : (kernelRun0_C (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 xo8 xo9).2.2.1 = [⟨Rect.unit (s := S1x1024x1024) ![0, 0, 0] S1x1024x1024.size inb_S1x1024x1024_S1x1024x1024_0_0_0, k0_pay20 (k0_pay11 (View.readAt (Elt Ideal) arg2.view (Rect.unit (s := S512x1024) ![0, 0] S512x1024.size inb_S512x1024_S512x1024_0_0).toLoadRect (harg2.unread x0)) (View.readAt (Elt Ideal) arg3.view (Rect.unit (s := S1x1024) ![0, 0] S1x1024.size inb_S1x1024_S1x1024_0_0).toLoadRect (harg3.unread x1))) (k0_pay13 (View.readAt (Elt Ideal) arg6.view (Rect.unit (s := S512x1024) ![0, 0] S512x1024.size inb_S512x1024_S512x1024_0_0).toLoadRect (harg6.unread x4)) (View.readAt (Elt Ideal) arg7.view (Rect.unit (s := S512x1024) ![0, 0] S512x1024.size inb_S512x1024_S512x1024_0_0).toLoadRect (harg7.unread x5)) (View.readAt (Elt Ideal) arg5.view (Rect.unit (s := S1x1024x1024) ![0, 0, 0] S1x1024x1024.size inb_S1x1024x1024_S1x1024x1024_0_0_0).toLoadRect (harg5.unread x3))) (View.readAt (Elt Ideal) arg10.view (Rect.unit (s := S1x1024x1024) ![0, 0, 0] S1x1024x1024.size inb_S1x1024x1024_S1x1024x1024_0_0_0).toLoadRect (harg10.unread xo8))⟩] := by sl_kernel_rfl
  show View.read (Elt Ideal) VO0_8 (VO0_8.writes (Elt Ideal) VO0_8.junk (kernelRun0_C (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 xo8 xo9).2.2.1) = _
  rw [View.read_writes_junk_eq_canon, h]
  refine (View.canon_unit_zero zero3 _ _).trans ?_
  rw [load_all harg2 x0 zero2, load_all harg3 x1 zero2, load_all harg6 x4 zero2, load_all harg7 x5 zero2, load_all harg5 x3 zero3, load_all harg10 xo8 zero3]

/-- Output 9 at a point of case C. -/
theorem at_C_9 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x1024x1024 .f32) (harg11 : arg11.IsWhole) (arg12 : Memref sig .tc .vmem S1x1024x1024 .bf16) (harg12 : arg12.IsWhole) (arg13 : Memref sig .tc .vmem S1x1024x1024 .bf16) (harg13 : arg13.IsWhole) (hc0 : ¬cond0_0 i) (hc1 : cond0_1 i) (hc2 : ¬cond0_2 i) (hc3 : cond0_3 i) (hc4 : ¬cond0_4 i) (hc5 : cond0_5 i) (hc6 : cond0_6 i)
    (x0 : Vec Ideal S512x1024 .f32) (x1 : Vec Ideal S1x1024 .f32) (x2 : Vec Ideal S1x1024x1024 .bf16) (x3 : Vec Ideal S1x1024x1024 .bf16) (x4 : Vec Ideal S512x1024 .bf16) (x5 : Vec Ideal S512x1024 .f32) (xo7 : Vec Ideal S1x1024 .f32) (xo8 : Vec Ideal S1x1024x1024 .f32) (xo9 : Vec Ideal S1x1024x1024 .f32) :
    out0_C_9 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 xo8 xo9 = k0_pay3 x5 (k0_pay21 (k0_pay12 x4)) xo9 := by
  have h : (kernelRun0_C (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 xo8 xo9).2.2.2.1 = [⟨Rect.unit (s := S1x1024x1024) ![0, 0, 0] S1x1024x1024.size inb_S1x1024x1024_S1x1024x1024_0_0_0, k0_pay3 (View.readAt (Elt Ideal) arg7.view (Rect.unit (s := S512x1024) ![0, 0] S512x1024.size inb_S512x1024_S512x1024_0_0).toLoadRect (harg7.unread x5)) (k0_pay21 (k0_pay12 (View.readAt (Elt Ideal) arg6.view (Rect.unit (s := S512x1024) ![0, 0] S512x1024.size inb_S512x1024_S512x1024_0_0).toLoadRect (harg6.unread x4)))) (View.readAt (Elt Ideal) arg11.view (Rect.unit (s := S1x1024x1024) ![0, 0, 0] S1x1024x1024.size inb_S1x1024x1024_S1x1024x1024_0_0_0).toLoadRect (harg11.unread xo9))⟩] := by sl_kernel_rfl
  show View.read (Elt Ideal) VO0_9 (VO0_9.writes (Elt Ideal) VO0_9.junk (kernelRun0_C (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 xo8 xo9).2.2.2.1) = _
  rw [View.read_writes_junk_eq_canon, h]
  refine (View.canon_unit_zero zero3 _ _).trans ?_
  rw [load_all harg7 x5 zero2, load_all harg6 x4 zero2, load_all harg11 xo9 zero3]

/-- Output 10 at a point of case C. -/
theorem at_C_10 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x1024x1024 .f32) (harg11 : arg11.IsWhole) (arg12 : Memref sig .tc .vmem S1x1024x1024 .bf16) (harg12 : arg12.IsWhole) (arg13 : Memref sig .tc .vmem S1x1024x1024 .bf16) (harg13 : arg13.IsWhole) (hc0 : ¬cond0_0 i) (hc1 : cond0_1 i) (hc2 : ¬cond0_2 i) (hc3 : cond0_3 i) (hc4 : ¬cond0_4 i) (hc5 : cond0_5 i) (hc6 : cond0_6 i)
    (x0 : Vec Ideal S512x1024 .f32) (x1 : Vec Ideal S1x1024 .f32) (x2 : Vec Ideal S1x1024x1024 .bf16) (x3 : Vec Ideal S1x1024x1024 .bf16) (x4 : Vec Ideal S512x1024 .bf16) (x5 : Vec Ideal S512x1024 .f32) (xo7 : Vec Ideal S1x1024 .f32) (xo8 : Vec Ideal S1x1024x1024 .f32) (xo9 : Vec Ideal S1x1024x1024 .f32) :
    out0_C_10 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 xo8 xo9 = k0_pay4 (k0_pay20 (k0_pay11 x0 x1) (k0_pay13 x4 x5 x3) xo8) := by
  have h : (kernelRun0_C (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 xo8 xo9).2.2.2.2.1 = [⟨Rect.unit (s := S1x1024x1024) ![0, 0, 0] S1x1024x1024.size inb_S1x1024x1024_S1x1024x1024_0_0_0, k0_pay4 (F := Ideal) (View.readCov (Val := Elt Ideal) arg10.view [⟨(Rect.unit (s := S1x1024x1024) ![0, 0, 0] S1x1024x1024.size inb_S1x1024x1024_S1x1024x1024_0_0_0), k0_pay20 (k0_pay11 (View.readAt (Elt Ideal) arg2.view (Rect.unit (s := S512x1024) ![0, 0] S512x1024.size inb_S512x1024_S512x1024_0_0).toLoadRect (harg2.unread x0)) (View.readAt (Elt Ideal) arg3.view (Rect.unit (s := S1x1024) ![0, 0] S1x1024.size inb_S1x1024_S1x1024_0_0).toLoadRect (harg3.unread x1))) (k0_pay13 (View.readAt (Elt Ideal) arg6.view (Rect.unit (s := S512x1024) ![0, 0] S512x1024.size inb_S512x1024_S512x1024_0_0).toLoadRect (harg6.unread x4)) (View.readAt (Elt Ideal) arg7.view (Rect.unit (s := S512x1024) ![0, 0] S512x1024.size inb_S512x1024_S512x1024_0_0).toLoadRect (harg7.unread x5)) (View.readAt (Elt Ideal) arg5.view (Rect.unit (s := S1x1024x1024) ![0, 0, 0] S1x1024x1024.size inb_S1x1024x1024_S1x1024x1024_0_0_0).toLoadRect (harg5.unread x3))) (View.readAt (Elt Ideal) arg10.view (Rect.unit (s := S1x1024x1024) ![0, 0, 0] S1x1024x1024.size inb_S1x1024x1024_S1x1024x1024_0_0_0).toLoadRect (harg10.unread xo8))⟩] (Rect.unit (s := S1x1024x1024) ![0, 0, 0] S1x1024x1024.size inb_S1x1024x1024_S1x1024x1024_0_0_0).toLoadRect)⟩] := by sl_kernel_rfl
  show View.read (Elt Ideal) VO0_10 (VO0_10.writes (Elt Ideal) VO0_10.junk (kernelRun0_C (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 xo8 xo9).2.2.2.2.1) = _
  rw [View.read_writes_junk_eq_canon, h]
  refine (View.canon_unit_zero zero3 _ _).trans ?_
  rw [View.readCov_unit_zero arg10.view zero3, load_all harg2 x0 zero2, load_all harg3 x1 zero2, load_all harg6 x4 zero2, load_all harg7 x5 zero2, load_all harg5 x3 zero3, load_all harg10 xo8 zero3]

/-- Output 11 at a point of case C. -/
theorem at_C_11 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x1024x1024 .f32) (harg11 : arg11.IsWhole) (arg12 : Memref sig .tc .vmem S1x1024x1024 .bf16) (harg12 : arg12.IsWhole) (arg13 : Memref sig .tc .vmem S1x1024x1024 .bf16) (harg13 : arg13.IsWhole) (hc0 : ¬cond0_0 i) (hc1 : cond0_1 i) (hc2 : ¬cond0_2 i) (hc3 : cond0_3 i) (hc4 : ¬cond0_4 i) (hc5 : cond0_5 i) (hc6 : cond0_6 i)
    (x0 : Vec Ideal S512x1024 .f32) (x1 : Vec Ideal S1x1024 .f32) (x2 : Vec Ideal S1x1024x1024 .bf16) (x3 : Vec Ideal S1x1024x1024 .bf16) (x4 : Vec Ideal S512x1024 .bf16) (x5 : Vec Ideal S512x1024 .f32) (xo7 : Vec Ideal S1x1024 .f32) (xo8 : Vec Ideal S1x1024x1024 .f32) (xo9 : Vec Ideal S1x1024x1024 .f32) :
    out0_C_11 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 xo8 xo9 = k0_pay5 (k0_pay3 x5 (k0_pay21 (k0_pay12 x4)) xo9) := by
  have h : (kernelRun0_C (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 xo8 xo9).2.2.2.2.2.1 = [⟨Rect.unit (s := S1x1024x1024) ![0, 0, 0] S1x1024x1024.size inb_S1x1024x1024_S1x1024x1024_0_0_0, k0_pay5 (F := Ideal) (View.readCov (Val := Elt Ideal) arg11.view [⟨(Rect.unit (s := S1x1024x1024) ![0, 0, 0] S1x1024x1024.size inb_S1x1024x1024_S1x1024x1024_0_0_0), k0_pay3 (View.readAt (Elt Ideal) arg7.view (Rect.unit (s := S512x1024) ![0, 0] S512x1024.size inb_S512x1024_S512x1024_0_0).toLoadRect (harg7.unread x5)) (k0_pay21 (k0_pay12 (View.readAt (Elt Ideal) arg6.view (Rect.unit (s := S512x1024) ![0, 0] S512x1024.size inb_S512x1024_S512x1024_0_0).toLoadRect (harg6.unread x4)))) (View.readAt (Elt Ideal) arg11.view (Rect.unit (s := S1x1024x1024) ![0, 0, 0] S1x1024x1024.size inb_S1x1024x1024_S1x1024x1024_0_0_0).toLoadRect (harg11.unread xo9))⟩] (Rect.unit (s := S1x1024x1024) ![0, 0, 0] S1x1024x1024.size inb_S1x1024x1024_S1x1024x1024_0_0_0).toLoadRect)⟩] := by sl_kernel_rfl
  show View.read (Elt Ideal) VO0_11 (VO0_11.writes (Elt Ideal) VO0_11.junk (kernelRun0_C (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 xo8 xo9).2.2.2.2.2.1) = _
  rw [View.read_writes_junk_eq_canon, h]
  refine (View.canon_unit_zero zero3 _ _).trans ?_
  rw [View.readCov_unit_zero arg11.view zero3, load_all harg7 x5 zero2, load_all harg6 x4 zero2, load_all harg11 xo9 zero3]

/-- Output 6 at a point of case D. -/
theorem at_D_6 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x1024x1024 .f32) (harg11 : arg11.IsWhole) (arg12 : Memref sig .tc .vmem S1x1024x1024 .bf16) (harg12 : arg12.IsWhole) (arg13 : Memref sig .tc .vmem S1x1024x1024 .bf16) (harg13 : arg13.IsWhole) (hc0 : ¬cond0_0 i) (hc1 : cond0_1 i) (hc2 : cond0_2 i) (hc3 : ¬cond0_3 i) (hc4 : cond0_4 i) (hc5 : ¬cond0_5 i) (hc6 : ¬cond0_6 i)
    (x0 : Vec Ideal S512x1024 .f32) (x1 : Vec Ideal S1x1024 .f32) (x2 : Vec Ideal S1x1024x1024 .bf16) (x3 : Vec Ideal S1x1024x1024 .bf16) (x4 : Vec Ideal S512x1024 .bf16) (x5 : Vec Ideal S512x1024 .f32) (xo7 : Vec Ideal S1x1024 .f32) :
    out0_D_6 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 = k0_pay16 x0 (k0_pay6 x1) (k0_pay8 x0) (k0_pay9 x0) (k0_pay14 x4 x5 x3 x2) := by
  have h : (kernelRun0_D (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7).1 = [⟨Rect.unit (s := S1x512x1024) ![0, 0, 0] S1x512x1024.size inb_S1x512x1024_S1x512x1024_0_0_0, k0_pay16 (View.readAt (Elt Ideal) arg2.view (Rect.unit (s := S512x1024) ![0, 0] S512x1024.size inb_S512x1024_S512x1024_0_0).toLoadRect (harg2.unread x0)) (k0_pay6 (View.readAt (Elt Ideal) arg3.view (Rect.unit (s := S1x1024) ![0, 0] S1x1024.size inb_S1x1024_S1x1024_0_0).toLoadRect (harg3.unread x1))) (k0_pay8 (View.readAt (Elt Ideal) arg2.view (Rect.unit (s := S512x1024) ![0, 0] S512x1024.size inb_S512x1024_S512x1024_0_0).toLoadRect (harg2.unread x0))) (k0_pay9 (View.readAt (Elt Ideal) arg2.view (Rect.unit (s := S512x1024) ![0, 0] S512x1024.size inb_S512x1024_S512x1024_0_0).toLoadRect (harg2.unread x0))) (k0_pay14 (View.readAt (Elt Ideal) arg6.view (Rect.unit (s := S512x1024) ![0, 0] S512x1024.size inb_S512x1024_S512x1024_0_0).toLoadRect (harg6.unread x4)) (View.readAt (Elt Ideal) arg7.view (Rect.unit (s := S512x1024) ![0, 0] S512x1024.size inb_S512x1024_S512x1024_0_0).toLoadRect (harg7.unread x5)) (View.readAt (Elt Ideal) arg5.view (Rect.unit (s := S1x1024x1024) ![0, 0, 0] S1x1024x1024.size inb_S1x1024x1024_S1x1024x1024_0_0_0).toLoadRect (harg5.unread x3)) (View.readAt (Elt Ideal) arg4.view (Rect.unit (s := S1x1024x1024) ![0, 0, 0] S1x1024x1024.size inb_S1x1024x1024_S1x1024x1024_0_0_0).toLoadRect (harg4.unread x2)))⟩] := by sl_kernel_rfl
  show View.read (Elt Ideal) VO0_6 (VO0_6.writes (Elt Ideal) VO0_6.junk (kernelRun0_D (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7).1) = _
  rw [View.read_writes_junk_eq_canon, h]
  refine (View.canon_unit_zero zero3 _ _).trans ?_
  rw [load_all harg2 x0 zero2, load_all harg3 x1 zero2, load_all harg6 x4 zero2, load_all harg7 x5 zero2, load_all harg5 x3 zero3, load_all harg4 x2 zero3]

/-- Output 7 at a point of case D. -/
theorem at_D_7 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x1024x1024 .f32) (harg11 : arg11.IsWhole) (arg12 : Memref sig .tc .vmem S1x1024x1024 .bf16) (harg12 : arg12.IsWhole) (arg13 : Memref sig .tc .vmem S1x1024x1024 .bf16) (harg13 : arg13.IsWhole) (hc0 : ¬cond0_0 i) (hc1 : cond0_1 i) (hc2 : cond0_2 i) (hc3 : ¬cond0_3 i) (hc4 : cond0_4 i) (hc5 : ¬cond0_5 i) (hc6 : ¬cond0_6 i)
    (x0 : Vec Ideal S512x1024 .f32) (x1 : Vec Ideal S1x1024 .f32) (x2 : Vec Ideal S1x1024x1024 .bf16) (x3 : Vec Ideal S1x1024x1024 .bf16) (x4 : Vec Ideal S512x1024 .bf16) (x5 : Vec Ideal S512x1024 .f32) (xo7 : Vec Ideal S1x1024 .f32) :
    out0_D_7 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 = k0_pay17 (k0_pay15 x0 x4 x5 x3 x2) xo7 := by
  have h : (kernelRun0_D (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7).2.1 = [⟨Rect.unit (s := S1x1024) ![0, 0] S1x1024.size inb_S1x1024_S1x1024_0_0, k0_pay17 (k0_pay15 (View.readAt (Elt Ideal) arg2.view (Rect.unit (s := S512x1024) ![0, 0] S512x1024.size inb_S512x1024_S512x1024_0_0).toLoadRect (harg2.unread x0)) (View.readAt (Elt Ideal) arg6.view (Rect.unit (s := S512x1024) ![0, 0] S512x1024.size inb_S512x1024_S512x1024_0_0).toLoadRect (harg6.unread x4)) (View.readAt (Elt Ideal) arg7.view (Rect.unit (s := S512x1024) ![0, 0] S512x1024.size inb_S512x1024_S512x1024_0_0).toLoadRect (harg7.unread x5)) (View.readAt (Elt Ideal) arg5.view (Rect.unit (s := S1x1024x1024) ![0, 0, 0] S1x1024x1024.size inb_S1x1024x1024_S1x1024x1024_0_0_0).toLoadRect (harg5.unread x3)) (View.readAt (Elt Ideal) arg4.view (Rect.unit (s := S1x1024x1024) ![0, 0, 0] S1x1024x1024.size inb_S1x1024x1024_S1x1024x1024_0_0_0).toLoadRect (harg4.unread x2))) (View.readAt (Elt Ideal) arg9.view (Rect.unit (s := S1x1024) ![0, 0] S1x1024.size inb_S1x1024_S1x1024_0_0).toLoadRect (harg9.unread xo7))⟩] := by sl_kernel_rfl
  show View.read (Elt Ideal) VO0_7 (VO0_7.writes (Elt Ideal) VO0_7.junk (kernelRun0_D (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7).2.1) = _
  rw [View.read_writes_junk_eq_canon, h]
  refine (View.canon_unit_zero zero2 _ _).trans ?_
  rw [load_all harg2 x0 zero2, load_all harg6 x4 zero2, load_all harg7 x5 zero2, load_all harg5 x3 zero3, load_all harg4 x2 zero3, load_all harg9 xo7 zero2]

/-- Output 8 at a point of case D. -/
theorem at_D_8 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x1024x1024 .f32) (harg11 : arg11.IsWhole) (arg12 : Memref sig .tc .vmem S1x1024x1024 .bf16) (harg12 : arg12.IsWhole) (arg13 : Memref sig .tc .vmem S1x1024x1024 .bf16) (harg13 : arg13.IsWhole) (hc0 : ¬cond0_0 i) (hc1 : cond0_1 i) (hc2 : cond0_2 i) (hc3 : ¬cond0_3 i) (hc4 : cond0_4 i) (hc5 : ¬cond0_5 i) (hc6 : ¬cond0_6 i)
    (x0 : Vec Ideal S512x1024 .f32) (x1 : Vec Ideal S1x1024 .f32) (x2 : Vec Ideal S1x1024x1024 .bf16) (x3 : Vec Ideal S1x1024x1024 .bf16) (x4 : Vec Ideal S512x1024 .bf16) (x5 : Vec Ideal S512x1024 .f32) (xo7 : Vec Ideal S1x1024 .f32) :
    out0_D_8 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 = k0_pay19 (k0_pay11 x0 x1) (k0_pay13 x4 x5 x3) := by
  have h : (kernelRun0_D (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7).2.2.1 = [⟨Rect.unit (s := S1x1024x1024) ![0, 0, 0] S1x1024x1024.size inb_S1x1024x1024_S1x1024x1024_0_0_0, k0_pay19 (k0_pay11 (View.readAt (Elt Ideal) arg2.view (Rect.unit (s := S512x1024) ![0, 0] S512x1024.size inb_S512x1024_S512x1024_0_0).toLoadRect (harg2.unread x0)) (View.readAt (Elt Ideal) arg3.view (Rect.unit (s := S1x1024) ![0, 0] S1x1024.size inb_S1x1024_S1x1024_0_0).toLoadRect (harg3.unread x1))) (k0_pay13 (View.readAt (Elt Ideal) arg6.view (Rect.unit (s := S512x1024) ![0, 0] S512x1024.size inb_S512x1024_S512x1024_0_0).toLoadRect (harg6.unread x4)) (View.readAt (Elt Ideal) arg7.view (Rect.unit (s := S512x1024) ![0, 0] S512x1024.size inb_S512x1024_S512x1024_0_0).toLoadRect (harg7.unread x5)) (View.readAt (Elt Ideal) arg5.view (Rect.unit (s := S1x1024x1024) ![0, 0, 0] S1x1024x1024.size inb_S1x1024x1024_S1x1024x1024_0_0_0).toLoadRect (harg5.unread x3)))⟩] := by sl_kernel_rfl
  show View.read (Elt Ideal) VO0_8 (VO0_8.writes (Elt Ideal) VO0_8.junk (kernelRun0_D (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7).2.2.1) = _
  rw [View.read_writes_junk_eq_canon, h]
  refine (View.canon_unit_zero zero3 _ _).trans ?_
  rw [load_all harg2 x0 zero2, load_all harg3 x1 zero2, load_all harg6 x4 zero2, load_all harg7 x5 zero2, load_all harg5 x3 zero3]

/-- Output 9 at a point of case D. -/
theorem at_D_9 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x1024x1024 .f32) (harg11 : arg11.IsWhole) (arg12 : Memref sig .tc .vmem S1x1024x1024 .bf16) (harg12 : arg12.IsWhole) (arg13 : Memref sig .tc .vmem S1x1024x1024 .bf16) (harg13 : arg13.IsWhole) (hc0 : ¬cond0_0 i) (hc1 : cond0_1 i) (hc2 : cond0_2 i) (hc3 : ¬cond0_3 i) (hc4 : cond0_4 i) (hc5 : ¬cond0_5 i) (hc6 : ¬cond0_6 i)
    (x0 : Vec Ideal S512x1024 .f32) (x1 : Vec Ideal S1x1024 .f32) (x2 : Vec Ideal S1x1024x1024 .bf16) (x3 : Vec Ideal S1x1024x1024 .bf16) (x4 : Vec Ideal S512x1024 .bf16) (x5 : Vec Ideal S512x1024 .f32) (xo7 : Vec Ideal S1x1024 .f32) :
    out0_D_9 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7 = k0_pay2 x5 (k0_pay21 (k0_pay12 x4)) := by
  have h : (kernelRun0_D (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7).2.2.2.1 = [⟨Rect.unit (s := S1x1024x1024) ![0, 0, 0] S1x1024x1024.size inb_S1x1024x1024_S1x1024x1024_0_0_0, k0_pay2 (View.readAt (Elt Ideal) arg7.view (Rect.unit (s := S512x1024) ![0, 0] S512x1024.size inb_S512x1024_S512x1024_0_0).toLoadRect (harg7.unread x5)) (k0_pay21 (k0_pay12 (View.readAt (Elt Ideal) arg6.view (Rect.unit (s := S512x1024) ![0, 0] S512x1024.size inb_S512x1024_S512x1024_0_0).toLoadRect (harg6.unread x4))))⟩] := by sl_kernel_rfl
  show View.read (Elt Ideal) VO0_9 (VO0_9.writes (Elt Ideal) VO0_9.junk (kernelRun0_D (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xo7).2.2.2.1) = _
  rw [View.read_writes_junk_eq_canon, h]
  refine (View.canon_unit_zero zero3 _ _).trans ?_
  rw [load_all harg7 x5 zero2, load_all harg6 x4 zero2]

end Cert.FfnBwd

end

end
-- ==== Proof.FfnBwdPoint.lean ====
/- The feed-forward layer's backward call: what a point computes from its blocks. -/
module

public import proofs.«01_k».proof.Proof.RefFfnBwd
public import proofs.«01_k».proof.Proof.FfnBwdPieces

@[expose] public section

set_option maxRecDepth 16384

noncomputable section

open scoped BigOperators

namespace Cert.FfnBwd

open Idealize.ShloMosaic Idealize.ShloMosaic.TcCoe Idealize.ShloMosaic.Tactic Cert.Kernel2Ideal Cert.Kernel2Ideal.Gen
open Cert.Rows Cert.FfnBwdRef

/-- The shapes of a block of rows. -/
theorem shapes : Rows.Blk 512 1024 := ⟨reduces_S512x1024_S512, reduces_S512x1024_S1024, reduces_S512x1_S512, shapeCasts_S512_S512x1, shapeCasts_S1024_S1x1024,
  broadcasts_S512x1_S512x1024, broadcasts_S1x1024_S512x1024⟩

variable (x : Fin 512 → Fin 1024 → EReal) (g : Fin 1024 → EReal) (w v : Fin 1024 → Fin 1024 → EReal)
  (r dy : Fin 512 → Fin 1024 → EReal)

/-- The gradient in the point's hidden units, and in its normalised rows. -/
def grad (a : Fin 512) (j : Fin 1024) : EReal := (∑ b, dy a b * v j b) * (two * r a j)
def back (a : Fin 512) (c : Fin 1024) : EReal := ∑ j, grad v r dy a j * w c j

theorem pay6 : k0_pay6 (F := Ideal) (Mf fun _ => g) = Mf fun _ => g := shapeCast_self _ _
theorem pay11 : k0_pay11 (F := Ideal) (Mf x) (Mf fun _ => g) = Mf fun a b => norm (x a) g b := by
  unfold k0_pay11; rw [pay6]; exact normA_M2 shapes x g
theorem pay12 : k0_pay12 (F := Ideal) (Mb r) = Mf r := by unfold k0_pay12; rw [shapeCast_self]; rfl
theorem pay13 : k0_pay13 (F := Ideal) (Mb r) (Mf dy) (Tb fun _ => v) = Mf (grad v r dy) := by
  show mulf (matmul dot_S512x1024_S1024x1024_S512x1024_1_1_0_0_n_n none (truncf .bf16 (Mf dy) bitsLt_bf16_f32)
    (shapeCast S1024x1024 (Tb fun _ => v) shapeCasts_S1x1024x1024_S1024x1024) (constant S512x1024 .f32 0x00000000#32))
    (mulf (broadcast S512x1024 (Scalar.ofBits .f32 0x40000000#32)) (k0_pay12 (Mb r))) = _
  rw [pay12, alone_T3]
  exact congrArg (fun z => mulf z (mulf (broadcast S512x1024 (Scalar.ofBits .f32 0x40000000#32)) (Mf r))) (mm_nt (φ₁ := .bf16) (φ₂ := .bf16) dy v _)
theorem pay14 : k0_pay14 (F := Ideal) (Mb r) (Mf dy) (Tb fun _ => v) (Tb fun _ => w) = Mf (back w v r dy) := by
  show matmul dot_S512x1024_S1024x1024_S512x1024_1_1_0_0_n_n none (truncf .bf16 (k0_pay13 (Mb r) (Mf dy) (Tb fun _ => v)) bitsLt_bf16_f32)
    (shapeCast S1024x1024 (Tb fun _ => w) shapeCasts_S1x1024x1024_S1024x1024) (constant S512x1024 .f32 0x00000000#32) = _
  rw [pay13, alone_T3]
  exact mm_nt (φ₁ := .bf16) (φ₂ := .bf16) (grad v r dy) w _
/-- The part's gradient in the rows, in the gain, and in its parts of the two matrices. -/
theorem dx_block : k0_pay16 (F := Ideal) (Mf x) (k0_pay6 (Mf fun _ => g)) (k0_pay8 (Mf x)) (k0_pay9 (Mf x)) (k0_pay14 (Mb r) (Mf dy) (Tb fun _ => v) (Tb fun _ => w))
    = Tf fun _ a b => dx (x a) g (back w v r dy a) b := by
  show shapeCast S1x512x1024 (dxA shapes (Mf x) (k0_pay6 (Mf fun _ => g)) (k0_pay14 (Mb r) (Mf dy) (Tb fun _ => v) (Tb fun _ => w))) shapeCasts_S512x1024_S1x512x1024 = _
  rw [pay14, pay6, dxA_M2]; exact under_M2 _ _
theorem dg_block : k0_pay15 (F := Ideal) (Mf x) (Mb r) (Mf dy) (Tb fun _ => v) (Tb fun _ => w) = Mf fun _ b => ∑ a, unit (x a) b * back w v r dy a b := by
  show dgA shapes (Mf x) (k0_pay14 (Mb r) (Mf dy) (Tb fun _ => v) (Tb fun _ => w)) = _
  rw [pay14, dgA_M2]
theorem pay18 : k0_pay18 (F := Ideal) (k0_pay11 (Mf x) (Mf fun _ => g)) (k0_pay13 (Mb r) (Mf dy) (Tb fun _ => v)) = Mf fun c j => ∑ a, norm (x a) g c * grad v r dy a j := by
  rw [pay11, pay13]; exact mm_tn (φ₁ := .bf16) (φ₂ := .bf16) (fun a c => norm (x a) g c) (grad v r dy) _
theorem pay1 : k0_pay1 (F := Ideal) (Mf dy) (k0_pay21 (k0_pay12 (Mb r))) = Mf fun j b => ∑ a, r a j * r a j * dy a b := by
  rw [pay12]; exact mm_tn (φ₁ := .bf16) (φ₂ := .bf16) (fun a j => r a j * r a j) dy _
theorem dw1_block : k0_pay19 (F := Ideal) (k0_pay11 (Mf x) (Mf fun _ => g)) (k0_pay13 (Mb r) (Mf dy) (Tb fun _ => v))
    = Tf fun _ c j => ∑ a, norm (x a) g c * grad v r dy a j := by
  unfold k0_pay19; rw [pay18]; exact under_M2 _ _
theorem dw2_block : k0_pay2 (F := Ideal) (Mf dy) (k0_pay21 (k0_pay12 (Mb r))) = Tf fun _ j b => ∑ a, r a j * r a j * dy a b := by
  unfold k0_pay2; rw [pay1]; exact under_M2 _ _
/-- A sum over the points goes on. -/
theorem dg_more (f o : Fin 1 → Fin 1024 → EReal) : k0_pay17 (F := Ideal) (Mf f) (Mf o) = Mf fun a b => o a b + f a b := by
  unfold k0_pay17; rw [shapeCast_self]; rfl
theorem dw1_more (o : Fin 1024 → Fin 1024 → EReal) : k0_pay20 (F := Ideal) (k0_pay11 (Mf x) (Mf fun _ => g)) (k0_pay13 (Mb r) (Mf dy) (Tb fun _ => v)) (Tf fun _ => o)
    = Tf fun _ c j => o c j + ∑ a, norm (x a) g c * grad v r dy a j := by
  unfold k0_pay20; rw [pay18, alone_T3]; exact under_M2 (fun c j => o c j + ∑ a, norm (x a) g c * grad v r dy a j) _
theorem dw2_more (o : Fin 1024 → Fin 1024 → EReal) : k0_pay3 (F := Ideal) (Mf dy) (k0_pay21 (k0_pay12 (Mb r))) (Tf fun _ => o)
    = Tf fun _ j b => o j b + ∑ a, r a j * r a j * dy a b := by
  unfold k0_pay3; rw [pay1, alone_T3]; exact under_M2 (fun j b => o j b + ∑ a, r a j * r a j * dy a b) _
theorem pay4 (o : Fin 1024 → Fin 1024 → EReal) : k0_pay4 (F := Ideal) (Tf fun _ => o) = Tb fun _ => o := by
  unfold k0_pay4; rw [alone_T3]; exact under_M2 _ _
theorem pay5 (o : Fin 1024 → Fin 1024 → EReal) : k0_pay5 (F := Ideal) (Tf fun _ => o) = Tb fun _ => o := by
  unfold k0_pay5; rw [alone_T3]; exact under_M2 _ _

end Cert.FfnBwd

end

end
-- ==== Proof.FfnBwd.lean ====
/- The feed-forward layer's backward call: the blocks its points read, what stands after each point, and the six arrays after the
   last one. A point works on one of four parts of the hidden units and one of four blocks of rows. -/
module

public import proofs.«01_k».proof.Proof.FfnBwdReals
public import proofs.«01_k».proof.Proof.FfnBwdPoint

@[expose] public section

set_option maxRecDepth 16384

noncomputable section

open scoped BigOperators

namespace Cert.FfnBwd

open Idealize.ShloMosaic Idealize.ShloMosaic.TcCoe Idealize.ShloMosaic.Tactic Cert.Kernel2Ideal Cert.Kernel2Ideal.Gen
open Cert.Rows Cert.FfnBwdRef

/-! ## The blocks the points read -/

variable (m : (ℓ : Loc nD τ sig) → Buf (Elt Ideal) ℓ) (c : Dev nD)

/-- The first matrix's columns and the second one's rows in four parts. -/
def parts1 (X : FVec Ideal S1024x4096 .f32) : FVec Ideal S4x1024x1024 .bf16 :=
  transpose S4x1024x1024 [1, 0, 2] (shapeCast S1024x4x1024 (truncf .bf16 X bitsLt_bf16_f32) shapeCasts_S1024x4096_S1024x4x1024) transposes_S1024x4x1024_S4x1024x1024_1_0_2
def parts2 (X : FVec Ideal S4096x1024 .f32) : FVec Ideal S4x1024x1024 .bf16 :=
  shapeCast S4x1024x1024 (truncf .bf16 X bitsLt_bf16_f32) shapeCasts_S4096x1024_S4x1024x1024

theorem idx_in : ∀ t : Fin grid0.N, win0_0.index t = ![t.val % 4, 0] ∧ win0_1.index t = ![0, 0] ∧ win0_2.index t = ![t.val / 4, 0, 0]
    ∧ win0_3.index t = ![t.val / 4, 0, 0] ∧ win0_4.index t = ![t.val % 4, t.val / 4] ∧ win0_5.index t = ![t.val % 4, 0]
    ∧ win0_6.index t = ![t.val / 4, t.val % 4, 0] ∧ win0_8.index t = ![t.val / 4, 0, 0] ∧ win0_9.index t = ![t.val / 4, 0, 0]
    ∧ win0_10.index t = ![t.val / 4, 0, 0] ∧ win0_11.index t = ![t.val / 4, 0, 0] := by decide +kernel

theorem iblk0 (t : Fin cfg0.N) (y : S512x1024.Idx) (i : S2048x1024.Idx) (h0 : (i 0).val = 512 * (t.val % 4) + (y 0).val) (h1 : (i 1).val = (y 1).val) :
    iblk m c 0 t y = m ((c : Thread nD τ).loc main_arg0) i := by
  blk_ext [iblk, V, idx_in t]
theorem iblk5 (t : Fin cfg0.N) (y : S512x1024.Idx) (i : S2048x1024.Idx) (h0 : (i 0).val = 512 * (t.val % 4) + (y 0).val) (h1 : (i 1).val = (y 1).val) :
    iblk m c 5 t y = m ((c : Thread nD τ).loc main_arg4) i := by
  blk_ext [iblk, V, idx_in t]
theorem iblk1 (t : Fin cfg0.N) : iblk m c 1 t = shapeCast S1x1024 (m ((c : Thread nD τ).loc main_arg1)) shapeCasts_S1024_S1x1024 := by
  have e : V m c main_v22 = shapeCast S1x1024 (m ((c : Thread nD τ).loc main_arg1)) shapeCasts_S1024_S1x1024 := by
    entry_read
    rfl
  refine (funext fun y => ?_ : iblk m c 1 t = V m c main_v22).trans e
  blk_ext [iblk, idx_in t]
theorem iblk2 (t : Fin cfg0.N) (y : S1x1024x1024.Idx) (i : S4x1024x1024.Idx) (h0 : (i 0).val = t.val / 4 + (y 0).val) (h1 : (i 1).val = (y 1).val) (h2 : (i 2).val = (y 2).val) :
    iblk m c 2 t y = parts1 (m ((c : Thread nD τ).loc main_arg2)) i := by
  have e : V m c main_v19 = parts1 (m ((c : Thread nD τ).loc main_arg2)) := by
    entry_read
    rfl
  rw [← e]
  blk_ext [iblk, idx_in t]
theorem iblk3 (t : Fin cfg0.N) (y : S1x1024x1024.Idx) (i : S4x1024x1024.Idx) (h0 : (i 0).val = t.val / 4 + (y 0).val) (h1 : (i 1).val = (y 1).val) (h2 : (i 2).val = (y 2).val) :
    iblk m c 3 t y = parts2 (m ((c : Thread nD τ).loc main_arg3)) i := by
  have e : V m c main_v21 = parts2 (m ((c : Thread nD τ).loc main_arg3)) := by
    entry_read
    rfl
  rw [← e]
  blk_ext [iblk, idx_in t]
/-- The hidden units, computed before the call as the forward reference does. -/
theorem iblk4 (t : Fin cfg0.N) (y : S512x1024.Idx) (i : S2048x4096.Idx) (h0 : (i 0).val = 512 * (t.val % 4) + (y 0).val)
    (h1 : (i 1).val = 1024 * (t.val / 4) + (y 1).val) :
    iblk m c 4 t y = Cert.Reference3Ideal.Read.val_main_v18 (F := Ideal) (m ((c : Thread nD τ).loc main_arg0)) (m ((c : Thread nD τ).loc main_arg1))
      (m ((c : Thread nD τ).loc main_arg2)) i := by
  have e : V m c main_v16 = Cert.Reference3Ideal.Read.val_main_v18 (F := Ideal) (m ((c : Thread nD τ).loc main_arg0)) (m ((c : Thread nD τ).loc main_arg1))
      (m ((c : Thread nD τ).loc main_arg2)) := by
    entry_read
    rfl
  rw [← e]
  blk_ext [iblk, idx_in t]

/-- The device's arguments, by their coordinates. -/
structure Holds (x : Fin 2048 → Fin 1024 → EReal) (g : Fin 1024 → EReal) (w1 : Fin 1024 → Fin 4096 → EReal) (w2 : Fin 4096 → Fin 1024 → EReal)
    (dy : Fin 2048 → Fin 1024 → EReal) : Prop where
  h0 : m ((c : Thread nD τ).loc main_arg0) = Mf x
  h1 : m ((c : Thread nD τ).loc main_arg1) = Vf g
  h2 : m ((c : Thread nD τ).loc main_arg2) = Mf w1
  h3 : m ((c : Thread nD τ).loc main_arg3) = Mf w2
  h4 : m ((c : Thread nD τ).loc main_arg4) = Mf dy

theorem lt16 (t : Fin cfg0.N) : t.val < 16 := lt_of_lt_of_eq t.isLt N_0

section
variable {m c} {x : Fin 2048 → Fin 1024 → EReal} {g : Fin 1024 → EReal} {w1 : Fin 1024 → Fin 4096 → EReal} {w2 : Fin 4096 → Fin 1024 → EReal}
  {dy : Fin 2048 → Fin 1024 → EReal} (H : Holds m c x g w1 w2 dy)
include H

theorem in0 (t : Fin cfg0.N) : iblk m c 0 t = Mf fun r b => x (rowOf (t.val % 4) r) b := funext fun y => by
  refine (iblk0 m c t y (ValueIdx.ix2 (rowOf (t.val % 4) (y 0)) (y 1)) (part_val 512 _ _ _ 4 rfl (Nat.mod_lt _ (by decide))) rfl).trans ?_
  rw [H.h0]; rfl
theorem in5 (t : Fin cfg0.N) : iblk m c 5 t = Mf fun r b => dy (rowOf (t.val % 4) r) b := funext fun y => by
  refine (iblk5 m c t y (ValueIdx.ix2 (rowOf (t.val % 4) (y 0)) (y 1)) (part_val 512 _ _ _ 4 rfl (Nat.mod_lt _ (by decide))) rfl).trans ?_
  rw [H.h4]; rfl
theorem in1 (t : Fin cfg0.N) : iblk m c 1 t = Mf fun _ => g := by
  rw [iblk1, H.h1]; exact asRow _ _
theorem in2 (t : Fin cfg0.N) : iblk m c 2 t = Tb fun _ a b => w1 a (unitOf (t.val / 4) b) := funext fun y => by
  have h0 : (y 0).val < 1 := (y 0).isLt
  have ht := lt16 t
  refine (iblk2 m c t y (ValueIdx.ix3 (⟨t.val / 4, by omega⟩ : Fin 4) (y 1) (y 2)) ?_ rfl rfl).trans ?_
  · show t.val / 4 = t.val / 4 + (y 0).val; omega
  · rw [H.h2]; unfold parts1; rw [trunc_M2]
    exact congrFun (colParts (φ := .bf16) (q := 4) (p := 1024) (show 0 < 4096 by decide) rfl w1 _ _) _
theorem in3 (t : Fin cfg0.N) : iblk m c 3 t = Tb fun _ a b => w2 (unitOf (t.val / 4) a) b := funext fun y => by
  have h0 : (y 0).val < 1 := (y 0).isLt
  have ht := lt16 t
  refine (iblk3 m c t y (ValueIdx.ix3 (⟨t.val / 4, by omega⟩ : Fin 4) (y 1) (y 2)) ?_ rfl rfl).trans ?_
  · show t.val / 4 = t.val / 4 + (y 0).val; omega
  · rw [H.h3]; unfold parts2; rw [trunc_M2]
    exact congrFun (rowParts (φ := .bf16) (q := 4) (n := 1024) (show 0 < 4096 by decide) rfl w2 _) _
theorem in4 (t : Fin cfg0.N) : iblk m c 4 t = Mb fun a j => FfnFwdRef.hid (x (rowOf (t.val % 4) a)) g w1 (unitOf (t.val / 4) j) := funext fun y => by
  have ht := lt16 t
  refine (iblk4 m c t y (ValueIdx.ix2 (rowOf (t.val % 4) (y 0)) (unitOf (t.val / 4) (y 1))) (part_val 512 _ _ _ 4 rfl (Nat.mod_lt _ (by decide)))
    (part_val 1024 _ _ _ 4 rfl (by omega))).trans ?_
  rw [H.h0, H.h1, H.h2, show Cert.Reference3Ideal.Read.val_main_v18 (F := Ideal) (Mf x) (Vf g) (Mf w1) = _ from FfnFwdRef.v18 x g w1]; rfl

/-! ## What a point adds -/

omit H in
section
variable (x g w1 w2 dy)
/-- What point `t` adds to the gradient in the gain, and what block `i` of rows adds to part `p` of the two matrices' gradients. -/
def dgOf (t : ℕ) (b : Fin 1024) : EReal := ∑ r : Fin 512, unit (x (rowOf (t % 4) r)) b * FfnBwdRef.back x g w1 w2 dy (t / 4) (rowOf (t % 4) r) b
def dw1Of (p i : ℕ) (c j : Fin 1024) : EReal := ∑ r : Fin 512, norm (x (rowOf i r)) g c * da x g w1 w2 dy (rowOf i r) (unitOf p j)
def dw2Of (p i : ℕ) (j b : Fin 1024) : EReal :=
  ∑ r : Fin 512, FfnFwdRef.hid (x (rowOf i r)) g w1 (unitOf p j) * FfnFwdRef.hid (x (rowOf i r)) g w1 (unitOf p j) * dy (rowOf i r) b
end

theorem p6 (t : Fin cfg0.N) : k0_pay16 (F := Ideal) (iblk m c 0 t) (k0_pay6 (iblk m c 1 t)) (k0_pay8 (iblk m c 0 t)) (k0_pay9 (iblk m c 0 t))
    (k0_pay14 (iblk m c 4 t) (iblk m c 5 t) (iblk m c 3 t) (iblk m c 2 t)) = Tf fun _ a b => dxp x g w1 w2 dy (t.val / 4) (rowOf (t.val % 4) a) b := by
  rw [in0 H, in1 H, in2 H, in3 H, in4 H, in5 H, dx_block]; rfl
theorem p7 (t : Fin cfg0.N) : k0_pay15 (F := Ideal) (iblk m c 0 t) (iblk m c 4 t) (iblk m c 5 t) (iblk m c 3 t) (iblk m c 2 t)
    = Mf fun _ b => dgOf x g w1 w2 dy t.val b := by
  rw [in0 H, in2 H, in3 H, in4 H, in5 H, dg_block]; rfl
theorem p8 (t : Fin cfg0.N) : k0_pay19 (F := Ideal) (k0_pay11 (iblk m c 0 t) (iblk m c 1 t)) (k0_pay13 (iblk m c 4 t) (iblk m c 5 t) (iblk m c 3 t))
    = Tf fun _ a b => dw1Of x g w1 w2 dy (t.val / 4) (t.val % 4) a b := by
  rw [in0 H, in1 H, in3 H, in4 H, in5 H, dw1_block]; rfl
theorem p8m (t : Fin cfg0.N) (o : Fin 1024 → Fin 1024 → EReal) :
    k0_pay20 (F := Ideal) (k0_pay11 (iblk m c 0 t) (iblk m c 1 t)) (k0_pay13 (iblk m c 4 t) (iblk m c 5 t) (iblk m c 3 t)) (Tf fun _ => o)
      = Tf fun _ a b => o a b + dw1Of x g w1 w2 dy (t.val / 4) (t.val % 4) a b := by
  rw [in0 H, in1 H, in3 H, in4 H, in5 H, dw1_more]; rfl
theorem p9 (t : Fin cfg0.N) : k0_pay2 (F := Ideal) (iblk m c 5 t) (k0_pay21 (k0_pay12 (iblk m c 4 t)))
    = Tf fun _ a b => dw2Of x g w1 dy (t.val / 4) (t.val % 4) a b := by
  rw [in4 H, in5 H, dw2_block]; rfl
theorem p9m (t : Fin cfg0.N) (o : Fin 1024 → Fin 1024 → EReal) : k0_pay3 (F := Ideal) (iblk m c 5 t) (k0_pay21 (k0_pay12 (iblk m c 4 t))) (Tf fun _ => o)
    = Tf fun _ a b => o a b + dw2Of x g w1 dy (t.val / 4) (t.val % 4) a b := by
  rw [in4 H, in5 H, dw2_more]; rfl

/-! ## What stands after each point -/

omit H in
/-- The first four buffers after point `n`. -/
def After (n : ℕ) (hn : n < cfg0.N) (x : Fin 2048 → Fin 1024 → EReal) (g : Fin 1024 → EReal) (w1 : Fin 1024 → Fin 4096 → EReal)
    (w2 : Fin 4096 → Fin 1024 → EReal) (dy : Fin 2048 → Fin 1024 → EReal) (m : (ℓ : Loc nD τ sig) → Buf (Elt Ideal) ℓ) (c : Dev nD) : Prop :=
  (outsAt0 m c n hn).1 = (Tf fun _ a b => dxp x g w1 w2 dy (n / 4) (rowOf (n % 4) a) b)
  ∧ (outsAt0 m c n hn).2.1 = (Mf fun _ b => ∑ t ∈ Finset.range (n + 1), dgOf x g w1 w2 dy t b)
  ∧ (outsAt0 m c n hn).2.2.1 = (Tf fun _ a b => ∑ i ∈ Finset.range (n % 4 + 1), dw1Of x g w1 w2 dy (n / 4) i a b)
  ∧ (outsAt0 m c n hn).2.2.2.1 = (Tf fun _ a b => ∑ i ∈ Finset.range (n % 4 + 1), dw2Of x g w1 dy (n / 4) i a b)

/-- A point of each of the four kinds: the first, a later one inside a part, a part's last, a later part's first. -/
theorem pointA (t : Fin cfg0.N) (h0 : t.val % 16 = 0) (h1 : ¬1 ≤ t.val) (h2 : t.val % 4 = 0) (h3 : ¬1 ≤ t.val % 4) (h6 : ¬t.val % 4 = 3) :
    ∃ u v, outsAt0 m c t.val t.isLt = (Tf fun _ a b => dxp x g w1 w2 dy (t.val / 4) (rowOf (t.val % 4) a) b,
      Mf fun _ b => dgOf x g w1 w2 dy t.val b,
      Tf fun _ a b => dw1Of x g w1 w2 dy (t.val / 4) (t.val % 4) a b,
      Tf fun _ a b => dw2Of x g w1 dy (t.val / 4) (t.val % 4) a b, u, v) := by
  have e := outsAt0_A m c t h0 h1 h2 h3 h2 h3 h6
  rw [at_A_6, at_A_7, at_A_8, at_A_9, p6 H, p7 H, p8 H, p9 H] at e
  exact ⟨_, _, e⟩
theorem pointB (t : Fin cfg0.N) (h0 : ¬t.val % 16 = 0) (h1 : 1 ≤ t.val) (h2 : ¬t.val % 4 = 0) (h3 : 1 ≤ t.val % 4) (h6 : ¬t.val % 4 = 3)
    (o7 : Fin 1 → Fin 1024 → EReal) (i7 : ∀ h, (outsAt0 m c (t.val - 1) h).2.1 = Mf o7)
    (o8 : Fin 1024 → Fin 1024 → EReal) (i8 : ∀ h, (outsAt0 m c (t.val - 1) h).2.2.1 = Tf fun _ => o8)
    (o9 : Fin 1024 → Fin 1024 → EReal) (i9 : ∀ h, (outsAt0 m c (t.val - 1) h).2.2.2.1 = Tf fun _ => o9) :
    ∃ u v, outsAt0 m c t.val t.isLt = (Tf fun _ a b => dxp x g w1 w2 dy (t.val / 4) (rowOf (t.val % 4) a) b,
      Mf fun a b => o7 a b + dgOf x g w1 w2 dy t.val b,
      Tf fun _ a b => o8 a b + dw1Of x g w1 w2 dy (t.val / 4) (t.val % 4) a b,
      Tf fun _ a b => o9 a b + dw2Of x g w1 dy (t.val / 4) (t.val % 4) a b, u, v) := by
  have e := outsAt0_B m c t h0 h1 h2 h3 h2 h3 h6
  rw [at_B_6, at_B_7, at_B_8, at_B_9, i7, i8, i9, p6 H, p7 H, dg_more, p8m H, p9m H] at e
  exact ⟨_, _, e⟩
theorem pointC (t : Fin cfg0.N) (h0 : ¬t.val % 16 = 0) (h1 : 1 ≤ t.val) (h2 : ¬t.val % 4 = 0) (h3 : 1 ≤ t.val % 4) (h6 : t.val % 4 = 3)
    (o7 : Fin 1 → Fin 1024 → EReal) (i7 : ∀ h, (outsAt0 m c (t.val - 1) h).2.1 = Mf o7)
    (o8 : Fin 1024 → Fin 1024 → EReal) (i8 : ∀ h, (outsAt0 m c (t.val - 1) h).2.2.1 = Tf fun _ => o8)
    (o9 : Fin 1024 → Fin 1024 → EReal) (i9 : ∀ h, (outsAt0 m c (t.val - 1) h).2.2.2.1 = Tf fun _ => o9) :
    outsAt0 m c t.val t.isLt = (Tf fun _ a b => dxp x g w1 w2 dy (t.val / 4) (rowOf (t.val % 4) a) b,
      Mf fun a b => o7 a b + dgOf x g w1 w2 dy t.val b,
      Tf fun _ a b => o8 a b + dw1Of x g w1 w2 dy (t.val / 4) (t.val % 4) a b,
      Tf fun _ a b => o9 a b + dw2Of x g w1 dy (t.val / 4) (t.val % 4) a b, Tb fun _ a b => o8 a b + dw1Of x g w1 w2 dy (t.val / 4) (t.val % 4) a b, Tb fun _ a b => o9 a b + dw2Of x g w1 dy (t.val / 4) (t.val % 4) a b) := by
  have e := outsAt0_C m c t h0 h1 h2 h3 h2 h3 h6
  rw [at_C_6, at_C_7, at_C_8, at_C_9, at_C_10, at_C_11, i7, i8, i9, p6 H, p7 H, dg_more, p8m H, p9m H, pay4, pay5] at e
  exact e
theorem pointD (t : Fin cfg0.N) (h0 : ¬t.val % 16 = 0) (h1 : 1 ≤ t.val) (h2 : t.val % 4 = 0) (h3 : ¬1 ≤ t.val % 4) (h6 : ¬t.val % 4 = 3)
    (o7 : Fin 1 → Fin 1024 → EReal) (i7 : ∀ h, (outsAt0 m c (t.val - 1) h).2.1 = Mf o7) :
    ∃ u v, outsAt0 m c t.val t.isLt = (Tf fun _ a b => dxp x g w1 w2 dy (t.val / 4) (rowOf (t.val % 4) a) b,
      Mf fun a b => o7 a b + dgOf x g w1 w2 dy t.val b,
      Tf fun _ a b => dw1Of x g w1 w2 dy (t.val / 4) (t.val % 4) a b,
      Tf fun _ a b => dw2Of x g w1 dy (t.val / 4) (t.val % 4) a b, u, v) := by
  have e := outsAt0_D m c t h0 h1 h2 h3 h2 h3 h6
  rw [at_D_6, at_D_7, at_D_8, at_D_9, i7, p6 H, p7 H, dg_more, p8 H, p9 H] at e
  exact ⟨_, _, e⟩

theorem outs (n : ℕ) (hn : n < cfg0.N) : After n hn x g w1 w2 dy m c := by
  induction n with
  | zero =>
    obtain ⟨u, v, e⟩ := pointA H ⟨0, hn⟩ rfl (Nat.not_succ_le_zero 0) rfl (Nat.not_succ_le_zero 0) (by show ¬ 0 % 4 = 3; decide)
    have e : outsAt0 m c 0 hn = _ := e
    unfold After; rw [e]
    simp only [Nat.zero_mod, Nat.zero_add, Finset.sum_range_one, and_self]
  | succ n ih =>
    have h16 : n + 1 < 16 := lt16 ⟨n + 1, hn⟩
    have h0 : ¬ (n + 1) % 16 = 0 := by omega
    have h1 : 1 ≤ n + 1 := by omega
    have i := ih (Nat.lt_of_succ_lt hn)
    have i7 : ∀ h, (outsAt0 m c ((⟨n + 1, hn⟩ : Fin cfg0.N).val - 1) h).2.1 = _ := fun _ => i.2.1
    have i8 : ∀ h, (outsAt0 m c ((⟨n + 1, hn⟩ : Fin cfg0.N).val - 1) h).2.2.1 = _ := fun _ => i.2.2.1
    have i9 : ∀ h, (outsAt0 m c ((⟨n + 1, hn⟩ : Fin cfg0.N).val - 1) h).2.2.2.1 = _ := fun _ => i.2.2.2
    by_cases hD : (n + 1) % 4 = 0
    · obtain ⟨u, v, e⟩ := pointD H ⟨n + 1, hn⟩ h0 h1 hD (by show ¬ 1 ≤ (n + 1) % 4; omega) (by show ¬ (n + 1) % 4 = 3; omega) _ i7
      have e : outsAt0 m c (n + 1) hn = _ := e
      unfold After; rw [e]
      simp only [hD, Nat.zero_add, Finset.sum_range_one, Finset.sum_range_succ _ (n + 1), and_self]
    · have hq : 1 ≤ (n + 1) % 4 := by omega
      have d1 : (n + 1) / 4 = n / 4 := by omega
      have d2 : (n + 1) % 4 = n % 4 + 1 := by omega
      by_cases hC : (n + 1) % 4 = 3
      · have e := pointC H ⟨n + 1, hn⟩ h0 h1 hD hq hC _ i7 _ i8 _ i9
        have e : outsAt0 m c (n + 1) hn = _ := e
        unfold After; rw [e]
        simp only [d1, d2, Finset.sum_range_succ _ (n + 1), Finset.sum_range_succ _ (n % 4 + 1), and_self]
      · obtain ⟨u, v, e⟩ := pointB H ⟨n + 1, hn⟩ h0 h1 hD hq hC _ i7 _ i8 _ i9
        have e : outsAt0 m c (n + 1) hn = _ := e
        unfold After; rw [e]
        simp only [d1, d2, Finset.sum_range_succ _ (n + 1), Finset.sum_range_succ _ (n % 4 + 1), and_self]

/-- At a part's last block of rows the sums stand, and are written in half the width too. -/
theorem last8 (t : Fin cfg0.N) (h3 : t.val % 4 = 3) : (outsAt0 m c t.val t.isLt).2.2.1 = Tf fun _ a b => dw1 x g w1 w2 dy a (unitOf (t.val / 4) b) := by
  rw [(outs H t.val t.isLt).2.2.1, h3]
  exact congrArg (fun f => Tf fun _ => f) (funext fun a => funext fun b =>
    (sum_parts 512 4 (by decide) rfl fun r => norm (x r) g a * da x g w1 w2 dy r (unitOf (t.val / 4) b)).symm)
theorem last9 (t : Fin cfg0.N) (h3 : t.val % 4 = 3) : (outsAt0 m c t.val t.isLt).2.2.2.1 = Tf fun _ a b => dw2 x g w1 dy (unitOf (t.val / 4) a) b := by
  rw [(outs H t.val t.isLt).2.2.2, h3]
  exact congrArg (fun f => Tf fun _ => f) (funext fun a => funext fun b =>
    (sum_parts 512 4 (by decide) rfl fun r => FfnFwdRef.hid (x r) g w1 (unitOf (t.val / 4) a) * FfnFwdRef.hid (x r) g w1 (unitOf (t.val / 4) a) * dy r b).symm)
theorem halves (t : Fin cfg0.N) (h3 : t.val % 4 = 3) :
    (outsAt0 m c t.val t.isLt).2.2.2.2.1 = (Tb fun _ a b => dw1 x g w1 w2 dy a (unitOf (t.val / 4) b))
    ∧ (outsAt0 m c t.val t.isLt).2.2.2.2.2 = (Tb fun _ a b => dw2 x g w1 dy (unitOf (t.val / 4) a) b) := by
  have ht := lt16 t
  have i := outs H (t.val - 1) (lt_of_le_of_lt (Nat.sub_le _ _) t.isLt)
  have e := pointC H t (by omega) (by omega) (by omega) (by omega) h3 _ (fun _ => i.2.1) _ (fun _ => i.2.2.1) _ (fun _ => i.2.2.2)
  have e8 := last8 H t h3
  have e9 := last9 H t h3
  rw [e] at e8 e9 ⊢
  dsimp only at e8 e9 ⊢
  exact ⟨congrArg (fun z : FVec Ideal S1x1024x1024 .f32 => (truncf .bf16 z bitsLt_bf16_f32 : FVec Ideal S1x1024x1024 .bf16)) e8,
    congrArg (fun z : FVec Ideal S1x1024x1024 .f32 => (truncf .bf16 z bitsLt_bf16_f32 : FVec Ideal S1x1024x1024 .bf16)) e9⟩

/-! ## The arrays after the run -/

omit H in
theorem flush8 : ∀ t : Fin grid0.N, win0_8.flush t = true → t.val % 4 = 3 := by decide +kernel
omit H in
theorem flush9 : ∀ t : Fin grid0.N, win0_9.flush t = true → t.val % 4 = 3 := by decide +kernel
omit H in
theorem flush10 : ∀ t : Fin grid0.N, win0_10.flush t = true → t.val % 4 = 3 := by decide +kernel
omit H in
theorem flush11 : ∀ t : Fin grid0.N, win0_11.flush t = true → t.val % 4 = 3 := by decide +kernel

theorem array6 : (dats m 0 c).arrAt 6 cfg0.N = Tf fun p a b => dxp x g w1 w2 dy p.val a b := by
  refine (dats m 0 c).arrAt_eq_of_covers 6 _ (by decide +kernel) fun t hf y => ?_
  have h0 : (y 0).val < 1 := (y 0).isLt
  rw [after0_6, (outs H t.val t.isLt).1]
  have e0 : (((((cfg0.win 6).blk t).view.emb y) 0 : Fin 4) : ℕ) = t.val / 4 := by
    blk_simp [idx_in t]
  have e1 : (((((cfg0.win 6).blk t).view.emb y) 1 : Fin 2048) : ℕ) = 512 * (t.val % 4) + (y 1).val := by
    blk_simp [idx_in t]; show t.val % 4 * 512 + (y 1).val = 512 * (t.val % 4) + (y 1).val; omega
  have e2 : (((((cfg0.win 6).blk t).view.emb y) 2 : Fin 1024) : ℕ) = (y 2).val := by
    blk_simp [idx_in t]
  show dxp x g w1 w2 dy (t.val / 4) (rowOf (t.val % 4) (y 1)) (y 2)
    = dxp x g w1 w2 dy (((((cfg0.win 6).blk t).view.emb y) 0 : Fin 4) : ℕ) ((((cfg0.win 6).blk t).view.emb y) 1) ((((cfg0.win 6).blk t).view.emb y) 2)
  rw [e0]
  exact congrArg₂ (dxp x g w1 w2 dy (t.val / 4)) (Fin.ext ((part_val 512 _ _ _ 4 rfl (Nat.mod_lt _ (by decide))).trans e1.symm)) (Fin.ext e2.symm)
theorem array8 : (dats m 0 c).arrAt 8 cfg0.N = Tf fun p a b => dw1 x g w1 w2 dy a (unitOf p.val b) := by
  refine (dats m 0 c).arrAt_eq_of_covers 8 _ (by decide +kernel) fun t hf y => ?_
  have h0 : (y 0).val < 1 := (y 0).isLt
  rw [after0_8, last8 H t (flush8 t hf)]
  have e0 : (((((cfg0.win 8).blk t).view.emb y) 0 : Fin 4) : ℕ) = t.val / 4 := by
    blk_simp [idx_in t]
  have e1 : (((((cfg0.win 8).blk t).view.emb y) 1 : Fin 1024) : ℕ) = (y 1).val := by
    blk_simp [idx_in t]
  have e2 : (((((cfg0.win 8).blk t).view.emb y) 2 : Fin 1024) : ℕ) = (y 2).val := by
    blk_simp [idx_in t]
  show dw1 x g w1 w2 dy (y 1) (unitOf (t.val / 4) (y 2))
    = dw1 x g w1 w2 dy ((((cfg0.win 8).blk t).view.emb y) 1) (unitOf (((((cfg0.win 8).blk t).view.emb y) 0 : Fin 4) : ℕ) ((((cfg0.win 8).blk t).view.emb y) 2))
  rw [e0]
  exact congrArg₂ (fun a b => dw1 x g w1 w2 dy a (unitOf (t.val / 4) b)) (Fin.ext e1.symm) (Fin.ext e2.symm)
theorem array9 : (dats m 0 c).arrAt 9 cfg0.N = Tf fun p a b => dw2 x g w1 dy (unitOf p.val a) b := by
  refine (dats m 0 c).arrAt_eq_of_covers 9 _ (by decide +kernel) fun t hf y => ?_
  have h0 : (y 0).val < 1 := (y 0).isLt
  rw [after0_9, last9 H t (flush9 t hf)]
  have e0 : (((((cfg0.win 9).blk t).view.emb y) 0 : Fin 4) : ℕ) = t.val / 4 := by
    blk_simp [idx_in t]
  have e1 : (((((cfg0.win 9).blk t).view.emb y) 1 : Fin 1024) : ℕ) = (y 1).val := by
    blk_simp [idx_in t]
  have e2 : (((((cfg0.win 9).blk t).view.emb y) 2 : Fin 1024) : ℕ) = (y 2).val := by
    blk_simp [idx_in t]
  show dw2 x g w1 dy (unitOf (t.val / 4) (y 1)) (y 2)
    = dw2 x g w1 dy (unitOf (((((cfg0.win 9).blk t).view.emb y) 0 : Fin 4) : ℕ) ((((cfg0.win 9).blk t).view.emb y) 1)) ((((cfg0.win 9).blk t).view.emb y) 2)
  rw [e0]
  exact congrArg₂ (fun a b => dw2 x g w1 dy (unitOf (t.val / 4) a) b) (Fin.ext e1.symm) (Fin.ext e2.symm)
theorem array10 : (dats m 0 c).arrAt 10 cfg0.N = Tb fun p a b => dw1 x g w1 w2 dy a (unitOf p.val b) := by
  refine (dats m 0 c).arrAt_eq_of_covers 10 _ (by decide +kernel) fun t hf y => ?_
  have h0 : (y 0).val < 1 := (y 0).isLt
  rw [after0_10, (halves H t (flush10 t hf)).1]
  have e0 : (((((cfg0.win 10).blk t).view.emb y) 0 : Fin 4) : ℕ) = t.val / 4 := by
    blk_simp [idx_in t]
  have e1 : (((((cfg0.win 10).blk t).view.emb y) 1 : Fin 1024) : ℕ) = (y 1).val := by
    blk_simp [idx_in t]
  have e2 : (((((cfg0.win 10).blk t).view.emb y) 2 : Fin 1024) : ℕ) = (y 2).val := by
    blk_simp [idx_in t]
  show dw1 x g w1 w2 dy (y 1) (unitOf (t.val / 4) (y 2))
    = dw1 x g w1 w2 dy ((((cfg0.win 10).blk t).view.emb y) 1) (unitOf (((((cfg0.win 10).blk t).view.emb y) 0 : Fin 4) : ℕ) ((((cfg0.win 10).blk t).view.emb y) 2))
  rw [e0]
  exact congrArg₂ (fun a b => dw1 x g w1 w2 dy a (unitOf (t.val / 4) b)) (Fin.ext e1.symm) (Fin.ext e2.symm)
theorem array11 : (dats m 0 c).arrAt 11 cfg0.N = Tb fun p a b => dw2 x g w1 dy (unitOf p.val a) b := by
  refine (dats m 0 c).arrAt_eq_of_covers 11 _ (by decide +kernel) fun t hf y => ?_
  have h0 : (y 0).val < 1 := (y 0).isLt
  rw [after0_11, (halves H t (flush11 t hf)).2]
  have e0 : (((((cfg0.win 11).blk t).view.emb y) 0 : Fin 4) : ℕ) = t.val / 4 := by
    blk_simp [idx_in t]
  have e1 : (((((cfg0.win 11).blk t).view.emb y) 1 : Fin 1024) : ℕ) = (y 1).val := by
    blk_simp [idx_in t]
  have e2 : (((((cfg0.win 11).blk t).view.emb y) 2 : Fin 1024) : ℕ) = (y 2).val := by
    blk_simp [idx_in t]
  show dw2 x g w1 dy (unitOf (t.val / 4) (y 1)) (y 2)
    = dw2 x g w1 dy (unitOf (((((cfg0.win 11).blk t).view.emb y) 0 : Fin 4) : ℕ) ((((cfg0.win 11).blk t).view.emb y) 1)) ((((cfg0.win 11).blk t).view.emb y) 2)
  rw [e0]
  exact congrArg₂ (fun a b => dw2 x g w1 dy (unitOf (t.val / 4) a) b) (Fin.ext e1.symm) (Fin.ext e2.symm)
/-- Where every argument is real, what the points add to the gradient in the gain is the whole one. -/
theorem array7 (hx : ∀ a b, IsReal (x a b)) (hg : ∀ b, IsReal (g b)) (h1 : ∀ a b, IsReal (w1 a b)) (h2 : ∀ a b, IsReal (w2 a b))
    (hd : ∀ a b, IsReal (dy a b)) : (dats m 0 c).arrAt 7 cfg0.N = Mf fun _ b => dg x g w1 w2 dy b := by
  refine (dats m 0 c).arrAt_eq_of_after_last 7 t0_15 (by decide +kernel) _ fun j => ?_
  rw [after0_7, (outs H t0_15.val t0_15.isLt).2.1]
  exact dg_points hx hg h1 h2 hd (j 1)
end

end Cert.FfnBwd

end

end
-- ==== Proof.Entries.lean ====
/- An array's entries by their coordinates, and what the second precondition says: every entry of every argument is a real number. -/
module

public import proofs.«01_k».proof.Proof.Finite
public import proofs.«01_k».proof.Proof.FfnBwd

@[expose] public section

set_option maxRecDepth 16384

noncomputable section

namespace Cert.Entries

open Idealize.ShloMosaic Cert.Rows Cert.FfnBwdRef Cert.Finite

/-- A vector's and a matrix's entries. -/
def vec {n : ℕ} (v : FVec Ideal ⟨1, ![n]⟩ .f32) : Fin n → EReal := fun a => v (ValueIdx.ix1 a)
def mat {n p : ℕ} (v : FVec Ideal ⟨2, ![n, p]⟩ .f32) : Fin n → Fin p → EReal := fun a b => v (ValueIdx.ix2 a b)
theorem vec_eq {n : ℕ} (v : FVec Ideal ⟨1, ![n]⟩ .f32) : v = Vf (vec v) := funext fun i => (congrArg v (eta1 i)).symm
theorem mat_eq {n p : ℕ} (v : FVec Ideal ⟨2, ![n, p]⟩ .f32) : v = Mf (mat v) := funext fun i => (congrArg v (eta2 i)).symm

instance : Cert.Pre_finite2.Facts where
  bcast_S_S2048x1024 := by decide
  reducesTo_S2048x1024_S_d0_1 := by decide
  h_S_ := by decide
  bcast_S_S1024 := by decide
  reducesTo_S1024_S_d0 := by decide
  bcast_S_S1024x4096 := by decide
  reducesTo_S1024x4096_S_d0_1 := by decide
  bcast_S_S4096x1024 := by decide
  reducesTo_S4096x1024_S_d0_1 := by decide

instance : Subsingleton Cert.Pre_finite2.S_.Idx := ⟨fun _ _ => funext fun i => i.elim0⟩

/-- Under the second precondition the entries of a device's arguments are reals. -/
theorem args2 (m : (ℓ : Loc Cert.Kernel2Ideal.nD Cert.Kernel2Ideal.τ Cert.Kernel2Ideal.sig) → Buf (Elt Ideal) ℓ)
    (h : Cert.Pre_Kernel2Ideal_finite2 m) (c : Dev Cert.Kernel2Ideal.nD) :
    (∀ a b, IsReal (mat (m ((c.tc : Thread Cert.Kernel2Ideal.nD Cert.Kernel2Ideal.τ).loc Cert.Kernel2Ideal.main_arg0)) a b))
    ∧ (∀ b, IsReal (vec (m ((c.tc : Thread Cert.Kernel2Ideal.nD Cert.Kernel2Ideal.τ).loc Cert.Kernel2Ideal.main_arg1)) b))
    ∧ (∀ a b, IsReal (mat (m ((c.tc : Thread Cert.Kernel2Ideal.nD Cert.Kernel2Ideal.τ).loc Cert.Kernel2Ideal.main_arg2)) a b))
    ∧ (∀ a b, IsReal (mat (m ((c.tc : Thread Cert.Kernel2Ideal.nD Cert.Kernel2Ideal.τ).loc Cert.Kernel2Ideal.main_arg3)) a b))
    ∧ (∀ a b, IsReal (mat (m ((c.tc : Thread Cert.Kernel2Ideal.nD Cert.Kernel2Ideal.τ).loc Cert.Kernel2Ideal.main_arg4)) a b)) := by
  have e := congrFun (h c) (fun i => i.elim0)
  obtain ⟨e, e4⟩ := and_one _ _ e
  obtain ⟨e, e3⟩ := and_one _ _ e
  obtain ⟨e, e2⟩ := and_one _ _ e
  obtain ⟨e0, e1⟩ := and_one _ _ e
  exact ⟨fun a b => reals _ _ (fun _ => rfl) _ _ _ _ e0 _, fun b => reals _ _ (fun _ => rfl) _ _ _ _ e1 _,
    fun a b => reals _ _ (fun _ => rfl) _ _ _ _ e2 _, fun a b => reals _ _ (fun _ => rfl) _ _ _ _ e3 _,
    fun a b => reals _ _ (fun _ => rfl) _ _ _ _ e4 _⟩

end Cert.Entries

end

end
-- ==== Proof.FfnFwdPieces.lean ====
/- The feed-forward layer's forward call, a point's stores: each output block as a function of the blocks the point reads. -/
module

public import proofs.«01_k».proof.Proof.Rows
public import proofs.«01_k».proof.Proof.Gen.Kernel3Ideal.Value

@[expose] public section

set_option maxRecDepth 16384

noncomputable section

open scoped BigOperators

namespace Cert.FfnFwd

open Idealize.ShloMosaic Idealize.ShloMosaic.TcCoe Idealize.ShloMosaic.Tactic Cert.Kernel3Ideal Cert.Kernel3Ideal.Gen
open Cert.Rows

/-- Output 4 at a point of case A. -/
theorem at_A_4 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .f32) (harg6 : arg6.IsWhole) (arg7 : Memref sig .tc .vmem S1024x1024 .bf16) (harg7 : arg7.IsWhole) (hc0 : cond0_0 i) (hc1 : ¬cond0_1 i)
    (x0 : Vec Ideal S1024x1024 .f32) (x1 : Vec Ideal S1x1024 .f32) (x2 : Vec Ideal S1x1024x1024 .bf16) (x3 : Vec Ideal S1x1024x1024 .bf16) :
    out0_A_4 (F := Ideal) c i arg2 harg2 arg3 harg3 arg4 harg4 arg5 harg5 arg6 harg6 arg7 harg7 hc0 hc1 x0 x1 x2 x3 = k0_pay5 x0 x1 x2 x3 := by
  have h : (kernelRun0_A (F := Ideal) c i arg2 harg2 arg3 harg3 arg4 harg4 arg5 harg5 arg6 harg6 arg7 harg7 hc0 hc1 x0 x1 x2 x3).1 = [⟨Rect.unit (s := S1024x1024) ![0, 0] S1024x1024.size inb_S1024x1024_S1024x1024_0_0, k0_pay5 (View.readAt (Elt Ideal) arg2.view (Rect.unit (s := S1024x1024) ![0, 0] S1024x1024.size inb_S1024x1024_S1024x1024_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1x1024x1024) ![0, 0, 0] S1x1024x1024.size inb_S1x1024x1024_S1x1024x1024_0_0_0).toLoadRect (harg4.unread x2)) (View.readAt (Elt Ideal) arg5.view (Rect.unit (s := S1x1024x1024) ![0, 0, 0] S1x1024x1024.size inb_S1x1024x1024_S1x1024x1024_0_0_0).toLoadRect (harg5.unread x3))⟩] := by sl_kernel_rfl
  show View.read (Elt Ideal) VO0_4 (VO0_4.writes (Elt Ideal) VO0_4.junk (kernelRun0_A (F := Ideal) c i arg2 harg2 arg3 harg3 arg4 harg4 arg5 harg5 arg6 harg6 arg7 harg7 hc0 hc1 x0 x1 x2 x3).1) = _
  rw [View.read_writes_junk_eq_canon, h]
  refine (View.canon_unit_zero zero2 _ _).trans ?_
  rw [load_all harg2 x0 zero2, load_all harg3 x1 zero2, load_all harg4 x2 zero3, load_all harg5 x3 zero3]

/-- Output 5 at a point of case A. -/
theorem at_A_5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .f32) (harg6 : arg6.IsWhole) (arg7 : Memref sig .tc .vmem S1024x1024 .bf16) (harg7 : arg7.IsWhole) (hc0 : cond0_0 i) (hc1 : ¬cond0_1 i)
    (x0 : Vec Ideal S1024x1024 .f32) (x1 : Vec Ideal S1x1024 .f32) (x2 : Vec Ideal S1x1024x1024 .bf16) (x3 : Vec Ideal S1x1024x1024 .bf16) :
    out0_A_5 (F := Ideal) c i arg2 harg2 arg3 harg3 arg4 harg4 arg5 harg5 arg6 harg6 arg7 harg7 hc0 hc1 x0 x1 x2 x3 = k0_pay3 x0 x1 x2 := by
  have h : (kernelRun0_A (F := Ideal) c i arg2 harg2 arg3 harg3 arg4 harg4 arg5 harg5 arg6 harg6 arg7 harg7 hc0 hc1 x0 x1 x2 x3).2.1 = [⟨Rect.unit (s := S1024x1024) ![0, 0] S1024x1024.size inb_S1024x1024_S1024x1024_0_0, k0_pay3 (View.readAt (Elt Ideal) arg2.view (Rect.unit (s := S1024x1024) ![0, 0] S1024x1024.size inb_S1024x1024_S1024x1024_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1x1024x1024) ![0, 0, 0] S1x1024x1024.size inb_S1x1024x1024_S1x1024x1024_0_0_0).toLoadRect (harg4.unread x2))⟩] := by sl_kernel_rfl
  show View.read (Elt Ideal) VO0_5 (VO0_5.writes (Elt Ideal) VO0_5.junk (kernelRun0_A (F := Ideal) c i arg2 harg2 arg3 harg3 arg4 harg4 arg5 harg5 arg6 harg6 arg7 harg7 hc0 hc1 x0 x1 x2 x3).2.1) = _
  rw [View.read_writes_junk_eq_canon, h]
  refine (View.canon_unit_zero zero2 _ _).trans ?_
  rw [load_all harg2 x0 zero2, load_all harg3 x1 zero2, load_all harg4 x2 zero3]

/-- Output 4 at a point of case B. -/
theorem at_B_4 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .f32) (harg6 : arg6.IsWhole) (arg7 : Memref sig .tc .vmem S1024x1024 .bf16) (harg7 : arg7.IsWhole) (hc0 : ¬cond0_0 i) (hc1 : cond0_1 i)
    (x0 : Vec Ideal S1024x1024 .f32) (x1 : Vec Ideal S1x1024 .f32) (x2 : Vec Ideal S1x1024x1024 .bf16) (x3 : Vec Ideal S1x1024x1024 .bf16) (xo4 : Vec Ideal S1024x1024 .f32) :
    out0_B_4 (F := Ideal) c i arg2 harg2 arg3 harg3 arg4 harg4 arg5 harg5 arg6 harg6 arg7 harg7 hc0 hc1 x0 x1 x2 x3 xo4 = k0_pay1 (k0_pay4 x0 x1 x2 x3) xo4 := by
  have h : (kernelRun0_B (F := Ideal) c i arg2 harg2 arg3 harg3 arg4 harg4 arg5 harg5 arg6 harg6 arg7 harg7 hc0 hc1 x0 x1 x2 x3 xo4).1 = [⟨Rect.unit (s := S1024x1024) ![0, 0] S1024x1024.size inb_S1024x1024_S1024x1024_0_0, k0_pay1 (k0_pay4 (View.readAt (Elt Ideal) arg2.view (Rect.unit (s := S1024x1024) ![0, 0] S1024x1024.size inb_S1024x1024_S1024x1024_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1x1024x1024) ![0, 0, 0] S1x1024x1024.size inb_S1x1024x1024_S1x1024x1024_0_0_0).toLoadRect (harg4.unread x2)) (View.readAt (Elt Ideal) arg5.view (Rect.unit (s := S1x1024x1024) ![0, 0, 0] S1x1024x1024.size inb_S1x1024x1024_S1x1024x1024_0_0_0).toLoadRect (harg5.unread x3))) (View.readAt (Elt Ideal) arg6.view (Rect.unit (s := S1024x1024) ![0, 0] S1024x1024.size inb_S1024x1024_S1024x1024_0_0).toLoadRect (harg6.unread xo4))⟩] := by sl_kernel_rfl
  show View.read (Elt Ideal) VO0_4 (VO0_4.writes (Elt Ideal) VO0_4.junk (kernelRun0_B (F := Ideal) c i arg2 harg2 arg3 harg3 arg4 harg4 arg5 harg5 arg6 harg6 arg7 harg7 hc0 hc1 x0 x1 x2 x3 xo4).1) = _
  rw [View.read_writes_junk_eq_canon, h]
  refine (View.canon_unit_zero zero2 _ _).trans ?_
  rw [load_all harg2 x0 zero2, load_all harg3 x1 zero2, load_all harg4 x2 zero3, load_all harg5 x3 zero3, load_all harg6 xo4 zero2]

/-- Output 5 at a point of case B. -/
theorem at_B_5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .f32) (harg6 : arg6.IsWhole) (arg7 : Memref sig .tc .vmem S1024x1024 .bf16) (harg7 : arg7.IsWhole) (hc0 : ¬cond0_0 i) (hc1 : cond0_1 i)
    (x0 : Vec Ideal S1024x1024 .f32) (x1 : Vec Ideal S1x1024 .f32) (x2 : Vec Ideal S1x1024x1024 .bf16) (x3 : Vec Ideal S1x1024x1024 .bf16) (xo4 : Vec Ideal S1024x1024 .f32) :
    out0_B_5 (F := Ideal) c i arg2 harg2 arg3 harg3 arg4 harg4 arg5 harg5 arg6 harg6 arg7 harg7 hc0 hc1 x0 x1 x2 x3 xo4 = k0_pay3 x0 x1 x2 := by
  have h : (kernelRun0_B (F := Ideal) c i arg2 harg2 arg3 harg3 arg4 harg4 arg5 harg5 arg6 harg6 arg7 harg7 hc0 hc1 x0 x1 x2 x3 xo4).2.1 = [⟨Rect.unit (s := S1024x1024) ![0, 0] S1024x1024.size inb_S1024x1024_S1024x1024_0_0, k0_pay3 (View.readAt (Elt Ideal) arg2.view (Rect.unit (s := S1024x1024) ![0, 0] S1024x1024.size inb_S1024x1024_S1024x1024_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1x1024x1024) ![0, 0, 0] S1x1024x1024.size inb_S1x1024x1024_S1x1024x1024_0_0_0).toLoadRect (harg4.unread x2))⟩] := by sl_kernel_rfl
  show View.read (Elt Ideal) VO0_5 (VO0_5.writes (Elt Ideal) VO0_5.junk (kernelRun0_B (F := Ideal) c i arg2 harg2 arg3 harg3 arg4 harg4 arg5 harg5 arg6 harg6 arg7 harg7 hc0 hc1 x0 x1 x2 x3 xo4).2.1) = _
  rw [View.read_writes_junk_eq_canon, h]
  refine (View.canon_unit_zero zero2 _ _).trans ?_
  rw [load_all harg2 x0 zero2, load_all harg3 x1 zero2, load_all harg4 x2 zero3]

end Cert.FfnFwd

end

end
-- ==== Proof.FfnFwd.lean ====
/- The feed-forward layer's forward call: what a point computes from its blocks, the blocks, what stands after each point, and the
   two arrays after the last one. A point works on one of two blocks of rows and one of four parts of the hidden units. -/
module

public import proofs.«01_k».proof.Proof.RefFfnFwd
public import proofs.«01_k».proof.Proof.FfnFwdPieces

@[expose] public section

set_option maxRecDepth 16384

noncomputable section

open scoped BigOperators

namespace Cert.FfnFwd

open Idealize.ShloMosaic Idealize.ShloMosaic.TcCoe Idealize.ShloMosaic.Tactic Cert.Kernel3Ideal Cert.Kernel3Ideal.Gen
open Cert.Rows Cert.FfnFwdRef

/-! ## A point's values -/

/-- The shapes of a block of rows. -/
theorem shapes : Rows.Blk 1024 1024 := ⟨reduces_S1024x1024_S1024, by decide, by decide, shapeCasts_S1024_S1024x1, by decide,
  broadcasts_S1024x1_S1024x1024, broadcasts_S1x1024_S1024x1024⟩

section
variable (x : Fin 1024 → Fin 1024 → EReal) (g : Fin 1024 → EReal) (w v : Fin 1024 → Fin 1024 → EReal)

/-- The point's hidden units, and what they add to the rows. -/
def unit (a b : Fin 1024) : EReal := max (∑ c, norm (x a) g c * w c b) 0
def add (a b : Fin 1024) : EReal := ∑ j, unit x g w a j * unit x g w a j * v j b

theorem pay2 : k0_pay2 (F := Ideal) (Mf x) (Mf fun _ => g) (Tb fun _ => w) = Mf (unit x g w) := by
  show maximumf (matmul dot_S1024x1024_S1024x1024_S1024x1024_1_0_0_1_n_n none
    (truncf .bf16 (normA shapes (Mf x) (shapeCast S1x1024 (Mf fun _ => g) shapeCasts_S1x1024_S1x1024)) bitsLt_bf16_f32)
    (shapeCast S1024x1024 (Tb fun _ => w) shapeCasts_S1x1024x1024_S1024x1024) (constant S1024x1024 .f32 0x00000000#32))
    (broadcast S1024x1024 (Scalar.ofBits .f32 0x00000000#32)) = _
  rw [shapeCast_self, normA_M2, trunc_M2, alone_T3]
  refine (congrArg (fun z => maximumf z _) (mm_nn (φ₁ := .bf16) (φ₂ := .bf16) (fun a c => norm (x a) g c) w _)).trans ?_
  rw [word_M2, max_M2, Ideal.ofBits_zero_f32]; rfl
theorem pay3 : k0_pay3 (F := Ideal) (Mf x) (Mf fun _ => g) (Tb fun _ => w) = Mb (unit x g w) := by
  unfold k0_pay3; rw [pay2]; rfl
theorem pay4 : k0_pay4 (F := Ideal) (Mf x) (Mf fun _ => g) (Tb fun _ => w) (Tb fun _ => v) = Mf (add x g w v) := by
  show matmul dot_S1024x1024_S1024x1024_S1024x1024_1_0_0_1_n_n none
    (truncf .bf16 (mulf (k0_pay2 (Mf x) (Mf fun _ => g) (Tb fun _ => w)) (k0_pay2 (Mf x) (Mf fun _ => g) (Tb fun _ => w))) bitsLt_bf16_f32)
    (shapeCast S1024x1024 (Tb fun _ => v) shapeCasts_S1x1024x1024_S1024x1024) (constant S1024x1024 .f32 0x00000000#32) = _
  rw [pay2, mul_M2, trunc_M2, alone_T3]
  exact mm_nn (φ₁ := .bf16) (φ₂ := .bf16) (fun a j => unit x g w a j * unit x g w a j) v _
theorem pay5 : k0_pay5 (F := Ideal) (Mf x) (Mf fun _ => g) (Tb fun _ => w) (Tb fun _ => v) = Mf fun a b => x a b + add x g w v a b := by
  unfold k0_pay5; rw [pay4]; rfl
theorem pay1 (o : Fin 1024 → Fin 1024 → EReal) : k0_pay1 (F := Ideal) (k0_pay4 (Mf x) (Mf fun _ => g) (Tb fun _ => w) (Tb fun _ => v)) (Mf o)
    = Mf fun a b => o a b + add x g w v a b := by
  unfold k0_pay1; rw [pay4, shapeCast_self]; rfl
end

/-! ## The blocks the points read -/

variable (m : (ℓ : Loc nD τ sig) → Buf (Elt Ideal) ℓ) (c : Dev nD)

/-- The first matrix's columns and the second one's rows in four parts. -/
def parts1 (X : FVec Ideal S1024x4096 .f32) : FVec Ideal S4x1024x1024 .bf16 :=
  transpose S4x1024x1024 [1, 0, 2] (shapeCast S1024x4x1024 (truncf .bf16 X bitsLt_bf16_f32) shapeCasts_S1024x4096_S1024x4x1024) transposes_S1024x4x1024_S4x1024x1024_1_0_2
def parts2 (X : FVec Ideal S4096x1024 .f32) : FVec Ideal S4x1024x1024 .bf16 :=
  shapeCast S4x1024x1024 (truncf .bf16 X bitsLt_bf16_f32) shapeCasts_S4096x1024_S4x1024x1024

theorem idx_in : ∀ t : Fin grid0.N, win0_0.index t = ![t.val / 4, 0] ∧ win0_1.index t = ![0, 0] ∧ win0_2.index t = ![t.val % 4, 0, 0]
    ∧ win0_3.index t = ![t.val % 4, 0, 0] ∧ win0_4.index t = ![t.val / 4, 0] ∧ win0_5.index t = ![t.val / 4, t.val % 4] := by decide +kernel

theorem iblk0 (t : Fin cfg0.N) (y : S1024x1024.Idx) (i : S2048x1024.Idx) (h0 : (i 0).val = 1024 * (t.val / 4) + (y 0).val) (h1 : (i 1).val = (y 1).val) :
    iblk m c 0 t y = m ((c : Thread nD τ).loc main_arg0) i := by
  blk_ext [iblk, V, idx_in t]
theorem iblk1 (t : Fin cfg0.N) : iblk m c 1 t = shapeCast S1x1024 (m ((c : Thread nD τ).loc main_arg1)) shapeCasts_S1024_S1x1024 := by
  have e : V m c main_v5 = shapeCast S1x1024 (m ((c : Thread nD τ).loc main_arg1)) shapeCasts_S1024_S1x1024 := by
    entry_read
    rfl
  refine (funext fun y => ?_ : iblk m c 1 t = V m c main_v5).trans e
  blk_ext [iblk, idx_in t]
theorem iblk2 (t : Fin cfg0.N) (y : S1x1024x1024.Idx) (i : S4x1024x1024.Idx) (h0 : (i 0).val = t.val % 4 + (y 0).val) (h1 : (i 1).val = (y 1).val) (h2 : (i 2).val = (y 2).val) :
    iblk m c 2 t y = parts1 (m ((c : Thread nD τ).loc main_arg2)) i := by
  have e : V m c main_v2 = parts1 (m ((c : Thread nD τ).loc main_arg2)) := by
    entry_read
    rfl
  rw [← e]
  blk_ext [iblk, idx_in t]
theorem iblk3 (t : Fin cfg0.N) (y : S1x1024x1024.Idx) (i : S4x1024x1024.Idx) (h0 : (i 0).val = t.val % 4 + (y 0).val) (h1 : (i 1).val = (y 1).val) (h2 : (i 2).val = (y 2).val) :
    iblk m c 3 t y = parts2 (m ((c : Thread nD τ).loc main_arg3)) i := by
  have e : V m c main_v4 = parts2 (m ((c : Thread nD τ).loc main_arg3)) := by
    entry_read
    rfl
  rw [← e]
  blk_ext [iblk, idx_in t]

/-- The device's arguments, by their coordinates. -/
structure Holds (x : Fin 2048 → Fin 1024 → EReal) (g : Fin 1024 → EReal) (w1 : Fin 1024 → Fin 4096 → EReal) (w2 : Fin 4096 → Fin 1024 → EReal) : Prop where
  h0 : m ((c : Thread nD τ).loc main_arg0) = Mf x
  h1 : m ((c : Thread nD τ).loc main_arg1) = Vf g
  h2 : m ((c : Thread nD τ).loc main_arg2) = Mf w1
  h3 : m ((c : Thread nD τ).loc main_arg3) = Mf w2

theorem lt8 (t : Fin cfg0.N) : t.val < 8 := lt_of_lt_of_eq t.isLt N_0

/-- Row `r` of block `i`, and hidden unit `j` of part `p`. -/
abbrev row (i : ℕ) (r : Fin 1024) : Fin 2048 := part 1024 (by decide) i r
abbrev unitOf (p : ℕ) (j : Fin 1024) : Fin 4096 := part 1024 (by decide) p j

section
variable {m c} {x : Fin 2048 → Fin 1024 → EReal} {g : Fin 1024 → EReal} {w1 : Fin 1024 → Fin 4096 → EReal} {w2 : Fin 4096 → Fin 1024 → EReal}
  (H : Holds m c x g w1 w2)
include H

theorem in0 (t : Fin cfg0.N) : iblk m c 0 t = Mf fun r b => x (row (t.val / 4) r) b := funext fun y => by
  have ht := lt8 t
  refine (iblk0 m c t y (ValueIdx.ix2 (row (t.val / 4) (y 0)) (y 1)) ?_ rfl).trans ?_
  · exact part_val 1024 _ _ _ 2 rfl (by omega)
  · rw [H.h0]; rfl
theorem in1 (t : Fin cfg0.N) : iblk m c 1 t = Mf fun _ => g := by
  rw [iblk1, H.h1]; exact asRow _ _
theorem in2 (t : Fin cfg0.N) : iblk m c 2 t = Tb fun _ a b => w1 a (unitOf (t.val % 4) b) := funext fun y => by
  have h0 : (y 0).val < 1 := (y 0).isLt
  refine (iblk2 m c t y (ValueIdx.ix3 (⟨t.val % 4, Nat.mod_lt _ (by decide)⟩ : Fin 4) (y 1) (y 2)) ?_ rfl rfl).trans ?_
  · show t.val % 4 = t.val % 4 + (y 0).val; omega
  · rw [H.h2]; unfold parts1; rw [trunc_M2]
    exact congrFun (colParts (φ := .bf16) (q := 4) (p := 1024) (show 0 < 4096 by decide) rfl w1 _ _) _
theorem in3 (t : Fin cfg0.N) : iblk m c 3 t = Tb fun _ a b => w2 (unitOf (t.val % 4) a) b := funext fun y => by
  have h0 : (y 0).val < 1 := (y 0).isLt
  refine (iblk3 m c t y (ValueIdx.ix3 (⟨t.val % 4, Nat.mod_lt _ (by decide)⟩ : Fin 4) (y 1) (y 2)) ?_ rfl rfl).trans ?_
  · show t.val % 4 = t.val % 4 + (y 0).val; omega
  · rw [H.h3]; unfold parts2; rw [trunc_M2]
    exact congrFun (rowParts (φ := .bf16) (q := 4) (n := 1024) (show 0 < 4096 by decide) rfl w2 _) _

/-! ## What stands after each point -/

omit H in
/-- What part `p` adds to row `r` of block `i`. -/
theorem add_part (i p : ℕ) (a b : Fin 1024) :
    add (fun r b => x (row i r) b) g (fun a b => w1 a (unitOf p b)) (fun a b => w2 (unitOf p a) b) a b
      = ∑ j : Fin 1024, adds (x (row i a)) g w1 w2 (unitOf p j) b := rfl

theorem outs (n : ℕ) (hn : n < cfg0.N) : outsAt0 m c n hn
    = (Mf fun a b => x (row (n / 4) a) b + ∑ p ∈ Finset.range (n % 4 + 1), ∑ j : Fin 1024, adds (x (row (n / 4) a)) g w1 w2 (unitOf p j) b,
       Mb fun a j => hid (x (row (n / 4) a)) g w1 (unitOf (n % 4) j)) := by
  induction n with
  | zero =>
    refine (outsAt0_A m c ⟨0, hn⟩ (by show 0 % 4 = 0; decide) (by show ¬ 1 ≤ 0 % 4; decide)).trans ?_
    rw [at_A_4, at_A_5, in0 H, in1 H, in2 H, in3 H, pay5, pay3]
    refine congrArg₂ Prod.mk (congrArg M2 (funext fun a => funext fun b => ?_)) rfl
    rw [add_part]; show _ = _ + ∑ p ∈ Finset.range 1, _
    rw [Finset.sum_range_one]; rfl
  | succ n ih =>
    have h8 : n + 1 < 8 := lt8 ⟨n + 1, hn⟩
    by_cases hA : (n + 1) % 4 = 0
    · refine (outsAt0_A m c ⟨n + 1, hn⟩ hA (by show ¬ 1 ≤ (n + 1) % 4; omega)).trans ?_
      rw [at_A_4, at_A_5, in0 H, in1 H, in2 H, in3 H, pay5, pay3]
      refine congrArg₂ Prod.mk (congrArg M2 (funext fun a => funext fun b => ?_)) rfl
      rw [add_part]; show _ + ∑ j, adds _ g w1 w2 (unitOf ((n + 1) % 4) j) b = _
      rw [hA, Finset.sum_range_one]
    · refine (outsAt0_B m c ⟨n + 1, hn⟩ hA (by show 1 ≤ (n + 1) % 4; omega)).trans ?_
      have e : ∀ h, outsAt0 m c ((⟨n + 1, hn⟩ : Fin cfg0.N).val - 1) h = _ := fun _ => ih (Nat.lt_of_succ_lt hn)
      rw [at_B_4, at_B_5, in0 H, in1 H, in2 H, in3 H, e, pay1, pay3]
      refine congrArg₂ Prod.mk (congrArg M2 (funext fun a => funext fun b => ?_)) rfl
      rw [add_part]
      have e1 : n / 4 = (n + 1) / 4 := by omega
      have e2 : (n + 1) % 4 = n % 4 + 1 := by omega
      show _ + _ + ∑ j, adds (x (row ((n + 1) / 4) a)) g w1 w2 (unitOf ((n + 1) % 4) j) b = _
      rw [e1, e2, Finset.sum_range_succ _ (n % 4 + 1), add_assoc]

/-! ## The arrays after the run -/

omit H in
theorem flush4 : ∀ t : Fin grid0.N, win0_4.flush t = true → t.val % 4 = 3 := by decide +kernel

theorem array4 : (dats m 0 c).arrAt 4 cfg0.N = Mf fun a b => x a b + ∑ j, adds (x a) g w1 w2 j b := by
  refine (dats m 0 c).arrAt_eq_of_covers 4 _ (by decide +kernel) fun t hf y => ?_
  have ht := lt8 t
  have h3 := flush4 t hf
  rw [after0_4, outs H]
  have e0 : (((((cfg0.win 4).blk t).view.emb y) 0 : Fin 2048) : ℕ) = 1024 * (t.val / 4) + (y 0).val := by
    blk_simp [idx_in t]; show t.val / 4 * 1024 + (y 0).val = 1024 * (t.val / 4) + (y 0).val; omega
  have e1 : (((((cfg0.win 4).blk t).view.emb y) 1 : Fin 1024) : ℕ) = (y 1).val := by
    blk_simp [idx_in t]
  have er : row (t.val / 4) (y 0) = (((cfg0.win 4).blk t).view.emb y) 0 := Fin.ext ((part_val 1024 _ _ _ 2 rfl (by omega)).trans e0.symm)
  show x (row (t.val / 4) (y 0)) (y 1) + ∑ p ∈ Finset.range (t.val % 4 + 1), ∑ j : Fin 1024, adds (x (row (t.val / 4) (y 0))) g w1 w2 (unitOf p j) (y 1)
    = x ((((cfg0.win 4).blk t).view.emb y) 0) ((((cfg0.win 4).blk t).view.emb y) 1) + ∑ j, adds (x ((((cfg0.win 4).blk t).view.emb y) 0)) g w1 w2 j ((((cfg0.win 4).blk t).view.emb y) 1)
  rw [← er, ← show (y 1 : Fin 1024) = (((cfg0.win 4).blk t).view.emb y) 1 from Fin.ext e1.symm, h3,
    sum_parts 1024 4 (by decide) rfl (fun j => adds (x (row (t.val / 4) (y 0))) g w1 w2 j (y 1))]
theorem array5 : (dats m 0 c).arrAt 5 cfg0.N = Mb fun a j => hid (x a) g w1 j := by
  refine (dats m 0 c).arrAt_eq_of_covers 5 _ (by decide +kernel) fun t hf y => ?_
  have ht := lt8 t
  rw [after0_5, outs H]
  have e0 : (((((cfg0.win 5).blk t).view.emb y) 0 : Fin 2048) : ℕ) = 1024 * (t.val / 4) + (y 0).val := by
    blk_simp [idx_in t]; show t.val / 4 * 1024 + (y 0).val = 1024 * (t.val / 4) + (y 0).val; omega
  have e1 : (((((cfg0.win 5).blk t).view.emb y) 1 : Fin 4096) : ℕ) = 1024 * (t.val % 4) + (y 1).val := by
    blk_simp [idx_in t]; show t.val % 4 * 1024 + (y 1).val = 1024 * (t.val % 4) + (y 1).val; omega
  exact congrArg₂ (fun r j => hid (x r) g w1 j) (Fin.ext ((part_val 1024 _ _ _ 2 rfl (by omega)).trans e0.symm))
    (Fin.ext ((part_val 1024 _ _ _ 4 rfl (by omega)).trans e1.symm))
end

end Cert.FfnFwd

end

end
-- ==== Proof.RefInBwd.lean ====
/- The reference of the input projection's backward call, over the whole arrays. -/
module

public import proofs.«01_k».proof.Proof.Rows
public import proofs.«01_k».proof.Proof.Gen.Reference4Ideal.Read

@[expose] public section

set_option maxRecDepth 16384

noncomputable section

open scoped BigOperators

namespace Cert.InBwdRef

open Idealize.ShloMosaic Cert.Reference4Ideal Cert.Reference4Ideal.Gen Cert.Reference4Ideal.Read Cert.Rows

/-- Column `o + b` of a matrix as wide as the projection, zero beyond it. -/
def col {n : ℕ} (f : Fin n → Fin 1952 → EReal) (o : ℕ) (a : Fin n) (b : ℕ) : EReal := if h : o + b < 1952 then f a ⟨o + b, h⟩ else 0

/-- A sum over the projection's columns is the sum over its three parts, the zeros after the last one included. -/
theorem sum_cols (f : Fin 1952 → EReal) :
    (∑ b : Fin 512, col (fun _ : Fin 1 => f) 1536 0 b.val) + (∑ b : Fin 1024, col (fun _ : Fin 1 => f) 512 0 b.val)
      + (∑ b : Fin 512, col (fun _ : Fin 1 => f) 0 0 b.val) = ∑ j, f j := by
  have e : ∀ o b, col (fun _ : Fin 1 => f) o 0 b = col (fun _ : Fin 1 => f) 0 0 (o + b) := fun o b => by
    unfold col; simp only [Nat.zero_add]
  have h0 : ∑ j, f j = ∑ n ∈ Finset.range 1952, col (fun _ : Fin 1 => f) 0 0 n := by
    rw [Finset.sum_range]
    refine Finset.sum_congr rfl fun j _ => ?_
    unfold col; rw [dif_pos (by omega : 0 + j.val < 1952)]
    exact congrArg f (Fin.ext (Nat.zero_add _).symm)
  have h1 : ∑ n ∈ Finset.range 96, col (fun _ : Fin 1 => f) 0 0 (1952 + n) = 0 := Finset.sum_eq_zero fun n _ => by
    unfold col; rw [dif_neg (by omega)]
  have h2 : ∑ n ∈ Finset.range (512 + 1024 + 512), col (fun _ : Fin 1 => f) 0 0 n = ∑ j, f j := by
    rw [h0, show 512 + 1024 + 512 = 1952 + 96 from rfl, Finset.sum_range_add, h1, add_zero]
  rw [← h2, Finset.sum_range_add, Finset.sum_range_add]
  simp only [e 1536, e 512, Finset.sum_range]
  show _ + _ + _ = _ + _ + ∑ b : Fin 512, col (fun _ : Fin 1 => f) 0 0 (1536 + b.val)
  abel
/-- The product of two columns. -/
theorem col_mul {n p : ℕ} (f : Fin n → Fin 1952 → EReal) (h : Fin p → Fin 1952 → EReal) (o : ℕ) (a : Fin n) (c : Fin p) (b : ℕ) :
    col f o a b * col h o c b = col (fun _ : Fin 1 => fun j => f a j * h c j) o 0 b := by
  unfold col; split_ifs
  · rfl
  · exact mul_zero _

section
variable (x : Fin 2048 → Fin 1024 → EReal) (g : Fin 1024 → EReal) (w : Fin 1024 → Fin 1952 → EReal) (dp : Fin 2048 → Fin 1952 → EReal)
  (dr : Fin 2048 → Fin 1024 → EReal)

/-- The gradient in the normalised row, in the gain, and in a column of the matrix. -/
def dh (a : Fin 2048) (c : Fin 1024) : EReal := ∑ j, dp a j * w c j
def dg (b : Fin 1024) : EReal := ∑ a, unit (x a) b * dh w dp a b
def dw (o : ℕ) (c : Fin 1024) (b : ℕ) : EReal := ∑ a, norm (x a) g c * col dp o a b

theorem v6 : val_main_v6 (F := Ideal) (Mf x) = Mf fun a _ => ms (x a) := funext fun i => by
  rw [val_main_v6_apply, val_main_v4_apply, val_main_v2_apply, val_main_v1_apply, val_main_v3_apply, val_main_v5_apply]
  show Ideal.div (Ideal.ofBits .f32 0x00000000#32 + ∑ b, x (i 0) b * x (i 0) b) _ + _ = _
  rw [Ideal.ofBits_zero_f32, zero_add]; rfl
theorem v7 : val_main_v7 (F := Ideal) (Mf x) = Mf fun a _ => rs (x a) := funext fun i => by
  rw [val_main_v7_apply, v6]; rfl
theorem v10 : val_main_v10 (F := Ideal) (Mf x) = Mf fun a _ => drs (x a) := funext fun i => by
  rw [val_main_v10_apply, val_main_v8_apply, val_main_v9_apply, v6, v7]; rfl
theorem v12 : val_main_v12 (F := Ideal) (Mf x) = Mf fun a b => unit (x a) b := funext fun i => by
  rw [val_main_v12_apply, val_main_v11_apply, v7]; rfl
theorem v15 : val_main_v15 (F := Ideal) (Mf x) (Vf g) = Mf fun a b => norm (x a) g b := funext fun i => by
  rw [val_main_v15_apply, val_main_v14_apply, val_main_v13_apply, v12]; rfl
theorem v18 : val_main_v18 (F := Ideal) (Mf x) (Vf g) (Mf dp) = Mf fun c j => dw x g dp 0 c j.val := funext fun i => by
  rw [val_main_v18_apply, val_main_v17_apply, v15]
  refine Finset.sum_congr rfl fun a _ => (mul_comm _ _).trans (congrArg (norm (x a) g (i 0) * ·) (?_ : dp a (i 1) = col dp 0 a (i 1).val))
  have h : 0 + (i 1).val < 1952 := by rw [Nat.zero_add]; exact (i 1).isLt
  unfold col; rw [dif_pos h]
  exact congrArg (dp a) (Fin.ext (Nat.zero_add _).symm)
theorem v19 : val_main_v19 (F := Ideal) (Mf w) (Mf dp) = Mf fun a c => dh w dp a c := funext fun i => by
  rw [val_main_v19_apply]; rfl
theorem v24 : val_main_v24 (F := Ideal) (Vf g) (Mf w) (Mf dp) = Mf fun a c => dh w dp a c * g c := funext fun i => by
  rw [val_main_v24_apply, val_main_v23_apply, val_main_v13_apply, v19]; rfl
theorem v28 : val_main_v28 (F := Ideal) (Mf x) (Vf g) (Mf w) (Mf dp) = Mf fun a _ => ∑ b, x a b * (dh w dp a b * g b) := by
  have e : val_main_v27 (F := Ideal) (Mf x) (Vf g) (Mf w) (Mf dp) = Vf fun a => ∑ b, x a b * (dh w dp a b * g b) := funext fun i => by
    rw [val_main_v27_apply]
    show Ideal.ofBits .f32 0x00000000#32 + _ = _
    rw [Ideal.ofBits_zero_f32, zero_add]
    simp only [val_main_v26_apply, v24]; rfl
  unfold val_main_v28; rw [e]; exact asCol _ _
theorem v35 : val_main_v35 (F := Ideal) (Mf x) (Vf g) (Mf w) (Mf dp) = Mf fun a _ => pull (x a) g (dh w dp a) := funext fun i => by
  rw [val_main_v35_apply, val_main_v34_apply, Fin.sum_univ_one, val_main_v33_apply, val_main_v31_apply, val_main_v32_apply, v28, v10]
  show Ideal.ofBits .f32 0x00000000#32 + _ = _
  rw [Ideal.ofBits_zero_f32, zero_add]; rfl
theorem v40 : val_main_v40 (F := Ideal) (Mf x) (Vf g) (Mf w) (Mf dp) (Mf dr) = Mf fun a b => dx (x a) g (dh w dp a) b + dr a b := funext fun i => by
  rw [val_main_v40_apply, val_main_v39_apply, val_main_v38_apply, val_main_v37_apply, val_main_v36_apply, val_main_v30_apply, val_main_v29_apply,
    v35, v24, v7]; rfl
theorem v22 : val_main_v22 (F := Ideal) (Mf x) (Mf w) (Mf dp) = Mf fun _ b => dg x w dp b := by
  have e : val_main_v21 (F := Ideal) (Mf x) (Mf w) (Mf dp) = Vf (dg x w dp) := funext fun i => by
    rw [val_main_v21_apply]
    show Ideal.ofBits .f32 0x00000000#32 + _ = _
    rw [Ideal.ofBits_zero_f32, zero_add]
    simp only [val_main_v20_apply, v12, v19]; rfl
  unfold val_main_v22; rw [e]; exact asRow _ _
theorem v41 : val_main_v41 (F := Ideal) (Mf x) (Mf w) (Mf dp) = Mf fun _ b => dg x w dp b := by
  have e : val_main_v25 (F := Ideal) (Mf x) (Mf w) (Mf dp) = Vf (dg x w dp) := funext fun i => by
    rw [val_main_v25_apply, Fin.sum_univ_one, v22]
    show Ideal.ofBits .f32 0x00000000#32 + _ = _
    rw [Ideal.ofBits_zero_f32, zero_add]; rfl
  unfold val_main_v41; rw [e]; exact asRow _ _

theorem dw_shift (o : ℕ) (c : Fin 1024) (b : ℕ) : dw x g dp 0 c (o + b) = dw x g dp o c b :=
  Finset.sum_congr rfl fun a _ => congrArg (norm (x a) g c * ·) (by unfold col; simp only [Nat.zero_add])
theorem dw_out (o : ℕ) (c : Fin 1024) (b : ℕ) (h : ¬ o + b < 1952) : dw x g dp o c b = 0 :=
  Finset.sum_eq_zero fun a _ => by unfold col; rw [dif_neg h, mul_zero]

theorem v42 : val_main_v42 (F := Ideal) (Mf x) (Vf g) (Mf dp) = Mf fun c b => dw x g dp 0 c b.val := by
  unfold val_main_v42; rw [v18]; refine (slice_M2 0 _ _).trans ?_
  simp only [Nat.zero_add]; rfl
theorem v43 : val_main_v43 (F := Ideal) (Mf x) (Vf g) (Mf dp) = Mf fun c b => dw x g dp 512 c b.val := by
  unfold val_main_v43; rw [v18]; refine (slice_M2 512 _ _).trans ?_
  simp only [dw_shift]; rfl
theorem v45 : val_main_v45 (F := Ideal) (Mf x) (Vf g) (Mf dp) = Mf fun c b => dw x g dp 1536 c b.val := by
  unfold val_main_v45 val_main_v44; rw [v18]
  rw [show extractStridedSlice S1024x416 ![0, 1536] (Mf fun c j => dw x g dp 0 c j.val) slices_S1024x1952_S1024x416_0_1536 = _ from slice_M2 1536 _ _]
  refine (pad_M2 96 _ _ (fun i => ?_) _ _).trans ?_
  · show (((0#32).toInt : ℝ) : EReal) = 0
    simp
  · refine congrArg M2 (funext fun a => funext fun b => ?_)
    split_ifs with h
    · exact dw_shift x g dp _ _ _
    · exact (dw_out x g dp _ _ _ (by have h' : ¬ b.val < 416 := h; omega)).symm
end

end Cert.InBwdRef

end

end
-- ==== Proof.InBwdPieces.lean ====
/- The input projection's backward call, a point's stores: each output block as a function of the blocks the point reads. -/
module

public import proofs.«01_k».proof.Proof.Rows
public import proofs.«01_k».proof.Proof.Gen.Kernel4Ideal.Value

@[expose] public section

set_option maxRecDepth 16384

noncomputable section

open scoped BigOperators

namespace Cert.InBwd

open Idealize.ShloMosaic Idealize.ShloMosaic.TcCoe Idealize.ShloMosaic.Tactic Cert.Kernel4Ideal Cert.Kernel4Ideal.Gen
open Cert.Rows

/-- Output 9 at a point of case A. -/
theorem at_A_9 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S1024x512 .bf16) (harg5 : arg5.IsWhole) (arg6 : Memref sig .tc .vmem S512x512 .f32) (harg6 : arg6.IsWhole) (arg7 : Memref sig .tc .vmem S512x1024 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1024x512 .f32) (harg12 : arg12.IsWhole) (arg13 : Memref sig .tc .vmem S1024x1024 .f32) (harg13 : arg13.IsWhole) (arg14 : Memref sig .tc .vmem S1024x512 .f32) (harg14 : arg14.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i)
    (x0 : Vec Ideal S512x1024 .f32) (x1 : Vec Ideal S1x1024 .f32) (x2 : Vec Ideal S1024x512 .bf16) (x3 : Vec Ideal S1024x1024 .bf16) (x4 : Vec Ideal S1024x512 .bf16) (x5 : Vec Ideal S512x512 .f32) (x6 : Vec Ideal S512x1024 .f32) (x7 : Vec Ideal S512x512 .f32) (x8 : Vec Ideal S512x1024 .f32) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 x8 = k0_pay22 x0 (k0_pay5 x1) (k0_pay6 x2) (k0_pay7 x3) (k0_pay9 x0) (k0_pay10 x0) (k0_pay13 x5) (k0_pay14 x6) (k0_pay16 x4 x7) x8 := by
  have h : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 x8).1 = [⟨Rect.unit (s := S512x1024) ![0, 0] S512x1024.size inb_S512x1024_S512x1024_0_0, k0_pay22 (View.readAt (Elt Ideal) arg1.view (Rect.unit (s := S512x1024) ![0, 0] S512x1024.size inb_S512x1024_S512x1024_0_0).toLoadRect (harg1.unread x0)) (k0_pay5 (View.readAt (Elt Ideal) arg2.view (Rect.unit (s := S1x1024) ![0, 0] S1x1024.size inb_S1x1024_S1x1024_0_0).toLoadRect (harg2.unread x1))) (k0_pay6 (View.readAt (Elt Ideal) arg3.view (Rect.unit (s := S1024x512) ![0, 0] S1024x512.size inb_S1024x512_S1024x512_0_0).toLoadRect (harg3.unread x2))) (k0_pay7 (View.readAt (Elt Ideal) arg4.view (Rect.unit (s := S1024x1024) ![0, 0] S1024x1024.size inb_S1024x1024_S1024x1024_0_0).toLoadRect (harg4.unread x3))) (k0_pay9 (View.readAt (Elt Ideal) arg1.view (Rect.unit (s := S512x1024) ![0, 0] S512x1024.size inb_S512x1024_S512x1024_0_0).toLoadRect (harg1.unread x0))) (k0_pay10 (View.readAt (Elt Ideal) arg1.view (Rect.unit (s := S512x1024) ![0, 0] S512x1024.size inb_S512x1024_S512x1024_0_0).toLoadRect (harg1.unread x0))) (k0_pay13 (View.readAt (Elt Ideal) arg6.view (Rect.unit (s := S512x512) ![0, 0] S512x512.size inb_S512x512_S512x512_0_0).toLoadRect (harg6.unread x5))) (k0_pay14 (View.readAt (Elt Ideal) arg7.view (Rect.unit (s := S512x1024) ![0, 0] S512x1024.size inb_S512x1024_S512x1024_0_0).toLoadRect (harg7.unread x6))) (k0_pay16 (View.readAt (Elt Ideal) arg5.view (Rect.unit (s := S1024x512) ![0, 0] S1024x512.size inb_S1024x512_S1024x512_0_0).toLoadRect (harg5.unread x4)) (View.readAt (Elt Ideal) arg8.view (Rect.unit (s := S512x512) ![0, 0] S512x512.size inb_S512x512_S512x512_0_0).toLoadRect (harg8.unread x7))) (View.readAt (Elt Ideal) arg9.view (Rect.unit (s := S512x1024) ![0, 0] S512x1024.size inb_S512x1024_S512x1024_0_0).toLoadRect (harg9.unread x8))⟩] := by sl_kernel_rfl
  show View.read (Elt Ideal) VO0_9 (VO0_9.writes (Elt Ideal) VO0_9.junk (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 x8).1) = _
  rw [View.read_writes_junk_eq_canon, h]
  refine (View.canon_unit_zero zero2 _ _).trans ?_
  rw [load_all harg1 x0 zero2, load_all harg2 x1 zero2, load_all harg3 x2 zero2, load_all harg4 x3 zero2, load_all harg6 x5 zero2, load_all harg7 x6 zero2, load_all harg5 x4 zero2, load_all harg8 x7 zero2, load_all harg9 x8 zero2]

/-- Output 10 at a point of case A. -/
theorem at_A_10 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S1024x512 .bf16) (harg5 : arg5.IsWhole) (arg6 : Memref sig .tc .vmem S512x512 .f32) (harg6 : arg6.IsWhole) (arg7 : Memref sig .tc .vmem S512x1024 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1024x512 .f32) (harg12 : arg12.IsWhole) (arg13 : Memref sig .tc .vmem S1024x1024 .f32) (harg13 : arg13.IsWhole) (arg14 : Memref sig .tc .vmem S1024x512 .f32) (harg14 : arg14.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i)
    (x0 : Vec Ideal S512x1024 .f32) (x1 : Vec Ideal S1x1024 .f32) (x2 : Vec Ideal S1024x512 .bf16) (x3 : Vec Ideal S1024x1024 .bf16) (x4 : Vec Ideal S1024x512 .bf16) (x5 : Vec Ideal S512x512 .f32) (x6 : Vec Ideal S512x1024 .f32) (x7 : Vec Ideal S512x512 .f32) (x8 : Vec Ideal S512x1024 .f32) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 x8 = k0_pay21 (k0_pay6 x2) (k0_pay7 x3) (k0_pay11 x0) (k0_pay13 x5) (k0_pay14 x6) (k0_pay16 x4 x7) := by
  have h : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 x8).2.1 = [⟨Rect.unit (s := S1x1024) ![0, 0] S1x1024.size inb_S1x1024_S1x1024_0_0, k0_pay21 (k0_pay6 (View.readAt (Elt Ideal) arg3.view (Rect.unit (s := S1024x512) ![0, 0] S1024x512.size inb_S1024x512_S1024x512_0_0).toLoadRect (harg3.unread x2))) (k0_pay7 (View.readAt (Elt Ideal) arg4.view (Rect.unit (s := S1024x1024) ![0, 0] S1024x1024.size inb_S1024x1024_S1024x1024_0_0).toLoadRect (harg4.unread x3))) (k0_pay11 (View.readAt (Elt Ideal) arg1.view (Rect.unit (s := S512x1024) ![0, 0] S512x1024.size inb_S512x1024_S512x1024_0_0).toLoadRect (harg1.unread x0))) (k0_pay13 (View.readAt (Elt Ideal) arg6.view (Rect.unit (s := S512x512) ![0, 0] S512x512.size inb_S512x512_S512x512_0_0).toLoadRect (harg6.unread x5))) (k0_pay14 (View.readAt (Elt Ideal) arg7.view (Rect.unit (s := S512x1024) ![0, 0] S512x1024.size inb_S512x1024_S512x1024_0_0).toLoadRect (harg7.unread x6))) (k0_pay16 (View.readAt (Elt Ideal) arg5.view (Rect.unit (s := S1024x512) ![0, 0] S1024x512.size inb_S1024x512_S1024x512_0_0).toLoadRect (harg5.unread x4)) (View.readAt (Elt Ideal) arg8.view (Rect.unit (s := S512x512) ![0, 0] S512x512.size inb_S512x512_S512x512_0_0).toLoadRect (harg8.unread x7)))⟩] := by sl_kernel_rfl
  show View.read (Elt Ideal) VO0_10 (VO0_10.writes (Elt Ideal) VO0_10.junk (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 x8).2.1) = _
  rw [View.read_writes_junk_eq_canon, h]
  refine (View.canon_unit_zero zero2 _ _).trans ?_
  rw [load_all harg3 x2 zero2, load_all harg4 x3 zero2, load_all harg1 x0 zero2, load_all harg6 x5 zero2, load_all harg7 x6 zero2, load_all harg5 x4 zero2, load_all harg8 x7 zero2]

/-- Output 11 at a point of case A. -/
theorem at_A_11 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S1024x512 .bf16) (harg5 : arg5.IsWhole) (arg6 : Memref sig .tc .vmem S512x512 .f32) (harg6 : arg6.IsWhole) (arg7 : Memref sig .tc .vmem S512x1024 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1024x512 .f32) (harg12 : arg12.IsWhole) (arg13 : Memref sig .tc .vmem S1024x1024 .f32) (harg13 : arg13.IsWhole) (arg14 : Memref sig .tc .vmem S1024x512 .f32) (harg14 : arg14.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i)
    (x0 : Vec Ideal S512x1024 .f32) (x1 : Vec Ideal S1x1024 .f32) (x2 : Vec Ideal S1024x512 .bf16) (x3 : Vec Ideal S1024x1024 .bf16) (x4 : Vec Ideal S1024x512 .bf16) (x5 : Vec Ideal S512x512 .f32) (x6 : Vec Ideal S512x1024 .f32) (x7 : Vec Ideal S512x512 .f32) (x8 : Vec Ideal S512x1024 .f32) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 x8 = k0_pay19 (k0_pay12 x0 x1) (k0_pay13 x5) := by
  have h : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 x8).2.2.1 = [⟨Rect.unit (s := S1024x512) ![0, 0] S1024x512.size inb_S1024x512_S1024x512_0_0, k0_pay19 (k0_pay12 (View.readAt (Elt Ideal) arg1.view (Rect.unit (s := S512x1024) ![0, 0] S512x1024.size inb_S512x1024_S512x1024_0_0).toLoadRect (harg1.unread x0)) (View.readAt (Elt Ideal) arg2.view (Rect.unit (s := S1x1024) ![0, 0] S1x1024.size inb_S1x1024_S1x1024_0_0).toLoadRect (harg2.unread x1))) (k0_pay13 (View.readAt (Elt Ideal) arg6.view (Rect.unit (s := S512x512) ![0, 0] S512x512.size inb_S512x512_S512x512_0_0).toLoadRect (harg6.unread x5)))⟩] := by sl_kernel_rfl
  show View.read (Elt Ideal) VO0_11 (VO0_11.writes (Elt Ideal) VO0_11.junk (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 x8).2.2.1) = _
  rw [View.read_writes_junk_eq_canon, h]
  refine (View.canon_unit_zero zero2 _ _).trans ?_
  rw [load_all harg1 x0 zero2, load_all harg2 x1 zero2, load_all harg6 x5 zero2]

/-- Output 12 at a point of case A. -/
theorem at_A_12 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S1024x512 .bf16) (harg5 : arg5.IsWhole) (arg6 : Memref sig .tc .vmem S512x512 .f32) (harg6 : arg6.IsWhole) (arg7 : Memref sig .tc .vmem S512x1024 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1024x512 .f32) (harg12 : arg12.IsWhole) (arg13 : Memref sig .tc .vmem S1024x1024 .f32) (harg13 : arg13.IsWhole) (arg14 : Memref sig .tc .vmem S1024x512 .f32) (harg14 : arg14.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i)
    (x0 : Vec Ideal S512x1024 .f32) (x1 : Vec Ideal S1x1024 .f32) (x2 : Vec Ideal S1024x512 .bf16) (x3 : Vec Ideal S1024x1024 .bf16) (x4 : Vec Ideal S1024x512 .bf16) (x5 : Vec Ideal S512x512 .f32) (x6 : Vec Ideal S512x1024 .f32) (x7 : Vec Ideal S512x512 .f32) (x8 : Vec Ideal S512x1024 .f32) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 x8 = k0_pay18 (k0_pay12 x0 x1) (k0_pay14 x6) := by
  have h : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 x8).2.2.2.1 = [⟨Rect.unit (s := S1024x1024) ![0, 0] S1024x1024.size inb_S1024x1024_S1024x1024_0_0, k0_pay18 (k0_pay12 (View.readAt (Elt Ideal) arg1.view (Rect.unit (s := S512x1024) ![0, 0] S512x1024.size inb_S512x1024_S512x1024_0_0).toLoadRect (harg1.unread x0)) (View.readAt (Elt Ideal) arg2.view (Rect.unit (s := S1x1024) ![0, 0] S1x1024.size inb_S1x1024_S1x1024_0_0).toLoadRect (harg2.unread x1))) (k0_pay14 (View.readAt (Elt Ideal) arg7.view (Rect.unit (s := S512x1024) ![0, 0] S512x1024.size inb_S512x1024_S512x1024_0_0).toLoadRect (harg7.unread x6)))⟩] := by sl_kernel_rfl
  show View.read (Elt Ideal) VO0_12 (VO0_12.writes (Elt Ideal) VO0_12.junk (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 x8).2.2.2.1) = _
  rw [View.read_writes_junk_eq_canon, h]
  refine (View.canon_unit_zero zero2 _ _).trans ?_
  rw [load_all harg1 x0 zero2, load_all harg2 x1 zero2, load_all harg7 x6 zero2]

/-- Output 13 at a point of case A. -/
theorem at_A_13 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S1024x512 .bf16) (harg5 : arg5.IsWhole) (arg6 : Memref sig .tc .vmem S512x512 .f32) (harg6 : arg6.IsWhole) (arg7 : Memref sig .tc .vmem S512x1024 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1024x512 .f32) (harg12 : arg12.IsWhole) (arg13 : Memref sig .tc .vmem S1024x1024 .f32) (harg13 : arg13.IsWhole) (arg14 : Memref sig .tc .vmem S1024x512 .f32) (harg14 : arg14.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i)
    (x0 : Vec Ideal S512x1024 .f32) (x1 : Vec Ideal S1x1024 .f32) (x2 : Vec Ideal S1024x512 .bf16) (x3 : Vec Ideal S1024x1024 .bf16) (x4 : Vec Ideal S1024x512 .bf16) (x5 : Vec Ideal S512x512 .f32) (x6 : Vec Ideal S512x1024 .f32) (x7 : Vec Ideal S512x512 .f32) (x8 : Vec Ideal S512x1024 .f32) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 x8 = k0_pay17 (k0_pay12 x0 x1) (k0_pay15 x7) := by
  have h : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 x8).2.2.2.2.1 = [⟨Rect.unit (s := S1024x512) ![0, 0] S1024x512.size inb_S1024x512_S1024x512_0_0, k0_pay17 (k0_pay12 (View.readAt (Elt Ideal) arg1.view (Rect.unit (s := S512x1024) ![0, 0] S512x1024.size inb_S512x1024_S512x1024_0_0).toLoadRect (harg1.unread x0)) (View.readAt (Elt Ideal) arg2.view (Rect.unit (s := S1x1024) ![0, 0] S1x1024.size inb_S1x1024_S1x1024_0_0).toLoadRect (harg2.unread x1))) (k0_pay15 (View.readAt (Elt Ideal) arg8.view (Rect.unit (s := S512x512) ![0, 0] S512x512.size inb_S512x512_S512x512_0_0).toLoadRect (harg8.unread x7)))⟩] := by sl_kernel_rfl
  show View.read (Elt Ideal) VO0_13 (VO0_13.writes (Elt Ideal) VO0_13.junk (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 x8).2.2.2.2.1) = _
  rw [View.read_writes_junk_eq_canon, h]
  refine (View.canon_unit_zero zero2 _ _).trans ?_
  rw [load_all harg1 x0 zero2, load_all harg2 x1 zero2, load_all harg8 x7 zero2]

/-- Output 9 at a point of case B. -/
theorem at_B_9 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S1024x512 .bf16) (harg5 : arg5.IsWhole) (arg6 : Memref sig .tc .vmem S512x512 .f32) (harg6 : arg6.IsWhole) (arg7 : Memref sig .tc .vmem S512x1024 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1024x512 .f32) (harg12 : arg12.IsWhole) (arg13 : Memref sig .tc .vmem S1024x1024 .f32) (harg13 : arg13.IsWhole) (arg14 : Memref sig .tc .vmem S1024x512 .f32) (harg14 : arg14.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i)
    (x0 : Vec Ideal S512x1024 .f32) (x1 : Vec Ideal S1x1024 .f32) (x2 : Vec Ideal S1024x512 .bf16) (x3 : Vec Ideal S1024x1024 .bf16) (x4 : Vec Ideal S1024x512 .bf16) (x5 : Vec Ideal S512x512 .f32) (x6 : Vec Ideal S512x1024 .f32) (x7 : Vec Ideal S512x512 .f32) (x8 : Vec Ideal S512x1024 .f32) (xo10 : Vec Ideal S1x1024 .f32) (xo11 : Vec Ideal S1024x512 .f32) (xo12 : Vec Ideal S1024x1024 .f32) (xo13 : Vec Ideal S1024x512 .f32) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 x8 xo10 xo11 xo12 xo13 = k0_pay22 x0 (k0_pay5 x1) (k0_pay6 x2) (k0_pay7 x3) (k0_pay9 x0) (k0_pay10 x0) (k0_pay13 x5) (k0_pay14 x6) (k0_pay16 x4 x7) x8 := by
  have h : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 x8 xo10 xo11 xo12 xo13).1 = [⟨Rect.unit (s := S512x1024) ![0, 0] S512x1024.size inb_S512x1024_S512x1024_0_0, k0_pay22 (View.readAt (Elt Ideal) arg1.view (Rect.unit (s := S512x1024) ![0, 0] S512x1024.size inb_S512x1024_S512x1024_0_0).toLoadRect (harg1.unread x0)) (k0_pay5 (View.readAt (Elt Ideal) arg2.view (Rect.unit (s := S1x1024) ![0, 0] S1x1024.size inb_S1x1024_S1x1024_0_0).toLoadRect (harg2.unread x1))) (k0_pay6 (View.readAt (Elt Ideal) arg3.view (Rect.unit (s := S1024x512) ![0, 0] S1024x512.size inb_S1024x512_S1024x512_0_0).toLoadRect (harg3.unread x2))) (k0_pay7 (View.readAt (Elt Ideal) arg4.view (Rect.unit (s := S1024x1024) ![0, 0] S1024x1024.size inb_S1024x1024_S1024x1024_0_0).toLoadRect (harg4.unread x3))) (k0_pay9 (View.readAt (Elt Ideal) arg1.view (Rect.unit (s := S512x1024) ![0, 0] S512x1024.size inb_S512x1024_S512x1024_0_0).toLoadRect (harg1.unread x0))) (k0_pay10 (View.readAt (Elt Ideal) arg1.view (Rect.unit (s := S512x1024) ![0, 0] S512x1024.size inb_S512x1024_S512x1024_0_0).toLoadRect (harg1.unread x0))) (k0_pay13 (View.readAt (Elt Ideal) arg6.view (Rect.unit (s := S512x512) ![0, 0] S512x512.size inb_S512x512_S512x512_0_0).toLoadRect (harg6.unread x5))) (k0_pay14 (View.readAt (Elt Ideal) arg7.view (Rect.unit (s := S512x1024) ![0, 0] S512x1024.size inb_S512x1024_S512x1024_0_0).toLoadRect (harg7.unread x6))) (k0_pay16 (View.readAt (Elt Ideal) arg5.view (Rect.unit (s := S1024x512) ![0, 0] S1024x512.size inb_S1024x512_S1024x512_0_0).toLoadRect (harg5.unread x4)) (View.readAt (Elt Ideal) arg8.view (Rect.unit (s := S512x512) ![0, 0] S512x512.size inb_S512x512_S512x512_0_0).toLoadRect (harg8.unread x7))) (View.readAt (Elt Ideal) arg9.view (Rect.unit (s := S512x1024) ![0, 0] S512x1024.size inb_S512x1024_S512x1024_0_0).toLoadRect (harg9.unread x8))⟩] := by sl_kernel_rfl
  show View.read (Elt Ideal) VO0_9 (VO0_9.writes (Elt Ideal) VO0_9.junk (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 x8 xo10 xo11 xo12 xo13).1) = _
  rw [View.read_writes_junk_eq_canon, h]
  refine (View.canon_unit_zero zero2 _ _).trans ?_
  rw [load_all harg1 x0 zero2, load_all harg2 x1 zero2, load_all harg3 x2 zero2, load_all harg4 x3 zero2, load_all harg6 x5 zero2, load_all harg7 x6 zero2, load_all harg5 x4 zero2, load_all harg8 x7 zero2, load_all harg9 x8 zero2]

/-- Output 10 at a point of case B. -/
theorem at_B_10 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S1024x512 .bf16) (harg5 : arg5.IsWhole) (arg6 : Memref sig .tc .vmem S512x512 .f32) (harg6 : arg6.IsWhole) (arg7 : Memref sig .tc .vmem S512x1024 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1024x512 .f32) (harg12 : arg12.IsWhole) (arg13 : Memref sig .tc .vmem S1024x1024 .f32) (harg13 : arg13.IsWhole) (arg14 : Memref sig .tc .vmem S1024x512 .f32) (harg14 : arg14.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i)
    (x0 : Vec Ideal S512x1024 .f32) (x1 : Vec Ideal S1x1024 .f32) (x2 : Vec Ideal S1024x512 .bf16) (x3 : Vec Ideal S1024x1024 .bf16) (x4 : Vec Ideal S1024x512 .bf16) (x5 : Vec Ideal S512x512 .f32) (x6 : Vec Ideal S512x1024 .f32) (x7 : Vec Ideal S512x512 .f32) (x8 : Vec Ideal S512x1024 .f32) (xo10 : Vec Ideal S1x1024 .f32) (xo11 : Vec Ideal S1024x512 .f32) (xo12 : Vec Ideal S1024x1024 .f32) (xo13 : Vec Ideal S1024x512 .f32) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 x8 xo10 xo11 xo12 xo13 = k0_pay1 (k0_pay21 (k0_pay6 x2) (k0_pay7 x3) (k0_pay11 x0) (k0_pay13 x5) (k0_pay14 x6) (k0_pay16 x4 x7)) xo10 := by
  have h : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 x8 xo10 xo11 xo12 xo13).2.1 = [⟨Rect.unit (s := S1x1024) ![0, 0] S1x1024.size inb_S1x1024_S1x1024_0_0, k0_pay1 (k0_pay21 (k0_pay6 (View.readAt (Elt Ideal) arg3.view (Rect.unit (s := S1024x512) ![0, 0] S1024x512.size inb_S1024x512_S1024x512_0_0).toLoadRect (harg3.unread x2))) (k0_pay7 (View.readAt (Elt Ideal) arg4.view (Rect.unit (s := S1024x1024) ![0, 0] S1024x1024.size inb_S1024x1024_S1024x1024_0_0).toLoadRect (harg4.unread x3))) (k0_pay11 (View.readAt (Elt Ideal) arg1.view (Rect.unit (s := S512x1024) ![0, 0] S512x1024.size inb_S512x1024_S512x1024_0_0).toLoadRect (harg1.unread x0))) (k0_pay13 (View.readAt (Elt Ideal) arg6.view (Rect.unit (s := S512x512) ![0, 0] S512x512.size inb_S512x512_S512x512_0_0).toLoadRect (harg6.unread x5))) (k0_pay14 (View.readAt (Elt Ideal) arg7.view (Rect.unit (s := S512x1024) ![0, 0] S512x1024.size inb_S512x1024_S512x1024_0_0).toLoadRect (harg7.unread x6))) (k0_pay16 (View.readAt (Elt Ideal) arg5.view (Rect.unit (s := S1024x512) ![0, 0] S1024x512.size inb_S1024x512_S1024x512_0_0).toLoadRect (harg5.unread x4)) (View.readAt (Elt Ideal) arg8.view (Rect.unit (s := S512x512) ![0, 0] S512x512.size inb_S512x512_S512x512_0_0).toLoadRect (harg8.unread x7)))) (View.readAt (Elt Ideal) arg11.view (Rect.unit (s := S1x1024) ![0, 0] S1x1024.size inb_S1x1024_S1x1024_0_0).toLoadRect (harg11.unread xo10))⟩] := by sl_kernel_rfl
  show View.read (Elt Ideal) VO0_10 (VO0_10.writes (Elt Ideal) VO0_10.junk (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 x8 xo10 xo11 xo12 xo13).2.1) = _
  rw [View.read_writes_junk_eq_canon, h]
  refine (View.canon_unit_zero zero2 _ _).trans ?_
  rw [load_all harg3 x2 zero2, load_all harg4 x3 zero2, load_all harg1 x0 zero2, load_all harg6 x5 zero2, load_all harg7 x6 zero2, load_all harg5 x4 zero2, load_all harg8 x7 zero2, load_all harg11 xo10 zero2]

/-- Output 11 at a point of case B. -/
theorem at_B_11 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S1024x512 .bf16) (harg5 : arg5.IsWhole) (arg6 : Memref sig .tc .vmem S512x512 .f32) (harg6 : arg6.IsWhole) (arg7 : Memref sig .tc .vmem S512x1024 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1024x512 .f32) (harg12 : arg12.IsWhole) (arg13 : Memref sig .tc .vmem S1024x1024 .f32) (harg13 : arg13.IsWhole) (arg14 : Memref sig .tc .vmem S1024x512 .f32) (harg14 : arg14.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i)
    (x0 : Vec Ideal S512x1024 .f32) (x1 : Vec Ideal S1x1024 .f32) (x2 : Vec Ideal S1024x512 .bf16) (x3 : Vec Ideal S1024x1024 .bf16) (x4 : Vec Ideal S1024x512 .bf16) (x5 : Vec Ideal S512x512 .f32) (x6 : Vec Ideal S512x1024 .f32) (x7 : Vec Ideal S512x512 .f32) (x8 : Vec Ideal S512x1024 .f32) (xo10 : Vec Ideal S1x1024 .f32) (xo11 : Vec Ideal S1024x512 .f32) (xo12 : Vec Ideal S1024x1024 .f32) (xo13 : Vec Ideal S1024x512 .f32) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 x8 xo10 xo11 xo12 xo13 = k0_pay2 (k0_pay19 (k0_pay12 x0 x1) (k0_pay13 x5)) xo11 := by
  have h : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 x8 xo10 xo11 xo12 xo13).2.2.1 = [⟨Rect.unit (s := S1024x512) ![0, 0] S1024x512.size inb_S1024x512_S1024x512_0_0, k0_pay2 (k0_pay19 (k0_pay12 (View.readAt (Elt Ideal) arg1.view (Rect.unit (s := S512x1024) ![0, 0] S512x1024.size inb_S512x1024_S512x1024_0_0).toLoadRect (harg1.unread x0)) (View.readAt (Elt Ideal) arg2.view (Rect.unit (s := S1x1024) ![0, 0] S1x1024.size inb_S1x1024_S1x1024_0_0).toLoadRect (harg2.unread x1))) (k0_pay13 (View.readAt (Elt Ideal) arg6.view (Rect.unit (s := S512x512) ![0, 0] S512x512.size inb_S512x512_S512x512_0_0).toLoadRect (harg6.unread x5)))) (View.readAt (Elt Ideal) arg12.view (Rect.unit (s := S1024x512) ![0, 0] S1024x512.size inb_S1024x512_S1024x512_0_0).toLoadRect (harg12.unread xo11))⟩] := by sl_kernel_rfl
  show View.read (Elt Ideal) VO0_11 (VO0_11.writes (Elt Ideal) VO0_11.junk (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 x8 xo10 xo11 xo12 xo13).2.2.1) = _
  rw [View.read_writes_junk_eq_canon, h]
  refine (View.canon_unit_zero zero2 _ _).trans ?_
  rw [load_all harg1 x0 zero2, load_all harg2 x1 zero2, load_all harg6 x5 zero2, load_all harg12 xo11 zero2]

/-- Output 12 at a point of case B. -/
theorem at_B_12 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S1024x512 .bf16) (harg5 : arg5.IsWhole) (arg6 : Memref sig .tc .vmem S512x512 .f32) (harg6 : arg6.IsWhole) (arg7 : Memref sig .tc .vmem S512x1024 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1024x512 .f32) (harg12 : arg12.IsWhole) (arg13 : Memref sig .tc .vmem S1024x1024 .f32) (harg13 : arg13.IsWhole) (arg14 : Memref sig .tc .vmem S1024x512 .f32) (harg14 : arg14.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i)
    (x0 : Vec Ideal S512x1024 .f32) (x1 : Vec Ideal S1x1024 .f32) (x2 : Vec Ideal S1024x512 .bf16) (x3 : Vec Ideal S1024x1024 .bf16) (x4 : Vec Ideal S1024x512 .bf16) (x5 : Vec Ideal S512x512 .f32) (x6 : Vec Ideal S512x1024 .f32) (x7 : Vec Ideal S512x512 .f32) (x8 : Vec Ideal S512x1024 .f32) (xo10 : Vec Ideal S1x1024 .f32) (xo11 : Vec Ideal S1024x512 .f32) (xo12 : Vec Ideal S1024x1024 .f32) (xo13 : Vec Ideal S1024x512 .f32) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 x8 xo10 xo11 xo12 xo13 = k0_pay3 (k0_pay18 (k0_pay12 x0 x1) (k0_pay14 x6)) xo12 := by
  have h : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 x8 xo10 xo11 xo12 xo13).2.2.2.1 = [⟨Rect.unit (s := S1024x1024) ![0, 0] S1024x1024.size inb_S1024x1024_S1024x1024_0_0, k0_pay3 (k0_pay18 (k0_pay12 (View.readAt (Elt Ideal) arg1.view (Rect.unit (s := S512x1024) ![0, 0] S512x1024.size inb_S512x1024_S512x1024_0_0).toLoadRect (harg1.unread x0)) (View.readAt (Elt Ideal) arg2.view (Rect.unit (s := S1x1024) ![0, 0] S1x1024.size inb_S1x1024_S1x1024_0_0).toLoadRect (harg2.unread x1))) (k0_pay14 (View.readAt (Elt Ideal) arg7.view (Rect.unit (s := S512x1024) ![0, 0] S512x1024.size inb_S512x1024_S512x1024_0_0).toLoadRect (harg7.unread x6)))) (View.readAt (Elt Ideal) arg13.view (Rect.unit (s := S1024x1024) ![0, 0] S1024x1024.size inb_S1024x1024_S1024x1024_0_0).toLoadRect (harg13.unread xo12))⟩] := by sl_kernel_rfl
  show View.read (Elt Ideal) VO0_12 (VO0_12.writes (Elt Ideal) VO0_12.junk (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 x8 xo10 xo11 xo12 xo13).2.2.2.1) = _
  rw [View.read_writes_junk_eq_canon, h]
  refine (View.canon_unit_zero zero2 _ _).trans ?_
  rw [load_all harg1 x0 zero2, load_all harg2 x1 zero2, load_all harg7 x6 zero2, load_all harg13 xo12 zero2]

/-- Output 13 at a point of case B. -/
theorem at_B_13 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S1024x512 .bf16) (harg5 : arg5.IsWhole) (arg6 : Memref sig .tc .vmem S512x512 .f32) (harg6 : arg6.IsWhole) (arg7 : Memref sig .tc .vmem S512x1024 .f32) (harg7 : arg7.IsWhole) (arg8 : Memref sig .tc .vmem S512x512 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1024x512 .f32) (harg12 : arg12.IsWhole) (arg13 : Memref sig .tc .vmem S1024x1024 .f32) (harg13 : arg13.IsWhole) (arg14 : Memref sig .tc .vmem S1024x512 .f32) (harg14 : arg14.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i)
    (x0 : Vec Ideal S512x1024 .f32) (x1 : Vec Ideal S1x1024 .f32) (x2 : Vec Ideal S1024x512 .bf16) (x3 : Vec Ideal S1024x1024 .bf16) (x4 : Vec Ideal S1024x512 .bf16) (x5 : Vec Ideal S512x512 .f32) (x6 : Vec Ideal S512x1024 .f32) (x7 : Vec Ideal S512x512 .f32) (x8 : Vec Ideal S512x1024 .f32) (xo10 : Vec Ideal S1x1024 .f32) (xo11 : Vec Ideal S1024x512 .f32) (xo12 : Vec Ideal S1024x1024 .f32) (xo13 : Vec Ideal S1024x512 .f32) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 x8 xo10 xo11 xo12 xo13 = k0_pay4 (k0_pay17 (k0_pay12 x0 x1) (k0_pay15 x7)) xo13 := by
  have h : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 x8 xo10 xo11 xo12 xo13).2.2.2.2.1 = [⟨Rect.unit (s := S1024x512) ![0, 0] S1024x512.size inb_S1024x512_S1024x512_0_0, k0_pay4 (k0_pay17 (k0_pay12 (View.readAt (Elt Ideal) arg1.view (Rect.unit (s := S512x1024) ![0, 0] S512x1024.size inb_S512x1024_S512x1024_0_0).toLoadRect (harg1.unread x0)) (View.readAt (Elt Ideal) arg2.view (Rect.unit (s := S1x1024) ![0, 0] S1x1024.size inb_S1x1024_S1x1024_0_0).toLoadRect (harg2.unread x1))) (k0_pay15 (View.readAt (Elt Ideal) arg8.view (Rect.unit (s := S512x512) ![0, 0] S512x512.size inb_S512x512_S512x512_0_0).toLoadRect (harg8.unread x7)))) (View.readAt (Elt Ideal) arg14.view (Rect.unit (s := S1024x512) ![0, 0] S1024x512.size inb_S1024x512_S1024x512_0_0).toLoadRect (harg14.unread xo13))⟩] := by sl_kernel_rfl
  show View.read (Elt Ideal) VO0_13 (VO0_13.writes (Elt Ideal) VO0_13.junk (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 x8 xo10 xo11 xo12 xo13).2.2.2.2.1) = _
  rw [View.read_writes_junk_eq_canon, h]
  refine (View.canon_unit_zero zero2 _ _).trans ?_
  rw [load_all harg1 x0 zero2, load_all harg2 x1 zero2, load_all harg8 x7 zero2, load_all harg14 xo13 zero2]

end Cert.InBwd

end

end
-- ==== Proof.InBwdPoint.lean ====
/- The input projection's backward call: what a point computes from its blocks. -/
module

public import proofs.«01_k».proof.Proof.Rows
public import proofs.«01_k».proof.Proof.InBwdPieces

@[expose] public section

set_option maxRecDepth 16384

noncomputable section

open scoped BigOperators

namespace Cert.InBwd

open Idealize.ShloMosaic Idealize.ShloMosaic.TcCoe Idealize.ShloMosaic.Tactic Cert.Kernel4Ideal Cert.Kernel4Ideal.Gen
open Cert.Rows

/-- The shapes of a block of rows. -/
theorem shapes : Rows.Blk 512 1024 := ⟨reduces_S512x1024_S512, reduces_S512x1024_S1024, reduces_S512x1_S512, shapeCasts_S512_S512x1, shapeCasts_S1024_S1x1024,
  broadcasts_S512x1_S512x1024, broadcasts_S1x1024_S512x1024⟩

variable (x : Fin 512 → Fin 1024 → EReal) (g : Fin 1024 → EReal) (wa : Fin 1024 → Fin 512 → EReal) (wb : Fin 1024 → Fin 1024 → EReal) (wc : Fin 1024 → Fin 512 → EReal)
  (da : Fin 512 → Fin 512 → EReal) (db : Fin 512 → Fin 1024 → EReal) (dc : Fin 512 → Fin 512 → EReal) (dr : Fin 512 → Fin 1024 → EReal)

/-- The gradient in the point's normalised rows, from the three parts of columns. -/
def dh (a : Fin 512) (c : Fin 1024) : EReal := (∑ b, dc a b * wc c b) + (∑ b, db a b * wb c b) + ∑ b, da a b * wa c b

theorem pay5 : k0_pay5 (F := Ideal) (Mf fun _ => g) = Mf fun _ => g := shapeCast_self _ _
theorem pay6 : k0_pay6 (F := Ideal) (Mb wa) = Mf wa := by unfold k0_pay6; rw [shapeCast_self]; rfl
theorem pay7 : k0_pay7 (F := Ideal) (Mb wb) = Mf wb := by unfold k0_pay7; rw [shapeCast_self]; rfl
theorem pay12 : k0_pay12 (F := Ideal) (Mf x) (Mf fun _ => g) = Mf fun a b => norm (x a) g b := by
  unfold k0_pay12; rw [pay5]; exact normA_M2 shapes x g
theorem pay13 : k0_pay13 (F := Ideal) (Mf da) = Mf da := shapeCast_self _ _
theorem pay14 : k0_pay14 (F := Ideal) (Mf db) = Mf db := shapeCast_self _ _
theorem pay15 : k0_pay15 (F := Ideal) (Mf dc) = Mf dc := shapeCast_self _ _
theorem pay16 : k0_pay16 (F := Ideal) (Mb wc) (Mf dc) = Mf fun a c => ∑ b, dc a b * wc c b := by
  show matmul dot_S512x512_S1024x512_S512x1024_1_1_0_0_n_n none (truncf .bf16 (k0_pay15 (Mf dc)) bitsLt_bf16_f32)
    (truncf .bf16 (extf .f32 (shapeCast S1024x512 (Mb wc) shapeCasts_S1024x512_S1024x512) bitsLt_bf16_f32) bitsLt_bf16_f32) (constant S512x1024 .f32 0x00000000#32) = _
  rw [pay15, shapeCast_self]
  exact mm_nt (φ₁ := .bf16) (φ₂ := .bf16) dc wc _
theorem pay20 : k0_pay20 (F := Ideal) (k0_pay6 (Mb wa)) (k0_pay7 (Mb wb)) (k0_pay13 (Mf da)) (k0_pay14 (Mf db)) (k0_pay16 (Mb wc) (Mf dc)) = Mf (dh wa wb wc da db dc) := by
  rw [pay6, pay7, pay13, pay14, pay16]
  exact congrArg₂ (fun y z => addf (addf (Mf fun a c => ∑ b, dc a b * wc c b) y) z) (mm_nt (φ₁ := .bf16) (φ₂ := .bf16) db wb _) (mm_nt (φ₁ := .bf16) (φ₂ := .bf16) da wa _)
/-- The gradient in the rows, in the gain, and in the three parts of the matrix. -/
theorem dx_block : k0_pay22 (F := Ideal) (Mf x) (k0_pay5 (Mf fun _ => g)) (k0_pay6 (Mb wa)) (k0_pay7 (Mb wb)) (k0_pay9 (Mf x)) (k0_pay10 (Mf x)) (k0_pay13 (Mf da)) (k0_pay14 (Mf db))
    (k0_pay16 (Mb wc) (Mf dc)) (Mf dr) = Mf fun a b => dx (x a) g (dh wa wb wc da db dc a) b + dr a b := by
  show addf (dxA shapes (Mf x) (k0_pay5 (Mf fun _ => g)) (k0_pay20 (k0_pay6 (Mb wa)) (k0_pay7 (Mb wb)) (k0_pay13 (Mf da)) (k0_pay14 (Mf db)) (k0_pay16 (Mb wc) (Mf dc)))) (Mf dr) = _
  rw [pay20, pay5, dxA_M2]; rfl
theorem dg_block : k0_pay21 (F := Ideal) (k0_pay6 (Mb wa)) (k0_pay7 (Mb wb)) (k0_pay11 (Mf x)) (k0_pay13 (Mf da)) (k0_pay14 (Mf db))
    (k0_pay16 (Mb wc) (Mf dc)) = Mf fun _ b => ∑ a, unit (x a) b * dh wa wb wc da db dc a b := by
  show dgA shapes (Mf x) (k0_pay20 (k0_pay6 (Mb wa)) (k0_pay7 (Mb wb)) (k0_pay13 (Mf da)) (k0_pay14 (Mf db)) (k0_pay16 (Mb wc) (Mf dc))) = _
  rw [pay20, dgA_M2]
theorem dwa_block : k0_pay19 (F := Ideal) (k0_pay12 (Mf x) (Mf fun _ => g)) (k0_pay13 (Mf da)) = Mf fun c b => ∑ a, norm (x a) g c * da a b := by
  rw [pay12, pay13]; exact mm_tn (φ₁ := .bf16) (φ₂ := .bf16) (fun a c => norm (x a) g c) da _
theorem dwb_block : k0_pay18 (F := Ideal) (k0_pay12 (Mf x) (Mf fun _ => g)) (k0_pay14 (Mf db)) = Mf fun c b => ∑ a, norm (x a) g c * db a b := by
  rw [pay12, pay14]; exact mm_tn (φ₁ := .bf16) (φ₂ := .bf16) (fun a c => norm (x a) g c) db _
theorem dwc_block : k0_pay17 (F := Ideal) (k0_pay12 (Mf x) (Mf fun _ => g)) (k0_pay15 (Mf dc)) = Mf fun c b => ∑ a, norm (x a) g c * dc a b := by
  rw [pay12, pay15]; exact mm_tn (φ₁ := .bf16) (φ₂ := .bf16) (fun a c => norm (x a) g c) dc _
/-- A sum over the points goes on. -/
theorem more1 (f o : Fin 1 → Fin 1024 → EReal) : k0_pay1 (F := Ideal) (Mf f) (Mf o) = Mf fun a b => o a b + f a b := by
  unfold k0_pay1; rw [shapeCast_self]; rfl
theorem more2 (f o : Fin 1024 → Fin 512 → EReal) : k0_pay2 (F := Ideal) (Mf f) (Mf o) = Mf fun a b => o a b + f a b := by
  unfold k0_pay2; rw [shapeCast_self]; rfl
theorem more3 (f o : Fin 1024 → Fin 1024 → EReal) : k0_pay3 (F := Ideal) (Mf f) (Mf o) = Mf fun a b => o a b + f a b := by
  unfold k0_pay3; rw [shapeCast_self]; rfl
theorem more4 (f o : Fin 1024 → Fin 512 → EReal) : k0_pay4 (F := Ideal) (Mf f) (Mf o) = Mf fun a b => o a b + f a b := by
  unfold k0_pay4; rw [shapeCast_self]; rfl

end Cert.InBwd

end

end
-- ==== Proof.InBwd.lean ====
/- The input projection's backward call: the blocks its points read, what stands after each point, and the five arrays after the
   last one. -/
module

public import proofs.«01_k».proof.Proof.RefInBwd
public import proofs.«01_k».proof.Proof.InBwdPoint

@[expose] public section

set_option maxRecDepth 16384

noncomputable section

open scoped BigOperators

namespace Cert.InBwd

open Idealize.ShloMosaic Idealize.ShloMosaic.TcCoe Idealize.ShloMosaic.Tactic Cert.Kernel4Ideal Cert.Kernel4Ideal.Gen
open Cert.Rows

/-! ## The blocks the points read -/

variable (m : (ℓ : Loc nD τ sig) → Buf (Elt Ideal) ℓ) (c : Dev nD)

/-- The projection's three parts of columns, the last one with zeros after it, of the matrix and of the gradient. -/
def partA (X : FVec Ideal S1024x1952 .f32) : FVec Ideal S1024x512 .bf16 := extractStridedSlice S1024x512 ![0, 0] (truncf .bf16 X bitsLt_bf16_f32) slices_S1024x1952_S1024x512_0_0
def partB (X : FVec Ideal S1024x1952 .f32) : FVec Ideal S1024x1024 .bf16 := extractStridedSlice S1024x1024 ![0, 512] (truncf .bf16 X bitsLt_bf16_f32) slices_S1024x1952_S1024x1024_0_512
def partC (X : FVec Ideal S1024x1952 .f32) : FVec Ideal S1024x512 .bf16 := pad S1024x512 ![0, 0] ![0, 96] ![0, 0]
  (extractStridedSlice S1024x416 ![0, 1536] (truncf .bf16 X bitsLt_bf16_f32) slices_S1024x1952_S1024x416_0_1536)
  (sitofp .bf16 (constantI S_ 32 0#32)) pads_S1024x416_S1024x512_000_0960 h_S_
def gradA (X : FVec Ideal S2048x1952 .f32) : FVec Ideal S2048x512 .f32 := extractStridedSlice S2048x512 ![0, 0] X slices_S2048x1952_S2048x512_0_0
def gradB (X : FVec Ideal S2048x1952 .f32) : FVec Ideal S2048x1024 .f32 := extractStridedSlice S2048x1024 ![0, 512] X slices_S2048x1952_S2048x1024_0_512
def gradC (X : FVec Ideal S2048x1952 .f32) : FVec Ideal S2048x512 .f32 := pad S2048x512 ![0, 0] ![0, 96] ![0, 0]
  (extractStridedSlice S2048x416 ![0, 1536] X slices_S2048x1952_S2048x416_0_1536)
  (sitofp .f32 (constantI S_ 32 0#32)) pads_S2048x416_S2048x512_000_0960 h_S_

theorem idx_in : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] := by decide +kernel

theorem iblk0 (t : Fin cfg0.N) (y : S512x1024.Idx) (i : S2048x1024.Idx) (h0 : (i 0).val = 512 * t.val + (y 0).val) (h1 : (i 1).val = (y 1).val) :
    iblk m c 0 t y = m ((c : Thread nD τ).loc main_arg0) i := by
  blk_ext [iblk, V, idx_in t]
theorem iblk8 (t : Fin cfg0.N) (y : S512x1024.Idx) (i : S2048x1024.Idx) (h0 : (i 0).val = 512 * t.val + (y 0).val) (h1 : (i 1).val = (y 1).val) :
    iblk m c 8 t y = m ((c : Thread nD τ).loc main_arg4) i := by
  blk_ext [iblk, V, idx_in t]
theorem iblk1 (t : Fin cfg0.N) : iblk m c 1 t = shapeCast S1x1024 (m ((c : Thread nD τ).loc main_arg1)) shapeCasts_S1024_S1x1024 := by
  have e : V m c main_v2 = shapeCast S1x1024 (m ((c : Thread nD τ).loc main_arg1)) shapeCasts_S1024_S1x1024 := by
    entry_read
    rfl
  refine (funext fun y => ?_ : iblk m c 1 t = V m c main_v2).trans e
  blk_ext [iblk, idx_in t]
theorem iblk2 (t : Fin cfg0.N) : iblk m c 2 t = partA (m ((c : Thread nD τ).loc main_arg2)) := by
  have e : V m c main_v6 = partA (m ((c : Thread nD τ).loc main_arg2)) := by
    entry_read
    rfl
  refine (funext fun y => ?_ : iblk m c 2 t = V m c main_v6).trans e
  blk_ext [iblk, idx_in t]
theorem iblk3 (t : Fin cfg0.N) : iblk m c 3 t = partB (m ((c : Thread nD τ).loc main_arg2)) := by
  have e : V m c main_v7 = partB (m ((c : Thread nD τ).loc main_arg2)) := by
    entry_read
    rfl
  refine (funext fun y => ?_ : iblk m c 3 t = V m c main_v7).trans e
  blk_ext [iblk, idx_in t]
theorem iblk4 (t : Fin cfg0.N) : iblk m c 4 t = partC (m ((c : Thread nD τ).loc main_arg2)) := by
  have e : V m c main_v5 = partC (m ((c : Thread nD τ).loc main_arg2)) := by
    entry_read
    rfl
  refine (funext fun y => ?_ : iblk m c 4 t = V m c main_v5).trans e
  blk_ext [iblk, idx_in t]
theorem iblk5 (t : Fin cfg0.N) (y : S512x512.Idx) (i : S2048x512.Idx) (h0 : (i 0).val = 512 * t.val + (y 0).val) (h1 : (i 1).val = (y 1).val) :
    iblk m c 5 t y = gradA (m ((c : Thread nD τ).loc main_arg3)) i := by
  have e : V m c main_v8 = gradA (m ((c : Thread nD τ).loc main_arg3)) := by
    entry_read
    rfl
  rw [← e]
  blk_ext [iblk, idx_in t]
theorem iblk6 (t : Fin cfg0.N) (y : S512x1024.Idx) (i : S2048x1024.Idx) (h0 : (i 0).val = 512 * t.val + (y 0).val) (h1 : (i 1).val = (y 1).val) :
    iblk m c 6 t y = gradB (m ((c : Thread nD τ).loc main_arg3)) i := by
  have e : V m c main_v9 = gradB (m ((c : Thread nD τ).loc main_arg3)) := by
    entry_read
    rfl
  rw [← e]
  blk_ext [iblk, idx_in t]
theorem iblk7 (t : Fin cfg0.N) (y : S512x512.Idx) (i : S2048x512.Idx) (h0 : (i 0).val = 512 * t.val + (y 0).val) (h1 : (i 1).val = (y 1).val) :
    iblk m c 7 t y = gradC (m ((c : Thread nD τ).loc main_arg3)) i := by
  have e : V m c main_v1 = gradC (m ((c : Thread nD τ).loc main_arg3)) := by
    entry_read
    rfl
  rw [← e]
  blk_ext [iblk, idx_in t]

/-- The device's arguments, by their coordinates. -/
structure Holds (x : Fin 2048 → Fin 1024 → EReal) (g : Fin 1024 → EReal) (w : Fin 1024 → Fin 1952 → EReal) (dp : Fin 2048 → Fin 1952 → EReal)
    (dr : Fin 2048 → Fin 1024 → EReal) : Prop where
  h0 : m ((c : Thread nD τ).loc main_arg0) = Mf x
  h1 : m ((c : Thread nD τ).loc main_arg1) = Vf g
  h2 : m ((c : Thread nD τ).loc main_arg2) = Mf w
  h3 : m ((c : Thread nD τ).loc main_arg3) = Mf dp
  h4 : m ((c : Thread nD τ).loc main_arg4) = Mf dr

theorem lt4 (t : Fin cfg0.N) : t.val < 4 := lt_of_lt_of_eq t.isLt N_0

/-- Row `r` of point `k`'s block. -/
abbrev row (k : ℕ) (r : Fin 512) : Fin 2048 := part (N := 2048) 512 (by decide) k r

section
variable {m c} {x : Fin 2048 → Fin 1024 → EReal} {g : Fin 1024 → EReal} {w : Fin 1024 → Fin 1952 → EReal} {dp : Fin 2048 → Fin 1952 → EReal}
  {dr : Fin 2048 → Fin 1024 → EReal} (H : Holds m c x g w dp dr)
include H

theorem in0 (t : Fin cfg0.N) : iblk m c 0 t = Mf fun r b => x (row t.val r) b := funext fun y => by
  refine (iblk0 m c t y (ValueIdx.ix2 (row t.val (y 0)) (y 1)) (part_val 512 _ _ _ 4 rfl (lt4 t)) rfl).trans ?_
  rw [H.h0]; rfl
theorem in8 (t : Fin cfg0.N) : iblk m c 8 t = Mf fun r b => dr (row t.val r) b := funext fun y => by
  refine (iblk8 m c t y (ValueIdx.ix2 (row t.val (y 0)) (y 1)) (part_val 512 _ _ _ 4 rfl (lt4 t)) rfl).trans ?_
  rw [H.h4]; rfl
theorem in1 (t : Fin cfg0.N) : iblk m c 1 t = Mf fun _ => g := by
  rw [iblk1, H.h1]; exact asRow _ _
theorem in2 (t : Fin cfg0.N) : iblk m c 2 t = Mb fun a b => InBwdRef.col w 0 a b.val := by
  rw [iblk2, H.h2]; unfold partA; rw [trunc_M2]; refine (slice_M2 0 _ _).trans (congrArg M2 (funext fun a => funext fun b => ?_))
  unfold InBwdRef.col; rw [dif_pos (by omega)]
theorem in3 (t : Fin cfg0.N) : iblk m c 3 t = Mb fun a b => InBwdRef.col w 512 a b.val := by
  rw [iblk3, H.h2]; unfold partB; rw [trunc_M2]; refine (slice_M2 512 _ _).trans (congrArg M2 (funext fun a => funext fun b => ?_))
  unfold InBwdRef.col; rw [dif_pos (by omega)]
omit H in
/-- The last part's 416 columns and the zeros after them. -/
theorem last {n : ℕ} (f : Fin n → Fin 1952 → EReal) (a : Fin n) (b : Fin 512) (h : ∀ j : Fin 416, 1536 + j.val < 1952) :
    (if hb : b.val < 416 then f a ⟨1536 + (⟨b.val, hb⟩ : Fin 416).val, h _⟩ else 0) = InBwdRef.col f 1536 a b.val := by
  unfold InBwdRef.col
  split_ifs
  · rfl
  · omega
  · omega
  · rfl
theorem in4 (t : Fin cfg0.N) : iblk m c 4 t = Mb fun a b => InBwdRef.col w 1536 a b.val := by
  rw [iblk4, H.h2]; unfold partC; rw [trunc_M2]
  rw [show extractStridedSlice S1024x416 ![0, 1536] (Mb w) slices_S1024x1952_S1024x416_0_1536 = _ from slice_M2 1536 _ _]
  refine (pad_M2 96 _ _ (fun i => ?_) _ _).trans (congrArg M2 (funext fun a => funext fun b => last w a b fun j => by omega))
  show (((0#32).toInt : ℝ) : EReal) = 0
  simp
theorem in5 (t : Fin cfg0.N) : iblk m c 5 t = Mf fun a b => InBwdRef.col dp 0 (row t.val a) b.val := funext fun y => by
  refine (iblk5 m c t y (ValueIdx.ix2 (row t.val (y 0)) (y 1)) (part_val 512 _ _ _ 4 rfl (lt4 t)) rfl).trans ?_
  have e : gradA (Mf dp) = Mf fun a b => InBwdRef.col dp 0 a b.val := by
    unfold gradA; refine (slice_M2 0 _ _).trans (congrArg M2 (funext fun a => funext fun b => ?_))
    unfold InBwdRef.col; rw [dif_pos (by omega)]
  rw [H.h3, e]; rfl
theorem in6 (t : Fin cfg0.N) : iblk m c 6 t = Mf fun a b => InBwdRef.col dp 512 (row t.val a) b.val := funext fun y => by
  refine (iblk6 m c t y (ValueIdx.ix2 (row t.val (y 0)) (y 1)) (part_val 512 _ _ _ 4 rfl (lt4 t)) rfl).trans ?_
  have e : gradB (Mf dp) = Mf fun a b => InBwdRef.col dp 512 a b.val := by
    unfold gradB; refine (slice_M2 512 _ _).trans (congrArg M2 (funext fun a => funext fun b => ?_))
    unfold InBwdRef.col; rw [dif_pos (by omega)]
  rw [H.h3, e]; rfl
theorem in7 (t : Fin cfg0.N) : iblk m c 7 t = Mf fun a b => InBwdRef.col dp 1536 (row t.val a) b.val := funext fun y => by
  refine (iblk7 m c t y (ValueIdx.ix2 (row t.val (y 0)) (y 1)) (part_val 512 _ _ _ 4 rfl (lt4 t)) rfl).trans ?_
  have e : gradC (Mf dp) = Mf fun a b => InBwdRef.col dp 1536 a b.val := by
    unfold gradC
    rw [show extractStridedSlice S2048x416 ![0, 1536] (Mf dp) slices_S2048x1952_S2048x416_0_1536 = _ from slice_M2 1536 _ _]
    refine (pad_M2 96 _ _ (fun i => ?_) _ _).trans (congrArg M2 (funext fun a => funext fun b => last dp a b fun j => by omega))
    show (((0#32).toInt : ℝ) : EReal) = 0
    simp
  rw [H.h3, e]; rfl

/-! ## What stands after each point -/

omit H in
/-- The three parts of columns together. -/
theorem dh_row (k : ℕ) : dh (fun a b => InBwdRef.col w 0 a b.val) (fun a b => InBwdRef.col w 512 a b.val) (fun a b => InBwdRef.col w 1536 a b.val)
    (fun a b => InBwdRef.col dp 0 (row k a) b.val) (fun a b => InBwdRef.col dp 512 (row k a) b.val) (fun a b => InBwdRef.col dp 1536 (row k a) b.val)
      = fun a => InBwdRef.dh w dp (row k a) := funext fun a => funext fun c => by
  unfold dh InBwdRef.dh
  simp only [InBwdRef.col_mul]
  exact InBwdRef.sum_cols fun j => dp (row k a) j * w c j

/-- The five buffers after point `n`. -/
def after (n : ℕ) (x : Fin 2048 → Fin 1024 → EReal) (g : Fin 1024 → EReal) (w : Fin 1024 → Fin 1952 → EReal) (dp : Fin 2048 → Fin 1952 → EReal)
    (dr : Fin 2048 → Fin 1024 → EReal) :
    Vec Ideal S512x1024 .f32 × Vec Ideal S1x1024 .f32 × Vec Ideal S1024x512 .f32 × Vec Ideal S1024x1024 .f32 × Vec Ideal S1024x512 .f32 :=
  (Mf fun a b => dx (x (row n a)) g (InBwdRef.dh w dp (row n a)) b + dr (row n a) b,
   Mf fun _ b => ∑ k ∈ Finset.range (n + 1), ∑ a, unit (x (row k a)) b * InBwdRef.dh w dp (row k a) b,
   Mf fun c b => ∑ k ∈ Finset.range (n + 1), ∑ a, norm (x (row k a)) g c * InBwdRef.col dp 0 (row k a) b.val,
   Mf fun c b => ∑ k ∈ Finset.range (n + 1), ∑ a, norm (x (row k a)) g c * InBwdRef.col dp 512 (row k a) b.val,
   Mf fun c b => ∑ k ∈ Finset.range (n + 1), ∑ a, norm (x (row k a)) g c * InBwdRef.col dp 1536 (row k a) b.val)

theorem outs (n : ℕ) (hn : n < cfg0.N) : outsAt0 m c n hn = after n x g w dp dr := by
  induction n with
  | zero =>
    refine (outsAt0_A m c ⟨0, hn⟩ rfl (Nat.not_succ_le_zero 0) rfl (Nat.not_succ_le_zero 0) rfl (Nat.not_succ_le_zero 0) rfl (Nat.not_succ_le_zero 0)).trans ?_
    rw [at_A_9, at_A_10, at_A_11, at_A_12, at_A_13, in0 H, in1 H, in2 H, in3 H, in4 H, in5 H, in6 H, in7 H, in8 H,
      dx_block, dg_block, dwa_block, dwb_block, dwc_block, dh_row]
    unfold after; simp only [Nat.zero_add, Finset.sum_range_one]
  | succ n ih =>
    have h4 : n + 1 < 4 := lt4 ⟨n + 1, hn⟩
    have hA : ¬ (n + 1) % 4 = 0 := by omega
    have hB : 1 ≤ n + 1 := by omega
    refine (outsAt0_B m c ⟨n + 1, hn⟩ hA hB hA hB hA hB hA hB).trans ?_
    have e : ∀ h, outsAt0 m c ((⟨n + 1, hn⟩ : Fin cfg0.N).val - 1) h = _ := fun _ => ih (Nat.lt_of_succ_lt hn)
    rw [at_B_9, at_B_10, at_B_11, at_B_12, at_B_13, in0 H, in1 H, in2 H, in3 H, in4 H, in5 H, in6 H, in7 H, in8 H, e,
      dx_block, dg_block, dwa_block, dwb_block, dwc_block, dh_row]
    unfold after; rw [more1, more2, more3, more4]
    simp only [Finset.sum_range_succ _ (n + 1)]

/-! ## The arrays after the run -/

omit H in
/-- The points' sums are the sum over the rows. -/
theorem sum_points (f : Fin 2048 → EReal) : ∑ k ∈ Finset.range (t0_3.val + 1), ∑ a, f (row k a) = ∑ a, f a :=
  (sum_parts 512 4 _ rfl f).symm

theorem array9 : (dats m 0 c).arrAt 9 cfg0.N = Mf fun a b => dx (x a) g (InBwdRef.dh w dp a) b + dr a b := by
  refine (dats m 0 c).arrAt_eq_of_covers 9 _ (by decide +kernel) fun t hf y => ?_
  rw [after0_9, outs H]
  have e0 : (((((cfg0.win 9).blk t).view.emb y) 0 : Fin 2048) : ℕ) = 512 * t.val + (y 0).val := by
    blk_simp [idx_in t]; show t.val * 512 + (y 0).val = 512 * t.val + (y 0).val; omega
  have e1 : (((((cfg0.win 9).blk t).view.emb y) 1 : Fin 1024) : ℕ) = (y 1).val := by
    blk_simp [idx_in t]
  exact congrArg₂ (fun r b => dx (x r) g (InBwdRef.dh w dp r) b + dr r b) (Fin.ext ((part_val 512 _ _ _ 4 rfl (lt4 t)).trans e0.symm)) (Fin.ext e1.symm)
theorem array10 : (dats m 0 c).arrAt 10 cfg0.N = Mf fun _ b => InBwdRef.dg x w dp b := by
  refine (dats m 0 c).arrAt_eq_of_after_last 10 t0_3 (by decide +kernel) _ fun j => ?_
  rw [after0_10, outs H]
  exact sum_points fun a => unit (x a) (j 1) * InBwdRef.dh w dp a (j 1)
theorem array11 : (dats m 0 c).arrAt 11 cfg0.N = Mf fun c b => InBwdRef.dw x g dp 0 c b.val := by
  refine (dats m 0 c).arrAt_eq_of_after_last 11 t0_3 (by decide +kernel) _ fun j => ?_
  rw [after0_11, outs H]
  exact sum_points fun a => norm (x a) g (j 0) * InBwdRef.col dp 0 a (j 1).val
theorem array12 : (dats m 0 c).arrAt 12 cfg0.N = Mf fun c b => InBwdRef.dw x g dp 512 c b.val := by
  refine (dats m 0 c).arrAt_eq_of_after_last 12 t0_3 (by decide +kernel) _ fun j => ?_
  rw [after0_12, outs H]
  exact sum_points fun a => norm (x a) g (j 0) * InBwdRef.col dp 512 a (j 1).val
theorem array13 : (dats m 0 c).arrAt 13 cfg0.N = Mf fun c b => InBwdRef.dw x g dp 1536 c b.val := by
  refine (dats m 0 c).arrAt_eq_of_after_last 13 t0_3 (by decide +kernel) _ fun j => ?_
  rw [after0_13, outs H]
  exact sum_points fun a => norm (x a) g (j 0) * InBwdRef.col dp 1536 a (j 1).val
end

end Cert.InBwd

end

end
-- ==== Proof.LossPoint.lean ====
/- The loss's call, a point: what it stores, of the rows it reads and the loss so far. -/
module

public import proofs.«01_k».proof.Proof.Rows
public import proofs.«01_k».proof.Proof.Gen.Kernel18Ideal.Value

@[expose] public section

set_option maxRecDepth 16384

noncomputable section

open scoped BigOperators

namespace Cert.Loss

open Idealize.ShloMosaic Idealize.ShloMosaic.TcCoe Idealize.ShloMosaic.Tactic Cert.Kernel18Ideal Cert.Kernel18Ideal.Gen
open Cert.Rows

/-! ## The stores -/

section
variable (c : Dev nD) (i : grid0.Coords) (arg1 : Memref sig .tc .vmem S512x1024 .f32) (harg1 : arg1.IsWhole)
  (arg2 : Memref sig .tc .vmem S512x1024 .f32) (harg2 : arg2.IsWhole) (arg3 : Memref sig .tc .vmem S512x1024 .f32) (harg3 : arg3.IsWhole)
  (arg4 : Memref sig .tc .vmem S1x128 .f32) (harg4 : arg4.IsWhole) (x0 x1 : Vec Ideal S512x1024 .f32) (xo : Vec Ideal S1x128 .f32)

/-- A whole block, as a point reads it and as it stores it. -/
abbrev rows : Rect S512x1024 := Rect.unit (s := S512x1024) ![0, 0] S512x1024.size inb_S512x1024_S512x1024_0_0
abbrev lanes : Rect S1x128 := Rect.unit (s := S1x128) ![0, 0] S1x128.size inb_S1x128_S1x128_0_0
abbrev read1 : Vec Ideal S512x1024 .f32 := View.readAt (Elt Ideal) arg1.view rows.toLoadRect (harg1.unread x0)
abbrev read4 : Vec Ideal S1x128 .f32 := View.readAt (Elt Ideal) arg4.view lanes.toLoadRect (harg4.unread xo)
theorem read1_eq : read1 arg1 harg1 x0 = x0 := load_all harg1 x0 zero2 _
theorem read4_eq : read4 arg4 harg4 xo = xo := load_all harg4 xo zero2 _

/-- The first point: the gradient in its rows, and its part of the loss. -/
theorem first_2 (h0 : cond0_0 i) (h1 : ¬cond0_1 i) :
    out0_A_2 (F := Ideal) c i arg1 harg1 arg2 harg2 arg3 harg3 arg4 harg4 h0 h1 x0 x1 = k0_pay2 x0 x1 := by
  have h : (kernelRun0_A (F := Ideal) c i arg1 harg1 arg2 harg2 arg3 harg3 arg4 harg4 h0 h1 x0 x1).1
      = [⟨rows, k0_pay2 (read1 arg1 harg1 x0) (read1 arg2 harg2 x1)⟩] := by sl_kernel_rfl
  unfold out0_A_2
  rw [View.read_writes_junk_eq_canon, h]
  refine (View.canon_unit_zero zero2 _ _).trans ?_
  rw [read1_eq, read1_eq]
theorem first_3 (h0 : cond0_0 i) (h1 : ¬cond0_1 i) :
    out0_A_3 (F := Ideal) c i arg1 harg1 arg2 harg2 arg3 harg3 arg4 harg4 h0 h1 x0 x1 = k0_pay3 x0 x1 := by
  have h : (kernelRun0_A (F := Ideal) c i arg1 harg1 arg2 harg2 arg3 harg3 arg4 harg4 h0 h1 x0 x1).2.1
      = [⟨lanes, k0_pay3 (read1 arg1 harg1 x0) (read1 arg2 harg2 x1)⟩] := by sl_kernel_rfl
  unfold out0_A_3
  rw [View.read_writes_junk_eq_canon, h]
  refine (View.canon_unit_zero zero2 _ _).trans ?_
  rw [read1_eq, read1_eq]
/-- The points after it: the gradient in their rows, and the loss so far with their part. -/
theorem later_2 (h0 : ¬cond0_0 i) (h1 : cond0_1 i) :
    out0_B_2 (F := Ideal) c i arg1 harg1 arg2 harg2 arg3 harg3 arg4 harg4 h0 h1 x0 x1 xo = k0_pay2 x0 x1 := by
  have h : (kernelRun0_B (F := Ideal) c i arg1 harg1 arg2 harg2 arg3 harg3 arg4 harg4 h0 h1 x0 x1 xo).1
      = [⟨rows, k0_pay2 (read1 arg1 harg1 x0) (read1 arg2 harg2 x1)⟩] := by sl_kernel_rfl
  unfold out0_B_2
  rw [View.read_writes_junk_eq_canon, h]
  refine (View.canon_unit_zero zero2 _ _).trans ?_
  rw [read1_eq, read1_eq]
theorem later_3 (h0 : ¬cond0_0 i) (h1 : cond0_1 i) :
    out0_B_3 (F := Ideal) c i arg1 harg1 arg2 harg2 arg3 harg3 arg4 harg4 h0 h1 x0 x1 xo = k0_pay4 x0 x1 xo := by
  have h : (kernelRun0_B (F := Ideal) c i arg1 harg1 arg2 harg2 arg3 harg3 arg4 harg4 h0 h1 x0 x1 xo).2.1
      = [⟨lanes, k0_pay4 (read1 arg1 harg1 x0) (read1 arg2 harg2 x1) (read4 arg4 harg4 xo)⟩] := by sl_kernel_rfl
  unfold out0_B_3
  rw [View.read_writes_junk_eq_canon, h]
  refine (View.canon_unit_zero zero2 _ _).trans ?_
  rw [read1_eq, read1_eq, read4_eq]
end

/-! ## Their values -/

/-- A row's squared error. -/
def sq {n : ℕ} (y t : Fin n → Fin 1024 → EReal) (a : Fin n) : EReal := ∑ b, (y a b - t a b) * (y a b - t a b)
/-- What the kernel multiplies the errors by for the gradient, and the squared errors for the loss. -/
def perRow : EReal := Ideal.ofBits .f32 0x3A800000#32
def perLoss : EReal := Ideal.ofBits .f32 0x3A000000#32

variable (y t : Fin 512 → Fin 1024 → EReal)

theorem dy_block : k0_pay2 (F := Ideal) (Mf y) (Mf t) = Mf fun a b => (y a b - t a b) * perRow := rfl
theorem loss_block : k0_pay3 (F := Ideal) (Mf y) (Mf t) = Mf fun _ _ => (∑ a, sq y t a) * perLoss := by
  have e : mulf (k0_pay1 (F := Ideal) (Mf y) (Mf t)) (k0_pay1 (Mf y) (Mf t)) = Mf fun a b => (y a b - t a b) * (y a b - t a b) := rfl
  unfold k0_pay3
  rw [e]
  have e1 : multiReduction .add [1] S512 (Mf fun a b => (y a b - t a b) * (y a b - t a b)) 0x00000000#32 reduces_S512x1024_S512 (.inl rfl) rfl = Vf (sq y t) :=
    sumRow_M2 _ _ _ _
  have e2 : shapeCast S512x1 (Vf (sq y t)) shapeCasts_S512_S512x1 = Mf fun a _ => sq y t a := asCol _ _
  have e3 : multiReduction .add [0] S1 (Mf fun a (_ : Fin 1) => sq y t a) 0x00000000#32 reduces_S512x1_S1 (.inl rfl) rfl = Vf fun _ => ∑ a, sq y t a :=
    sumCol_M2 _ _ _ _
  have e4 : shapeCast S1x1 (Vf fun _ : Fin 1 => ∑ a, sq y t a) shapeCasts_S1_S1x1 = Mf fun _ _ => ∑ a, sq y t a := asRow _ _
  dsimp only
  rw [e1, e2, e3, e4, shapeCast_self]
  exact col_M2 (n := 1) (p := 128) (fun _ _ => (∑ a, sq y t a) * perLoss) _
theorem more_block (f : Fin 1 → Fin 128 → EReal) :
    k0_pay4 (F := Ideal) (Mf y) (Mf t) (Mf f) = Mf fun a b => f a b + (∑ a, sq y t a) * perLoss := by
  unfold k0_pay4; rw [loss_block, shapeCast_self]; rfl

end Cert.Loss

end

end
-- ==== Proof.RefLoss.lean ====
/- The loss's reference: its two arrays by their coordinates, in the kernel's words for the constants. -/
module

public import proofs.«01_k».proof.Proof.Reals
public import proofs.«01_k».proof.Proof.Entries
public import proofs.«01_k».proof.Proof.LossPoint
public import proofs.«01_k».proof.Proof.Gen.Reference18Ideal.Run

@[expose] public section

set_option maxRecDepth 16384

noncomputable section

open scoped BigOperators

namespace Cert.Loss

open Idealize.ShloMosaic Idealize.ShloMosaic.TcCoe Cert.Reference18Ideal Cert.Reference18Ideal.Gen Cert.Rows

/-! ## The constants -/

theorem two : Ideal.ofBits .f32 0x40000000#32 = ((2 : ℝ) : EReal) := by
  simp [Ideal.ofBits, Ideal.ieee, -EReal.coe_mul]; norm_num
theorem half : Ideal.ofBits .f32 0x3F000000#32 = ((1 / 2 : ℝ) : EReal) := by
  simp [Ideal.ofBits, Ideal.ieee, -EReal.coe_mul]; norm_num
theorem wide : Ideal.ofBits .f32 0x44800000#32 = ((1024 : ℝ) : EReal) := by
  simp [Ideal.ofBits, Ideal.ieee, -EReal.coe_mul]; norm_num
theorem perRow_eq : perRow = ((1 / 1024 : ℝ) : EReal) := by
  simp [perRow, Ideal.ofBits, Ideal.ieee, -EReal.coe_mul]; norm_num
theorem perLoss_eq : perLoss = ((1 / 2048 : ℝ) : EReal) := by
  simp [perLoss, Ideal.ofBits, Ideal.ieee, -EReal.coe_mul]; norm_num

/-- A product with a positive real goes into a sum, whatever its terms. -/
theorem sum_mul {ι : Type} (s : Finset ι) (f : ι → EReal) (r : ℝ) (h : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast h) (EReal.coe_ne_top r) _ _

/-- The sum over a vector's indices is the sum over its coordinate. -/
theorem sum_V1 {n : ℕ} (f : Fin n → EReal) : ∑ i, Vf f i = ∑ a, f a :=
  Fintype.sum_equiv ⟨fun i => i 0, fun a => ValueIdx.ix1 a, fun i => Finite.eta1 i, fun _ => rfl⟩ _ _ fun _ => rfl

variable (y t : Fin 2048 → Fin 1024 → EReal)

/-- The gradient: half over the width, times twice the error. -/
theorem dy_ref : mulf (broadcastInDim S2048x1024 ![0] bcast_S2048_S2048x1024_0 (Host.divf (broadcastInDim S2048 ![] bcast_S_S2048
      (mulf (constant (F := Ideal) S_ .f32 0x3F000000#32) (constant S_ .f32 0x3F800000#32))) (broadcastInDim S2048 ![] bcast_S_S2048 (constant S_ .f32 0x44800000#32))))
      (mulf (broadcastInDim S2048x1024 ![] bcast_S_S2048x1024 (constant S_ .f32 0x40000000#32)) (subf (Mf y) (Mf t)))
    = Mf fun a b => (y a b - t a b) * perRow := funext fun i => by
  show Ideal.div (Ideal.ofBits .f32 0x3F000000#32 * Ideal.ofBits .f32 0x3F800000#32) (Ideal.ofBits .f32 0x44800000#32)
    * (Ideal.ofBits .f32 0x40000000#32 * (y (i 0) (i 1) - t (i 0) (i 1))) = (y (i 0) (i 1) - t (i 0) (i 1)) * perRow
  rw [wide, Ideal.div_coe (by norm_num), half, Ideal.ofBits_one_f32, mul_one, two, perRow_eq, ← mul_assoc, ← EReal.coe_mul, ← EReal.coe_mul, mul_comm]
  norm_num

/-- The loss: half the sum of the rows' mean squares. -/
theorem loss_ref : broadcastInDim S1x128 ![] bcast_S_S1x128 (mulf (constant S_ .f32 0x3F000000#32) (Host.reduceAdd (Host.divf
      (Host.reduceAdd (mulf (subf (Mf y) (Mf t)) (subf (Mf y) (Mf t))) (constant S_ .f32 0x00000000#32) reducesTo_S2048x1024_S2048_d1 h_S_)
      (broadcastInDim S2048 ![] bcast_S_S2048 (constant S_ .f32 0x44800000#32))) (constant S_ .f32 0x00000000#32) reducesTo_S2048_S_d0 h_S_))
    = Mf fun _ _ => ∑ a, sq y t a * perLoss := by
  have e1 : Host.reduceAdd (mulf (subf (Mf y) (Mf t)) (subf (Mf y) (Mf t))) (constant S_ .f32 0x00000000#32) reducesTo_S2048x1024_S2048_d1 h_S_
      = Vf (sq y t) := funext fun i =>
    (Ideal.hostReduceAdd_single reducesTo_S2048x1024_S2048_d1 (by decide) _ _ i).trans
      ((congrArg (· + _) Ideal.ofBits_zero_f32).trans (zero_add _))
  have e2 : Host.divf (Vf (sq y t)) (broadcastInDim S2048 ![] bcast_S_S2048 (constant S_ .f32 0x44800000#32))
      = Vf fun a => sq y t a * ((1 / 1024 : ℝ) : EReal) := funext fun i => by
    show Ideal.div (sq y t (i 0)) (Ideal.ofBits .f32 0x44800000#32) = _
    rw [wide, Ideal.div_coe (by norm_num)]; rfl
  have e3 : Host.reduceAdd (Vf fun a => sq y t a * ((1 / 1024 : ℝ) : EReal)) (constant S_ .f32 0x00000000#32) reducesTo_S2048_S_d0 h_S_
      = fun _ => ∑ a, sq y t a * ((1 / 1024 : ℝ) : EReal) := funext fun i =>
    (Ideal.hostReduceAdd_total reducesTo_S2048_S_d0 (fun b => b.elim0) _ _ i).trans
      ((congrArg (· + _) Ideal.ofBits_zero_f32).trans ((zero_add _).trans (sum_V1 fun a => sq y t a * ((1 / 1024 : ℝ) : EReal))))
  rw [e1, e2, e3]
  funext i
  show Ideal.ofBits .f32 0x3F000000#32 * ∑ a, sq y t a * ((1 / 1024 : ℝ) : EReal) = ∑ a, sq y t a * perLoss
  rw [half, perLoss_eq, mul_comm, sum_mul _ _ _ (by norm_num)]
  refine Finset.sum_congr rfl fun a _ => ?_
  rw [mul_assoc, ← EReal.coe_mul]; norm_num

end Cert.Loss

end

end
-- ==== Proof.Loss.lean ====
/- The loss's call: the blocks its points read, what stands after each point, the two arrays after the last one, and its claims. -/
module

public import proofs.«01_k».proof.Defs
public import proofs.«01_k».proof.Proof.RefLoss
public import Idealize.ShloMosaic.Lib.Quiescent

@[expose] public section

set_option maxRecDepth 16384

noncomputable section

open scoped BigOperators

namespace Cert.Loss

open Idealize.ShloMosaic Idealize.ShloMosaic.TcCoe Idealize.ShloMosaic.Tactic Cert.Kernel18Ideal Cert.Kernel18Ideal.Gen Idealize.SL.Sem
open Cert.Rows

variable (m : (ℓ : Loc nD τ sig) → Buf (Elt Ideal) ℓ) (c : Dev nD)

theorem idx_in : ∀ t : Fin grid0.N, win0_0.index t = ![t.val, 0] ∧ win0_1.index t = ![t.val, 0] ∧ win0_2.index t = ![t.val, 0] := by decide +kernel

theorem iblk0 (t : Fin cfg0.N) (y : S512x1024.Idx) (i : S2048x1024.Idx) (h0 : (i 0).val = 512 * t.val + (y 0).val) (h1 : (i 1).val = (y 1).val) :
    iblk m c 0 t y = m ((c : Thread nD τ).loc main_arg0) i := by
  blk_ext [iblk, V, idx_in t]
theorem iblk1 (t : Fin cfg0.N) (y : S512x1024.Idx) (i : S2048x1024.Idx) (h0 : (i 0).val = 512 * t.val + (y 0).val) (h1 : (i 1).val = (y 1).val) :
    iblk m c 1 t y = m ((c : Thread nD τ).loc main_arg1) i := by
  blk_ext [iblk, V, idx_in t]

/-- The device's arguments, by their coordinates. -/
structure Holds (y t : Fin 2048 → Fin 1024 → EReal) : Prop where
  h0 : m ((c : Thread nD τ).loc main_arg0) = Mf y
  h1 : m ((c : Thread nD τ).loc main_arg1) = Mf t

theorem lt4 (t : Fin cfg0.N) : t.val < 4 := lt_of_lt_of_eq t.isLt N_0

/-- Row `r` of point `k`'s block. -/
abbrev row (k : ℕ) (r : Fin 512) : Fin 2048 := part (N := 2048) 512 (by decide) k r

section
variable {m c} {y t : Fin 2048 → Fin 1024 → EReal} (H : Holds m c y t)
include H

theorem in0 (p : Fin cfg0.N) : iblk m c 0 p = Mf fun r b => y (row p.val r) b := funext fun z => by
  refine (iblk0 m c p z (ValueIdx.ix2 (row p.val (z 0)) (z 1)) (part_val 512 _ _ _ 4 rfl (lt4 p)) rfl).trans ?_
  rw [H.h0]; rfl
theorem in1 (p : Fin cfg0.N) : iblk m c 1 p = Mf fun r b => t (row p.val r) b := funext fun z => by
  refine (iblk1 m c p z (ValueIdx.ix2 (row p.val (z 0)) (z 1)) (part_val 512 _ _ _ 4 rfl (lt4 p)) rfl).trans ?_
  rw [H.h1]; rfl

/-- The two buffers after point `n`. -/
def after (n : ℕ) (y t : Fin 2048 → Fin 1024 → EReal) : Vec Ideal S512x1024 .f32 × Vec Ideal S1x128 .f32 :=
  (Mf fun a b => (y (row n a) b - t (row n a) b) * perRow,
   Mf fun _ _ => ∑ k ∈ Finset.range (n + 1), (∑ a, sq y t (row k a)) * perLoss)

theorem outs (n : ℕ) (hn : n < cfg0.N) : outsAt0 m c n hn = after n y t := by
  induction n with
  | zero =>
    refine (outsAt0_A m c ⟨0, hn⟩ rfl (Nat.not_succ_le_zero 0)).trans ?_
    rw [first_2, first_3, in0 H, in1 H, dy_block, loss_block]
    unfold after; simp only [Nat.zero_add, Finset.sum_range_one]; rfl
  | succ n ih =>
    have h4 : n + 1 < 4 := lt4 ⟨n + 1, hn⟩
    refine (outsAt0_B m c ⟨n + 1, hn⟩ (by show ¬ (n + 1) % 4 = 0; omega) (by show 1 ≤ n + 1; omega)).trans ?_
    have e : ∀ h, outsAt0 m c ((⟨n + 1, hn⟩ : Fin cfg0.N).val - 1) h = _ := fun _ => ih (Nat.lt_of_succ_lt hn)
    rw [later_2, later_3, in0 H, in1 H, e, dy_block]
    unfold after; rw [more_block]
    simp only [Finset.sum_range_succ _ (n + 1)]; rfl

theorem array2 : (dats m 0 c).arrAt 2 cfg0.N = Mf fun a b => (y a b - t a b) * perRow := by
  refine (dats m 0 c).arrAt_eq_of_covers 2 _ (by decide +kernel) fun p hf z => ?_
  rw [after0_2, outs H]
  have e0 : (((((cfg0.win 2).blk p).view.emb z) 0 : Fin 2048) : ℕ) = 512 * p.val + (z 0).val := by
    blk_simp [idx_in p]; show p.val * 512 + (z 0).val = 512 * p.val + (z 0).val; omega
  have e1 : (((((cfg0.win 2).blk p).view.emb z) 1 : Fin 1024) : ℕ) = (z 1).val := by
    blk_simp [idx_in p]
  exact congrArg₂ (fun r b => (y r b - t r b) * perRow) (Fin.ext ((part_val 512 _ _ _ 4 rfl (lt4 p)).trans e0.symm)) (Fin.ext e1.symm)
theorem array3 : (dats m 0 c).arrAt 3 cfg0.N = Mf fun _ _ => ∑ a, sq y t a * perLoss := by
  refine (dats m 0 c).arrAt_eq_of_after_last 3 t0_3 (by decide +kernel) _ fun j => ?_
  rw [after0_3, outs H]
  show ∑ k ∈ Finset.range 4, (∑ a, sq y t (row k a)) * perLoss = ∑ a, sq y t a * perLoss
  rw [sum_parts 512 4 (by decide) rfl fun a => sq y t a * perLoss]
  refine Finset.sum_congr rfl fun k _ => ?_
  rw [perLoss_eq]; exact sum_mul _ _ _ (by norm_num)
end

/-! ## The claims -/

theorem frame : Cert.quiescent_Reference18Ideal (hReference18Ideal := Reference18Ideal.Gen.facts) := fun m ρ _ =>
  (θ_run Reference18Ideal.defs _ _).mono (fun _ h => ⟨fun c => (h c).2.2, sem_eq_zero_of_no_sems (by decide) _⟩)
    (Reference18Ideal.Value.run (F := Ideal) m ρ)

theorem algebraic : Cert.algebraic_Kernel18Ideal_Reference18Ideal (hKernel18Ideal := Kernel18Ideal.Gen.facts)
    (hReference18Ideal := Reference18Ideal.Gen.facts) := fun m g m' g' _ hargs => by
  have H := fun c : Dev nD => (⟨Entries.mat_eq _, Entries.mat_eq _⟩ : Holds m c (Entries.mat (m ((c.tc : Thread nD τ).loc main_arg0)))
    (Entries.mat (m ((c.tc : Thread nD τ).loc main_arg1))))
  refine ⟨_, _, Kernel18Ideal.Value.run_blocks m g, (θ_run Reference18Ideal.defs _ _).mono (fun r h c => ?_) (Reference18Ideal.Value.run (F := Ideal) m' g')⟩
  obtain ⟨h0, h1, hk⟩ := h c
  obtain ⟨k0, k1⟩ := hargs c
  refine ⟨h0.trans ?_, h1.trans ?_, hk⟩
  · rw [array2 (H c), k0.trans (H c).h0, k1.trans (H c).h1]; exact dy_ref _ _
  · rw [array3 (H c), k0.trans (H c).h0, k1.trans (H c).h1]; exact loss_ref _ _

end Cert.Loss

end

end
-- ==== Proof.RefInFwd.lean ====
/- The reference of the input projection's forward call, one product over the whole array: each row of `x` normalised, times the
   projection's matrix, its columns in three parts, the last one with zeros after it. -/
module

public import proofs.«01_k».proof.Proof.Rows
public import proofs.«01_k».proof.Proof.Gen.Reference5Ideal.Read

@[expose] public section

set_option maxRecDepth 16384

noncomputable section

open scoped BigOperators

namespace Cert.InFwdRef

open Idealize.ShloMosaic Cert.Reference5Ideal Cert.Reference5Ideal.Gen Cert.Reference5Ideal.Read Cert.Rows

/-- Column `o + b` of the projection's matrix, zero beyond it. -/
def col (w : Fin 1024 → Fin 1952 → EReal) (o : ℕ) (c : Fin 1024) (b : ℕ) : EReal := if h : o + b < 1952 then w c ⟨o + b, h⟩ else 0
/-- The normalised row times that column. -/
def proj (x g : Fin 1024 → EReal) (w : Fin 1024 → Fin 1952 → EReal) (o b : ℕ) : EReal := ∑ c, norm x g c * col w o c b

theorem proj_out (x g : Fin 1024 → EReal) (w : Fin 1024 → Fin 1952 → EReal) (o b : ℕ) (h : ¬ o + b < 1952) : proj x g w o b = 0 :=
  Finset.sum_eq_zero fun c _ => by unfold col; rw [dif_neg h, mul_zero]

variable (x : Fin 2048 → Fin 1024 → EReal) (g : Fin 1024 → EReal) (w : Fin 1024 → Fin 1952 → EReal)

theorem v6 : val_main_v6 (F := Ideal) (Mf x) = Mf fun a _ => ms (x a) := funext fun i => by
  rw [val_main_v6_apply, val_main_v4_apply, val_main_v2_apply, val_main_v1_apply, val_main_v3_apply, val_main_v5_apply]
  show Ideal.div (Ideal.ofBits .f32 0x00000000#32 + ∑ b, x (i 0) b * x (i 0) b) _ + _ = _
  rw [Ideal.ofBits_zero_f32, zero_add]; rfl
theorem v12 : val_main_v12 (F := Ideal) (Mf x) (Vf g) = Mf fun a b => norm (x a) g b := funext fun i => by
  rw [val_main_v12_apply, val_main_v9_apply, val_main_v8_apply, val_main_v7_apply, val_main_v11_apply, val_main_v10_apply, v6]; rfl
theorem v13 : val_main_v13 (F := Ideal) (Mf x) (Vf g) (Mf w) = Mf fun a b => proj (x a) g w 0 b.val := funext fun i => by
  rw [val_main_v13_apply, v12]
  refine Finset.sum_congr rfl fun c _ => congrArg (norm (x (i 0)) g c * ·) (?_ : w c (i 1) = col w 0 c (i 1).val)
  · have h : 0 + (i 1).val < 1952 := by rw [Nat.zero_add]; exact (i 1).isLt
    unfold col; rw [dif_pos h]
    exact congrArg (w c) (Fin.ext (Nat.zero_add _).symm)
theorem proj_shift (x g : Fin 1024 → EReal) (o b : ℕ) : proj x g w 0 (o + b) = proj x g w o b :=
  Finset.sum_congr rfl fun c _ => congrArg (norm x g c * ·) (by unfold col; simp only [Nat.zero_add])

theorem v14 : val_main_v14 (F := Ideal) (Mf x) (Vf g) (Mf w) = Mf fun a b => proj (x a) g w 0 b.val := by
  unfold val_main_v14; rw [v13]; refine (slice_M2 0 _ _).trans ?_
  simp only [Nat.zero_add]; rfl
theorem v15 : val_main_v15 (F := Ideal) (Mf x) (Vf g) (Mf w) = Mf fun a b => proj (x a) g w 512 b.val := by
  unfold val_main_v15; rw [v13]; refine (slice_M2 512 _ _).trans ?_
  simp only [proj_shift]; rfl
theorem v17 : val_main_v17 (F := Ideal) (Mf x) (Vf g) (Mf w) = Mf fun a b => proj (x a) g w 1536 b.val := by
  unfold val_main_v17 val_main_v16; rw [v13]
  rw [show extractStridedSlice S2048x416 ![0, 1536] (Mf fun a b => proj (x a) g w 0 b.val) slices_S2048x1952_S2048x416_0_1536 = _ from slice_M2 1536 _ _]
  refine (pad_M2 96 _ _ (fun i => ?_) _ _).trans ?_
  · show (((0#32).toInt : ℝ) : EReal) = 0
    simp
  · refine congrArg M2 (funext fun a => funext fun b => ?_)
    split_ifs with h
    · exact proj_shift w _ _ _ _
    · exact (proj_out _ _ _ _ _ (by have h' : ¬ b.val < 416 := h; omega)).symm

end Cert.InFwdRef

end

end
-- ==== Proof.InFwdPoint.lean ====
/- The input projection's forward call: what a point writes of its block of rows. -/
module

public import proofs.«01_k».proof.Proof.RefInFwd
public import proofs.«01_k».proof.Proof.Gen.Kernel5Ideal.Value

@[expose] public section

set_option maxRecDepth 16384

noncomputable section

open scoped BigOperators

namespace Cert.InFwd

open Idealize.ShloMosaic Idealize.ShloMosaic.TcCoe Idealize.ShloMosaic.Tactic Cert.Kernel5Ideal Cert.Kernel5Ideal.Gen
open Cert.Rows

/-- The shapes of a block of 512 rows. -/
theorem shapes : Rows.Blk 512 1024 := ⟨reduces_S512x1024_S512, by decide, by decide, shapeCasts_S512_S512x1, by decide,
  broadcasts_S512x1_S512x1024, broadcasts_S1x1024_S512x1024⟩

/-! ## A point's block -/

section
variable (x : Fin 512 → Fin 1024 → EReal) (g : Fin 1024 → EReal)

theorem pay1 : k0_pay1 (F := Ideal) (Mf x) (Mf fun _ => g) = Mf fun a b => norm (x a) g b := by
  show normA shapes (Mf x) (shapeCast S1x1024 (Mf fun _ => g) shapeCasts_S1x1024_S1x1024) = _
  rw [shapeCast_self, normA_M2]
theorem pay2 (w : Fin 1024 → Fin 512 → EReal) : k0_pay2 (F := Ideal) (Mf x) (Mf fun _ => g) (Mb w)
    = Mf fun a b => ∑ c, norm (x a) g c * w c b := by
  unfold k0_pay2; rw [pay1, shapeCast_self]
  exact mm_nn (φ₁ := .bf16) (φ₂ := .bf16) (fun a c => norm (x a) g c) w _
theorem pay3 (w : Fin 1024 → Fin 1024 → EReal) : k0_pay3 (F := Ideal) (Mf x) (Mf fun _ => g) (Mb w)
    = Mf fun a b => ∑ c, norm (x a) g c * w c b := by
  unfold k0_pay3; rw [pay1, shapeCast_self]
  exact mm_nn (φ₁ := .bf16) (φ₂ := .bf16) (fun a c => norm (x a) g c) w _
theorem pay4 (w : Fin 1024 → Fin 512 → EReal) : k0_pay4 (F := Ideal) (Mf x) (Mf fun _ => g) (Mb w)
    = Mf fun a b => ∑ c, norm (x a) g c * w c b := by
  unfold k0_pay4; rw [pay1, shapeCast_self]
  exact mm_nn (φ₁ := .bf16) (φ₂ := .bf16) (fun a c => norm (x a) g c) w _
end

theorem out5 (x0 : Vec Ideal S512x1024 .f32) (x1 : Vec Ideal S1x1024 .f32) (x2 : Vec Ideal S1024x512 .bf16) (x3 : Vec Ideal S1024x1024 .bf16)
    (x4 : Vec Ideal S1024x512 .bf16) : out0_5 (F := Ideal) x0 x1 x2 x3 x4 = k0_pay2 x0 x1 x2 := by
  unfold out0_5
  rw [View.ld_unit_zero zero2, View.ld_unit_zero zero2, View.ld_unit_zero zero2]
  exact View.canon_unit_zero zero2 _ _
theorem out6 (x0 : Vec Ideal S512x1024 .f32) (x1 : Vec Ideal S1x1024 .f32) (x2 : Vec Ideal S1024x512 .bf16) (x3 : Vec Ideal S1024x1024 .bf16)
    (x4 : Vec Ideal S1024x512 .bf16) : out0_6 (F := Ideal) x0 x1 x2 x3 x4 = k0_pay3 x0 x1 x3 := by
  unfold out0_6
  rw [View.ld_unit_zero zero2, View.ld_unit_zero zero2, View.ld_unit_zero zero2]
  exact View.canon_unit_zero zero2 _ _
theorem out7 (x0 : Vec Ideal S512x1024 .f32) (x1 : Vec Ideal S1x1024 .f32) (x2 : Vec Ideal S1024x512 .bf16) (x3 : Vec Ideal S1024x1024 .bf16)
    (x4 : Vec Ideal S1024x512 .bf16) : out0_7 (F := Ideal) x0 x1 x2 x3 x4 = k0_pay4 x0 x1 x4 := by
  unfold out0_7
  rw [View.ld_unit_zero zero2, View.ld_unit_zero zero2, View.ld_unit_zero zero2]
  exact View.canon_unit_zero zero2 _ _

end Cert.InFwd

end

end
-- ==== Proof.InFwd.lean ====
/- The input projection's forward call: the blocks the points read, and the three arrays after
   the last point. -/
module

public import proofs.«01_k».proof.Proof.InFwdPoint
public import proofs.«01_k».proof.Proof.Gen.Kernel5Ideal.Value

@[expose] public section

set_option maxRecDepth 16384

noncomputable section

open scoped BigOperators

namespace Cert.InFwd

open Idealize.ShloMosaic Idealize.ShloMosaic.TcCoe Idealize.ShloMosaic.Tactic Cert.Kernel5Ideal Cert.Kernel5Ideal.Gen
open Cert.Rows Cert.InFwdRef

/-! ## The blocks the points read -/

variable (m : (ℓ : Loc nD τ sig) → Buf (Elt Ideal) ℓ) (c : Dev nD)

/-- The projection's three parts of columns, the last one with zeros after it. -/
def partA (X : FVec Ideal S1024x1952 .f32) : FVec Ideal S1024x512 .bf16 := extractStridedSlice S1024x512 ![0, 0] (truncf .bf16 X bitsLt_bf16_f32) slices_S1024x1952_S1024x512_0_0
def partB (X : FVec Ideal S1024x1952 .f32) : FVec Ideal S1024x1024 .bf16 := extractStridedSlice S1024x1024 ![0, 512] (truncf .bf16 X bitsLt_bf16_f32) slices_S1024x1952_S1024x1024_0_512
def partC (X : FVec Ideal S1024x1952 .f32) : FVec Ideal S1024x512 .bf16 := pad S1024x512 ![0, 0] ![0, 96] ![0, 0]
  (extractStridedSlice S1024x416 ![0, 1536] (truncf .bf16 X bitsLt_bf16_f32) slices_S1024x1952_S1024x416_0_1536)
  (sitofp .bf16 (constantI S_ 32 0#32)) pads_S1024x416_S1024x512_000_0960 h_S_

theorem idx_in : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] := by decide +kernel

theorem iblk0 (t : Fin cfg0.N) (y : S512x1024.Idx) (i : S2048x1024.Idx) (h0 : (i 0).val = 512 * t.val + (y 0).val) (h1 : (i 1).val = (y 1).val) :
    iblk m c 0 t y = m ((c : Thread nD τ).loc main_arg0) i := by
  blk_ext [iblk, V, idx_in t]
theorem iblk1 (t : Fin cfg0.N) : iblk m c 1 t = shapeCast S1x1024 (m ((c : Thread nD τ).loc main_arg1)) shapeCasts_S1024_S1x1024 := by
  have e : V m c main_v0 = shapeCast S1x1024 (m ((c : Thread nD τ).loc main_arg1)) shapeCasts_S1024_S1x1024 := by
    entry_read
    rfl
  refine (funext fun y => ?_ : iblk m c 1 t = V m c main_v0).trans e
  blk_ext [iblk, idx_in t]
theorem iblk2 (t : Fin cfg0.N) : iblk m c 2 t = partA (m ((c : Thread nD τ).loc main_arg2)) := by
  have e : V m c main_v4 = partA (m ((c : Thread nD τ).loc main_arg2)) := by
    entry_read
    rfl
  refine (funext fun y => ?_ : iblk m c 2 t = V m c main_v4).trans e
  blk_ext [iblk, idx_in t]
theorem iblk3 (t : Fin cfg0.N) : iblk m c 3 t = partB (m ((c : Thread nD τ).loc main_arg2)) := by
  have e : V m c main_v5 = partB (m ((c : Thread nD τ).loc main_arg2)) := by
    entry_read
    rfl
  refine (funext fun y => ?_ : iblk m c 3 t = V m c main_v5).trans e
  blk_ext [iblk, idx_in t]
theorem iblk4 (t : Fin cfg0.N) : iblk m c 4 t = partC (m ((c : Thread nD τ).loc main_arg2)) := by
  have e : V m c main_v3 = partC (m ((c : Thread nD τ).loc main_arg2)) := by
    entry_read
    rfl
  refine (funext fun y => ?_ : iblk m c 4 t = V m c main_v3).trans e
  blk_ext [iblk, idx_in t]

/-- The device's arguments, by their coordinates. -/
structure Holds (x : Fin 2048 → Fin 1024 → EReal) (g : Fin 1024 → EReal) (w : Fin 1024 → Fin 1952 → EReal) : Prop where
  h0 : m ((c : Thread nD τ).loc main_arg0) = Mf x
  h1 : m ((c : Thread nD τ).loc main_arg1) = Vf g
  h2 : m ((c : Thread nD τ).loc main_arg2) = Mf w

/-- Row `r` of point `k`'s block. -/
def row (k : ℕ) (r : Fin 512) : Fin 2048 := ⟨(512 * k + r.val) % 2048, Nat.mod_lt _ (by decide)⟩

theorem lt4 (t : Fin cfg0.N) : t.val < 4 := lt_of_lt_of_eq t.isLt N_0

section
variable {m c} {x : Fin 2048 → Fin 1024 → EReal} {g : Fin 1024 → EReal} {w : Fin 1024 → Fin 1952 → EReal} (H : Holds m c x g w)
include H

theorem in0 (t : Fin cfg0.N) : iblk m c 0 t = Mf fun r b => x (row t.val r) b := funext fun y => by
  have ht := lt4 t
  have hy : (y 0).val < 512 := (y 0).isLt
  refine (iblk0 m c t y (ValueIdx.ix2 (row t.val (y 0)) (y 1)) ?_ rfl).trans ?_
  · exact Nat.mod_eq_of_lt (by omega)
  · rw [H.h0]; rfl
theorem in1 (t : Fin cfg0.N) : iblk m c 1 t = Mf fun _ => g := by
  rw [iblk1, H.h1]; exact asRow _ _
theorem in2 (t : Fin cfg0.N) : iblk m c 2 t = Mb fun a b => col w 0 a b.val := by
  rw [iblk2, H.h2]; unfold partA; rw [trunc_M2]; refine (slice_M2 0 _ _).trans (congrArg M2 (funext fun a => funext fun b => ?_))
  unfold col; rw [dif_pos (by omega)]
theorem in3 (t : Fin cfg0.N) : iblk m c 3 t = Mb fun a b => col w 512 a b.val := by
  rw [iblk3, H.h2]; unfold partB; rw [trunc_M2]; refine (slice_M2 512 _ _).trans (congrArg M2 (funext fun a => funext fun b => ?_))
  unfold col; rw [dif_pos (by omega)]
theorem in4 (t : Fin cfg0.N) : iblk m c 4 t = Mb fun a b => col w 1536 a b.val := by
  rw [iblk4, H.h2]; unfold partC; rw [trunc_M2]
  rw [show extractStridedSlice S1024x416 ![0, 1536] (Mb w) slices_S1024x1952_S1024x416_0_1536 = _ from slice_M2 1536 _ _]
  refine (pad_M2 96 _ _ (fun i => ?_) _ _).trans (congrArg M2 (funext fun a => funext fun b => ?_))
  · show (((0#32).toInt : ℝ) : EReal) = 0
    simp
  · unfold col
    split_ifs with h h' h'
    · rfl
    · have h1 : b.val < 416 := h
      omega
    · have h1 : ¬ b.val < 416 := h
      omega
    · rfl

/-! ## The arrays after the run -/

theorem array5 : (dats m 0 c).arrAt 5 cfg0.N = Mf fun a b => proj (x a) g w 0 b.val := by
  refine (dats m 0 c).arrAt_eq_of_covers 5 _ (by decide +kernel) fun t hf y => ?_
  have ht := lt4 t
  have hy : (y 0).val < 512 := (y 0).isLt
  rw [after0_5, out5, in0 H, in1 H, in2 H, pay2]
  have e0 : (((((cfg0.win 5).blk t).view.emb y) 0 : Fin 2048) : ℕ) = 512 * t.val + (y 0).val := by
    blk_simp [idx_in t]; show t.val * 512 + (y 0).val = 512 * t.val + (y 0).val; omega
  have e1 : (((((cfg0.win 5).blk t).view.emb y) 1 : Fin 512) : ℕ) = (y 1).val := by
    blk_simp [idx_in t]
  exact congrArg₂ (fun r n => proj (x r) g w 0 n) (Fin.ext ((Nat.mod_eq_of_lt (by omega)).trans e0.symm)) e1.symm
theorem array6 : (dats m 0 c).arrAt 6 cfg0.N = Mf fun a b => proj (x a) g w 512 b.val := by
  refine (dats m 0 c).arrAt_eq_of_covers 6 _ (by decide +kernel) fun t hf y => ?_
  have ht := lt4 t
  have hy : (y 0).val < 512 := (y 0).isLt
  rw [after0_6, out6, in0 H, in1 H, in3 H, pay3]
  have e0 : (((((cfg0.win 6).blk t).view.emb y) 0 : Fin 2048) : ℕ) = 512 * t.val + (y 0).val := by
    blk_simp [idx_in t]; show t.val * 512 + (y 0).val = 512 * t.val + (y 0).val; omega
  have e1 : (((((cfg0.win 6).blk t).view.emb y) 1 : Fin 1024) : ℕ) = (y 1).val := by
    blk_simp [idx_in t]
  exact congrArg₂ (fun r n => proj (x r) g w 512 n) (Fin.ext ((Nat.mod_eq_of_lt (by omega)).trans e0.symm)) e1.symm
theorem array7 : (dats m 0 c).arrAt 7 cfg0.N = Mf fun a b => proj (x a) g w 1536 b.val := by
  refine (dats m 0 c).arrAt_eq_of_covers 7 _ (by decide +kernel) fun t hf y => ?_
  have ht := lt4 t
  have hy : (y 0).val < 512 := (y 0).isLt
  rw [after0_7, out7, in0 H, in1 H, in4 H, pay4]
  have e0 : (((((cfg0.win 7).blk t).view.emb y) 0 : Fin 2048) : ℕ) = 512 * t.val + (y 0).val := by
    blk_simp [idx_in t]; show t.val * 512 + (y 0).val = 512 * t.val + (y 0).val; omega
  have e1 : (((((cfg0.win 7).blk t).view.emb y) 1 : Fin 512) : ℕ) = (y 1).val := by
    blk_simp [idx_in t]
  exact congrArg₂ (fun r n => proj (x r) g w 1536 n) (Fin.ext ((Nat.mod_eq_of_lt (by omega)).trans e0.symm)) e1.symm
end

end Cert.InFwd

end

end
-- ==== Proof.lean ====
module

public import proofs.«01_k».proof.Defs
public import proofs.«01_k».proof.Proof.AdamFeed
public import proofs.«01_k».proof.Proof.AdamProj
public import proofs.«01_k».proof.Proof.AdamGate
public import proofs.«01_k».proof.Proof.AdamGains
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Finite
public import proofs.«01_k».proof.Proof.Entries
public import proofs.«01_k».proof.Proof.FfnFwd
public import proofs.«01_k».proof.Proof.InBwd
public import proofs.«01_k».proof.Proof.Loss
public import proofs.«01_k».proof.Proof.InFwd
public import Idealize.ShloMosaic.Adequacy
public import Idealize.ShloMosaic.Init

@[expose] public section

set_option maxRecDepth 16384

noncomputable section

namespace Cert.Proof

open Idealize.ShloMosaic Idealize.SL.Sem Cert.Kernel

/-- The reference's run ends with its arguments unchanged, and it declares no semaphore. -/
theorem frame_reference : Cert.quiescent_ReferenceIdeal (hReferenceIdeal := Cert.ReferenceIdeal.Gen.facts) := by
  intro m ρ _
  exact (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

/-- The kernel's five arrays are the reference's: both are the real gradients of the device's arguments. -/
theorem algebraic : Cert.algebraic_KernelIdeal_ReferenceIdeal_pre_finite (hKernelIdeal := Cert.KernelIdeal.Gen.facts)
    (hReferenceIdeal := Cert.ReferenceIdeal.Gen.facts) := by
  intro m g m' g' hpre hargs
  choose a H using fun c => Cert.Finite.args m hpre c
  refine ⟨fun c => (fun i => (((a c).dpa (i 0) (i 1) : ℝ) : EReal) : FVec Ideal Cert.KernelIdeal.S2048x512 .f32),
    fun c => Cert.Gate.lane fun l => ∑ n, ((a c).chunk n).dvg l,
    fun c => Cert.Gate.mats fun h r l => ∑ n, ((a c).chunk n).dws h r l,
    fun c => Cert.Gate.fourCols fun h r => ∑ n, ((a c).chunk n).dbs h r,
    fun c => Cert.Gate.lane fun l => ∑ n, ((a c).chunk n).dog l, ?_, ?_⟩
  · refine (θ_run Cert.KernelIdeal.defs _ _).mono (fun r h c => ?_) (Cert.KernelIdeal.Value.run_blocks m g)
    obtain ⟨h6, h7, h8, h9, h10, hk⟩ := h c
    exact ⟨h6.trans (Cert.Gate.array6 (H c)), h7.trans (Cert.Gate.array7 (H c)), h8.trans (Cert.Gate.array8 (H c)),
      h9.trans (Cert.Gate.array9 (H c)), h10.trans (Cert.Gate.array10 (H c)), hk⟩
  · refine (θ_run Cert.ReferenceIdeal.defs _ _).mono (fun r h c => ?_) (Cert.ReferenceIdeal.Value.run (F := Ideal) m' g')
    obtain ⟨h0, h1, h2, h3, h4, hk⟩ := h c
    obtain ⟨k0, k1, k2, k3, k4, k5⟩ := hargs c
    have r0 : StableHlo.launchContents m' c (Proc.devRef .tc Cert.ReferenceIdeal.main_arg0) = (a c).x0 := k0.trans (H c).h0
    have r1 : StableHlo.launchContents m' c (Proc.devRef .tc Cert.ReferenceIdeal.main_arg1) = Cert.GateRef.L1 (a c).vg := k1.trans (H c).h1
    have r2 : StableHlo.launchContents m' c (Proc.devRef .tc Cert.ReferenceIdeal.main_arg2) = Cert.GateRef.M3 (a c).ws := k2.trans (H c).h2
    have r3 : StableHlo.launchContents m' c (Proc.devRef .tc Cert.ReferenceIdeal.main_arg3) = Cert.GateRef.P2 (a c).bs := k3.trans (H c).h3
    have r4 : StableHlo.launchContents m' c (Proc.devRef .tc Cert.ReferenceIdeal.main_arg4) = Cert.GateRef.L1 (a c).og := k4.trans (H c).h4
    have r5 : StableHlo.launchContents m' c (Proc.devRef .tc Cert.ReferenceIdeal.main_arg5) = Cert.GateRef.R2 (a c).dya := k5.trans (H c).h5
    refine ⟨h0.trans ((Cert.ReferenceIdeal.Read.val_main_v180_eq _).trans ?_), h1.trans ((Cert.ReferenceIdeal.Read.val_main_v181_eq _).trans ?_),
      h2.trans ((Cert.ReferenceIdeal.Read.val_main_v131_eq _).trans ?_), h3.trans ((Cert.ReferenceIdeal.Read.val_main_v182_eq _).trans ?_),
      h4.trans ((Cert.ReferenceIdeal.Read.val_main_v183_eq _).trans ?_), hk⟩
    · rw [r0, r1, r2, r3, r4, r5]; exact (a c).e180
    · rw [r0, r1, r2, r3, r4, r5]; exact (a c).e181
    · rw [r0, r1, r2, r3, r4, r5]; exact (a c).e131
    · rw [r0, r1, r2, r3, r4, r5]; exact (a c).e182
    · rw [r0, r1, r2, r3, r5]; exact (a c).e183

/-- The feed-forward layer's backward call: the reference's run ends with its arguments unchanged, and it declares no semaphore. -/
theorem frame_reference2 : Cert.quiescent_Reference2Ideal (hReference2Ideal := Cert.Reference2Ideal.Gen.facts) := by
  intro m ρ _
  exact (θ_run Cert.Reference2Ideal.defs _ _).mono (fun r h => ⟨fun c => (h c).2.2.2.2.2.2,
      Idealize.ShloMosaic.sem_eq_zero_of_no_sems (by decide) r.2⟩)
    (Cert.Reference2Ideal.Value.run (F := Ideal) m ρ)

set_option maxHeartbeats 1000000 in
/-- The feed-forward layer's backward call: the kernel's arrays are the reference's. -/
theorem algebraic2 : Cert.algebraic_Kernel2Ideal_Reference2Ideal_pre_finite2 (hKernel2Ideal := Cert.Kernel2Ideal.Gen.facts)
    (hReference2Ideal := Cert.Reference2Ideal.Gen.facts) := by
  intro m g m' g' hpre hargs
  have H := fun c : Dev Cert.Kernel2Ideal.nD => (⟨Cert.Entries.mat_eq _, Cert.Entries.vec_eq _, Cert.Entries.mat_eq _, Cert.Entries.mat_eq _, Cert.Entries.mat_eq _⟩ :
    Cert.FfnBwd.Holds m c (Cert.Entries.mat (m ((c.tc : Thread Cert.Kernel2Ideal.nD Cert.Kernel2Ideal.τ).loc Cert.Kernel2Ideal.main_arg0))) (Cert.Entries.vec (m ((c.tc : Thread Cert.Kernel2Ideal.nD Cert.Kernel2Ideal.τ).loc Cert.Kernel2Ideal.main_arg1))) (Cert.Entries.mat (m ((c.tc : Thread Cert.Kernel2Ideal.nD Cert.Kernel2Ideal.τ).loc Cert.Kernel2Ideal.main_arg2))) (Cert.Entries.mat (m ((c.tc : Thread Cert.Kernel2Ideal.nD Cert.Kernel2Ideal.τ).loc Cert.Kernel2Ideal.main_arg3))) (Cert.Entries.mat (m ((c.tc : Thread Cert.Kernel2Ideal.nD Cert.Kernel2Ideal.τ).loc Cert.Kernel2Ideal.main_arg4))))
  refine ⟨fun c => (Cert.Kernel2Ideal.Gen.dats m 0 c).arrAt 6 Cert.Kernel2Ideal.cfg0.N, fun c => (Cert.Kernel2Ideal.Gen.dats m 0 c).arrAt 7 Cert.Kernel2Ideal.cfg0.N, fun c => (Cert.Kernel2Ideal.Gen.dats m 0 c).arrAt 8 Cert.Kernel2Ideal.cfg0.N, fun c => (Cert.Kernel2Ideal.Gen.dats m 0 c).arrAt 9 Cert.Kernel2Ideal.cfg0.N, fun c => (Cert.Kernel2Ideal.Gen.dats m 0 c).arrAt 10 Cert.Kernel2Ideal.cfg0.N, fun c => (Cert.Kernel2Ideal.Gen.dats m 0 c).arrAt 11 Cert.Kernel2Ideal.cfg0.N, Cert.Kernel2Ideal.Value.run_blocks m g, ?_⟩
  refine (θ_run Cert.Reference2Ideal.defs _ _).mono (fun r h c => ?_) (Cert.Reference2Ideal.Value.run (F := Ideal) m' g')
  obtain ⟨h0, h1, h2, h3, h4, h5, hk⟩ := h c
  obtain ⟨k0, k1, k2, k3, k4⟩ := hargs c
  have r0 : m' ((c.tc : Thread Cert.Reference2Ideal.nD Cert.Reference2Ideal.τ).loc Cert.Reference2Ideal.main_arg0) = Cert.Rows.M2 (Cert.Entries.mat (m ((c.tc : Thread Cert.Kernel2Ideal.nD Cert.Kernel2Ideal.τ).loc Cert.Kernel2Ideal.main_arg0))) := k0.trans (Cert.Entries.mat_eq _)
  have r1 : m' ((c.tc : Thread Cert.Reference2Ideal.nD Cert.Reference2Ideal.τ).loc Cert.Reference2Ideal.main_arg1) = Cert.Rows.V1 (Cert.Entries.vec (m ((c.tc : Thread Cert.Kernel2Ideal.nD Cert.Kernel2Ideal.τ).loc Cert.Kernel2Ideal.main_arg1))) := k1.trans (Cert.Entries.vec_eq _)
  have r2 : m' ((c.tc : Thread Cert.Reference2Ideal.nD Cert.Reference2Ideal.τ).loc Cert.Reference2Ideal.main_arg2) = Cert.Rows.M2 (Cert.Entries.mat (m ((c.tc : Thread Cert.Kernel2Ideal.nD Cert.Kernel2Ideal.τ).loc Cert.Kernel2Ideal.main_arg2))) := k2.trans (Cert.Entries.mat_eq _)
  have r3 : m' ((c.tc : Thread Cert.Reference2Ideal.nD Cert.Reference2Ideal.τ).loc Cert.Reference2Ideal.main_arg3) = Cert.Rows.M2 (Cert.Entries.mat (m ((c.tc : Thread Cert.Kernel2Ideal.nD Cert.Kernel2Ideal.τ).loc Cert.Kernel2Ideal.main_arg3))) := k3.trans (Cert.Entries.mat_eq _)
  have r4 : m' ((c.tc : Thread Cert.Reference2Ideal.nD Cert.Reference2Ideal.τ).loc Cert.Reference2Ideal.main_arg4) = Cert.Rows.M2 (Cert.Entries.mat (m ((c.tc : Thread Cert.Kernel2Ideal.nD Cert.Kernel2Ideal.τ).loc Cert.Kernel2Ideal.main_arg4))) := k4.trans (Cert.Entries.mat_eq _)
  obtain ⟨a0, a1, a2, a3, a4⟩ := Cert.Entries.args2 m hpre c
  have e0 : Cert.Reference2Ideal.Read.val_main_v115 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))
      = (Cert.Kernel2Ideal.Gen.dats m 0 c).arrAt 6 Cert.Kernel2Ideal.cfg0.N := by
    rw [r0, r1, r2, r3, r4, Cert.FfnBwdRef.v115]; exact (Cert.FfnBwd.array6 (H c)).symm
  have e1 : Cert.Reference2Ideal.Read.val_main_v119 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))
      = (Cert.Kernel2Ideal.Gen.dats m 0 c).arrAt 7 Cert.Kernel2Ideal.cfg0.N := by
    rw [r0, r1, r2, r3, r4, Cert.FfnBwdRef.v119]; exact (Cert.FfnBwd.array7 (H c) a0 a1 a2 a3 a4).symm
  have e2 : Cert.Reference2Ideal.Read.val_main_v117 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))
      = (Cert.Kernel2Ideal.Gen.dats m 0 c).arrAt 8 Cert.Kernel2Ideal.cfg0.N := by
    rw [r0, r1, r2, r3, r4, Cert.FfnBwdRef.v117]; exact (Cert.FfnBwd.array8 (H c)).symm
  have e3 : Cert.Reference2Ideal.Read.val_main_v118 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg4))
      = (Cert.Kernel2Ideal.Gen.dats m 0 c).arrAt 9 Cert.Kernel2Ideal.cfg0.N := by
    rw [r0, r1, r2, r4, Cert.FfnBwdRef.v118]; exact (Cert.FfnBwd.array9 (H c)).symm
  have e4 : Cert.Reference2Ideal.Read.val_main_v120 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))
      = (Cert.Kernel2Ideal.Gen.dats m 0 c).arrAt 10 Cert.Kernel2Ideal.cfg0.N := by
    rw [r0, r1, r2, r3, r4, Cert.FfnBwdRef.v120]; exact (Cert.FfnBwd.array10 (H c)).symm
  have e5 : Cert.Reference2Ideal.Read.val_main_v121 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg4))
      = (Cert.Kernel2Ideal.Gen.dats m 0 c).arrAt 11 Cert.Kernel2Ideal.cfg0.N := by
    rw [r0, r1, r2, r4, Cert.FfnBwdRef.v121]; exact (Cert.FfnBwd.array11 (H c)).symm
  have f0 := h0.trans ((Cert.Reference2Ideal.Read.val_main_v115_eq m' c).trans e0)
  have f1 := h1.trans ((Cert.Reference2Ideal.Read.val_main_v119_eq (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))).trans e1)
  have f2 := h2.trans ((Cert.Reference2Ideal.Read.val_main_v117_eq (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))).trans e2)
  have f3 := h3.trans ((Cert.Reference2Ideal.Read.val_main_v118_eq (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg4))).trans e3)
  have f4 := h4.trans ((Cert.Reference2Ideal.Read.val_main_v120_eq (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))).trans e4)
  have f5 := h5.trans ((Cert.Reference2Ideal.Read.val_main_v121_eq (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg4))).trans e5)
  exact ⟨f0, f1, f2, f3, f4, f5, hk⟩

/-- The feed-forward layer's forward call: the reference's run ends with its arguments unchanged, and it declares no semaphore. -/
theorem frame_reference3 : Cert.quiescent_Reference3Ideal (hReference3Ideal := Cert.Reference3Ideal.Gen.facts) := by
  intro m ρ _
  exact (θ_run Cert.Reference3Ideal.defs _ _).mono (fun r h => ⟨fun c => (h c).2.2,
      Idealize.ShloMosaic.sem_eq_zero_of_no_sems (by decide) r.2⟩)
    (Cert.Reference3Ideal.Value.run (F := Ideal) m ρ)

/-- The feed-forward layer's forward call: the kernel's arrays are the reference's. -/
theorem algebraic3 : Cert.algebraic_Kernel3Ideal_Reference3Ideal (hKernel3Ideal := Cert.Kernel3Ideal.Gen.facts)
    (hReference3Ideal := Cert.Reference3Ideal.Gen.facts) := by
  intro m g m' g' hpre hargs
  have H := fun c : Dev Cert.Kernel3Ideal.nD => (⟨Cert.Entries.mat_eq _, Cert.Entries.vec_eq _, Cert.Entries.mat_eq _, Cert.Entries.mat_eq _⟩ :
    Cert.FfnFwd.Holds m c (Cert.Entries.mat (m ((c.tc : Thread Cert.Kernel3Ideal.nD Cert.Kernel3Ideal.τ).loc Cert.Kernel3Ideal.main_arg0))) (Cert.Entries.vec (m ((c.tc : Thread Cert.Kernel3Ideal.nD Cert.Kernel3Ideal.τ).loc Cert.Kernel3Ideal.main_arg1))) (Cert.Entries.mat (m ((c.tc : Thread Cert.Kernel3Ideal.nD Cert.Kernel3Ideal.τ).loc Cert.Kernel3Ideal.main_arg2))) (Cert.Entries.mat (m ((c.tc : Thread Cert.Kernel3Ideal.nD Cert.Kernel3Ideal.τ).loc Cert.Kernel3Ideal.main_arg3))))
  refine ⟨fun c => (Cert.Kernel3Ideal.Gen.dats m 0 c).arrAt 4 Cert.Kernel3Ideal.cfg0.N, fun c => (Cert.Kernel3Ideal.Gen.dats m 0 c).arrAt 5 Cert.Kernel3Ideal.cfg0.N, Cert.Kernel3Ideal.Value.run_blocks m g, ?_⟩
  refine (θ_run Cert.Reference3Ideal.defs _ _).mono (fun r h c => ?_) (Cert.Reference3Ideal.Value.run (F := Ideal) m' g')
  obtain ⟨h0, h1, hk⟩ := h c
  obtain ⟨k0, k1, k2, k3⟩ := hargs c
  have r0 : m' ((c.tc : Thread Cert.Reference3Ideal.nD Cert.Reference3Ideal.τ).loc Cert.Reference3Ideal.main_arg0) = Cert.Rows.M2 (Cert.Entries.mat (m ((c.tc : Thread Cert.Kernel3Ideal.nD Cert.Kernel3Ideal.τ).loc Cert.Kernel3Ideal.main_arg0))) := k0.trans (Cert.Entries.mat_eq _)
  have r1 : m' ((c.tc : Thread Cert.Reference3Ideal.nD Cert.Reference3Ideal.τ).loc Cert.Reference3Ideal.main_arg1) = Cert.Rows.V1 (Cert.Entries.vec (m ((c.tc : Thread Cert.Kernel3Ideal.nD Cert.Kernel3Ideal.τ).loc Cert.Kernel3Ideal.main_arg1))) := k1.trans (Cert.Entries.vec_eq _)
  have r2 : m' ((c.tc : Thread Cert.Reference3Ideal.nD Cert.Reference3Ideal.τ).loc Cert.Reference3Ideal.main_arg2) = Cert.Rows.M2 (Cert.Entries.mat (m ((c.tc : Thread Cert.Kernel3Ideal.nD Cert.Kernel3Ideal.τ).loc Cert.Kernel3Ideal.main_arg2))) := k2.trans (Cert.Entries.mat_eq _)
  have r3 : m' ((c.tc : Thread Cert.Reference3Ideal.nD Cert.Reference3Ideal.τ).loc Cert.Reference3Ideal.main_arg3) = Cert.Rows.M2 (Cert.Entries.mat (m ((c.tc : Thread Cert.Kernel3Ideal.nD Cert.Kernel3Ideal.τ).loc Cert.Kernel3Ideal.main_arg3))) := k3.trans (Cert.Entries.mat_eq _)
  have e0 : Cert.Reference3Ideal.Read.val_main_v17 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3))
      = (Cert.Kernel3Ideal.Gen.dats m 0 c).arrAt 4 Cert.Kernel3Ideal.cfg0.N := by
    rw [r0, r1, r2, r3, Cert.FfnFwdRef.v17]; exact (Cert.FfnFwd.array4 (H c)).symm
  have e1 : Cert.Reference3Ideal.Read.val_main_v18 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))
      = (Cert.Kernel3Ideal.Gen.dats m 0 c).arrAt 5 Cert.Kernel3Ideal.cfg0.N := by
    rw [r0, r1, r2, Cert.FfnFwdRef.v18]; exact (Cert.FfnFwd.array5 (H c)).symm
  exact ⟨h0.trans ((Cert.Reference3Ideal.Read.val_main_v17_eq _ _ _ _).trans e0),
    h1.trans ((Cert.Reference3Ideal.Read.val_main_v18_eq _ _ _).trans e1), hk⟩

/-- The input projection's backward call: the reference's run ends with its arguments unchanged, and it declares no semaphore. -/
theorem frame_reference4 : Cert.quiescent_Reference4Ideal (hReference4Ideal := Cert.Reference4Ideal.Gen.facts) := by
  intro m ρ _
  exact (θ_run Cert.Reference4Ideal.defs _ _).mono (fun r h => ⟨fun c => (h c).2.2.2.2.2,
      Idealize.ShloMosaic.sem_eq_zero_of_no_sems (by decide) r.2⟩)
    (Cert.Reference4Ideal.Value.run (F := Ideal) m ρ)

/-- The input projection's backward call: the kernel's arrays are the reference's. -/
theorem algebraic4 : Cert.algebraic_Kernel4Ideal_Reference4Ideal (hKernel4Ideal := Cert.Kernel4Ideal.Gen.facts)
    (hReference4Ideal := Cert.Reference4Ideal.Gen.facts) := by
  intro m g m' g' hpre hargs
  have H := fun c : Dev Cert.Kernel4Ideal.nD => (⟨Cert.Entries.mat_eq _, Cert.Entries.vec_eq _, Cert.Entries.mat_eq _, Cert.Entries.mat_eq _, Cert.Entries.mat_eq _⟩ :
    Cert.InBwd.Holds m c (Cert.Entries.mat (m ((c.tc : Thread Cert.Kernel4Ideal.nD Cert.Kernel4Ideal.τ).loc Cert.Kernel4Ideal.main_arg0))) (Cert.Entries.vec (m ((c.tc : Thread Cert.Kernel4Ideal.nD Cert.Kernel4Ideal.τ).loc Cert.Kernel4Ideal.main_arg1))) (Cert.Entries.mat (m ((c.tc : Thread Cert.Kernel4Ideal.nD Cert.Kernel4Ideal.τ).loc Cert.Kernel4Ideal.main_arg2))) (Cert.Entries.mat (m ((c.tc : Thread Cert.Kernel4Ideal.nD Cert.Kernel4Ideal.τ).loc Cert.Kernel4Ideal.main_arg3))) (Cert.Entries.mat (m ((c.tc : Thread Cert.Kernel4Ideal.nD Cert.Kernel4Ideal.τ).loc Cert.Kernel4Ideal.main_arg4))))
  refine ⟨fun c => (Cert.Kernel4Ideal.Gen.dats m 0 c).arrAt 9 Cert.Kernel4Ideal.cfg0.N, fun c => (Cert.Kernel4Ideal.Gen.dats m 0 c).arrAt 10 Cert.Kernel4Ideal.cfg0.N, fun c => (Cert.Kernel4Ideal.Gen.dats m 0 c).arrAt 11 Cert.Kernel4Ideal.cfg0.N, fun c => (Cert.Kernel4Ideal.Gen.dats m 0 c).arrAt 12 Cert.Kernel4Ideal.cfg0.N, fun c => (Cert.Kernel4Ideal.Gen.dats m 0 c).arrAt 13 Cert.Kernel4Ideal.cfg0.N, Cert.Kernel4Ideal.Value.run_blocks m g, ?_⟩
  refine (θ_run Cert.Reference4Ideal.defs _ _).mono (fun r h c => ?_) (Cert.Reference4Ideal.Value.run (F := Ideal) m' g')
  obtain ⟨h0, h1, h2, h3, h4, hk⟩ := h c
  obtain ⟨k0, k1, k2, k3, k4⟩ := hargs c
  have r0 : m' ((c.tc : Thread Cert.Reference4Ideal.nD Cert.Reference4Ideal.τ).loc Cert.Reference4Ideal.main_arg0) = Cert.Rows.M2 (Cert.Entries.mat (m ((c.tc : Thread Cert.Kernel4Ideal.nD Cert.Kernel4Ideal.τ).loc Cert.Kernel4Ideal.main_arg0))) := k0.trans (Cert.Entries.mat_eq _)
  have r1 : m' ((c.tc : Thread Cert.Reference4Ideal.nD Cert.Reference4Ideal.τ).loc Cert.Reference4Ideal.main_arg1) = Cert.Rows.V1 (Cert.Entries.vec (m ((c.tc : Thread Cert.Kernel4Ideal.nD Cert.Kernel4Ideal.τ).loc Cert.Kernel4Ideal.main_arg1))) := k1.trans (Cert.Entries.vec_eq _)
  have r2 : m' ((c.tc : Thread Cert.Reference4Ideal.nD Cert.Reference4Ideal.τ).loc Cert.Reference4Ideal.main_arg2) = Cert.Rows.M2 (Cert.Entries.mat (m ((c.tc : Thread Cert.Kernel4Ideal.nD Cert.Kernel4Ideal.τ).loc Cert.Kernel4Ideal.main_arg2))) := k2.trans (Cert.Entries.mat_eq _)
  have r3 : m' ((c.tc : Thread Cert.Reference4Ideal.nD Cert.Reference4Ideal.τ).loc Cert.Reference4Ideal.main_arg3) = Cert.Rows.M2 (Cert.Entries.mat (m ((c.tc : Thread Cert.Kernel4Ideal.nD Cert.Kernel4Ideal.τ).loc Cert.Kernel4Ideal.main_arg3))) := k3.trans (Cert.Entries.mat_eq _)
  have r4 : m' ((c.tc : Thread Cert.Reference4Ideal.nD Cert.Reference4Ideal.τ).loc Cert.Reference4Ideal.main_arg4) = Cert.Rows.M2 (Cert.Entries.mat (m ((c.tc : Thread Cert.Kernel4Ideal.nD Cert.Kernel4Ideal.τ).loc Cert.Kernel4Ideal.main_arg4))) := k4.trans (Cert.Entries.mat_eq _)
  have e0 : Cert.Reference4Ideal.Read.val_main_v40 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4))
      = (Cert.Kernel4Ideal.Gen.dats m 0 c).arrAt 9 Cert.Kernel4Ideal.cfg0.N := by
    rw [r0, r1, r2, r3, r4, Cert.InBwdRef.v40]; exact (Cert.InBwd.array9 (H c)).symm
  have e1 : Cert.Reference4Ideal.Read.val_main_v41 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3))
      = (Cert.Kernel4Ideal.Gen.dats m 0 c).arrAt 10 Cert.Kernel4Ideal.cfg0.N := by
    rw [r0, r2, r3, Cert.InBwdRef.v41]; exact (Cert.InBwd.array10 (H c)).symm
  have e2 : Cert.Reference4Ideal.Read.val_main_v42 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg3))
      = (Cert.Kernel4Ideal.Gen.dats m 0 c).arrAt 11 Cert.Kernel4Ideal.cfg0.N := by
    rw [r0, r1, r3, Cert.InBwdRef.v42]; exact (Cert.InBwd.array11 (H c)).symm
  have e3 : Cert.Reference4Ideal.Read.val_main_v43 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg3))
      = (Cert.Kernel4Ideal.Gen.dats m 0 c).arrAt 12 Cert.Kernel4Ideal.cfg0.N := by
    rw [r0, r1, r3, Cert.InBwdRef.v43]; exact (Cert.InBwd.array12 (H c)).symm
  have e4 : Cert.Reference4Ideal.Read.val_main_v45 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg3))
      = (Cert.Kernel4Ideal.Gen.dats m 0 c).arrAt 13 Cert.Kernel4Ideal.cfg0.N := by
    rw [r0, r1, r3, Cert.InBwdRef.v45]; exact (Cert.InBwd.array13 (H c)).symm
  exact ⟨h0.trans ((Cert.Reference4Ideal.Read.val_main_v40_eq m' c).trans e0),
    h1.trans ((Cert.Reference4Ideal.Read.val_main_v41_eq _ _ _).trans e1),
    h2.trans ((Cert.Reference4Ideal.Read.val_main_v42_eq _ _ _).trans e2),
    h3.trans ((Cert.Reference4Ideal.Read.val_main_v43_eq _ _ _).trans e3),
    h4.trans ((Cert.Reference4Ideal.Read.val_main_v45_eq _ _ _).trans e4), hk⟩

/-- The input projection's forward call: the reference's run ends with its arguments unchanged, and it declares no semaphore. -/
theorem frame_reference5 : Cert.quiescent_Reference5Ideal (hReference5Ideal := Cert.Reference5Ideal.Gen.facts) := by
  intro m ρ _
  exact (θ_run Cert.Reference5Ideal.defs _ _).mono (fun r h => ⟨fun c => (h c).2.2.2,
      Idealize.ShloMosaic.sem_eq_zero_of_no_sems (by decide) r.2⟩)
    (Cert.Reference5Ideal.Value.run (F := Ideal) m ρ)

/-- The input projection's forward call: the kernel's arrays are the reference's. -/
theorem algebraic5 : Cert.algebraic_Kernel5Ideal_Reference5Ideal (hKernel5Ideal := Cert.Kernel5Ideal.Gen.facts)
    (hReference5Ideal := Cert.Reference5Ideal.Gen.facts) := by
  intro m g m' g' hpre hargs
  have H := fun c : Dev Cert.Kernel5Ideal.nD => (⟨Cert.Entries.mat_eq _, Cert.Entries.vec_eq _, Cert.Entries.mat_eq _⟩ :
    Cert.InFwd.Holds m c (Cert.Entries.mat (m ((c.tc : Thread Cert.Kernel5Ideal.nD Cert.Kernel5Ideal.τ).loc Cert.Kernel5Ideal.main_arg0))) (Cert.Entries.vec (m ((c.tc : Thread Cert.Kernel5Ideal.nD Cert.Kernel5Ideal.τ).loc Cert.Kernel5Ideal.main_arg1))) (Cert.Entries.mat (m ((c.tc : Thread Cert.Kernel5Ideal.nD Cert.Kernel5Ideal.τ).loc Cert.Kernel5Ideal.main_arg2))))
  refine ⟨fun c => (Cert.Kernel5Ideal.Gen.dats m 0 c).arrAt 5 Cert.Kernel5Ideal.cfg0.N, fun c => (Cert.Kernel5Ideal.Gen.dats m 0 c).arrAt 6 Cert.Kernel5Ideal.cfg0.N, fun c => (Cert.Kernel5Ideal.Gen.dats m 0 c).arrAt 7 Cert.Kernel5Ideal.cfg0.N, Cert.Kernel5Ideal.Value.run_blocks m g, ?_⟩
  refine (θ_run Cert.Reference5Ideal.defs _ _).mono (fun r h c => ?_) (Cert.Reference5Ideal.Value.run (F := Ideal) m' g')
  obtain ⟨h0, h1, h2, hk⟩ := h c
  obtain ⟨k0, k1, k2⟩ := hargs c
  have r0 : m' ((c.tc : Thread Cert.Reference5Ideal.nD Cert.Reference5Ideal.τ).loc Cert.Reference5Ideal.main_arg0) = Cert.Rows.M2 (Cert.Entries.mat (m ((c.tc : Thread Cert.Kernel5Ideal.nD Cert.Kernel5Ideal.τ).loc Cert.Kernel5Ideal.main_arg0))) := k0.trans (Cert.Entries.mat_eq _)
  have r1 : m' ((c.tc : Thread Cert.Reference5Ideal.nD Cert.Reference5Ideal.τ).loc Cert.Reference5Ideal.main_arg1) = Cert.Rows.V1 (Cert.Entries.vec (m ((c.tc : Thread Cert.Kernel5Ideal.nD Cert.Kernel5Ideal.τ).loc Cert.Kernel5Ideal.main_arg1))) := k1.trans (Cert.Entries.vec_eq _)
  have r2 : m' ((c.tc : Thread Cert.Reference5Ideal.nD Cert.Reference5Ideal.τ).loc Cert.Reference5Ideal.main_arg2) = Cert.Rows.M2 (Cert.Entries.mat (m ((c.tc : Thread Cert.Kernel5Ideal.nD Cert.Kernel5Ideal.τ).loc Cert.Kernel5Ideal.main_arg2))) := k2.trans (Cert.Entries.mat_eq _)
  have e0 : Cert.Reference5Ideal.Read.val_main_v14 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))
      = (Cert.Kernel5Ideal.Gen.dats m 0 c).arrAt 5 Cert.Kernel5Ideal.cfg0.N := by
    rw [r0, r1, r2, Cert.InFwdRef.v14]; exact (Cert.InFwd.array5 (H c)).symm
  have e1 : Cert.Reference5Ideal.Read.val_main_v15 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))
      = (Cert.Kernel5Ideal.Gen.dats m 0 c).arrAt 6 Cert.Kernel5Ideal.cfg0.N := by
    rw [r0, r1, r2, Cert.InFwdRef.v15]; exact (Cert.InFwd.array6 (H c)).symm
  have e2 : Cert.Reference5Ideal.Read.val_main_v17 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))
      = (Cert.Kernel5Ideal.Gen.dats m 0 c).arrAt 7 Cert.Kernel5Ideal.cfg0.N := by
    rw [r0, r1, r2, Cert.InFwdRef.v17]; exact (Cert.InFwd.array7 (H c)).symm
  exact ⟨h0.trans ((Cert.Reference5Ideal.Read.val_main_v14_eq _ _ _).trans e0),
    h1.trans ((Cert.Reference5Ideal.Read.val_main_v15_eq _ _ _).trans e1),
    h2.trans ((Cert.Reference5Ideal.Read.val_main_v17_eq _ _ _).trans e2), hk⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts,
  Cert.Kernel18.Gen.facts, Cert.Kernel18Ideal.Gen.facts, Cert.Reference18Ideal.Gen.facts,
  inferInstance, inferInstance,
  fun m ρ _ => Cert.Kernel.Gen.frame m ρ, fun m ρ _ => Cert.KernelIdeal.Gen.frame m ρ, fun m ρ _ => Cert.KernelIdeal.Gen.frame m ρ, frame_reference, fun m ρ _ => frame_reference m ρ trivial,
  fun m ρ _ => Cert.Kernel2.Gen.frame m ρ, fun m ρ _ => Cert.Kernel2Ideal.Gen.frame m ρ, fun m ρ _ => Cert.Kernel2Ideal.Gen.frame m ρ, frame_reference2, fun m ρ _ => frame_reference2 m ρ trivial,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, Cert.Adam.Feed.frame,
  fun m ρ _ => Cert.Kernel7.Gen.frame m ρ, fun m ρ _ => Cert.Kernel7Ideal.Gen.frame m ρ, Cert.Adam.Input.frame,
  fun m ρ _ => Cert.Kernel8.Gen.frame m ρ, fun m ρ _ => Cert.Kernel8Ideal.Gen.frame m ρ, Cert.Adam.Queries.frame,
  fun m ρ _ => Cert.Kernel9.Gen.frame m ρ, fun m ρ _ => Cert.Kernel9Ideal.Gen.frame m ρ, Cert.Adam.KeysValues.frame,
  fun m ρ _ => Cert.Kernel10.Gen.frame m ρ, fun m ρ _ => Cert.Kernel10Ideal.Gen.frame m ρ, Cert.Adam.Output.frame,
  fun m ρ _ => Cert.Kernel11.Gen.frame m ρ, fun m ρ _ => Cert.Kernel11Ideal.Gen.frame m ρ, Cert.Adam.Matrices.frame,
  fun m ρ _ => Cert.Kernel12.Gen.frame m ρ, fun m ρ _ => Cert.Kernel12Ideal.Gen.frame m ρ, Cert.Adam.Biases.frame,
  fun m ρ _ => Cert.Kernel13.Gen.frame m ρ, fun m ρ _ => Cert.Kernel13Ideal.Gen.frame m ρ, Cert.Adam.Norm.frame,
  fun m ρ _ => Cert.Kernel14.Gen.frame m ρ, fun m ρ _ => Cert.Kernel14Ideal.Gen.frame m ρ, Cert.Adam.Wide.frame,
  fun m ρ _ => Cert.Kernel15.Gen.frame m ρ, fun m ρ _ => Cert.Kernel15Ideal.Gen.frame m ρ, Cert.Adam.Latent.frame,
  fun m ρ _ => Cert.Kernel16.Gen.frame m ρ, fun m ρ _ => Cert.Kernel16Ideal.Gen.frame m ρ, Cert.Adam.Head.frame,
  fun m ρ _ => Cert.Kernel17.Gen.frame m ρ, fun m ρ _ => Cert.Kernel17Ideal.Gen.frame m ρ, Cert.Adam.Attended.frame,
  fun m ρ _ => Cert.Kernel18.Gen.frame m ρ, fun m ρ _ => Cert.Kernel18Ideal.Gen.frame m ρ, Cert.Loss.frame,
  trivial, algebraic, trivial, algebraic2, trivial, algebraic3, trivial, algebraic4, trivial, algebraic5,
  Cert.Adam.Feed.preserves, Cert.Adam.Feed.algebraic,
  Cert.Adam.Input.preserves, Cert.Adam.Input.algebraic,
  Cert.Adam.Queries.preserves, Cert.Adam.Queries.algebraic,
  Cert.Adam.KeysValues.preserves, Cert.Adam.KeysValues.algebraic,
  Cert.Adam.Output.preserves, Cert.Adam.Output.algebraic,
  Cert.Adam.Matrices.preserves, Cert.Adam.Matrices.algebraic,
  Cert.Adam.Biases.preserves, Cert.Adam.Biases.algebraic,
  Cert.Adam.Norm.preserves, Cert.Adam.Norm.algebraic,
  Cert.Adam.Wide.preserves, Cert.Adam.Wide.algebraic,
  Cert.Adam.Latent.preserves, Cert.Adam.Latent.algebraic,
  Cert.Adam.Head.preserves, Cert.Adam.Head.algebraic,
  Cert.Adam.Attended.preserves, Cert.Adam.Attended.algebraic, trivial, Cert.Loss.algebraic⟩

end Cert.Proof

end
